-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2.2.2.2.2.2 = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 [hPre_finite2 : Cert.Pre_finite2.Facts] (m : (ℓ : Loc Cert.Kernel2.nD Cert.Kernel2.τ Cert.Kernel2.sig) → Buf (Elt Bits) ℓ) : Prop :=
  ∀ c : Dev Cert.Kernel2.nD,
    (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).1 = (fun _ => 1#1)
    ∧ (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.1 = (fun _ => 1#1)
    ∧ (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.1 = (fun _ => 1#1)
    ∧ (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.1 = (fun _ => 1#1)
    ∧ (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.2 = (fun _ => 1#1)

def Pre_Kernel2Ideal [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2 = (fun _ => 1#1)

def Pre_Reference2Ideal [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_finite2 : Cert.Pre_finite2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)) (v5 : (c : Dev Cert.KernelIdeal.nD) → Buf (Elt Ideal) ((c.tc : Thread Cert.KernelIdeal.nD Cert.KernelIdeal.τ).loc Cert.KernelIdeal.main_v21_5)) (v6 : (c : Dev Cert.KernelIdeal.nD) → Buf (Elt Ideal) ((c.tc : Thread Cert.KernelIdeal.nD Cert.KernelIdeal.τ).loc Cert.KernelIdeal.main_v21_6)) (v7 : (c : Dev Cert.KernelIdeal.nD) → Buf (Elt Ideal) ((c.tc : Thread Cert.KernelIdeal.nD Cert.KernelIdeal.τ).loc Cert.KernelIdeal.main_v21_7)) (v8 : (c : Dev Cert.KernelIdeal.nD) → Buf (Elt Ideal) ((c.tc : Thread Cert.KernelIdeal.nD Cert.KernelIdeal.τ).loc Cert.KernelIdeal.main_v21_8)) (v9 : (c : Dev Cert.KernelIdeal.nD) → Buf (Elt Ideal) ((c.tc : Thread Cert.KernelIdeal.nD Cert.KernelIdeal.τ).loc Cert.KernelIdeal.main_v21_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_v21_5) = v5 c
          ∧ r.2.mem ((c.tc : Thread Cert.KernelIdeal.nD Cert.KernelIdeal.τ).loc Cert.KernelIdeal.main_v21_6) = v6 c
          ∧ r.2.mem ((c.tc : Thread Cert.KernelIdeal.nD Cert.KernelIdeal.τ).loc Cert.KernelIdeal.main_v21_7) = v7 c
          ∧ r.2.mem ((c.tc : Thread Cert.KernelIdeal.nD Cert.KernelIdeal.τ).loc Cert.KernelIdeal.main_v21_8) = v8 c
          ∧ r.2.mem ((c.tc : Thread Cert.KernelIdeal.nD Cert.KernelIdeal.τ).loc Cert.KernelIdeal.main_v21_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_v126) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_v88) = v6 c
          ∧ r.2.mem ((c.tc : Thread Cert.ReferenceIdeal.nD Cert.ReferenceIdeal.τ).loc Cert.ReferenceIdeal.main_v85) = v7 c
          ∧ r.2.mem ((c.tc : Thread Cert.ReferenceIdeal.nD Cert.ReferenceIdeal.τ).loc Cert.ReferenceIdeal.main_v116) = v8 c
          ∧ r.2.mem ((c.tc : Thread Cert.ReferenceIdeal.nD Cert.ReferenceIdeal.τ).loc Cert.ReferenceIdeal.main_v124) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v137) = v0 c
          ∧ r.2.mem ((c.tc : Thread Cert.Reference2Ideal.nD Cert.Reference2Ideal.τ).loc Cert.Reference2Ideal.main_v138) = v1 c
          ∧ r.2.mem ((c.tc : Thread Cert.Reference2Ideal.nD Cert.Reference2Ideal.τ).loc Cert.Reference2Ideal.main_v97) = v2 c
          ∧ r.2.mem ((c.tc : Thread Cert.Reference2Ideal.nD Cert.Reference2Ideal.τ).loc Cert.Reference2Ideal.main_v140) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v54) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)) (v5 : (c : Dev Cert.Kernel4Ideal.nD) → Buf (Elt Ideal) ((c.tc : Thread Cert.Kernel4Ideal.nD Cert.Kernel4Ideal.τ).loc Cert.Kernel4Ideal.main_v4_5)) (v6 : (c : Dev Cert.Kernel4Ideal.nD) → Buf (Elt Ideal) ((c.tc : Thread Cert.Kernel4Ideal.nD Cert.Kernel4Ideal.τ).loc Cert.Kernel4Ideal.main_v4_6)) (v7 : (c : Dev Cert.Kernel4Ideal.nD) → Buf (Elt Ideal) ((c.tc : Thread Cert.Kernel4Ideal.nD Cert.Kernel4Ideal.τ).loc Cert.Kernel4Ideal.main_v4_7)) (v8 : (c : Dev Cert.Kernel4Ideal.nD) → Buf (Elt Ideal) ((c.tc : Thread Cert.Kernel4Ideal.nD Cert.Kernel4Ideal.τ).loc Cert.Kernel4Ideal.main_v4_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_v4_5) = v5 c
          ∧ r.2.mem ((c.tc : Thread Cert.Kernel4Ideal.nD Cert.Kernel4Ideal.τ).loc Cert.Kernel4Ideal.main_v4_6) = v6 c
          ∧ r.2.mem ((c.tc : Thread Cert.Kernel4Ideal.nD Cert.Kernel4Ideal.τ).loc Cert.Kernel4Ideal.main_v4_7) = v7 c
          ∧ r.2.mem ((c.tc : Thread Cert.Kernel4Ideal.nD Cert.Kernel4Ideal.τ).loc Cert.Kernel4Ideal.main_v4_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v2) = v2 c
          ∧ r.2.mem ((c.tc : Thread Cert.Reference4Ideal.nD Cert.Reference4Ideal.τ).loc Cert.Reference4Ideal.main_v3) = v3 c
          ∧ r.2.mem ((c.tc : Thread Cert.Reference4Ideal.nD Cert.Reference4Ideal.τ).loc Cert.Reference4Ideal.main_v66) = v4 c
          ∧ r.2.mem ((c.tc : Thread Cert.Reference4Ideal.nD Cert.Reference4Ideal.τ).loc Cert.Reference4Ideal.main_v67) = v5 c
          ∧ r.2.mem ((c.tc : Thread Cert.Reference4Ideal.nD Cert.Reference4Ideal.τ).loc Cert.Reference4Ideal.main_v68) = v6 c
          ∧ r.2.mem ((c.tc : Thread Cert.Reference4Ideal.nD Cert.Reference4Ideal.τ).loc Cert.Reference4Ideal.main_v70) = v7 c
          ∧ r.2.mem ((c.tc : Thread Cert.Reference4Ideal.nD Cert.Reference4Ideal.τ).loc Cert.Reference4Ideal.main_v72) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v5) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v1) = v1 c
          ∧ r.2.mem ((c.tc : Thread Cert.Reference8Ideal.nD Cert.Reference8Ideal.τ).loc Cert.Reference8Ideal.main_v2) = v2 c
          ∧ r.2.mem ((c.tc : Thread Cert.Reference8Ideal.nD Cert.Reference8Ideal.τ).loc Cert.Reference8Ideal.main_v3) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Kernel2 (hKernel2 := hKernel2) (hPre_finite2 := hPre_finite2)
    ∧ quiescent_Kernel2Ideal (hKernel2Ideal := hKernel2Ideal) (hPre_finite2 := hPre_finite2)
    ∧ quiescent_Reference2Ideal (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x1024 : Shape := ⟨2, ![8192, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S1x4096 : S_.BroadcastsInDim S1x4096 (![] : Fin 0 → Fin S1x4096.rank)
  bcast_S_S4096x1024 : S_.BroadcastsInDim S4096x1024 (![] : Fin 0 → Fin S4096x1024.rank)

variable [Facts]

def fn_part1 {F : FTy → Type} [FloatOps F] (main_arg6 : FVec F S4096x1024 .f32) (main_arg7 : FVec F S1x1024 .f32) (main_arg8 : FVec F S1x1024 .f32) (main_arg9 : FVec F S1x1024 .f32) (main_v2 : IVec S8192x1024 1) (main_v5 : IVec S8192x1024 1) (main_v8 : IVec S1x1024 1) (main_v11 : IVec S1x1024 1) (main_v14 : IVec S1024x4096 1) (main_v17 : IVec S1x4096 1) : IVec S8192x1024 1 × IVec S8192x1024 1 × IVec S1x1024 1 × IVec S1x1024 1 × IVec S1024x4096 1 × IVec S1x4096 1 × IVec S4096x1024 1 × IVec S1x1024 1 × IVec S1x1024 1 × IVec S1x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x4096 .f32) (main_arg5 : FVec F S1x4096 .f32) (main_arg6 : FVec F S4096x1024 .f32) (main_arg7 : FVec F S1x1024 .f32) (main_arg8 : FVec F S1x1024 .f32) (main_arg9 : FVec F S1x1024 .f32) : IVec S8192x1024 1 × IVec S8192x1024 1 × IVec S1x1024 1 × IVec S1x1024 1 × IVec S1024x4096 1 × IVec S1x4096 1 × IVec S4096x1024 1 × IVec S1x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S1x4096 .f32 := Host.absf main_arg5
  let main_cst_4 : FVec F S_ .f32 := constant S_ .f32 0x7F800000#32
  let main_v16 : FVec F S1x4096 .f32 := broadcastInDim S1x4096 ![] bcast_S_S1x4096 main_cst_4
  let main_v17 : IVec S1x4096 1 := cmpf .olt main_v15 main_v16
  fn_part1 (F := F) main_arg6 main_arg7 main_arg8 main_arg9 main_v2 main_v5 main_v8 main_v11 main_v14 main_v17
-- ==== Pre_finite2.lean ====
abbrev S8192x1024 : Shape := ⟨2, ![8192, 1024]⟩
abbrev S8192x1536 : Shape := ⟨2, ![8192, 1536]⟩
abbrev S8192x512 : Shape := ⟨2, ![8192, 512]⟩
abbrev S256x1024 : Shape := ⟨2, ![256, 1024]⟩
abbrev S1024x1024 : Shape := ⟨2, ![1024, 1024]⟩
abbrev S3x512 : Shape := ⟨2, ![3, 512]⟩
abbrev S512x1024 : Shape := ⟨2, ![512, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S256x1024 : S_.BroadcastsInDim S256x1024 (![] : Fin 0 → Fin S256x1024.rank)
  bcast_S_S1024x1024 : S_.BroadcastsInDim S1024x1024 (![] : Fin 0 → Fin S1024x1024.rank)
  bcast_S_S512x1024 : S_.BroadcastsInDim S512x1024 (![] : Fin 0 → Fin S512x1024.rank)

variable [Facts]

def fn {F : FTy → Type} [FloatOps F] (main_arg0 : FVec F S8192x1024 .f32) (main_arg1 : FVec F S8192x1024 .f32) (main_arg2 : FVec F S8192x1536 .f32) (main_arg3 : FVec F S8192x512 .f32) (main_arg4 : FVec F S256x1024 .f32) (main_arg5 : FVec F S1024x1024 .f32) (main_arg6 : FVec F S3x512 .f32) (main_arg7 : FVec F S512x1024 .f32) (main_arg8 : FVec F S512x1024 .f32) : IVec S8192x1024 1 × IVec S8192x512 1 × IVec S256x1024 1 × IVec S1024x1024 1 × IVec S512x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg3
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S256x1024 .f32 := Host.absf main_arg4
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S1024x1024 .f32 := Host.absf main_arg5
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S512x1024 .f32 := Host.absf main_arg8
  let main_cst_3 : FVec F S_ .f32 := constant S_ .f32 0x7F800000#32
  let main_v13 : FVec F S512x1024 .f32 := broadcastInDim S512x1024 ![] bcast_S_S512x1024 main_cst_3
  let main_v14 : IVec S512x1024 1 := cmpf .olt main_v12 main_v13
  (main_v2, main_v5, main_v8, main_v11, main_v14)
-- ==== Kernel.lean ====
abbrev S8192x1024 : Shape := ⟨2, ![8192, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x4096 : Shape := ⟨2, ![8192, 4096]⟩
abbrev S1x128 : Shape := ⟨2, ![1, 128]⟩
abbrev S256x1024 : Shape := ⟨2, ![256, 1024]⟩
abbrev S1024x256 : Shape := ⟨2, ![1024, 256]⟩
abbrev S256x4096 : Shape := ⟨2, ![256, 4096]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 46
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S1x4096, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S4096x1024, .f32⟩
  | .hbm, ⟨34, _⟩ => ⟨S4096x1024, .bf16⟩
  | .hbm, ⟨35, _⟩ => ⟨S4096x1024, .bf16⟩
  | .hbm, ⟨36, _⟩ => ⟨S1024x8192, .bf16⟩
  | .hbm, ⟨37, _⟩ => ⟨S8192x4096, .bf16⟩
  | .hbm, ⟨38, _⟩ => ⟨S1024x8192, .bf16⟩
  | .hbm, ⟨39, _⟩ => ⟨S8192x4096, .bf16⟩
  | .hbm, ⟨40, _⟩ => ⟨S8192x1024, .f32⟩
  | .hbm, ⟨41, _⟩ => ⟨S1x128, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4096x1024, .bf16⟩
  | .local _ .vmem, ⟨7, _⟩ => ⟨S1x4096, .f32⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x256, .bf16⟩
  | .local _ .vmem, ⟨13, _⟩ => ⟨S1024x256, .bf16⟩
  | .local _ .vmem, ⟨14, _⟩ => ⟨S256x4096, .bf16⟩
  | .local _ .vmem, ⟨15, _⟩ => ⟨S256x4096, .bf16⟩
  | .local _ .vmem, ⟨16, _⟩ => ⟨S1024x256, .bf16⟩
  | .local _ .vmem, ⟨17, _⟩ => ⟨S1024x256, .bf16⟩
  | .local _ .vmem, ⟨18, _⟩ => ⟨S256x4096, .bf16⟩
  | .local _ .vmem, ⟨19, _⟩ => ⟨S256x4096, .bf16⟩
  | .local _ .vmem, ⟨20, _⟩ => ⟨S256x1024, .f32⟩
  | .local _ .vmem, ⟨21, _⟩ => ⟨S256x1024, .f32⟩
  | .local _ .vmem, ⟨22, _⟩ => ⟨S1x128, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x4096, .f32⟩
  | .local _ .vmem, ⟨27, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev main_v21_4 : Ref sig .tc := ⟨.hbm, 40, rfl⟩
abbrev main_v21_5 : Ref sig .tc := ⟨.hbm, 41, rfl⟩
abbrev main_v21_6 : Ref sig .tc := ⟨.hbm, 42, rfl⟩
abbrev main_v21_7 : Ref sig .tc := ⟨.hbm, 43, rfl⟩
abbrev main_v21_8 : Ref sig .tc := ⟨.hbm, 44, rfl⟩
abbrev main_v21_9 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x1024 : Shape := ⟨2, ![8192, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S4096 : Shape := ⟨1, ![4096]⟩
abbrev S1024x8192 : Shape := ⟨2, ![1024, 8192]⟩
abbrev S1x128 : Shape := ⟨2, ![1, 128]⟩

abbrev nBuf : Space → Nat
  | .hbm => 185
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1024x4096, .f32⟩
  | 5 => ⟨S1x4096, .f32⟩
  | 6 => ⟨S4096x1024, .f32⟩
  | 7 => ⟨S1x1024, .f32⟩
  | 8 => ⟨S1x1024, .f32⟩
  | 9 => ⟨S1x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S_, .f32⟩
  | 28 => ⟨S8192x1, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x4096, .f32⟩
  | 39 => ⟨S_, .f32⟩
  | 40 => ⟨S8192x1024, .f32⟩
  | 41 => ⟨S8192x4096, .f32⟩
  | 42 => ⟨S8192x4096, .f32⟩
  | 43 => ⟨S8192x4096, .f32⟩
  | 44 => ⟨S8192x4096, .f32⟩
  | 45 => ⟨S_, .f32⟩
  | 46 => ⟨S8192x4096, .f32⟩
  | 47 => ⟨S8192x4096, .f32⟩
  | 48 => ⟨S_, .f32⟩
  | 49 => ⟨S8192x4096, .f32⟩
  | 50 => ⟨S8192x4096, .i1⟩
  | 51 => ⟨S_, .f32⟩
  | 52 => ⟨S8192x4096, .f32⟩
  | 53 => ⟨S8192x4096, .f32⟩
  | 54 => ⟨S_, .f32⟩
  | 55 => ⟨S8192x4096, .f32⟩
  | 56 => ⟨S8192x4096, .f32⟩
  | 57 => ⟨S_, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S8192x1024, .f32⟩
  | 84 => ⟨S8192x1024, .f32⟩
  | 85 => ⟨S_, .f32⟩
  | 86 => ⟨S8192x1, .f32⟩
  | 87 => ⟨S8192x1, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S_, .f32⟩
  | 105 => ⟨S8192, .f32⟩
  | 106 => ⟨S_, .f32⟩
  | 107 => ⟨S8192, .f32⟩
  | 108 => ⟨S8192, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S8192, .f32⟩
  | 117 => ⟨S_, .f32⟩
  | 118 => ⟨S8192, .f32⟩
  | 119 => ⟨S8192, .f32⟩
  | 120 => ⟨S8192x1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S_, .f32⟩
  | 127 => ⟨S1024, .f32⟩
  | _ => ⟨S8192x1024, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1024, .f32⟩
  | 9 => ⟨S8192x1, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S8192x1024, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S8192x4096, .f32⟩
  | 38 => ⟨S_, .f32⟩
  | 39 => ⟨S8192x1024, .f32⟩
  | 40 => ⟨S8192x1024, .f32⟩
  | 41 => ⟨S8192x4096, .f32⟩
  | 42 => ⟨S_, .f32⟩
  | 43 => ⟨S8192x4096, .f32⟩
  | 44 => ⟨S8192x4096, .f32⟩
  | 45 => ⟨S_, .f32⟩
  | 46 => ⟨S4096, .f32⟩
  | 47 => ⟨S1x4096, .f32⟩
  | 48 => ⟨S8192x1024, .f32⟩
  | 49 => ⟨S8192x1024, .f32⟩
  | 50 => ⟨S1024x8192, .f32⟩
  | 51 => ⟨S1024x8192, .bf16⟩
  | 52 => ⟨S8192x4096, .bf16⟩
  | 53 => ⟨S1024x8192, .f32⟩
  | 54 => ⟨S1024x8192, .bf16⟩
  | 55 => ⟨S8192x4096, .bf16⟩
  | 56 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_cst_18 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_cst_20 : Ref sig .tc := ⟨.hbm, 109, rfl⟩
abbrev main_v76 : Ref sig .tc := ⟨.hbm, 110, rfl⟩
abbrev main_cst_21 : Ref sig .tc := ⟨.hbm, 111, rfl⟩
abbrev main_v77 : Ref sig .tc := ⟨.hbm, 112, rfl⟩
abbrev main_cst_22 : Ref sig .tc := ⟨.hbm, 113, rfl⟩
abbrev main_cst_23 : Ref sig .tc := ⟨.hbm, 114, rfl⟩
abbrev main_v78 : Ref sig .tc := ⟨.hbm, 115, rfl⟩
abbrev main_v79 : Ref sig .tc := ⟨.hbm, 116, rfl⟩
abbrev main_cst_24 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_25 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_26 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_27 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_28 : Ref sig .tc := ⟨.hbm, 139, rfl⟩
abbrev main_v98 : Ref sig .tc := ⟨.hbm, 140, rfl⟩
abbrev main_v99 : Ref sig .tc := ⟨.hbm, 141, rfl⟩
abbrev main_cst_29 : Ref sig .tc := ⟨.hbm, 142, rfl⟩
abbrev main_v100 : Ref sig .tc := ⟨.hbm, 143, rfl⟩
abbrev main_v101 : Ref sig .tc := ⟨.hbm, 144, rfl⟩
abbrev main_cst_30 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_31 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_32 : Ref sig .tc := ⟨.hbm, 155, rfl⟩
abbrev main_v110 : Ref sig .tc := ⟨.hbm, 156, rfl⟩
abbrev main_v111 : Ref sig .tc := ⟨.hbm, 157, rfl⟩
abbrev main_cst_33 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_34 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_35 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_36 : Ref sig .tc := ⟨.hbm, 170, rfl⟩
abbrev main_v121 : Ref sig .tc := ⟨.hbm, 171, rfl⟩
abbrev main_v122 : Ref sig .tc := ⟨.hbm, 172, rfl⟩
abbrev main_cst_37 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩

abbrev nD : Nat := 1
abbrev τ : Topo := Topo.v7x

variable {F : FTy → Type} [FloatOps F]
-- ==== Kernel2.lean ====
abbrev S8192x1024 : Shape := ⟨2, ![8192, 1024]⟩
abbrev S8192x1536 : Shape := ⟨2, ![8192, 1536]⟩
abbrev S8192x512 : Shape := ⟨2, ![8192, 512]⟩
abbrev S256x1024 : Shape := ⟨2, ![256, 1024]⟩
abbrev S1024x1024 : Shape := ⟨2, ![1024, 1024]⟩
abbrev S3x512 : Shape := ⟨2, ![3, 512]⟩
abbrev S512x1024 : Shape := ⟨2, ![512, 1024]⟩
abbrev S256x512 : Shape := ⟨2, ![256, 512]⟩
abbrev S512x256 : Shape := ⟨2, ![512, 256]⟩
abbrev S1024x512 : Shape := ⟨2, ![1024, 512]⟩
abbrev S1x8x512 : Shape := ⟨3, ![1, 8, 512]⟩
abbrev S512x1536 : Shape := ⟨2, ![512, 1536]⟩
abbrev S8x1536 : Shape := ⟨2, ![8, 1536]⟩
abbrev S512x512 : Shape := ⟨2, ![512, 512]⟩
abbrev S520x512 : Shape := ⟨2, ![520, 512]⟩
abbrev S8x512 : Shape := ⟨2, ![8, 512]⟩
abbrev S1 : Shape := ⟨1, ![1]⟩
abbrev S1x512 : Shape := ⟨2, ![1, 512]⟩
abbrev S512 : Shape := ⟨1, ![512]⟩
abbrev S256x128 : Shape := ⟨2, ![256, 128]⟩
abbrev S512x128 : Shape := ⟨2, ![512, 128]⟩
abbrev S128x256 : Shape := ⟨2, ![128, 256]⟩
abbrev S128x512 : Shape := ⟨2, ![128, 512]⟩
abbrev S_ : Shape := ⟨0, ![]⟩

abbrev nBuf : Space → Nat
  | .hbm => 24
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1536, .f32⟩
  | .hbm, ⟨3, _⟩ => ⟨S8192x512, .f32⟩
  | .hbm, ⟨4, _⟩ => ⟨S256x1024, .f32⟩
  | .hbm, ⟨5, _⟩ => ⟨S1024x1024, .f32⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S256x1024, .f32⟩
  | .hbm, ⟨10, _⟩ => ⟨S256x1024, .bf16⟩
  | .hbm, ⟨11, _⟩ => ⟨S8192x1024, .bf16⟩
  | .hbm, ⟨12, _⟩ => ⟨S8192x1024, .bf16⟩
  | .hbm, ⟨13, _⟩ => ⟨S8192x512, .bf16⟩
  | .hbm, ⟨14, _⟩ => ⟨S256x512, .bf16⟩
  | .hbm, ⟨15, _⟩ => ⟨S512x256, .bf16⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S1024x512, .bf16⟩
  | .hbm, ⟨20, _⟩ => ⟨S8192x1536, .bf16⟩
  | .hbm, ⟨21, _⟩ => ⟨S8192x512, .bf16⟩
  | .hbm, ⟨22, _⟩ => ⟨S256x1024, .f32⟩
  | .hbm, ⟨23, _⟩ => ⟨S1x8x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1536, .f32⟩
  | .local _ .vmem, ⟨5, _⟩ => ⟨S512x1536, .f32⟩
  | .local _ .vmem, ⟨6, _⟩ => ⟨S8x1536, .f32⟩
  | .local _ .vmem, ⟨7, _⟩ => ⟨S8x1536, .f32⟩
  | .local _ .vmem, ⟨8, _⟩ => ⟨S512x512, .bf16⟩
  | .local _ .vmem, ⟨9, _⟩ => ⟨S512x512, .bf16⟩
  | .local _ .vmem, ⟨10, _⟩ => ⟨S256x1024, .bf16⟩
  | .local _ .vmem, ⟨11, _⟩ => ⟨S3x512, .f32⟩
  | .local _ .vmem, ⟨12, _⟩ => ⟨S1024x512, .bf16⟩
  | .local _ .vmem, ⟨13, _⟩ => ⟨S1024x512, .bf16⟩
  | .local _ .vmem, ⟨14, _⟩ => ⟨S512x256, .bf16⟩
  | .local _ .vmem, ⟨15, _⟩ => ⟨S512x1536, .bf16⟩
  | .local _ .vmem, ⟨16, _⟩ => ⟨S512x1536, .bf16⟩
  | .local _ .vmem, ⟨17, _⟩ => ⟨S512x512, .bf16⟩
  | .local _ .vmem, ⟨18, _⟩ => ⟨S512x512, .bf16⟩
  | .local _ .vmem, ⟨19, _⟩ => ⟨S256x1024, .f32⟩
  | .local _ .vmem, ⟨20, _⟩ => ⟨S520x512, .f32⟩
  | .local _ .vmem, ⟨21, _⟩ => ⟨S520x512, .f32⟩
  | .local _ .vmem, ⟨22, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S8192x1536 : Shape := ⟨2, ![8192, 1536]⟩
abbrev S8192x512 : Shape := ⟨2, ![8192, 512]⟩
abbrev S256x1024 : Shape := ⟨2, ![256, 1024]⟩
abbrev S1024x1024 : Shape := ⟨2, ![1024, 1024]⟩
abbrev S3x512 : Shape := ⟨2, ![3, 512]⟩
abbrev S512x1024 : Shape := ⟨2, ![512, 1024]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S8x512 : Shape := ⟨2, ![8, 512]⟩
abbrev S1x8x512 : Shape := ⟨3, ![1, 8, 512]⟩

abbrev nBuf : Space → Nat
  | .hbm => 180
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1536, .f32⟩
  | 3 => ⟨S8192x512, .f32⟩
  | 4 => ⟨S256x1024, .f32⟩
  | 5 => ⟨S1024x1024, .f32⟩
  | 6 => ⟨S3x512, .f32⟩
  | 7 => ⟨S512x1024, .f32⟩
  | 8 => ⟨S512x1024, .f32⟩
  | 9 => ⟨S256x1024, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S2x512, .f32⟩
  | 16 => ⟨S8194x512, .f32⟩
  | 17 => ⟨S_, .f32⟩
  | 18 => ⟨S2x512, .f32⟩
  | 19 => ⟨S1x512, .f32⟩
  | 20 => ⟨S512, .f32⟩
  | 21 => ⟨S8192x512, .f32⟩
  | 22 => ⟨S1x512, .f32⟩
  | 23 => ⟨S8192x512, .f32⟩
  | 24 => ⟨S8192x512, .f32⟩
  | 25 => ⟨S1x512, .f32⟩
  | 26 => ⟨S512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S8192x1024, .f32⟩
  | 41 => ⟨S256x512, .f32⟩
  | 42 => ⟨S256x512, .f32⟩
  | 43 => ⟨S8192x4x128, .f32⟩
  | 44 => ⟨S256x4x128, .f32⟩
  | 45 => ⟨S256x4x128, .f32⟩
  | 46 => ⟨S4x8192x256, .f32⟩
  | 47 => ⟨S_, .f32⟩
  | 48 => ⟨S4x8192x256, .f32⟩
  | 49 => ⟨S4x8192x256, .f32⟩
  | 50 => ⟨S_, .f32⟩
  | 51 => ⟨S4x8192, .f32⟩
  | 52 => ⟨S4x8192x1, .f32⟩
  | 53 => ⟨S4x8192x256, .f32⟩
  | 54 => ⟨S4x8192x256, .i1⟩
  | 55 => ⟨S4x8192x256, .f32⟩
  | 56 => ⟨S_, .f32⟩
  | 57 => ⟨S4x8192, .f32⟩
  | 58 => ⟨S_, .f32⟩
  | 59 => ⟨S4x8192, .f32⟩
  | 60 => ⟨S4x8192, .f32⟩
  | 61 => ⟨S_, .f32⟩
  | 62 => ⟨S4x8192, .f32⟩
  | 63 => ⟨S4x8192, .i1⟩
  | 64 => ⟨S_, .f32⟩
  | 65 => ⟨S4x8192, .f32⟩
  | 66 => ⟨S4x8192, .i1⟩
  | 67 => ⟨S_, .f32⟩
  | 68 => ⟨S4x8192, .f32⟩
  | 69 => ⟨S_, .f32⟩
  | 70 => ⟨S4x8192, .f32⟩
  | 71 => ⟨S_, .f32⟩
  | 72 => ⟨S4x8192, .f32⟩
  | 73 => ⟨S4x8192, .f32⟩
  | 74 => ⟨S4x8192, .f32⟩
  | 75 => ⟨S4x8192x1, .f32⟩
  | 76 => ⟨S4x8192x256, .f32⟩
  | 77 => ⟨S4x8192x256, .f32⟩
  | 78 => ⟨S4x8192x256, .f32⟩
  | 79 => ⟨S_, .f32⟩
  | 80 => ⟨S4x8192, .f32⟩
  | 81 => ⟨S4x8192x1, .f32⟩
  | 82 => ⟨S4x8192x256, .f32⟩
  | 83 => ⟨S4x8192x256, .f32⟩
  | 84 => ⟨S4x8192x1, .f32⟩
  | 85 => ⟨S_, .f32⟩
  | 86 => ⟨S4x8192x1, .f32⟩
  | 87 => ⟨S4x8192x1, .f32⟩
  | 88 => ⟨S4x128x8192, .f32⟩
  | 89 => ⟨S8192x4x128, .f32⟩
  | 90 => ⟨S8192x512, .f32⟩
  | 91 => ⟨S8192x1024, .f32⟩
  | 92 => ⟨S8192x512, .f32⟩
  | 93 => ⟨S8192x4x128, .f32⟩
  | 94 => ⟨S4x128x8192, .f32⟩
  | 95 => ⟨S4x8192x256, .f32⟩
  | 96 => ⟨S4x128x256, .f32⟩
  | 97 => ⟨S256x4x128, .f32⟩
  | 98 => ⟨S4x8192x256, .f32⟩
  | 99 => ⟨S4x8192x256, .f32⟩
  | 100 => ⟨S4x8192x256, .f32⟩
  | 101 => ⟨S_, .f32⟩
  | 102 => ⟨S4x8192, .f32⟩
  | 103 => ⟨S4x8192x1, .f32⟩
  | 104 => ⟨S4x8192x1, .f32⟩
  | 105 => ⟨S4x8192x256, .f32⟩
  | 106 => ⟨S4x8192x256, .f32⟩
  | 107 => ⟨S_, .f32⟩
  | 108 => ⟨S4x8192, .f32⟩
  | 109 => ⟨S4x8192x256, .f32⟩
  | 110 => ⟨S4x8192x256, .f32⟩
  | 111 => ⟨S4x8192x256, .f32⟩
  | 112 => ⟨S_, .f32⟩
  | 113 => ⟨S4x8192x256, .f32⟩
  | 114 => ⟨S4x8192x256, .f32⟩
  | 115 => ⟨S4x256x128, .f32⟩
  | 116 => ⟨S256x4x128, .f32⟩
  | 117 => ⟨S4x8192x128, .f32⟩
  | 118 => ⟨S8192x4x128, .f32⟩
  | 119 => ⟨S256x512, .f32⟩
  | 120 => ⟨S256x512, .f32⟩
  | 121 => ⟨S8192x512, .f32⟩
  | 122 => ⟨S256x1024, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S_, .f32⟩
  | 2 => ⟨S512, .f32⟩
  | 3 => ⟨S1x512, .f32⟩
  | 4 => ⟨S_, .f32⟩
  | 5 => ⟨S512, .f32⟩
  | 6 => ⟨S_, .f32⟩
  | 7 => ⟨S8194x512, .f32⟩
  | 8 => ⟨S1x512, .f32⟩
  | 9 => ⟨S_, .f32⟩
  | 10 => ⟨S3x512, .f32⟩
  | 11 => ⟨S8192x512, .f32⟩
  | 12 => ⟨S8192x512, .f32⟩
  | 13 => ⟨S8192x512, .f32⟩
  | 14 => ⟨S_, .f32⟩
  | 15 => ⟨S512, .f32⟩
  | 16 => ⟨S1x512, .f32⟩
  | 17 => ⟨S_, .f32⟩
  | 18 => ⟨S512, .f32⟩
  | 19 => ⟨S_, .f32⟩
  | 20 => ⟨S8194x512, .f32⟩
  | 21 => ⟨S8194x512, .f32⟩
  | 22 => ⟨S1x512, .f32⟩
  | 23 => ⟨S_, .f32⟩
  | 24 => ⟨S3x512, .f32⟩
  | 25 => ⟨S3x512, .f32⟩
  | 26 => ⟨S8192x512, .f32⟩
  | 27 => ⟨S8192x512, .f32⟩
  | 28 => ⟨S8192x512, .f32⟩
  | 29 => ⟨S_, .f32⟩
  | 30 => ⟨S512, .f32⟩
  | 31 => ⟨S1x512, .f32⟩
  | 32 => ⟨S_, .f32⟩
  | 33 => ⟨S512, .f32⟩
  | 34 => ⟨S_, .f32⟩
  | 35 => ⟨S8194x512, .f32⟩
  | 36 => ⟨S8194x512, .f32⟩
  | 37 => ⟨S1x512, .f32⟩
  | 38 => ⟨S_, .f32⟩
  | 39 => ⟨S3x512, .f32⟩
  | 40 => ⟨S3x512, .f32⟩
  | 41 => ⟨S2x512, .f32⟩
  | 42 => ⟨S8192x512, .f32⟩
  | 43 => ⟨S8192x512, .f32⟩
  | 44 => ⟨S8192x512, .f32⟩
  | 45 => ⟨S8192x1536, .f32⟩
  | 46 => ⟨S8192x1536, .bf16⟩
  | 47 => ⟨S8192x512, .bf16⟩
  | 48 => ⟨S_, .i32⟩
  | 49 => ⟨S_, .f32⟩
  | 50 => ⟨S8x512, .f32⟩
  | 51 => ⟨S1x8x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_15 : Ref sig .tc := ⟨.hbm, 129, rfl⟩
abbrev main_v104 : Ref sig .tc := ⟨.hbm, 130, rfl⟩
abbrev main_v105 : Ref sig .tc := ⟨.hbm, 131, rfl⟩
abbrev main_cst_16 : Ref sig .tc := ⟨.hbm, 132, rfl⟩
abbrev main_v106 : Ref sig .tc := ⟨.hbm, 133, rfl⟩
abbrev main_cst_17 : Ref sig .tc := ⟨.hbm, 134, rfl⟩
abbrev main_v107 : Ref sig .tc := ⟨.hbm, 135, rfl⟩
abbrev main_v108 : Ref sig .tc := ⟨.hbm, 136, rfl⟩
abbrev main_cst_18 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_19 : Ref sig .tc := ⟨.hbm, 142, rfl⟩
abbrev main_v113 : Ref sig .tc := ⟨.hbm, 143, rfl⟩
abbrev main_v114 : Ref sig .tc := ⟨.hbm, 144, rfl⟩
abbrev main_cst_20 : Ref sig .tc := ⟨.hbm, 145, rfl⟩
abbrev main_v115 : Ref sig .tc := ⟨.hbm, 146, rfl⟩
abbrev main_cst_21 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_22 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_23 : Ref sig .tc := ⟨.hbm, 157, rfl⟩
abbrev main_v124 : Ref sig .tc := ⟨.hbm, 158, rfl⟩
abbrev main_v125 : Ref sig .tc := ⟨.hbm, 159, rfl⟩
abbrev main_cst_24 : Ref sig .tc := ⟨.hbm, 160, rfl⟩
abbrev main_v126 : Ref sig .tc := ⟨.hbm, 161, rfl⟩
abbrev main_cst_25 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_26 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_c : Ref sig .tc := ⟨.hbm, 176, rfl⟩
abbrev main_call0_v0 : Ref sig .tc := ⟨.hbm, 177, rfl⟩
abbrev main_v139 : Ref sig .tc := ⟨.hbm, 178, rfl⟩
abbrev main_v140 : Ref sig .tc := ⟨.hbm, 179, rfl⟩

abbrev nD : Nat := 1
abbrev τ : Topo := Topo.v7x

variable {F : FTy → Type} [FloatOps F]
-- ==== Kernel3.lean ====
abbrev S8192x512 : Shape := ⟨2, ![8192, 512]⟩
abbrev S8192x3072 : Shape := ⟨2, ![8192, 3072]⟩
abbrev S8192x1024 : Shape := ⟨2, ![8192, 1024]⟩
abbrev S512x2048 : Shape := ⟨2, ![512, 2048]⟩
abbrev S512x1024 : Shape := ⟨2, ![512, 1024]⟩
abbrev S1024x1024 : Shape := ⟨2, ![1024, 1024]⟩
abbrev S1x1024 : Shape := ⟨2, ![1, 1024]⟩
abbrev S2048x512 : Shape := ⟨2, ![2048, 512]⟩
abbrev S1024x512 : Shape := ⟨2, ![1024, 512]⟩
abbrev S512x8192 : Shape := ⟨2, ![512, 8192]⟩
abbrev S8192x1 : Shape := ⟨2, ![8192, 1]⟩
abbrev S512x512 : Shape := ⟨2, ![512, 512]⟩
abbrev S512x3072 : Shape := ⟨2, ![512, 3072]⟩
abbrev S512x1 : Shape := ⟨2, ![512, 1]⟩
abbrev S512 : Shape := ⟨1, ![512]⟩

abbrev nBuf : Space → Nat
  | .hbm => 25
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x3072, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S512x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S8192x3072, .bf16⟩
  | .hbm, ⟨12, _⟩ => ⟨S8192x512, .bf16⟩
  | .hbm, ⟨13, _⟩ => ⟨S8192x512, .bf16⟩
  | .hbm, ⟨14, _⟩ => ⟨S2048x512, .f32⟩
  | .hbm, ⟨15, _⟩ => ⟨S2048x512, .bf16⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S1024x512, .bf16⟩
  | .hbm, ⟨20, _⟩ => ⟨S1024x1024, .bf16⟩
  | .hbm, ⟨21, _⟩ => ⟨S512x8192, .bf16⟩
  | .hbm, ⟨22, _⟩ => ⟨S8192x1024, .bf16⟩
  | .hbm, ⟨23, _⟩ => ⟨S8192x1024, .f32⟩
  | .hbm, ⟨24, _⟩ => ⟨S8192x1, .f32⟩
  | .local _ .vmem, ⟨0, _⟩ => ⟨S512x512, .f32⟩
  | .local _ .vmem, ⟨1, _⟩ => ⟨S512x512, .f32⟩
  | .local _ .vmem, ⟨2, _⟩ => ⟨S512x3072, .bf16⟩
  | .local _ .vmem, ⟨3, _⟩ => ⟨S512x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1, .f32⟩
  | .local _ .vmem, ⟨23, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8192x512 : Shape := ⟨2, ![8192, 512]⟩
abbrev S8192x3072 : Shape := ⟨2, ![8192, 3072]⟩
abbrev S8192x1024 : Shape := ⟨2, ![8192, 1024]⟩
abbrev S512x2048 : Shape := ⟨2, ![512, 2048]⟩
abbrev S512x1024 : Shape := ⟨2, ![512, 1024]⟩
abbrev S1024x1024 : Shape := ⟨2, ![1024, 1024]⟩
abbrev S1x1024 : Shape := ⟨2, ![1, 1024]⟩
abbrev S8192x3x1024 : Shape := ⟨3, ![8192, 3, 1024]⟩
abbrev S_ : Shape := ⟨0, ![]⟩
abbrev S8192x2048 : Shape := ⟨2, ![8192, 2048]⟩
abbrev S8192x1x1024 : Shape := ⟨3, ![8192, 1, 1024]⟩
abbrev S8192 : Shape := ⟨1, ![8192]⟩
abbrev S8192x1 : Shape := ⟨2, ![8192, 1]⟩
abbrev S512x8192 : Shape := ⟨2, ![512, 8192]⟩

abbrev nBuf : Space → Nat
  | .hbm => 85
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x3072, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S512x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S8192x3x1024, .f32⟩
  | .hbm, ⟨12, _⟩ => ⟨S8192x1024, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1x1024, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S512x8192, .f32⟩
  | .hbm, ⟨79, _⟩ => ⟨S512x8192, .bf16⟩
  | .hbm, ⟨80, _⟩ => ⟨S8192x1024, .bf16⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel4.lean ====
abbrev S8192x1024 : Shape := ⟨2, ![8192, 1024]⟩
abbrev S1024x5632 : Shape := ⟨2, ![1024, 5632]⟩
abbrev S1x3072 : Shape := ⟨2, ![1, 3072]⟩
abbrev S3x512 : Shape := ⟨2, ![3, 512]⟩
abbrev S256x1024 : Shape := ⟨2, ![256, 1024]⟩
abbrev S1024x1024 : Shape := ⟨2, ![1024, 1024]⟩
abbrev S5632x1024 : Shape := ⟨2, ![5632, 1024]⟩
abbrev S1024x8192 : Shape := ⟨2, ![1024, 8192]⟩
abbrev S8192x3072 : Shape := ⟨2, ![8192, 3072]⟩
abbrev S8192x1536 : Shape := ⟨2, ![8192, 1536]⟩
abbrev S8192x512 : Shape := ⟨2, ![8192, 512]⟩
abbrev S512x8192 : Shape := ⟨2, ![512, 8192]⟩
abbrev S512x1024 : Shape := ⟨2, ![512, 1024]⟩
abbrev S1024x512 : Shape := ⟨2, ![1024, 512]⟩
abbrev S512x3072 : Shape := ⟨2, ![512, 3072]⟩
abbrev S512x1536 : Shape := ⟨2, ![512, 1536]⟩
abbrev S512x512 : Shape := ⟨2, ![512, 512]⟩
abbrev S520x512 : Shape := ⟨2, ![520, 512]⟩
abbrev S512x5632 : Shape := ⟨2, ![512, 5632]⟩
abbrev S8x512 : Shape := ⟨2, ![8, 512]⟩
abbrev S1x512 : Shape := ⟨2, ![1, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1x3072, .f32⟩
  | .hbm, ⟨3, _⟩ => ⟨S3x512, .f32⟩
  | .hbm, ⟨4, _⟩ => ⟨S256x1024, .f32⟩
  | .hbm, ⟨5, _⟩ => ⟨S1024x1024, .f32⟩
  | .hbm, ⟨6, _⟩ => ⟨S256x1024, .f32⟩
  | .hbm, ⟨7, _⟩ => ⟨S256x1024, .bf16⟩
  | .hbm, ⟨8, _⟩ => ⟨S5632x1024, .f32⟩
  | .hbm, ⟨9, _⟩ => ⟨S5632x1024, .bf16⟩
  | .hbm, ⟨10, _⟩ => ⟨S1024x8192, .bf16⟩
  | .hbm, ⟨11, _⟩ => ⟨S8192x3072, .bf16⟩
  | .hbm, ⟨12, _⟩ => ⟨S8192x1536, .f32⟩
  | .hbm, ⟨13, _⟩ => ⟨S8192x512, .f32⟩
  | .hbm, ⟨14, _⟩ => ⟨S8192x512, .bf16⟩
  | .hbm, ⟨15, _⟩ => ⟨S8192x512, .bf16⟩
  | .hbm, ⟨16, _⟩ => ⟨S8192x512, .bf16⟩
  | .hbm, ⟨17, _⟩ => ⟨S512x8192, .bf16⟩
  | .hbm, ⟨18, _⟩ => ⟨S512x8192, .bf16⟩
  | .local _ .vmem, ⟨0, _⟩ => ⟨S512x1024, .f32⟩
  | .local _ .vmem, ⟨1, _⟩ => ⟨S512x1024, .f32⟩
  | .local _ .vmem, ⟨2, _⟩ => ⟨S5632x1024, .bf16⟩
  | .local _ .vmem, ⟨3, _⟩ => ⟨S1x3072, .f32⟩
  | .local _ .vmem, ⟨4, _⟩ => ⟨S3x512, .f32⟩
  | .local _ .vmem, ⟨5, _⟩ => ⟨S256x1024, .bf16⟩
  | .local _ .vmem, ⟨6, _⟩ => ⟨S1024x512, .bf16⟩
  | .local _ .vmem, ⟨7, _⟩ => ⟨S1024x512, .bf16⟩
  | .local _ .vmem, ⟨8, _⟩ => ⟨S512x3072, .bf16⟩
  | .local _ .vmem, ⟨9, _⟩ => ⟨S512x3072, .bf16⟩
  | .local _ .vmem, ⟨10, _⟩ => ⟨S512x1536, .f32⟩
  | .local _ .vmem, ⟨11, _⟩ => ⟨S512x1536, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S520x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v4_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S8192x1024 : Shape := ⟨2, ![8192, 1024]⟩
abbrev S1024x5632 : Shape := ⟨2, ![1024, 5632]⟩
abbrev S1x3072 : Shape := ⟨2, ![1, 3072]⟩
abbrev S3x512 : Shape := ⟨2, ![3, 512]⟩
abbrev S256x1024 : Shape := ⟨2, ![256, 1024]⟩
abbrev S1024x1024 : Shape := ⟨2, ![1024, 1024]⟩
abbrev S8192x5632 : Shape := ⟨2, ![8192, 5632]⟩
abbrev S8192x3072 : Shape := ⟨2, ![8192, 3072]⟩
abbrev S8192x1536 : Shape := ⟨2, ![8192, 1536]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S1024x8192 : Shape := ⟨2, ![1024, 8192]⟩
abbrev S512x8192 : Shape := ⟨2, ![512, 8192]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1x3072, .f32⟩
  | .hbm, ⟨3, _⟩ => ⟨S3x512, .f32⟩
  | .hbm, ⟨4, _⟩ => ⟨S256x1024, .f32⟩
  | .hbm, ⟨5, _⟩ => ⟨S1024x1024, .f32⟩
  | .hbm, ⟨6, _⟩ => ⟨S8192x5632, .f32⟩
  | .hbm, ⟨7, _⟩ => ⟨S8192x3072, .f32⟩
  | .hbm, ⟨8, _⟩ => ⟨S8192x1536, .f32⟩
  | .hbm, ⟨9, _⟩ => ⟨S8192x512, .f32⟩
  | .hbm, ⟨10, _⟩ => ⟨S8192x512, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S2x512, .f32⟩
  | .hbm, ⟨27, _⟩ => ⟨S8194x512, .f32⟩
  | .hbm, ⟨28, _⟩ => ⟨S1x512, .f32⟩
  | .hbm, ⟨29, _⟩ => ⟨S512, .f32⟩
  | .hbm, ⟨30, _⟩ => ⟨S8192x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S256x1024, .f32⟩
  | .hbm, ⟨50, _⟩ => ⟨S256x512, .f32⟩
  | .hbm, ⟨51, _⟩ => ⟨S256x512, .f32⟩
  | .hbm, ⟨52, _⟩ => ⟨S8192x4x128, .f32⟩
  | .hbm, ⟨53, _⟩ => ⟨S256x4x128, .f32⟩
  | .hbm, ⟨54, _⟩ => ⟨S256x4x128, .f32⟩
  | .hbm, ⟨55, _⟩ => ⟨S4x8192x256, .f32⟩
  | .hbm, ⟨56, _⟩ => ⟨S_, .f32⟩
  | .hbm, ⟨57, _⟩ => ⟨S4x8192x256, .f32⟩
  | .hbm, ⟨58, _⟩ => ⟨S4x8192x256, .f32⟩
  | .hbm, ⟨59, _⟩ => ⟨S_, .f32⟩
  | .hbm, ⟨60, _⟩ => ⟨S4x8192, .f32⟩
  | .hbm, ⟨61, _⟩ => ⟨S_, .f32⟩
  | .hbm, ⟨62, _⟩ => ⟨S4x8192, .f32⟩
  | .hbm, ⟨63, _⟩ => ⟨S4x8192, .f32⟩
  | .hbm, ⟨64, _⟩ => ⟨S4x8192x1, .f32⟩
  | .hbm, ⟨65, _⟩ => ⟨S4x8192x256, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x1, .f32⟩
  | .hbm, ⟨71, _⟩ => ⟨S4x8192x256, .f32⟩
  | .hbm, ⟨72, _⟩ => ⟨S4x8192x256, .f32⟩
  | .hbm, ⟨73, _⟩ => ⟨S4x128x8192, .f32⟩
  | .hbm, ⟨74, _⟩ => ⟨S8192x4x128, .f32⟩
  | .hbm, ⟨75, _⟩ => ⟨S8192x512, .f32⟩
  | .hbm, ⟨76, _⟩ => ⟨S1024x8192, .f32⟩
  | .hbm, ⟨77, _⟩ => ⟨S1024x8192, .bf16⟩
  | .hbm, ⟨78, _⟩ => ⟨S8192x3072, .bf16⟩
  | .hbm, ⟨79, _⟩ => ⟨S8192x512, .bf16⟩
  | .hbm, ⟨80, _⟩ => ⟨S8192x512, .bf16⟩
  | .hbm, ⟨81, _⟩ => ⟨S8192x512, .bf16⟩
  | .hbm, ⟨82, _⟩ => ⟨S512x8192, .f32⟩
  | .hbm, ⟨83, _⟩ => ⟨S512x8192, .bf16⟩
  | .hbm, ⟨84, _⟩ => ⟨S512x8192, .f32⟩
  | .hbm, ⟨85, _⟩ => ⟨S512x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_5 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Kernel5.lean ====
abbrev S256x1024 : Shape := ⟨2, ![256, 1024]⟩
abbrev S1024x1024 : Shape := ⟨2, ![1024, 1024]⟩
abbrev S512x256 : Shape := ⟨2, ![512, 256]⟩
abbrev S256x512 : Shape := ⟨2, ![256, 512]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .bf16⟩
  | .hbm, ⟨4, _⟩ => ⟨S512x256, .bf16⟩
  | .hbm, ⟨5, _⟩ => ⟨S256x1024, .bf16⟩
  | .local _ .vmem, ⟨0, _⟩ => ⟨S256x1024, .f32⟩
  | .local _ .vmem, ⟨1, _⟩ => ⟨S1024x1024, .bf16⟩
  | .local _ .vmem, ⟨2, _⟩ => ⟨S256x1024, .bf16⟩
  | .local _ .vmem, ⟨3, _⟩ => ⟨S512x256, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference5Ideal.lean ====
abbrev S256x1024 : Shape := ⟨2, ![256, 1024]⟩
abbrev S1024x1024 : Shape := ⟨2, ![1024, 1024]⟩
abbrev S256x512 : Shape := ⟨2, ![256, 512]⟩
abbrev S512x256 : Shape := ⟨2, ![512, 256]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x512, .f32⟩
  | .hbm, ⟨4, _⟩ => ⟨S256x1024, .bf16⟩
  | .hbm, ⟨5, _⟩ => ⟨S512x256, .f32⟩
  | .hbm, ⟨6, _⟩ => ⟨S512x256, .bf16⟩
  | .hbm, ⟨7, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S1024x512 : Shape := ⟨2, ![1024, 512]⟩
abbrev S4x1024x512 : Shape := ⟨3, ![4, 1024, 512]⟩
abbrev S256x512 : Shape := ⟨2, ![256, 512]⟩
abbrev S4x256x512 : Shape := ⟨3, ![4, 256, 512]⟩
abbrev S1x256x512 : Shape := ⟨3, ![1, 256, 512]⟩

abbrev nBuf : Space → Nat
  | .hbm => 9
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S4x1024x512, .f32⟩
  | .hbm, ⟨4, _⟩ => ⟨S4x1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S4x256x512, .bf16⟩
  | .local _ .vmem, ⟨3, _⟩ => ⟨S4x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1024x512 : Shape := ⟨2, ![1024, 512]⟩
abbrev S4x1024x512 : Shape := ⟨3, ![4, 1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S4x1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel7.lean ====
abbrev S8192x1024 : Shape := ⟨2, ![8192, 1024]⟩
abbrev S1024x5632 : Shape := ⟨2, ![1024, 5632]⟩
abbrev S8192x3072 : Shape := ⟨2, ![8192, 3072]⟩
abbrev S8192x1536 : Shape := ⟨2, ![8192, 1536]⟩
abbrev S8192x512 : Shape := ⟨2, ![8192, 512]⟩
abbrev S5632x1024 : Shape := ⟨2, ![5632, 1024]⟩
abbrev S8192x5632 : Shape := ⟨2, ![8192, 5632]⟩
abbrev S512x3072 : Shape := ⟨2, ![512, 3072]⟩
abbrev S512x1536 : Shape := ⟨2, ![512, 1536]⟩
abbrev S512x512 : Shape := ⟨2, ![512, 512]⟩
abbrev S512x1024 : Shape := ⟨2, ![512, 1024]⟩
abbrev S512x5632 : Shape := ⟨2, ![512, 5632]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x3072, .f32⟩
  | .hbm, ⟨3, _⟩ => ⟨S8192x1536, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x3072, .bf16⟩
  | .hbm, ⟨8, _⟩ => ⟨S8192x1536, .bf16⟩
  | .hbm, ⟨9, _⟩ => ⟨S8192x512, .bf16⟩
  | .hbm, ⟨10, _⟩ => ⟨S5632x1024, .f32⟩
  | .hbm, ⟨11, _⟩ => ⟨S5632x1024, .bf16⟩
  | .hbm, ⟨12, _⟩ => ⟨S8192x1024, .f32⟩
  | .hbm, ⟨13, _⟩ => ⟨S8192x5632, .bf16⟩
  | .local _ .vmem, ⟨0, _⟩ => ⟨S512x3072, .bf16⟩
  | .local _ .vmem, ⟨1, _⟩ => ⟨S512x3072, .bf16⟩
  | .local _ .vmem, ⟨2, _⟩ => ⟨S512x1536, .bf16⟩
  | .local _ .vmem, ⟨3, _⟩ => ⟨S512x1536, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S5632x1024, .bf16⟩
  | .local _ .vmem, ⟨11, _⟩ => ⟨S512x1024, .f32⟩
  | .local _ .vmem, ⟨12, _⟩ => ⟨S512x1024, .f32⟩
  | .local _ .vmem, ⟨13, _⟩ => ⟨S512x5632, .bf16⟩
  | .local _ .vmem, ⟨14, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x1024 : Shape := ⟨2, ![8192, 1024]⟩
abbrev S1024x5632 : Shape := ⟨2, ![1024, 5632]⟩
abbrev S8192x3072 : Shape := ⟨2, ![8192, 3072]⟩
abbrev S8192x1536 : Shape := ⟨2, ![8192, 1536]⟩
abbrev S8192x512 : Shape := ⟨2, ![8192, 512]⟩
abbrev S8192x5632 : Shape := ⟨2, ![8192, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x3072, .f32⟩
  | .hbm, ⟨3, _⟩ => ⟨S8192x1536, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x5632, .f32⟩
  | .hbm, ⟨8, _⟩ => ⟨S8192x5632, .f32⟩
  | .hbm, ⟨9, _⟩ => ⟨S8192x1024, .f32⟩
  | .hbm, ⟨10, _⟩ => ⟨S8192x1024, .f32⟩
  | .hbm, ⟨11, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Kernel8.lean ====
abbrev S8x101x128 : Shape := ⟨3, ![8, 101, 128]⟩
abbrev S8x1056x128 : Shape := ⟨3, ![8, 1056, 128]⟩
abbrev S8x1x32 : Shape := ⟨3, ![8, 1, 32]⟩
abbrev S8x8x512 : Shape := ⟨3, ![8, 8, 512]⟩
abbrev S101x128 : Shape := ⟨2, ![101, 128]⟩
abbrev S1056x128 : Shape := ⟨2, ![1056, 128]⟩
abbrev S1x32 : Shape := ⟨2, ![1, 32]⟩
abbrev S8x512 : Shape := ⟨2, ![8, 512]⟩
abbrev S1x101x128 : Shape := ⟨3, ![1, 101, 128]⟩
abbrev S1x1056x128 : Shape := ⟨3, ![1, 1056, 128]⟩
abbrev S1x1x32 : Shape := ⟨3, ![1, 1, 32]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x101x128, .f32⟩
  | .hbm, ⟨1, _⟩ => ⟨S8x1056x128, .f32⟩
  | .hbm, ⟨2, _⟩ => ⟨S8x1x32, .f32⟩
  | .hbm, ⟨3, _⟩ => ⟨S8x8x512, .f32⟩
  | .hbm, ⟨4, _⟩ => ⟨S101x128, .f32⟩
  | .hbm, ⟨5, _⟩ => ⟨S1056x128, .f32⟩
  | .hbm, ⟨6, _⟩ => ⟨S1x32, .f32⟩
  | .hbm, ⟨7, _⟩ => ⟨S8x512, .f32⟩
  | .local _ .vmem, ⟨0, _⟩ => ⟨S8x101x128, .f32⟩
  | .local _ .vmem, ⟨1, _⟩ => ⟨S8x1056x128, .f32⟩
  | .local _ .vmem, ⟨2, _⟩ => ⟨S8x1x32, .f32⟩
  | .local _ .vmem, ⟨3, _⟩ => ⟨S8x8x512, .f32⟩
  | .local _ .vmem, ⟨4, _⟩ => ⟨S101x128, .f32⟩
  | .local _ .vmem, ⟨5, _⟩ => ⟨S1056x128, .f32⟩
  | .local _ .vmem, ⟨6, _⟩ => ⟨S1x32, .f32⟩
  | .local _ .vmem, ⟨7, _⟩ => ⟨S8x512, .f32⟩
  | _, _ => ⟨S8x101x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x101x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1056x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S101x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1056x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference8Ideal.lean ====
abbrev S8x101x128 : Shape := ⟨3, ![8, 101, 128]⟩
abbrev S8x1056x128 : Shape := ⟨3, ![8, 1056, 128]⟩
abbrev S8x1x32 : Shape := ⟨3, ![8, 1, 32]⟩
abbrev S8x8x512 : Shape := ⟨3, ![8, 8, 512]⟩
abbrev S_ : Shape := ⟨0, ![]⟩
abbrev S101x128 : Shape := ⟨2, ![101, 128]⟩
abbrev S1056x128 : Shape := ⟨2, ![1056, 128]⟩
abbrev S1x32 : Shape := ⟨2, ![1, 32]⟩
abbrev S8x512 : Shape := ⟨2, ![8, 512]⟩

abbrev nBuf : Space → Nat
  | .hbm => 12
  | .vmem => 0
  | .smem => 0
  | _ => 0

abbrev bufTy : (tb : Table) → Fin (tcTables nBuf tb) → BufTy
  | .hbm, ⟨0, _⟩ => ⟨S8x101x128, .f32⟩
  | .hbm, ⟨1, _⟩ => ⟨S8x1056x128, .f32⟩
  | .hbm, ⟨2, _⟩ => ⟨S8x1x32, .f32⟩
  | .hbm, ⟨3, _⟩ => ⟨S8x8x512, .f32⟩
  | .hbm, ⟨4, _⟩ => ⟨S_, .f32⟩
  | .hbm, ⟨5, _⟩ => ⟨S101x128, .f32⟩
  | .hbm, ⟨6, _⟩ => ⟨S_, .f32⟩
  | .hbm, ⟨7, _⟩ => ⟨S1056x128, .f32⟩
  | .hbm, ⟨8, _⟩ => ⟨S_, .f32⟩
  | .hbm, ⟨9, _⟩ => ⟨S1x32, .f32⟩
  | .hbm, ⟨10, _⟩ => ⟨S_, .f32⟩
  | .hbm, ⟨11, _⟩ => ⟨S8x512, .f32⟩
  | _, _ => ⟨S8x101x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩

abbrev nD : Nat := 1
abbrev τ : Topo := Topo.v7x

variable {F : FTy → Type} [FloatOps F]
-- ==== Proof.Reals.lean ====
/- Arrays of extended reals whose elements are real numbers, and the operations of the two programs on them.
   `Is2 v f` says that the matrix `v` holds the real numbers `f`, `Is1` the same of a vector, `Is0` of a scalar.
   One lemma per operation gives the real numbers of the result from those of the operands. -/
module

public import Idealize.ShloMosaic.PureOps.Ideal.Laws
public import Idealize.ShloMosaic.Lib.ValueIdx
public import Idealize.ShloMosaic.Lib.IdealHost
public import Idealize.ShloMosaic.Lib.MatmulPlain
public import Idealize.ShloMosaic.Lib.Pointwise.Reduce
public import Idealize.ShloMosaic.Lib.Pipeline.Value

@[expose] public section

noncomputable section

open scoped BigOperators

namespace Cert.Reals

open Idealize.ShloMosaic hiding ix0 ix1 ix2 eq_ix2
open Idealize.ShloMosaic.ValueIdx

/-- The matrix `v` holds the real numbers `f`. -/
def Is2 {m n : ℕ} {φ : FTy} (v : FVec Ideal ⟨2, ![m, n]⟩ φ) (f : Fin m → Fin n → ℝ) : Prop :=
  ∀ i j, v (ix2 i j) = ((f i j : ℝ) : EReal)

/-- The vector `v` holds the real numbers `f`. -/
def Is1 {n : ℕ} {φ : FTy} (v : FVec Ideal ⟨1, ![n]⟩ φ) (f : Fin n → ℝ) : Prop :=
  ∀ i, v (ix1 i) = ((f i : ℝ) : EReal)

/-- The scalar `v` holds the real number `c`. -/
def Is0 {φ : FTy} (v : FVec Ideal ⟨0, ![]⟩ φ) (c : ℝ) : Prop := v ix0 = ((c : ℝ) : EReal)

/-- A sum of real numbers in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div (a : ℝ) {b : ℝ} (hb : b ≠ 0) : Ideal.div (a : EReal) (b : EReal) = ((a / b : ℝ) : EReal) := by
  rw [Ideal.div_coe hb, ← EReal.coe_mul, mul_one_div]

theorem coe_rsqrt {a : ℝ} (ha : 0 < a) : Ideal.rsqrt (a : EReal) = (((Real.sqrt a)⁻¹ : ℝ) : EReal) := by
  rw [Ideal.rsqrt_coe, if_neg (not_lt.2 ha.le), if_neg ha.ne']

theorem coe_max (a b : ℝ) : max (a : EReal) (b : EReal) = ((max a b : ℝ) : EReal) :=
  (EReal.coe_strictMono.monotone.map_max).symm

section Elementwise

variable {m n : ℕ} {φ ψ : FTy}

theorem Is2.congr {v : FVec Ideal ⟨2, ![m, n]⟩ φ} {f g : Fin m → Fin n → ℝ} (h : Is2 v f) (e : ∀ i j, f i j = g i j) :
    Is2 v g := fun i j => by rw [h i j, e i j]

theorem Is1.congr {v : FVec Ideal ⟨1, ![n]⟩ φ} {f g : Fin n → ℝ} (h : Is1 v f) (e : ∀ i, f i = g i) :
    Is1 v g := fun i => by rw [h i, e i]

/-- Two matrices that hold the same real numbers are equal. -/
theorem Is2.unique {v w : FVec Ideal ⟨2, ![m, n]⟩ φ} {f : Fin m → Fin n → ℝ} (h : Is2 v f) (k : Is2 w f) : v = w := by
  funext i
  exact (congrArg v (eq_ix2 i)).trans ((h _ _).trans ((k _ _).symm.trans (congrArg w (eq_ix2 i)).symm))

variable {a b : FVec Ideal ⟨2, ![m, n]⟩ φ} {f g : Fin m → Fin n → ℝ}

theorem Is2.add (ha : Is2 a f) (hb : Is2 b g) : Is2 (addf a b) (fun i j => f i j + g i j) := fun i j => by
  rw [addf_apply, ha, hb, EReal.coe_add]

theorem Is2.sub (ha : Is2 a f) (hb : Is2 b g) : Is2 (subf a b) (fun i j => f i j - g i j) := fun i j => by
  rw [subf_apply, ha, hb, EReal.coe_sub]

theorem Is2.mul (ha : Is2 a f) (hb : Is2 b g) : Is2 (mulf a b) (fun i j => f i j * g i j) := fun i j => by
  rw [mulf_apply, ha, hb, EReal.coe_mul]

theorem Is2.max (ha : Is2 a f) (hb : Is2 b g) : Is2 (maximumf a b) (fun i j => Max.max (f i j) (g i j)) := fun i j => by
  rw [maximumf_apply, ha, hb, coe_max]

theorem Is2.div (ha : Is2 a f) (hb : Is2 b g) (h0 : ∀ i j, g i j ≠ 0) : Is2 (divf a b) (fun i j => f i j / g i j) :=
  fun i j => by rw [divf_apply, ha, hb, coe_div _ (h0 i j)]

theorem Is2.hdiv (ha : Is2 a f) (hb : Is2 b g) (h0 : ∀ i j, g i j ≠ 0) : Is2 (Host.divf a b) (fun i j => f i j / g i j) :=
  fun i j => by rw [hostDivf_apply, ha, hb, coe_div _ (h0 i j)]

theorem Is2.rsqrt (ha : Is2 a f) (h0 : ∀ i j, 0 < f i j) :
    Is2 (Idealize.ShloMosaic.rsqrt a) (fun i j => (Real.sqrt (f i j))⁻¹) := fun i j => by
  show Ideal.rsqrt (a (ix2 i j)) = _
  rw [ha, coe_rsqrt (h0 i j)]

theorem Is2.hrsqrt (ha : Is2 a f) (h0 : ∀ i j, 0 < f i j) :
    Is2 (Host.rsqrt a) (fun i j => (Real.sqrt (f i j))⁻¹) := fun i j => by
  show Ideal.rsqrt (a (ix2 i j)) = _
  rw [ha, coe_rsqrt (h0 i j)]

theorem Is2.hneg (ha : Is2 a f) : Is2 (Host.negf a) (fun i j => -f i j) := fun i j => by
  show -(a (ix2 i j)) = _
  rw [ha, EReal.coe_neg]

theorem Is2.trunc (ha : Is2 a f) (h : ψ.bits < φ.bits) : Is2 (truncf ψ a h : FVec Ideal ⟨2, ![m, n]⟩ ψ) f := ha

theorem Is2.cast (ha : Is2 a f) (h : (⟨2, ![m, n]⟩ : Shape).ShapeCasts ⟨2, ![m, n]⟩) :
    Is2 (shapeCast ⟨2, ![m, n]⟩ a h : FVec Ideal ⟨2, ![m, n]⟩ φ) f := by rw [shapeCast_self]; exact ha

/-- The elements where one matrix is above another, taken from a third, the others zero. -/
theorem Is2.gtSelect {z c d : FVec Ideal ⟨2, ![m, n]⟩ φ} {e k l : Fin m → Fin n → ℝ} (ha : Is2 a f) (hz : Is2 z e) (hc : Is2 c k)
    (hd : Is2 d l) : Is2 (select (cmpf .ogt a z) c d) (fun i j => if e i j < f i j then k i j else l i j) := fun i j => by
  show Scalar.select (Ideal.cmp .ogt (a (ix2 i j)) (z (ix2 i j))) (c (ix2 i j)) (d (ix2 i j)) = _
  rw [ha, hz, hc, hd]
  by_cases h : e i j < f i j
  · simp only [if_pos h]
    have : Ideal.cmp .ogt ((f i j : ℝ) : EReal) ((e i j : ℝ) : EReal) = 1#1 := by
      simp [Ideal.cmp, h]
    rw [this, select_one]
  · simp only [if_neg h]
    have : Ideal.cmp .ogt ((f i j : ℝ) : EReal) ((e i j : ℝ) : EReal) = 0#1 := by
      simp [Ideal.cmp, h]
    rw [this, select_zero]

end Elementwise

section Layout

variable {m n k : ℕ} {φ : FTy}

/-- A scalar constant spread over a matrix. -/
theorem Is2.const {b : BitVec φ.bits} {c : ℝ} (h : Ideal.ofBits φ b = (c : EReal)) :
    Is2 (broadcast ⟨2, ![m, n]⟩ (Scalar.ofBits (F := Ideal) φ b)) (fun _ _ => c) := fun _ _ => h

/-- A constant matrix. -/
theorem Is2.splat {b : BitVec φ.bits} {c : ℝ} (h : Ideal.ofBits φ b = (c : EReal)) :
    Is2 (constant (F := Ideal) ⟨2, ![m, n]⟩ φ b) (fun _ _ => c) := fun _ _ => h

theorem Is0.splat {b : BitVec φ.bits} {c : ℝ} (h : Ideal.ofBits φ b = (c : EReal)) :
    Is0 (constant (F := Ideal) ⟨0, ![]⟩ φ b) c := h

theorem Is0.mul {a b : FVec Ideal ⟨0, ![]⟩ φ} {c d : ℝ} (ha : Is0 a c) (hb : Is0 b d) : Is0 (mulf a b) (c * d) := by
  show mulf a b ix0 = _
  rw [mulf_apply, ha, hb, EReal.coe_mul]

theorem Is0.spread {v : FVec Ideal ⟨0, ![]⟩ φ} {c : ℝ} (hv : Is0 v c) (h : (⟨0, ![]⟩ : Shape).BroadcastsInDim ⟨2, ![m, n]⟩ ![]) :
    Is2 (broadcastInDim ⟨2, ![m, n]⟩ ![] h v : FVec Ideal ⟨2, ![m, n]⟩ φ) (fun _ _ => c) := fun i j => by
  rw [broadcastInDim_scalar_apply]; exact hv

theorem Is0.spread1 {v : FVec Ideal ⟨0, ![]⟩ φ} {c : ℝ} (hv : Is0 v c) (h : (⟨0, ![]⟩ : Shape).BroadcastsInDim ⟨1, ![n]⟩ ![]) :
    Is1 (broadcastInDim ⟨1, ![n]⟩ ![] h v : FVec Ideal ⟨1, ![n]⟩ φ) (fun _ => c) := fun i => by
  rw [broadcastInDim_scalar_apply]; exact hv

theorem Is1.hdiv {a b : FVec Ideal ⟨1, ![n]⟩ φ} {f g : Fin n → ℝ} (ha : Is1 a f) (hb : Is1 b g) (h0 : ∀ i, g i ≠ 0) :
    Is1 (Host.divf a b) (fun i => f i / g i) := fun i => by rw [hostDivf_apply, ha, hb, coe_div _ (h0 i)]

/-- One row repeated. -/
theorem Is2.row {v : FVec Ideal ⟨2, ![1, n]⟩ φ} {f : Fin 1 → Fin n → ℝ} (hv : Is2 v f)
    (h : (⟨2, ![1, n]⟩ : Shape).Broadcasts ⟨2, ![m, n]⟩) :
    Is2 (broadcastTo ⟨2, ![m, n]⟩ v h : FVec Ideal ⟨2, ![m, n]⟩ φ) (fun _ j => f 0 j) := fun i j => by
  rw [broadcastTo_apply v h _ (ix2 0 j) (fun a => by
    match a with
    | ⟨0, _⟩ => rfl
    | ⟨1, _⟩ =>
      show j.val = if n = 1 then 0 else j.val
      split
      · omega
      · rfl)]
  exact hv 0 j

/-- One column repeated. -/
theorem Is2.col {v : FVec Ideal ⟨2, ![m, 1]⟩ φ} {f : Fin m → Fin 1 → ℝ} (hv : Is2 v f)
    (h : (⟨2, ![m, 1]⟩ : Shape).Broadcasts ⟨2, ![m, n]⟩) :
    Is2 (broadcastTo ⟨2, ![m, n]⟩ v h : FVec Ideal ⟨2, ![m, n]⟩ φ) (fun i _ => f i 0) := fun i j => by
  rw [broadcastTo_apply v h _ (ix2 i 0) (fun a => by
    match a with
    | ⟨0, _⟩ =>
      show i.val = if m = 1 then 0 else i.val
      split
      · omega
      · rfl
    | ⟨1, _⟩ => rfl)]
  exact hv i 0

/-- One row repeated, on the host. -/
theorem Is2.hrow {v : FVec Ideal ⟨2, ![1, n]⟩ φ} {f : Fin 1 → Fin n → ℝ} (hv : Is2 v f)
    (h : (⟨2, ![1, n]⟩ : Shape).BroadcastsInDim ⟨2, ![m, n]⟩ ![0, 1]) :
    Is2 (broadcastInDim ⟨2, ![m, n]⟩ ![0, 1] h v : FVec Ideal ⟨2, ![m, n]⟩ φ) (fun _ j => f 0 j) := fun i j => by
  rw [broadcastInDim_apply ![0, 1] h v _ (ix2 0 j) (fun a => by
    match a with
    | ⟨0, _⟩ => rfl
    | ⟨1, _⟩ =>
      show j.val = if n = 1 then 0 else j.val
      split
      · omega
      · rfl)]
  exact hv 0 j

/-- One column repeated, on the host. -/
theorem Is2.hcol {v : FVec Ideal ⟨2, ![m, 1]⟩ φ} {f : Fin m → Fin 1 → ℝ} (hv : Is2 v f)
    (h : (⟨2, ![m, 1]⟩ : Shape).BroadcastsInDim ⟨2, ![m, n]⟩ ![0, 1]) :
    Is2 (broadcastInDim ⟨2, ![m, n]⟩ ![0, 1] h v : FVec Ideal ⟨2, ![m, n]⟩ φ) (fun i _ => f i 0) := fun i j => by
  rw [broadcastInDim_apply ![0, 1] h v _ (ix2 i 0) (fun a => by
    match a with
    | ⟨0, _⟩ =>
      show i.val = if m = 1 then 0 else i.val
      split
      · omega
      · rfl
    | ⟨1, _⟩ => rfl)]
  exact hv i 0

/-- A vector of row values as a matrix. -/
theorem Is1.hcol {v : FVec Ideal ⟨1, ![m]⟩ φ} {f : Fin m → ℝ} (hv : Is1 v f)
    (h : (⟨1, ![m]⟩ : Shape).BroadcastsInDim ⟨2, ![m, n]⟩ ![0]) :
    Is2 (broadcastInDim ⟨2, ![m, n]⟩ ![0] h v : FVec Ideal ⟨2, ![m, n]⟩ φ) (fun i _ => f i) := fun i j => by
  rw [broadcastInDim_apply ![0] h v _ (ix1 i) (fun a => by
    match a with
    | ⟨0, _⟩ =>
      show i.val = if m = 1 then 0 else i.val
      split
      · omega
      · rfl)]
  exact hv i

/-- A vector viewed as one column. -/
theorem Is1.toCol {v : FVec Ideal ⟨1, ![m]⟩ φ} {f : Fin m → ℝ} (hv : Is1 v f) (h : (⟨1, ![m]⟩ : Shape).ShapeCasts ⟨2, ![m, 1]⟩) :
    Is2 (shapeCast ⟨2, ![m, 1]⟩ v h : FVec Ideal ⟨2, ![m, 1]⟩ φ) (fun i _ => f i) := fun i j => by
  have hj : j.val = 0 := by omega
  rw [shapeCast_apply v h _ (ix1 i) (by
    rw [Shape.rowMajor_val_one, Shape.rowMajor_val_two]
    show i.val = i.val * 1 + j.val
    omega)]
  exact hv i

/-- A vector viewed as one row. -/
theorem Is1.toRow {v : FVec Ideal ⟨1, ![n]⟩ φ} {f : Fin n → ℝ} (hv : Is1 v f) (h : (⟨1, ![n]⟩ : Shape).ShapeCasts ⟨2, ![1, n]⟩) :
    Is2 (shapeCast ⟨2, ![1, n]⟩ v h : FVec Ideal ⟨2, ![1, n]⟩ φ) (fun _ j => f j) := fun i j => by
  have hi : i.val = 0 := by omega
  rw [shapeCast_apply v h _ (ix1 j) (by
    rw [Shape.rowMajor_val_one, Shape.rowMajor_val_two]
    show j.val = i.val * n + j.val
    rw [hi]; omega)]
  exact hv j

theorem Is2.transpose {v : FVec Ideal ⟨2, ![m, n]⟩ φ} {f : Fin m → Fin n → ℝ} (hv : Is2 v f)
    (h : (⟨2, ![m, n]⟩ : Shape).Transposes [1, 0] ⟨2, ![n, m]⟩) :
    Is2 (Idealize.ShloMosaic.transpose ⟨2, ![n, m]⟩ [1, 0] v h : FVec Ideal ⟨2, ![n, m]⟩ φ) (fun i j => f j i) := fun i j => by
  rw [transpose_apply [1, 0] v h _ (ix2 j i) (fun b => by
    match b with
    | ⟨0, _⟩ => rfl
    | ⟨1, _⟩ => rfl)]
  exact hv j i

end Layout

section Sums

variable {m n k : ℕ} {φ φ₁ φ₂ : FTy}

/-- The sums of the rows. -/
theorem Is2.rowSums {v : FVec Ideal ⟨2, ![m, n]⟩ φ} {f : Fin m → Fin n → ℝ} (hv : Is2 v f) {acc : BitVec φ.bits}
    (h : (⟨2, ![m, n]⟩ : Shape).Reduces [1] ⟨1, ![m]⟩) (hφ : FKind.Formats φ) (hacc : acc = FKind.add.neutral φ hφ) :
    Is1 (multiReduction .add [1] ⟨1, ![m]⟩ v acc h hφ hacc : FVec Ideal ⟨1, ![m]⟩ φ) (fun i => ∑ j, f i j) := fun i => by
  rw [multiReduction_add_apply, ← coe_sum]
  show Ideal.reduceAdd h v (ix1 i) = _
  rw [Ideal.reduceAdd_r2_a1]
  exact Finset.sum_congr rfl fun j _ => hv i j

/-- The sums of the columns. -/
theorem Is2.colSums {v : FVec Ideal ⟨2, ![m, n]⟩ φ} {f : Fin m → Fin n → ℝ} (hv : Is2 v f) {acc : BitVec φ.bits}
    (h : (⟨2, ![m, n]⟩ : Shape).Reduces [0] ⟨1, ![n]⟩) (hφ : FKind.Formats φ) (hacc : acc = FKind.add.neutral φ hφ) :
    Is1 (multiReduction .add [0] ⟨1, ![n]⟩ v acc h hφ hacc : FVec Ideal ⟨1, ![n]⟩ φ) (fun j => ∑ i, f i j) := fun j => by
  rw [multiReduction_add_apply, ← coe_sum]
  show Ideal.reduceAdd h v (ix1 j) = _
  rw [Ideal.reduceAdd_r2_a0]
  exact Finset.sum_congr rfl fun i _ => hv i j

/-- The host's sums of the rows, from zero. -/
theorem Is2.hrowSums {v : FVec Ideal ⟨2, ![m, n]⟩ φ} {f : Fin m → Fin n → ℝ} (hv : Is2 v f) {z : FVec Ideal ⟨0, ![]⟩ φ} (hz : Is0 z 0)
    (h : (⟨2, ![m, n]⟩ : Shape).ReducesTo [1] ⟨1, ![m]⟩) (hu : 0 < (⟨0, ![]⟩ : Shape).numel) :
    Is1 (Host.reduceAdd v z h hu : FVec Ideal ⟨1, ![m]⟩ φ) (fun i => ∑ j, f i j) := fun i => by
  rw [hostReduceAdd_apply, Ideal.hostReduceAdd_r2_a1, eq_ix0 (Shape.Idx.first hu), hz, EReal.coe_zero, zero_add, ← coe_sum]
  exact Finset.sum_congr rfl fun j _ => hv i j

/-- The host's sums of the columns, from zero. -/
theorem Is2.hcolSums {v : FVec Ideal ⟨2, ![m, n]⟩ φ} {f : Fin m → Fin n → ℝ} (hv : Is2 v f) {z : FVec Ideal ⟨0, ![]⟩ φ} (hz : Is0 z 0)
    (h : (⟨2, ![m, n]⟩ : Shape).ReducesTo [0] ⟨1, ![n]⟩) (hu : 0 < (⟨0, ![]⟩ : Shape).numel) :
    Is1 (Host.reduceAdd v z h hu : FVec Ideal ⟨1, ![n]⟩ φ) (fun j => ∑ i, f i j) := fun j => by
  rw [hostReduceAdd_apply, Ideal.hostReduceAdd_r2_a0, eq_ix0 (Shape.Idx.first hu), hz, EReal.coe_zero, zero_add, ← coe_sum]
  exact Finset.sum_congr rfl fun i _ => hv i j

/-- The host's sum of a vector, from zero. -/
theorem Is1.hsum {v : FVec Ideal ⟨1, ![n]⟩ φ} {f : Fin n → ℝ} (hv : Is1 v f) {z : FVec Ideal ⟨0, ![]⟩ φ} (hz : Is0 z 0)
    (h : (⟨1, ![n]⟩ : Shape).ReducesTo [0] ⟨0, ![]⟩) (hu : 0 < (⟨0, ![]⟩ : Shape).numel) :
    Is0 (Host.reduceAdd v z h hu : FVec Ideal ⟨0, ![]⟩ φ) (∑ i, f i) := by
  show Host.reduceAdd v z h hu ix0 = _
  rw [hostReduceAdd_apply, Ideal.hostReduceAdd_r1_a0, eq_ix0 (Shape.Idx.first hu), hz, EReal.coe_zero, zero_add, ← coe_sum]
  exact Finset.sum_congr rfl fun i _ => hv i

/-- Rows times columns, added to an accumulator. -/
theorem Is2.matmul {d : DotDims ⟨2, ![m, k]⟩ ⟨2, ![k, n]⟩ ⟨2, ![m, n]⟩} (hd : d = DotDims.plain m k n)
    {prec : Option ContractPrecision} {a : FVec Ideal ⟨2, ![m, k]⟩ φ₁} {b : FVec Ideal ⟨2, ![k, n]⟩ φ₂}
    {c : FVec Ideal ⟨2, ![m, n]⟩ .f32} {f : Fin m → Fin k → ℝ} {g : Fin k → Fin n → ℝ} {e : Fin m → Fin n → ℝ}
    (ha : Is2 a f) (hb : Is2 b g) (hc : Is2 c e) :
    Is2 (Idealize.ShloMosaic.matmul d prec a b c) (fun i j => e i j + ∑ l, f i l * g l j) := fun i j => by
  subst hd
  show FloatOps.matmul (DotDims.plain m k n) prec a b c (ix2 i j) = _
  rw [Ideal.matmul_plain_apply, hc, EReal.coe_add, ← coe_sum]
  refine congrArg _ (Finset.sum_congr rfl fun l _ => ?_)
  rw [ha, hb, EReal.coe_mul]

/-- Rows times rows, added to an accumulator. -/
theorem Is2.matmulT {d : DotDims ⟨2, ![m, k]⟩ ⟨2, ![n, k]⟩ ⟨2, ![m, n]⟩} (hd : d = DotDims.transposedRhs m k n)
    {prec : Option ContractPrecision} {a : FVec Ideal ⟨2, ![m, k]⟩ φ₁} {b : FVec Ideal ⟨2, ![n, k]⟩ φ₂}
    {c : FVec Ideal ⟨2, ![m, n]⟩ .f32} {f : Fin m → Fin k → ℝ} {g : Fin n → Fin k → ℝ} {e : Fin m → Fin n → ℝ}
    (ha : Is2 a f) (hb : Is2 b g) (hc : Is2 c e) :
    Is2 (Idealize.ShloMosaic.matmul d prec a b c) (fun i j => e i j + ∑ l, f i l * g j l) := fun i j => by
  subst hd
  show FloatOps.matmul (DotDims.transposedRhs m k n) prec a b c (ix2 i j) = _
  rw [Ideal.matmul_transposedRhs_apply, hc, EReal.coe_add, ← coe_sum]
  refine congrArg _ (Finset.sum_congr rfl fun l _ => ?_)
  rw [ha, hb, EReal.coe_mul]

/-- The host's product of rows and columns. -/
theorem Is2.hdot {d : DotDims ⟨2, ![m, k]⟩ ⟨2, ![k, n]⟩ ⟨2, ![m, n]⟩} (hd : d = DotDims.plain m k n)
    {prec : Option ContractPrecision} {a : FVec Ideal ⟨2, ![m, k]⟩ φ₁} {b : FVec Ideal ⟨2, ![k, n]⟩ φ₂}
    {f : Fin m → Fin k → ℝ} {g : Fin k → Fin n → ℝ} (ha : Is2 a f) (hb : Is2 b g) :
    Is2 (Host.dotGeneral d prec a b) (fun i j => ∑ l, f i l * g l j) := fun i j => by
  have h := Is2.matmul (prec := none) hd ha hb (Is2.splat (m := m) (n := n) (φ := .f32) (c := 0) (by
    rw [Ideal.ofBits_zero_f32, EReal.coe_zero])) i j
  simp only [zero_add] at h
  rw [← h]
  show FloatOps.dotGeneral _ _ _ _ _ _ = FloatOps.matmul _ _ _ _ _ _
  rw [Ideal.dotGeneral_apply, Ideal.matmul_constant_zero_apply]

/-- The host's product of rows and rows. -/
theorem Is2.hdotT {d : DotDims ⟨2, ![m, k]⟩ ⟨2, ![n, k]⟩ ⟨2, ![m, n]⟩} (hd : d = DotDims.transposedRhs m k n)
    {prec : Option ContractPrecision} {a : FVec Ideal ⟨2, ![m, k]⟩ φ₁} {b : FVec Ideal ⟨2, ![n, k]⟩ φ₂}
    {f : Fin m → Fin k → ℝ} {g : Fin n → Fin k → ℝ} (ha : Is2 a f) (hb : Is2 b g) :
    Is2 (Host.dotGeneral d prec a b) (fun i j => ∑ l, f i l * g j l) := fun i j => by
  have h := Is2.matmulT (prec := none) hd ha hb (Is2.splat (m := m) (n := n) (φ := .f32) (c := 0) (by
    rw [Ideal.ofBits_zero_f32, EReal.coe_zero])) i j
  simp only [zero_add] at h
  rw [← h]
  show FloatOps.dotGeneral _ _ _ _ _ _ = FloatOps.matmul _ _ _ _ _ _
  rw [Ideal.dotGeneral_apply, Ideal.matmul_constant_zero_apply]

end Sums

section Words

theorem word_zero : Ideal.ofBits .f32 0x00000000#32 = ((0 : ℝ) : EReal) := by rw [Ideal.ofBits_zero_f32, EReal.coe_zero]
theorem word_one : Ideal.ofBits .f32 0x3F800000#32 = ((1 : ℝ) : EReal) := by rw [Ideal.ofBits_one_f32, EReal.coe_one]
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num
theorem word_1024 : Ideal.ofBits .f32 0x44800000#32 = ((1024 : ℝ) : EReal) := by
  simp [Ideal.ofBits, Ideal.ieee, -EReal.coe_mul]; norm_num
theorem word_1_1024 : Ideal.ofBits .f32 0x3A800000#32 = ((1 / 1024 : ℝ) : EReal) := by
  simp [Ideal.ofBits, Ideal.ieee, -EReal.coe_mul]; norm_num
theorem word_1_2048 : Ideal.ofBits .f32 0x3A000000#32 = ((1 / 2048 : ℝ) : EReal) := by
  simp [Ideal.ofBits, Ideal.ieee, -EReal.coe_mul]; norm_num

/-- The number added to a variance: the real number of its float word. -/
def eps : ℝ := 10995116 / 2 ^ 40
theorem eps_pos : 0 < eps := by unfold eps; norm_num
theorem word_eps : Ideal.ofBits .f32 0x3727C5AC#32 = ((eps : ℝ) : EReal) := by
  unfold eps; simp [Ideal.ofBits, Ideal.ieee, -EReal.coe_mul]; norm_num

/-- The weight of the residual branch: the real number of its float word. -/
def alpha : ℝ := 9975792 / 2 ^ 23
theorem word_alpha : Ideal.ofBits .f32 0x3F9837F0#32 = ((alpha : ℝ) : EReal) := by
  unfold alpha; simp [Ideal.ofBits, Ideal.ieee, -EReal.coe_mul]; norm_num

end Words

end Cert.Reals

end
-- ==== Proof.Finite.lean ====
/- An array whose every absolute value is below infinity holds real numbers. -/
module

public import proofs.«01_k».proof.Proof.Reals

@[expose] public section

noncomputable section

namespace Cert.Finite

open Idealize.ShloMosaic hiding ix0 ix1 ix2 eq_ix2
open Idealize.ShloMosaic.ValueIdx
open Cert.Reals

theorem real_of_abs_lt {x : EReal} (h : max x (-x) < ⊤) : ∃ y : ℝ, x = (y : EReal) := by
  induction x with
  | bot => simp at h
  | coe y => exact ⟨y, rfl⟩
  | top => simp at h

theorem word_inf : Ideal.ofBits .f32 0x7F800000#32 = (⊤ : EReal) := by
  simp [Ideal.ofBits, Ideal.ieee]

theorem reals {m n : ℕ} {v : FVec Ideal ⟨2, ![m, n]⟩ .f32} {h : (⟨0, ![]⟩ : Shape).BroadcastsInDim ⟨2, ![m, n]⟩ ![]}
    (e : cmpf .olt (Host.absf v) (broadcastInDim ⟨2, ![m, n]⟩ ![] h (constant (F := Ideal) ⟨0, ![]⟩ .f32 0x7F800000#32)) = fun _ => 1#1) :
    ∃ f : Fin m → Fin n → ℝ, Is2 v f := by
  have k : ∀ i j, ∃ y : ℝ, v (ix2 i j) = (y : EReal) := fun i j => by
    have e1 : Ideal.cmp .olt (max (v (ix2 i j)) (-v (ix2 i j))) (Ideal.ofBits .f32 0x7F800000#32) = 1#1 := congrFun e (ix2 i j)
    rw [word_inf] at e1
    refine real_of_abs_lt ?_
    by_contra hn
    simp [Ideal.cmp, hn] at e1
  exact ⟨fun i j => (k i j).choose, fun i j => (k i j).choose_spec⟩

end Cert.Finite

end
-- ==== Proof.Rows.lean ====
/- The layer norm and the feed-forward block on one row of real numbers, forward and backward, and the algebra that joins
   the two spellings of the layer norm's gradient: the one that differentiates mean, variance and reciprocal root in turn,
   and the closed one that subtracts two row means. -/
module

public import proofs.«01_k».proof.Proof.Reals

@[expose] public section

noncomputable section

open scoped BigOperators

namespace Cert.Rows

open Cert.Reals

/-- One row of the model's width. -/
abbrev Row := Fin 1024 → ℝ

def mean (r : Row) : ℝ := (∑ j, r j) / 1024
def variance (r : Row) : ℝ := (∑ j, (r j - mean r) * (r j - mean r)) / 1024
def rstd (r : Row) : ℝ := (Real.sqrt (variance r + eps))⁻¹
def xhat (r : Row) : Row := fun j => (r j - mean r) * rstd r

theorem variance_nonneg (r : Row) : 0 ≤ variance r :=
  div_nonneg (Finset.sum_nonneg fun _ _ => mul_self_nonneg _) (by norm_num)

theorem variance_eps_pos (r : Row) : 0 < variance r + eps := add_pos_of_nonneg_of_pos (variance_nonneg r) eps_pos

/-- The gradient of a layer norm with respect to its input row, in closed form: `d` is the cotangent of the normalised
    row `x`, `s` the reciprocal root of the variance. -/
def lnBack (d x : Row) (s : ℝ) : Row := fun j =>
  s * (d j - (∑ k, d k) / 1024 - x j * ((∑ k, d k * x k) / 1024))

/-- What reaches the variance, spread back over the row: half the cotangent of the reciprocal root, times twice the
    centred row. -/
def varBack (d c : Row) (s v : ℝ) : Row := fun j =>
  (∑ _i : Fin 1, (∑ k, c k * d k) * (-(1 / 2) * (s / v)) / 1024) * (2 * c j)

/-- The same gradient, operation by operation. -/
def lnPull (d c : Row) (s v : ℝ) : Row := fun j =>
  d j * s + varBack d c s v j + ∑ _i : Fin 1, ((∑ k, -(d k * s)) + ∑ k, -varBack d c s v k) / 1024

theorem sum_centred (r : Row) : ∑ j, (r j - mean r) = 0 := by
  rw [Finset.sum_sub_distrib]
  simp only [Finset.sum_const, Finset.card_univ, Fintype.card_fin, nsmul_eq_mul]
  unfold mean
  push_cast
  ring

theorem lnPull_eq (d r : Row) :
    lnPull d (fun j => r j - mean r) (rstd r) (variance r + eps) = lnBack d (xhat r) (rstd r) := by
  have hv := variance_eps_pos r
  have hs : rstd r * rstd r * (variance r + eps) = 1 := by
    unfold rstd
    have h := Real.mul_self_sqrt hv.le
    have h0 : Real.sqrt (variance r + eps) ≠ 0 := (Real.sqrt_pos.2 hv).ne'
    field_simp
    nlinarith [h]
  have hq : rstd r / (variance r + eps) = rstd r * rstd r * rstd r := by
    rw [div_eq_iff hv.ne']
    linear_combination (-rstd r) * hs
  have hA : ∀ j, varBack d (fun j => r j - mean r) (rstd r) (variance r + eps) j
      = -(rstd r * (xhat r j * ((∑ k, d k * xhat r k) / 1024))) := by
    intro j
    have e : ∑ k, d k * xhat r k = (∑ k, (r k - mean r) * d k) * rstd r := by
      rw [Finset.sum_mul]
      exact Finset.sum_congr rfl fun k _ => by unfold xhat; ring
    simp only [varBack, Finset.univ_unique, Finset.sum_singleton, hq, e]
    unfold xhat
    ring
  have hx : ∑ k, xhat r k = 0 := by
    unfold xhat
    rw [← Finset.sum_mul, sum_centred, zero_mul]
  have hsum : ∑ k, -varBack d (fun j => r j - mean r) (rstd r) (variance r + eps) k = 0 := by
    simp only [hA, neg_neg]
    rw [← Finset.mul_sum, ← Finset.sum_mul, hx]
    ring
  have hd : ∑ k, -(d k * rstd r) = -((∑ k, d k) * rstd r) := by
    rw [Finset.sum_neg_distrib, Finset.sum_mul]
  funext j
  simp only [lnPull, Finset.univ_unique, Finset.sum_singleton, hsum, hd]
  rw [hA]
  unfold lnBack
  ring

/-! ## The feed-forward block between its two layer norms -/

/-- The arrays every row shares: the first norm's gain and bias, the two weight matrices and their biases, the second
    norm's gain and bias. -/
structure Par where
  g1 : Row
  b1 : Row
  wu : Fin 1024 → Fin 4096 → ℝ
  bu : Fin 4096 → ℝ
  wd : Fin 4096 → Fin 1024 → ℝ
  bd : Row
  g2 : Row
  b2 : Row

namespace Par
variable (P : Par)

/-- The block's input from the normalised row. -/
def x1 (h : Row) : Row := fun j => h j * P.g1 j + P.b1 j
def pre (x : Row) : Fin 4096 → ℝ := fun f => (∑ j, x j * P.wu j f) + P.bu f
def rl (x : Row) : Fin 4096 → ℝ := fun f => max (P.pre x f) 0
def hdn (x : Row) : Fin 4096 → ℝ := fun f => P.rl x f * P.rl x f
def r2 (x : Row) : Row := fun j => alpha * x j + (∑ f, P.hdn x f * P.wd f j) + P.bd j
def err (x t : Row) : Row := fun j => xhat (P.r2 x) j * P.g2 j + P.b2 j - t j
def loss (x t : Row) : ℝ := ∑ j, P.err x t j * P.err x t j
def dy (x t : Row) : Row := fun j => P.err x t j * (1 / 1024)
def dr2 (x t : Row) : Row := lnBack (fun j => P.dy x t j * P.g2 j) (xhat (P.r2 x)) (rstd (P.r2 x))
def dpre (x t : Row) : Fin 4096 → ℝ := fun f => (∑ j, P.dr2 x t j * P.wd f j) * (2 * P.rl x f)
def dx1 (x t : Row) : Row := fun j => alpha * P.dr2 x t j + ∑ f, P.dpre x t f * P.wu j f

/-- Where the rectified value is not above zero the gradient is zero whether it is selected away or multiplied by it. -/
theorem dpre_select (x t : Row) (f : Fin 4096) :
    (if 0 < P.pre x f then (∑ j, P.dr2 x t j * P.wd f j) * (2 * P.rl x f) else 0) = P.dpre x t f := by
  split
  · rfl
  · next h =>
    have : P.rl x f = 0 := max_eq_right (not_lt.1 h)
    unfold dpre
    rw [this]; ring

end Par

/-- The columns of the inner width from `o` on, 1024 of them. -/
def quarter (o : ℕ) (ho : o + 1024 ≤ 4096) (k : Fin 1024) : Fin 4096 := ⟨o + k.val, by omega⟩

abbrev q0 := quarter 0 (by norm_num)
abbrev q1 := quarter 1024 (by norm_num)
abbrev q2 := quarter 2048 (by norm_num)
abbrev q3 := quarter 3072 (by norm_num)

/-- A sum over the inner width, one quarter after another. -/
theorem sum_quarters {M : Type*} [AddCommMonoid M] (g : Fin 4096 → M) :
    ∑ f, g f = (∑ k, g (q0 k)) + (∑ k, g (q1 k)) + (∑ k, g (q2 k)) + ∑ k, g (q3 k) := by
  have h1 := Fin.sum_univ_add (a := 3072) (b := 1024) g
  have h2 := Fin.sum_univ_add (a := 2048) (b := 1024) fun i : Fin 3072 => g (Fin.castAdd 1024 i)
  have h3 := Fin.sum_univ_add (a := 1024) (b := 1024) fun i : Fin 2048 => g (Fin.castAdd 1024 (Fin.castAdd 1024 i))
  refine h1.trans ?_
  refine congrArg₂ (· + ·) (h2.trans ?_) rfl
  refine congrArg₂ (· + ·) (h3.trans ?_) rfl
  refine congrArg₂ (· + ·) (Finset.sum_congr rfl fun k _ => congrArg g (Fin.ext ?_)) rfl
  show k.val = 0 + k.val
  omega

/-- A sum over all rows, one block of 256 rows after another. -/
theorem sum_tiles {M : Type*} [AddCommMonoid M] (g : Fin 8192 → M) :
    ∑ n, g n = ∑ t : Fin 32, ∑ i : Fin 256, g ⟨t.val * 256 + i.val, by omega⟩ := by
  rw [← Fintype.sum_prod_type', ← Equiv.sum_comp (finProdFinEquiv (m := 32) (n := 256))]
  exact Finset.sum_congr rfl fun p _ => congrArg g (Fin.ext (by
    show p.2.val + 256 * p.1.val = p.1.val * 256 + p.2.val
    omega))

end Cert.Rows

end
-- ==== Proof.Norms.lean ====
/- The row means, variances and reciprocal roots of a layer norm as the two programs compute them, on the host and in
   the kernel's body. -/
module

public import proofs.«01_k».proof.Proof.Rows

@[expose] public section

noncomputable section

open scoped BigOperators

namespace Cert.Norms

open Idealize.ShloMosaic hiding ix0 ix1 ix2 eq_ix2
open Idealize.ShloMosaic.ValueIdx
open Cert.Reals Cert.Rows

theorem ne1024 {m n : ℕ} : ∀ (_ : Fin m) (_ : Fin n), (1024 : ℝ) ≠ 0 := fun _ _ => by norm_num

section
variable {m : ℕ} {v : FVec Ideal ⟨2, ![m, 1024]⟩ .f32} {f : Fin m → Row}

/-- The host's row sums divided by the model's width. -/
theorem hmean (hv : Is2 v f) {z : FVec Ideal ⟨0, ![]⟩ .f32} (hz : Is0 z 0)
    (h : (⟨2, ![m, 1024]⟩ : Shape).ReducesTo [1] ⟨1, ![m]⟩) (hu : 0 < (⟨0, ![]⟩ : Shape).numel)
    (hb : (⟨1, ![m]⟩ : Shape).BroadcastsInDim ⟨2, ![m, 1]⟩ ![0]) (hk : (⟨0, ![]⟩ : Shape).BroadcastsInDim ⟨2, ![m, 1]⟩ ![]) :
    Is2 (Host.divf (broadcastInDim ⟨2, ![m, 1]⟩ ![0] hb (Host.reduceAdd v z h hu))
      (broadcastInDim ⟨2, ![m, 1]⟩ ![] hk (constant (F := Ideal) ⟨0, ![]⟩ .f32 0x44800000#32))) (fun i _ => (∑ j, f i j) / 1024) :=
  ((hv.hrowSums hz h hu).hcol hb).hdiv ((Is0.splat word_1024).spread hk) ne1024

/-- The body's row sums divided by the model's width. -/
theorem kmean (hv : Is2 v f) {acc : BitVec 32} (h : (⟨2, ![m, 1024]⟩ : Shape).Reduces [1] ⟨1, ![m]⟩)
    (hφ : FKind.Formats .f32) (hacc : acc = FKind.add.neutral .f32 hφ) (hc : (⟨1, ![m]⟩ : Shape).ShapeCasts ⟨2, ![m, 1]⟩) :
    Is2 (divf (shapeCast ⟨2, ![m, 1]⟩ (multiReduction .add [1] ⟨1, ![m]⟩ v acc h hφ hacc) hc)
      (broadcast ⟨2, ![m, 1]⟩ (Scalar.ofBits (F := Ideal) .f32 0x44800000#32))) (fun i _ => (∑ j, f i j) / 1024) :=
  ((hv.rowSums h hφ hacc).toCol hc).div (Is2.const word_1024) ne1024

end

end Cert.Norms

end
-- ==== Proof.KerTile.lean ====
/- One grid point of the kernel over real numbers: from the blocks it loads (256 rows of the normalised input and of the
   targets, and the parameters whole) to the arrays it computes, payload by payload. -/
module

public import proofs.«01_k».proof.Proof.Norms
public import proofs.«01_k».proof.Proof.Gen.KernelIdeal.Skeleton

@[expose] public section

noncomputable section

open scoped BigOperators

namespace Cert.KerTile

open Idealize.ShloMosaic hiding ix0 ix1 ix2 eq_ix2
open Idealize.ShloMosaic.ValueIdx
open Cert.Reals Cert.Rows Cert.Norms
open Cert.KernelIdeal Cert.KernelIdeal.Gen

/-- A load through a unit-stride rectangle reads at the rectangle's offsets. -/
theorem ld_apply {Val : EltTy → Type} {e : EltTy} {m n a b o p : ℕ} (X : (⟨2, ![m, n]⟩ : Shape).Idx → Val e)
    (inb : ∀ d, (![o, p] : Fin 2 → ℕ) d + (![a, b] : Fin 2 → ℕ) d ≤ (⟨2, ![m, n]⟩ : Shape).size d) (i : Fin a) (j : Fin b)
    (hi : o + i.val < m) (hj : p + j.val < n) :
    View.ld X (Rect.unit (s := ⟨2, ![m, n]⟩) ![o, p] ![a, b] inb) (ix2 i j) = X (ix2 ⟨o + i.val, hi⟩ ⟨p + j.val, hj⟩) := by
  refine congrArg X (funext fun d => Fin.ext ?_)
  match d with
  | ⟨0, _⟩ => show o + 1 * i.val = o + i.val; omega
  | ⟨1, _⟩ => show p + 1 * j.val = p + j.val; omega

/-- A quarter of the rows of a weight matrix. -/
theorem ld_rows {X : FVec Ideal ⟨2, ![4096, 1024]⟩ .bf16} {f : Fin 4096 → Fin 1024 → ℝ} (hX : Is2 X f) {o : ℕ}
    (ho : o + 1024 ≤ 4096)
    (inb : ∀ d, (![o, 0] : Fin 2 → ℕ) d + (![1024, 1024] : Fin 2 → ℕ) d ≤ (⟨2, ![4096, 1024]⟩ : Shape).size d) :
    Is2 (m := 1024) (n := 1024) (φ := .bf16)
      (View.ld (Val := Elt Ideal) (e' := .bf16) X (Rect.unit (s := ⟨2, ![4096, 1024]⟩) ![o, 0] ![1024, 1024] inb))
      (fun k => f (quarter o ho k)) := fun k j => by
  refine (ld_apply (Val := Elt Ideal) (e := .bf16) X inb k j (by omega) (by omega)).trans ?_
  have h : (⟨0 + j.val, by omega⟩ : Fin 1024) = j := Fin.ext (Nat.zero_add _)
  rw [h]
  exact hX _ _

/-- The blocks a grid point loads. -/
structure Blk (F : FTy → Type) where
  x0 : FVec F S256x1024 .f32
  x1 : FVec F S256x1024 .f32
  x2 : FVec F S1x1024 .f32
  x3 : FVec F S1x1024 .f32
  x4 : FVec F S4096x1024 .bf16
  x5 : FVec F S1x4096 .f32
  x6 : FVec F S4096x1024 .bf16
  x7 : FVec F S1x1024 .f32
  x8 : FVec F S1x1024 .f32
  x9 : FVec F S1x1024 .f32

/-- They hold real numbers: the normalised rows `h`, the targets `t`, the parameters. -/
structure Blk.Holds (B : Blk Ideal) (h t : Fin 256 → Row) (P : Par) : Prop where
  x0 : Is2 (m := 256) (n := 1024) B.x0 h
  x1 : Is2 (m := 256) (n := 1024) B.x1 t
  x2 : Is2 (m := 1) (n := 1024) B.x2 (fun _ => P.g1)
  x3 : Is2 (m := 1) (n := 1024) B.x3 (fun _ => P.b1)
  x4 : Is2 (m := 4096) (n := 1024) B.x4 (fun f j => P.wu j f)
  x5 : Is2 (m := 1) (n := 4096) B.x5 (fun _ => P.bu)
  x6 : Is2 (m := 4096) (n := 1024) B.x6 P.wd
  x7 : Is2 (m := 1) (n := 1024) B.x7 (fun _ => P.bd)
  x8 : Is2 (m := 1) (n := 1024) B.x8 (fun _ => P.g2)
  x9 : Is2 (m := 1) (n := 1024) B.x9 (fun _ => P.b2)

namespace Blk

section
variable {F : FTy → Type} [FloatOps F] (B : Blk F)

/-! ### What the body computes, by its own payloads -/

def up0 : FVec F S1024x1024 .bf16 := View.ld (Val := Elt F) (e' := .bf16) B.x4 (Rect.unit (s := S4096x1024) ![0, 0] S1024x1024.size inb_S4096x1024_S1024x1024_0_0)
def up1 : FVec F S1024x1024 .bf16 := View.ld (Val := Elt F) (e' := .bf16) B.x4 (Rect.unit (s := S4096x1024) ![1024, 0] S1024x1024.size inb_S4096x1024_S1024x1024_1024_0)
def up2 : FVec F S1024x1024 .bf16 := View.ld (Val := Elt F) (e' := .bf16) B.x4 (Rect.unit (s := S4096x1024) ![2048, 0] S1024x1024.size inb_S4096x1024_S1024x1024_2048_0)
def up3 : FVec F S1024x1024 .bf16 := View.ld (Val := Elt F) (e' := .bf16) B.x4 (Rect.unit (s := S4096x1024) ![3072, 0] S1024x1024.size inb_S4096x1024_S1024x1024_3072_0)
def dn0 : FVec F S1024x1024 .bf16 := View.ld (Val := Elt F) (e' := .bf16) B.x6 (Rect.unit (s := S4096x1024) ![0, 0] S1024x1024.size inb_S4096x1024_S1024x1024_0_0)
def dn1 : FVec F S1024x1024 .bf16 := View.ld (Val := Elt F) (e' := .bf16) B.x6 (Rect.unit (s := S4096x1024) ![1024, 0] S1024x1024.size inb_S4096x1024_S1024x1024_1024_0)
def dn2 : FVec F S1024x1024 .bf16 := View.ld (Val := Elt F) (e' := .bf16) B.x6 (Rect.unit (s := S4096x1024) ![2048, 0] S1024x1024.size inb_S4096x1024_S1024x1024_2048_0)
def dn3 : FVec F S1024x1024 .bf16 := View.ld (Val := Elt F) (e' := .bf16) B.x6 (Rect.unit (s := S4096x1024) ![3072, 0] S1024x1024.size inb_S4096x1024_S1024x1024_3072_0)
def bu0 : FVec F S1x1024 .f32 := View.ld (Val := Elt F) (e' := .f32) B.x5 (Rect.unit (s := S1x4096) ![0, 0] S1x1024.size inb_S1x4096_S1x1024_0_0)
def bu1 : FVec F S1x1024 .f32 := View.ld (Val := Elt F) (e' := .f32) B.x5 (Rect.unit (s := S1x4096) ![0, 1024] S1x1024.size inb_S1x4096_S1x1024_0_1024)
def bu2 : FVec F S1x1024 .f32 := View.ld (Val := Elt F) (e' := .f32) B.x5 (Rect.unit (s := S1x4096) ![0, 2048] S1x1024.size inb_S1x4096_S1x1024_0_2048)
def bu3 : FVec F S1x1024 .f32 := View.ld (Val := Elt F) (e' := .f32) B.x5 (Rect.unit (s := S1x4096) ![0, 3072] S1x1024.size inb_S1x4096_S1x1024_0_3072)

def xin := k0_pay7 (F := F) B.x0 B.x2 B.x3
def rl0 := k0_pay13 (F := F) B.x0 B.x2 B.x3 B.up0 B.bu0
def pr1 := k0_pay10 (F := F) B.x0 B.x2 B.x3 B.up1
def pr2 := k0_pay11 (F := F) B.x0 B.x2 B.x3 B.up2
def pr3 := k0_pay12 (F := F) B.x0 B.x2 B.x3 B.up3
def rl1 := k0_pay16 (F := F) B.pr1 B.bu1
def rl2 := k0_pay19 (F := F) B.pr2 B.bu2
def rl3 := k0_pay22 (F := F) B.pr3 B.bu3
def hb0 := k0_pay15 (F := F) B.rl0
def hb1 := k0_pay18 (F := F) B.pr1 B.bu1
def hb2 := k0_pay21 (F := F) B.pr2 B.bu2
def r2 := k0_pay25 (F := F) B.xin B.hb0 B.hb1 B.hb2 B.rl3 B.dn0 B.dn1 B.dn2 B.dn3 B.x7
def mu := k0_pay26 (F := F) B.xin B.hb0 B.hb1 B.hb2 B.rl3 B.dn0 B.dn1 B.dn2 B.dn3 B.x7
def mub := k0_pay27 (F := F) B.xin B.hb0 B.hb1 B.hb2 B.rl3 B.dn0 B.dn1 B.dn2 B.dn3 B.x7
def rs := k0_pay28 (F := F) B.r2 B.mub
def xh2 := k0_pay29 (F := F) B.r2 B.mu B.mub
def err := k0_pay30 (F := F) B.r2 B.x8 B.x9 B.mu B.mub B.x1
def dy := k0_pay32 (F := F) B.r2 B.x8 B.x9 B.mu B.mub B.x1
def dr2 := k0_pay35 (F := F) B.rs B.xh2 B.dy B.x8
def dr2b := k0_pay37 (F := F) B.rs B.xh2 B.dy B.x8

end

variable {B : Blk Ideal} {h t : Fin 256 → Row} {P : Par}

/-! ### The real numbers it holds -/

theorem up0_is (H : B.Holds h t P) : Is2 (m := 1024) (n := 1024) B.up0 (fun k j => P.wu j (q0 k)) :=
  ld_rows H.x4 _ _
theorem up1_is (H : B.Holds h t P) : Is2 (m := 1024) (n := 1024) B.up1 (fun k j => P.wu j (q1 k)) :=
  ld_rows H.x4 _ _
theorem up2_is (H : B.Holds h t P) : Is2 (m := 1024) (n := 1024) B.up2 (fun k j => P.wu j (q2 k)) :=
  ld_rows H.x4 _ _
theorem up3_is (H : B.Holds h t P) : Is2 (m := 1024) (n := 1024) B.up3 (fun k j => P.wu j (q3 k)) :=
  ld_rows H.x4 _ _
theorem dn0_is (H : B.Holds h t P) : Is2 (m := 1024) (n := 1024) B.dn0 (fun k => P.wd (q0 k)) :=
  ld_rows H.x6 _ _
theorem dn1_is (H : B.Holds h t P) : Is2 (m := 1024) (n := 1024) B.dn1 (fun k => P.wd (q1 k)) :=
  ld_rows H.x6 _ _
theorem dn2_is (H : B.Holds h t P) : Is2 (m := 1024) (n := 1024) B.dn2 (fun k => P.wd (q2 k)) :=
  ld_rows H.x6 _ _
theorem dn3_is (H : B.Holds h t P) : Is2 (m := 1024) (n := 1024) B.dn3 (fun k => P.wd (q3 k)) :=
  ld_rows H.x6 _ _
theorem bu0_is (H : B.Holds h t P) : Is2 (m := 1) (n := 1024) B.bu0 (fun _ k => P.bu (q0 k)) :=
  fun i k => (ld_apply (Val := Elt Ideal) (e := .f32) B.x5 _ i k (by omega) (by omega)).trans (H.x5 _ _)
theorem bu1_is (H : B.Holds h t P) : Is2 (m := 1) (n := 1024) B.bu1 (fun _ k => P.bu (q1 k)) :=
  fun i k => (ld_apply (Val := Elt Ideal) (e := .f32) B.x5 _ i k (by omega) (by omega)).trans (H.x5 _ _)
theorem bu2_is (H : B.Holds h t P) : Is2 (m := 1) (n := 1024) B.bu2 (fun _ k => P.bu (q2 k)) :=
  fun i k => (ld_apply (Val := Elt Ideal) (e := .f32) B.x5 _ i k (by omega) (by omega)).trans (H.x5 _ _)
theorem bu3_is (H : B.Holds h t P) : Is2 (m := 1) (n := 1024) B.bu3 (fun _ k => P.bu (q3 k)) :=
  fun i k => (ld_apply (Val := Elt Ideal) (e := .f32) B.x5 _ i k (by omega) (by omega)).trans (H.x5 _ _)

theorem xin_is (H : B.Holds h t P) : Is2 (m := 256) (n := 1024) B.xin (fun i => P.x1 (h i)) :=
  (((H.x0.cast _).mul (H.x2.row _)).add (H.x3.row _))

theorem xb_is (H : B.Holds h t P) :
    Is2 (m := 256) (n := 1024) (k0_pay8 (F := Ideal) B.x0 B.x2 B.x3) (fun i => P.x1 (h i)) := (xin_is H).trunc _

/-- The product of the first weight matrix before its bias, a quarter of the inner width. -/
theorem pr_is (H : B.Holds h t P) {w : FVec Ideal S1024x1024 .bf16} {e : Fin 1024 → Fin 4096}
    (hw : Is2 (m := 1024) (n := 1024) w (fun k j => P.wu j (e k))) :
    Is2 (m := 256) (n := 1024) (k0_pay10 (F := Ideal) B.x0 B.x2 B.x3 w) (fun i k => ∑ j, P.x1 (h i) j * P.wu j (e k)) :=
  ((xb_is H).matmulT rfl (hw.cast _) (Is2.splat word_zero)).congr fun _ _ => zero_add _

/-- Bias and rectification of a quarter. -/
theorem rl_is {v : FVec Ideal S256x1024 .f32} {b : FVec Ideal S1x1024 .f32} {x : Fin 256 → Row} {e : Fin 1024 → Fin 4096}
    (hv : Is2 (m := 256) (n := 1024) v (fun i k => ∑ j, x i j * P.wu j (e k)))
    (hb : Is2 (m := 1) (n := 1024) b (fun _ k => P.bu (e k))) :
    Is2 (m := 256) (n := 1024) (k0_pay16 v b) (fun i k => P.rl (x i) (e k)) :=
  (hv.add (hb.row _)).max (Is2.const word_zero)

theorem rl0_is (H : B.Holds h t P) : Is2 (m := 256) (n := 1024) B.rl0 (fun i k => P.rl (P.x1 (h i)) (q0 k)) :=
  rl_is (pr_is H (up0_is H)) (bu0_is H)
theorem rl1_is (H : B.Holds h t P) : Is2 (m := 256) (n := 1024) B.rl1 (fun i k => P.rl (P.x1 (h i)) (q1 k)) :=
  rl_is (pr_is H (up1_is H)) (bu1_is H)
theorem rl2_is (H : B.Holds h t P) : Is2 (m := 256) (n := 1024) B.rl2 (fun i k => P.rl (P.x1 (h i)) (q2 k)) :=
  rl_is (pr_is H (up2_is H)) (bu2_is H)
theorem rl3_is (H : B.Holds h t P) : Is2 (m := 256) (n := 1024) B.rl3 (fun i k => P.rl (P.x1 (h i)) (q3 k)) :=
  rl_is (pr_is H (up3_is H)) (bu3_is H)

theorem hb0_is (H : B.Holds h t P) : Is2 (m := 256) (n := 1024) B.hb0 (fun i k => P.hdn (P.x1 (h i)) (q0 k)) :=
  ((rl0_is H).mul (rl0_is H)).trunc _
theorem hb1_is (H : B.Holds h t P) : Is2 (m := 256) (n := 1024) B.hb1 (fun i k => P.hdn (P.x1 (h i)) (q1 k)) :=
  ((rl1_is H).mul (rl1_is H)).trunc _
theorem hb2_is (H : B.Holds h t P) : Is2 (m := 256) (n := 1024) B.hb2 (fun i k => P.hdn (P.x1 (h i)) (q2 k)) :=
  ((rl2_is H).mul (rl2_is H)).trunc _
theorem hb3_is (H : B.Holds h t P) :
    Is2 (m := 256) (n := 1024) (k0_pay24 (F := Ideal) B.rl3) (fun i k => P.hdn (P.x1 (h i)) (q3 k)) :=
  ((rl3_is H).mul (rl3_is H)).trunc _

theorem r2_is (H : B.Holds h t P) : Is2 (m := 256) (n := 1024) B.r2 (fun i => P.r2 (P.x1 (h i))) :=
  ((((Is2.const word_alpha).mul (xin_is H)).add
    (((((hb0_is H).matmul rfl ((dn0_is H).cast _) (Is2.splat word_zero)).add
      ((hb1_is H).matmul rfl ((dn1_is H).cast _) (Is2.splat word_zero))).add
        ((hb2_is H).matmul rfl ((dn2_is H).cast _) (Is2.splat word_zero))).add
          ((hb3_is H).matmul rfl ((dn3_is H).cast _) (Is2.splat word_zero)))).add (H.x7.row _)).congr fun i j => by
    simp only [zero_add]
    unfold Par.r2
    rw [sum_quarters]

theorem mu_is (H : B.Holds h t P) : Is2 (m := 256) (n := 1) B.mu (fun i _ => mean (P.r2 (P.x1 (h i)))) :=
  kmean (r2_is H) _ _ _ _

theorem mub_is (H : B.Holds h t P) : Is2 (m := 256) (n := 1024) B.mub (fun i _ => mean (P.r2 (P.x1 (h i)))) :=
  (mu_is H).col broadcasts_S256x1_S256x1024

theorem rs_is (H : B.Holds h t P) : Is2 (m := 256) (n := 1) B.rs (fun i _ => rstd (P.r2 (P.x1 (h i)))) :=
  have c := (r2_is H).sub (mub_is H)
  ((kmean (c.mul c) _ _ _ _).add (Is2.const word_eps)).rsqrt fun _ _ => variance_eps_pos _

theorem xh2_is (H : B.Holds h t P) : Is2 (m := 256) (n := 1024) B.xh2 (fun i => xhat (P.r2 (P.x1 (h i)))) :=
  ((r2_is H).sub ((mu_is H).col broadcasts_S256x1_S256x1024)).mul ((rs_is H).col _)

theorem err_is (H : B.Holds h t P) : Is2 (m := 256) (n := 1024) B.err (fun i => P.err (P.x1 (h i)) (t i)) :=
  (((xh2_is H).mul (H.x8.row _)).add (H.x9.row _)).sub H.x1

theorem dy_is (H : B.Holds h t P) : Is2 (m := 256) (n := 1024) B.dy (fun i => P.dy (P.x1 (h i)) (t i)) :=
  (err_is H).mul (Is2.const word_1_1024)

theorem dr2_is (H : B.Holds h t P) : Is2 (m := 256) (n := 1024) B.dr2 (fun i => P.dr2 (P.x1 (h i)) (t i)) :=
  have d := (dy_is H).mul (H.x8.row _)
  ((rs_is H).col _).mul ((d.sub ((kmean d _ _ _ _).col _)).sub
    ((xh2_is H).mul ((kmean (d.mul (xh2_is H)) _ _ _ _).col _)))

theorem dr2b_is (H : B.Holds h t P) : Is2 (m := 256) (n := 1024) B.dr2b (fun i => P.dr2 (P.x1 (h i)) (t i)) :=
  (dr2_is H).trunc _

/-- The gradient of a quarter of the inner width, from the rectified values `r` read back. -/
theorem dpre_is (H : B.Holds h t P) {w : FVec Ideal S1024x1024 .bf16} {r : FVec Ideal S256x1024 .f32}
    {e : Fin 1024 → Fin 4096} (hw : Is2 (m := 1024) (n := 1024) w (fun k => P.wd (e k)))
    (hr : Is2 (m := 256) (n := 1024) r (fun i k => P.rl (P.x1 (h i)) (e k))) :
    Is2 (m := 256) (n := 1024) (k0_pay45 (F := Ideal) B.dr2b w r) (fun i k => P.dpre (P.x1 (h i)) (t i) (e k)) :=
  (((dr2b_is H).matmulT rfl (hw.cast _) (Is2.splat word_zero)).mul ((Is2.const word_two).mul hr)).congr fun i k => by
    simp only [zero_add]; rfl

/-- One row added to by the column sums of a block. -/
theorem acc_is {n : ℕ} {a : FVec Ideal ⟨2, ![1, n]⟩ .f32} {v : FVec Ideal ⟨2, ![256, n]⟩ .f32} {g : Fin n → ℝ}
    {f : Fin 256 → Fin n → ℝ} (ha : Is2 a (fun _ => g)) (hv : Is2 v f) (hs : (⟨2, ![1, n]⟩ : Shape).ShapeCasts ⟨2, ![1, n]⟩)
    (h : (⟨2, ![256, n]⟩ : Shape).Reduces [0] ⟨1, ![n]⟩) {acc : BitVec 32} (hφ : FKind.Formats .f32)
    (hacc : acc = FKind.add.neutral .f32 hφ) (hc : (⟨1, ![n]⟩ : Shape).ShapeCasts ⟨2, ![1, n]⟩) :
    Is2 (addf (shapeCast ⟨2, ![1, n]⟩ a hs) (shapeCast ⟨2, ![1, n]⟩ (multiReduction .add [0] ⟨1, ![n]⟩ v acc h hφ hacc) hc))
      (fun _ k => g k + ∑ i, f i k) :=
  (ha.cast hs).add ((hv.colSums h hφ hacc).toRow hc)

/-- The loss of the block's rows, halved and divided by the width, added to every lane. -/
theorem loss_is (H : B.Holds h t P) {a : FVec Ideal S1x128 .f32} {l : ℝ} (ha : Is2 (m := 1) (n := 128) a (fun _ _ => l)) :
    Is2 (m := 1) (n := 128) (k0_pay31 (F := Ideal) B.r2 B.x8 B.x9 B.mu B.mub B.x1 a)
      (fun _ _ => l + (∑ i, P.loss (P.x1 (h i)) (t i)) * (1 / 2048)) :=
  (ha.cast _).add ((((((((err_is H).mul (err_is H)).rowSums _ _ _).toCol _).colSums _ _ _).toRow _).mul
    (Is2.const word_1_2048)).col _)

end Blk

end Cert.KerTile

end
-- ==== Proof.Pieces.lean ====
/- Buffers filled four quarters of their columns at a time: what the list of stores leaves, and what a load of one quarter
   reads back of it. -/
module

public import proofs.«01_k».proof.Proof.Rows
public import Idealize.ShloMosaic.Lib.Pipeline.Value

@[expose] public section

noncomputable section

namespace Cert.Pieces

open Idealize.ShloMosaic hiding ix0 ix1 ix2 eq_ix2
open Idealize.ShloMosaic.ValueIdx
open Cert.Reals Cert.Rows

section
variable {Val : EltTy → Type} [∀ e, Nonempty (Val e)] {e : EltTy} {m : ℕ}

/-- The rectangle of 1024 columns from `o` on. -/
abbrev cols (m o : ℕ) (inb : ∀ d, (![0, o] : Fin 2 → ℕ) d + (![m, 1024] : Fin 2 → ℕ) d ≤ (⟨2, ![m, 4096]⟩ : Shape).size d) :
    Rect ⟨2, ![m, 4096]⟩ := Rect.unit (s := ⟨2, ![m, 4096]⟩) ![0, o] ![m, 1024] inb

theorem cols_idx {o : ℕ} (ho : o + 1024 ≤ 4096)
    (inb : ∀ d, (![0, o] : Fin 2 → ℕ) d + (![m, 1024] : Fin 2 → ℕ) d ≤ (⟨2, ![m, 4096]⟩ : Shape).size d) (i : Fin m)
    (k : Fin 1024) : (cols m o inb).emb (ix2 i k) = ix2 i (quarter o ho k) := by
  refine funext fun d => Fin.ext ?_
  match d with
  | ⟨0, _⟩ => show 0 + 1 * i.val = i.val; omega
  | ⟨1, _⟩ => show o + 1 * k.val = o + k.val; omega

/-- Under the last store, its payload. -/
theorem canon_hit {o : ℕ} (ho : o + 1024 ≤ 4096)
    (inb : ∀ d, (![0, o] : Fin 2 → ℕ) d + (![m, 1024] : Fin 2 → ℕ) d ≤ (⟨2, ![m, 4096]⟩ : Shape).size d)
    (w : (⟨2, ![m, 1024]⟩ : Shape).Idx → Val e) (L : List (View.Piece Val ⟨2, ![m, 4096]⟩ e)) (i : Fin m) (k : Fin 1024) :
    View.canon ((⟨cols m o inb, w⟩ : View.Piece Val ⟨2, ![m, 4096]⟩ e) :: L) (ix2 i (quarter o ho k)) = w (ix2 i k) := by
  rw [← cols_idx ho inb]
  exact View.canon_cons_emb (cols m o inb) w L _

/-- Beside it, the earlier stores. -/
theorem canon_miss {o o' : ℕ} (ho : o + 1024 ≤ 4096) (hd : o + 1024 ≤ o' ∨ o' + 1024 ≤ o)
    (inb : ∀ d, (![0, o'] : Fin 2 → ℕ) d + (![m, 1024] : Fin 2 → ℕ) d ≤ (⟨2, ![m, 4096]⟩ : Shape).size d)
    (w : (⟨2, ![m, 1024]⟩ : Shape).Idx → Val e) (L : List (View.Piece Val ⟨2, ![m, 4096]⟩ e)) (i : Fin m) (k : Fin 1024) :
    View.canon ((⟨cols m o' inb, w⟩ : View.Piece Val ⟨2, ![m, 4096]⟩ e) :: L) (ix2 i (quarter o ho k))
      = View.canon L (ix2 i (quarter o ho k)) := by
  refine View.canon_cons_of_not_mem _ L fun hm => ?_
  have h := (Rect.mem_set_unit (inb := inb)).mp hm 1
  have h1 : o' ≤ o + k.val := h.1
  have h2 : o + k.val < o' + 1024 := h.2
  omega

/-- A load of a quarter reads what the stores left there. -/
theorem readCov_cols {sig : RefSig} {κ : Kind} {sp : Space} (v : View sig κ sp ⟨2, ![m, 4096]⟩ e)
    (L : List (View.Piece Val ⟨2, ![m, 4096]⟩ e)) {o : ℕ} (ho : o + 1024 ≤ 4096)
    (inb : ∀ d, (![0, o] : Fin 2 → ℕ) d + (![m, 1024] : Fin 2 → ℕ) d ≤ (⟨2, ![m, 4096]⟩ : Shape).size d) (i : Fin m)
    (k : Fin 1024) : v.readCov L (cols m o inb).toLoadRect (ix2 i k) = View.canon L (ix2 i (quarter o ho k)) := by
  rw [View.readCov_eq_canon', ← cols_idx ho inb]
  rfl

end

/-- Every column is in one of the four quarters. -/
theorem quarter_cases (f : Fin 4096) : ∃ k, f = q0 k ∨ f = q1 k ∨ f = q2 k ∨ f = q3 k := by
  refine ⟨⟨f.val % 1024, Nat.mod_lt _ (by norm_num)⟩, ?_⟩
  have := f.isLt
  simp only [Fin.ext_iff, quarter]
  omega

/-- Four stores, a quarter each, over whatever was there. -/
theorem canon_four {Val : EltTy → Type} [∀ e, Nonempty (Val e)] {e : EltTy} {m : ℕ} (G : Fin m → Fin 4096 → Val e)
    {w0 w1 w2 w3 : (⟨2, ![m, 1024]⟩ : Shape).Idx → Val e} {L : List (View.Piece Val ⟨2, ![m, 4096]⟩ e)} {i0 i1 i2 i3}
    (h0 : ∀ i k, w0 (ix2 i k) = G i (q0 k)) (h1 : ∀ i k, w1 (ix2 i k) = G i (q1 k))
    (h2 : ∀ i k, w2 (ix2 i k) = G i (q2 k)) (h3 : ∀ i k, w3 (ix2 i k) = G i (q3 k)) (i : Fin m) (f : Fin 4096) :
    View.canon ((⟨cols m 3072 i3, w3⟩ : View.Piece Val ⟨2, ![m, 4096]⟩ e) :: ⟨cols m 2048 i2, w2⟩
      :: ⟨cols m 1024 i1, w1⟩ :: ⟨cols m 0 i0, w0⟩ :: L) (ix2 i f) = G i f := by
  obtain ⟨k, rfl | rfl | rfl | rfl⟩ := quarter_cases f
  · rw [canon_miss _ (by norm_num), canon_miss _ (by norm_num), canon_miss _ (by norm_num), canon_hit]; exact h0 i k
  · rw [canon_miss _ (by norm_num), canon_miss _ (by norm_num), canon_hit]; exact h1 i k
  · rw [canon_miss _ (by norm_num), canon_hit]; exact h2 i k
  · rw [canon_hit]; exact h3 i k

end Cert.Pieces

end
-- ==== Proof.KerBlk.lean ====
/- What the kernel's body leaves in each output block at a grid point, by its own payloads over the blocks it loads: the first
   point starts the accumulated rows from zero, every later point from what the point before left. -/
module

public import proofs.«01_k».proof.Proof.KerTile
public import proofs.«01_k».proof.Proof.Pieces
public import proofs.«01_k».proof.Proof.Gen.KernelIdeal.Value
public import Idealize.ShloMosaic.Lib.Tactic

@[expose] public section

noncomputable section

namespace Cert.KerRead

open Cert.KernelIdeal Cert.KernelIdeal.Gen Cert.KerTile Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The blocks of a grid point. -/
def blk (c : Dev nD) (t : Fin cfg0.N) : Blk F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

theorem hz : (![0, 0] : Fin 2 → Nat) = fun _ => 0 := funext fun a => by fin_cases a <;> rfl

/-- A quarter of the rectified values, read back from the buffer the body keeps them in. -/
def back (B : Blk F) (r : LoadRect S256x4096) : r.shape.Idx → F .f32 :=
  (View.whole cc0_scratch0).readCov (Val := Elt F)
    [⟨Rect.unit (s := S256x4096) ![0, 3072] S256x1024.size inb_S256x4096_S256x1024_0_3072, k0_pay23 (F := F) B.rl3⟩,
      ⟨Rect.unit (s := S256x4096) ![0, 2048] S256x1024.size inb_S256x4096_S256x1024_0_2048, k0_pay20 (F := F) B.pr2 B.bu2⟩,
      ⟨Rect.unit (s := S256x4096) ![0, 1024] S256x1024.size inb_S256x4096_S256x1024_0_1024, k0_pay17 (F := F) B.pr1 B.bu1⟩,
      ⟨Rect.unit (s := S256x4096) ![0, 0] S256x1024.size inb_S256x4096_S256x1024_0_0, k0_pay14 (F := F) B.rl0⟩] r

def back0 (B : Blk F) : FVec F S256x1024 .f32 :=
  back B (Rect.unit (s := S256x4096) ![0, 0] S256x1024.size inb_S256x4096_S256x1024_0_0).toLoadRect
def back1 (B : Blk F) : FVec F S256x1024 .f32 :=
  back B (Rect.unit (s := S256x4096) ![0, 1024] S256x1024.size inb_S256x4096_S256x1024_0_1024).toLoadRect
def back2 (B : Blk F) : FVec F S256x1024 .f32 :=
  back B (Rect.unit (s := S256x4096) ![0, 2048] S256x1024.size inb_S256x4096_S256x1024_0_2048).toLoadRect
def back3 (B : Blk F) : FVec F S256x1024 .f32 :=
  back B (Rect.unit (s := S256x4096) ![0, 3072] S256x1024.size inb_S256x4096_S256x1024_0_3072).toLoadRect

def x1tAt (B : Blk F) : FVec F S1024x256 .bf16 :=
  k0_pay9 (F := F) B.x0 B.x2 B.x3

def hdnAt (B : Blk F) : FVec F S256x4096 .bf16 :=
  View.canon (Val := Elt F) (e := .bf16)
      [⟨Rect.unit (s := S256x4096) ![0, 3072] S256x1024.size inb_S256x4096_S256x1024_0_3072, k0_pay24 (F := F) B.rl3⟩,
        ⟨Rect.unit (s := S256x4096) ![0, 2048] S256x1024.size inb_S256x4096_S256x1024_0_2048, B.hb2⟩,
        ⟨Rect.unit (s := S256x4096) ![0, 1024] S256x1024.size inb_S256x4096_S256x1024_0_1024, B.hb1⟩,
        ⟨Rect.unit (s := S256x4096) ![0, 0] S256x1024.size inb_S256x4096_S256x1024_0_0, B.hb0⟩]

def dr2tAt (B : Blk F) : FVec F S1024x256 .bf16 :=
  k0_pay38 (F := F) B.rs B.xh2 B.dy B.x8

def dpreAt (B : Blk F) : FVec F S256x4096 .bf16 :=
  View.canon (Val := Elt F) (e := .bf16)
      [⟨Rect.unit (s := S256x4096) ![0, 3072] S256x1024.size inb_S256x4096_S256x1024_0_3072, k0_pay53 (F := F) (k0_pay41 B.dr2b B.dn3) (back3 B)⟩,
        ⟨Rect.unit (s := S256x4096) ![0, 2048] S256x1024.size inb_S256x4096_S256x1024_0_2048, k0_pay50 (F := F) (k0_pay40 B.dr2b B.dn2) (back2 B)⟩,
        ⟨Rect.unit (s := S256x4096) ![0, 1024] S256x1024.size inb_S256x4096_S256x1024_0_1024, k0_pay47 (F := F) (k0_pay45 B.dr2b B.dn1 (back1 B))⟩,
        ⟨Rect.unit (s := S256x4096) ![0, 0] S256x1024.size inb_S256x4096_S256x1024_0_0, k0_pay44 (F := F) B.dr2b (k0_pay39 B.dn0) (constant S256x1024 FTy.f32 0#32) (back0 B)⟩]

def dx1At (B : Blk F) : FVec F S256x1024 .f32 :=
  k0_pay1 (F := F) B.dr2 (k0_pay44 B.dr2b (k0_pay39 B.dn0) (constant S256x1024 FTy.f32 0#32) (back0 B)) (k0_pay47 (k0_pay45 B.dr2b B.dn1 (back1 B))) (k0_pay50 (k0_pay40 B.dr2b B.dn2) (back2 B)) (k0_pay53 (k0_pay41 B.dr2b B.dn3) (back3 B)) (k0_pay54 B.up0) (constant S256x1024 FTy.f32 0#32) B.up1 B.up2 B.up3

def lossAt (B : Blk F) (p : FVec F S1x128 .f32) : FVec F S1x128 .f32 :=
  k0_pay31 (F := F) B.r2 B.x8 B.x9 B.mu B.mub B.x1 p

def dl2gAt (B : Blk F) (p : FVec F S1x1024 .f32) : FVec F S1x1024 .f32 :=
  k0_pay33 (F := F) B.r2 B.x8 B.x9 B.mu B.mub B.x1 p

def dl2bAt (B : Blk F) (p : FVec F S1x1024 .f32) : FVec F S1x1024 .f32 :=
  k0_pay34 (F := F) B.dy p

def dbdnAt (B : Blk F) (p : FVec F S1x1024 .f32) : FVec F S1x1024 .f32 :=
  k0_pay36 (F := F) B.rs B.xh2 B.dy B.x8 p

/-- The four stores of the bias row's gradient, newest first, over earlier ones `L`; `p0` … `p3` are the quarters read before. -/
def dbupCells (B : Blk F) (p0 p1 p2 p3 : FVec F S1x1024 .f32) (L : List (View.Piece (Elt F) S1x4096 .f32)) :
    List (View.Piece (Elt F) S1x4096 .f32) :=
  ⟨Rect.unit (s := S1x4096) ![0, 3072] S1x1024.size inb_S1x4096_S1x1024_0_3072,
      k0_pay52 (F := F) (k0_pay41 B.dr2b B.dn3) (back3 B) p3⟩ ::
    ⟨Rect.unit (s := S1x4096) ![0, 2048] S1x1024.size inb_S1x4096_S1x1024_0_2048,
      k0_pay49 (F := F) (k0_pay40 B.dr2b B.dn2) (back2 B) p2⟩ ::
    ⟨Rect.unit (s := S1x4096) ![0, 1024] S1x1024.size inb_S1x4096_S1x1024_0_1024,
      k0_pay46 (F := F) B.dr2b B.dn1 (back1 B) p1⟩ ::
    ⟨Rect.unit (s := S1x4096) ![0, 0] S1x1024.size inb_S1x4096_S1x1024_0_0,
      k0_pay43 (F := F) B.dr2b (k0_pay39 B.dn0) (constant S256x1024 FTy.f32 0#32) (back0 B) p0⟩ :: L

/-- The first point's stores of that row: zeros first, then quarter by quarter what is read back plus the column sums. -/
def dbupZero : List (View.Piece (Elt F) S1x4096 .f32) :=
  [⟨Rect.unit (s := S1x4096) ![0, 0] S1x4096.size inb_S1x4096_S1x4096_0_0, k0_pay6 (F := F)⟩]

/-- After the first of them, -/
def dbupOne (B : Blk F) (v : View sig .tc .vmem S1x4096 .f32) : List (View.Piece (Elt F) S1x4096 .f32) :=
  ⟨Rect.unit (s := S1x4096) ![0, 0] S1x1024.size inb_S1x4096_S1x1024_0_0,
    k0_pay43 (F := F) B.dr2b (k0_pay39 B.dn0) (constant S256x1024 FTy.f32 0#32) (back0 B)
      (v.readCov (Val := Elt F) dbupZero (Rect.unit (s := S1x4096) ![0, 0] S1x1024.size inb_S1x4096_S1x1024_0_0).toLoadRect)⟩ ::
    dbupZero

/-- the second, -/
def dbupTwo (B : Blk F) (v : View sig .tc .vmem S1x4096 .f32) : List (View.Piece (Elt F) S1x4096 .f32) :=
  ⟨Rect.unit (s := S1x4096) ![0, 1024] S1x1024.size inb_S1x4096_S1x1024_0_1024,
    k0_pay46 (F := F) B.dr2b B.dn1 (back1 B)
      (v.readCov (Val := Elt F) (dbupOne B v) (Rect.unit (s := S1x4096) ![0, 1024] S1x1024.size inb_S1x4096_S1x1024_0_1024).toLoadRect)⟩ ::
    dbupOne B v

/-- the third, -/
def dbupThree (B : Blk F) (v : View sig .tc .vmem S1x4096 .f32) : List (View.Piece (Elt F) S1x4096 .f32) :=
  ⟨Rect.unit (s := S1x4096) ![0, 2048] S1x1024.size inb_S1x4096_S1x1024_0_2048,
    k0_pay49 (F := F) (k0_pay40 B.dr2b B.dn2) (back2 B)
      (v.readCov (Val := Elt F) (dbupTwo B v) (Rect.unit (s := S1x4096) ![0, 2048] S1x1024.size inb_S1x4096_S1x1024_0_2048).toLoadRect)⟩ ::
    dbupTwo B v

/-- and all four. -/
def dbupFour (B : Blk F) (v : View sig .tc .vmem S1x4096 .f32) : List (View.Piece (Elt F) S1x4096 .f32) :=
  ⟨Rect.unit (s := S1x4096) ![0, 3072] S1x1024.size inb_S1x4096_S1x1024_0_3072,
    k0_pay52 (F := F) (k0_pay41 B.dr2b B.dn3) (back3 B)
      (v.readCov (Val := Elt F) (dbupThree B v) (Rect.unit (s := S1x4096) ![0, 3072] S1x1024.size inb_S1x4096_S1x1024_0_3072).toLoadRect)⟩ ::
    dbupThree B v

/-- A quarter of a row. -/
def part0 (v : FVec F S1x4096 .f32) : FVec F S1x1024 .f32 :=
  View.ld (Val := Elt F) (e' := .f32) v (Rect.unit (s := S1x4096) ![0, 0] S1x1024.size inb_S1x4096_S1x1024_0_0)
def part1 (v : FVec F S1x4096 .f32) : FVec F S1x1024 .f32 :=
  View.ld (Val := Elt F) (e' := .f32) v (Rect.unit (s := S1x4096) ![0, 1024] S1x1024.size inb_S1x4096_S1x1024_0_1024)
def part2 (v : FVec F S1x4096 .f32) : FVec F S1x1024 .f32 :=
  View.ld (Val := Elt F) (e' := .f32) v (Rect.unit (s := S1x4096) ![0, 2048] S1x1024.size inb_S1x4096_S1x1024_0_2048)
def part3 (v : FVec F S1x4096 .f32) : FVec F S1x1024 .f32 :=
  View.ld (Val := Elt F) (e' := .f32) v (Rect.unit (s := S1x4096) ![0, 3072] S1x1024.size inb_S1x4096_S1x1024_0_3072)

end Cert.KerRead

end
-- ==== Proof.KerHost.lean ====
/- What the kernel's launch finds in its operands: the normalised rows, the targets and the transposed weights, and so what the
   blocks of a grid point hold. -/
module

public import proofs.«01_k».proof.Proof.KerBlk
public import proofs.«01_k».proof.Proof.Norms
public import Idealize.ShloMosaic.Lib.Pipeline.ValueKit

@[expose] public section

noncomputable section

open scoped BigOperators

namespace Cert.KerHost

open Cert.KernelIdeal Cert.KernelIdeal.Gen Idealize.ShloMosaic.TcCoe
open Idealize.ShloMosaic hiding ix0 ix1 ix2 eq_ix2
open Idealize.ShloMosaic.ValueIdx
open Idealize.SL.Sem
open Cert.Reals Cert.Rows Cert.Norms Cert.KerTile Cert.KerRead

section
variable {F : FTy → Type} [FloatOps F] (m : (ℓ : Loc nD τ sig) → Buf (Elt F) ℓ)

/-- The row means on the host. -/
def hostMean (a : FVec F S8192x1024 .f32) : FVec F S8192x1 .f32 :=
  Host.divf (broadcastInDim S8192x1 ![0] bcast_S8192_S8192x1_0
      (Host.reduceAdd a (constant S_ .f32 0x00000000#32) reducesTo_S8192x1024_S8192_d1 h_S_))
    (broadcastInDim S8192x1 ![] bcast_S_S8192x1 (constant S_ .f32 0x44800000#32))

/-- The centred rows on the host. -/
def hostCentred (a : FVec F S8192x1024 .f32) : FVec F S8192x1024 .f32 :=
  subf a (broadcastInDim S8192x1024 ![0, 1] bcast_S8192x1_S8192x1024_0_1 (hostMean a))

/-- The normalised rows on the host. -/
def hostXhat (a : FVec F S8192x1024 .f32) : FVec F S8192x1024 .f32 :=
  mulf (hostCentred a) (broadcastInDim S8192x1024 ![0, 1] bcast_S8192x1_S8192x1024_0_1
    (Host.rsqrt (addf (hostMean (mulf (hostCentred a) (hostCentred a)))
      (broadcastInDim S8192x1 ![] bcast_S_S8192x1 (constant S_ .f32 0x3727C5AC#32)))))

theorem V_v17 (c : Dev nD) : V m c main_v17 = hostXhat (m ((c : Thread nD τ).loc main_arg0)) := by
  unfold V
  after_results
  rfl

theorem V_v19 (c : Dev nD) : V m c main_v19 = truncf .bf16 (transpose S4096x1024 [1, 0] (m ((c : Thread nD τ).loc main_arg4))
    transposes_S1024x4096_S4096x1024_1_0) bitsLt_bf16_f32 := by
  unfold V
  after_results

theorem V_v20 (c : Dev nD) : V m c main_v20 = truncf .bf16 (m ((c : Thread nD τ).loc main_arg6) : FVec F S4096x1024 .f32) bitsLt_bf16_f32 := by
  unfold V
  after_results
end

/-- The arguments hold real numbers: the rows `r` of the first residual sum, the targets `t`, the parameters `P`. -/
structure Args (m : (ℓ : Loc nD τ sig) → Buf (Elt Ideal) ℓ) (c : Dev nD) (r t : Fin 8192 → Row) (P : Par) : Prop where
  a0 : Is2 (φ := .f32) (m := 8192) (n := 1024) (m ((c : Thread nD τ).loc main_arg0)) r
  a1 : Is2 (φ := .f32) (m := 8192) (n := 1024) (m ((c : Thread nD τ).loc main_arg1)) t
  a2 : Is2 (φ := .f32) (m := 1) (n := 1024) (m ((c : Thread nD τ).loc main_arg2)) (fun _ => P.g1)
  a3 : Is2 (φ := .f32) (m := 1) (n := 1024) (m ((c : Thread nD τ).loc main_arg3)) (fun _ => P.b1)
  a4 : Is2 (φ := .f32) (m := 1024) (n := 4096) (m ((c : Thread nD τ).loc main_arg4)) P.wu
  a5 : Is2 (φ := .f32) (m := 1) (n := 4096) (m ((c : Thread nD τ).loc main_arg5)) (fun _ => P.bu)
  a6 : Is2 (φ := .f32) (m := 4096) (n := 1024) (m ((c : Thread nD τ).loc main_arg6)) P.wd
  a7 : Is2 (φ := .f32) (m := 1) (n := 1024) (m ((c : Thread nD τ).loc main_arg7)) (fun _ => P.bd)
  a8 : Is2 (φ := .f32) (m := 1) (n := 1024) (m ((c : Thread nD τ).loc main_arg8)) (fun _ => P.g2)
  a9 : Is2 (φ := .f32) (m := 1) (n := 1024) (m ((c : Thread nD τ).loc main_arg9)) (fun _ => P.b2)

/-- Row `i` of the block of grid point `t`. -/
def tileRow (t : Fin cfg0.N) (i : Fin 256) : Fin 8192 :=
  ⟨t.val * 256 + i.val, by have := t.isLt; have : cfg0.N = 32 := N_0; omega⟩

theorem hostXhat_is {a : FVec Ideal S8192x1024 .f32} {r : Fin 8192 → Row} (ha : Is2 (m := 8192) (n := 1024) a r) :
    Is2 (m := 8192) (n := 1024) (hostXhat a) (fun i => xhat (r i)) := by
  have hz : Is0 (constant (F := Ideal) S_ .f32 0x00000000#32) 0 := Is0.splat word_zero
  have hm : Is2 (m := 8192) (n := 1) (hostMean a) (fun i _ => mean (r i)) := hmean ha hz _ _ _ _
  have hc : Is2 (m := 8192) (n := 1024) (hostCentred a) (fun i j => r i j - mean (r i)) := ha.sub (hm.hcol _)
  exact hc.mul ((((hmean (hc.mul hc) hz _ _ _ _).add ((Is0.splat word_eps).spread _)).hrsqrt
      fun i _ => variance_eps_pos (r i)).hcol _)

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)

variable {m : (ℓ : Loc nD τ sig) → Buf (Elt Ideal) ℓ} {c : Dev nD} {r tg : Fin 8192 → Row} {P : Par}

/-! ### Where an element of a block sits in its array -/

theorem emb0 (t : Fin cfg0.N) (i : Fin 256) (j : Fin 1024) :
    (win0_0.blk t).view.emb (ix2 (n0 := 256) (n1 := 1024) i j) = ix2 (n0 := 8192) (n1 := 1024) (tileRow t i) j := by
  blk_ext [(idx0 t).1, (idx0 t).2, tileRow]
theorem emb1 (t : Fin cfg0.N) (i : Fin 256) (j : Fin 1024) :
    (win0_1.blk t).view.emb (ix2 (n0 := 256) (n1 := 1024) i j) = ix2 (n0 := 8192) (n1 := 1024) (tileRow t i) j := by
  blk_ext [(idx1 t).1, (idx1 t).2, tileRow]
theorem emb2 (t : Fin cfg0.N) (i : Fin 1) (j : Fin 1024) :
    (win0_2.blk t).view.emb (ix2 (n0 := 1) (n1 := 1024) i j) = ix2 (n0 := 1) (n1 := 1024) i j := by
  blk_ext [(idx2 t).1, (idx2 t).2]
theorem emb3 (t : Fin cfg0.N) (i : Fin 1) (j : Fin 1024) :
    (win0_3.blk t).view.emb (ix2 (n0 := 1) (n1 := 1024) i j) = ix2 (n0 := 1) (n1 := 1024) i j := by
  blk_ext [(idx3 t).1, (idx3 t).2]
theorem emb4 (t : Fin cfg0.N) (i : Fin 4096) (j : Fin 1024) :
    (win0_4.blk t).view.emb (ix2 (n0 := 4096) (n1 := 1024) i j) = ix2 (n0 := 4096) (n1 := 1024) i j := by
  blk_ext [(idx4 t).1, (idx4 t).2]
theorem emb5 (t : Fin cfg0.N) (i : Fin 1) (j : Fin 4096) :
    (win0_5.blk t).view.emb (ix2 (n0 := 1) (n1 := 4096) i j) = ix2 (n0 := 1) (n1 := 4096) i j := by
  blk_ext [(idx5 t).1, (idx5 t).2]
theorem emb6 (t : Fin cfg0.N) (i : Fin 4096) (j : Fin 1024) :
    (win0_6.blk t).view.emb (ix2 (n0 := 4096) (n1 := 1024) i j) = ix2 (n0 := 4096) (n1 := 1024) i j := by
  blk_ext [(idx6 t).1, (idx6 t).2]
theorem emb7 (t : Fin cfg0.N) (i : Fin 1) (j : Fin 1024) :
    (win0_7.blk t).view.emb (ix2 (n0 := 1) (n1 := 1024) i j) = ix2 (n0 := 1) (n1 := 1024) i j := by
  blk_ext [(idx7 t).1, (idx7 t).2]
theorem emb8 (t : Fin cfg0.N) (i : Fin 1) (j : Fin 1024) :
    (win0_8.blk t).view.emb (ix2 (n0 := 1) (n1 := 1024) i j) = ix2 (n0 := 1) (n1 := 1024) i j := by
  blk_ext [(idx8 t).1, (idx8 t).2]
theorem emb9 (t : Fin cfg0.N) (i : Fin 1) (j : Fin 1024) :
    (win0_9.blk t).view.emb (ix2 (n0 := 1) (n1 := 1024) i j) = ix2 (n0 := 1) (n1 := 1024) i j := by
  blk_ext [(idx9 t).1, (idx9 t).2]

theorem x0_is (A : Args m c r tg P) (t : Fin cfg0.N) :
    Is2 (m := 256) (n := 1024) (φ := .f32) (iblk m c 0 t) (fun i => xhat (r (tileRow t i))) :=
  fun i j => (congrArg (V m c main_v17) (emb0 t i j)).trans (by rw [V_v17]; exact hostXhat_is A.a0 _ _)
theorem x1_is (A : Args m c r tg P) (t : Fin cfg0.N) :
    Is2 (m := 256) (n := 1024) (φ := .f32) (iblk m c 1 t) (fun i => tg (tileRow t i)) :=
  fun i j => (congrArg (V m c main_arg1) (emb1 t i j)).trans (by rw [V_main_arg1]; exact A.a1 _ _)
theorem x2_is (A : Args m c r tg P) (t : Fin cfg0.N) :
    Is2 (m := 1) (n := 1024) (φ := .f32) (iblk m c 2 t) (fun _ => P.g1) :=
  fun i j => (congrArg (V m c main_arg2) (emb2 t i j)).trans (by rw [V_main_arg2]; exact A.a2 _ _)
theorem x3_is (A : Args m c r tg P) (t : Fin cfg0.N) :
    Is2 (m := 1) (n := 1024) (φ := .f32) (iblk m c 3 t) (fun _ => P.b1) :=
  fun i j => (congrArg (V m c main_arg3) (emb3 t i j)).trans (by rw [V_main_arg3]; exact A.a3 _ _)
theorem x4_is (A : Args m c r tg P) (t : Fin cfg0.N) :
    Is2 (m := 4096) (n := 1024) (φ := .bf16) (iblk m c 4 t) (fun f j => P.wu j f) :=
  fun i j => (congrArg (V m c main_v19) (emb4 t i j)).trans (by rw [V_v19]; exact ((A.a4.transpose transposes_S1024x4096_S4096x1024_1_0).trunc bitsLt_bf16_f32) _ _)
theorem x5_is (A : Args m c r tg P) (t : Fin cfg0.N) :
    Is2 (m := 1) (n := 4096) (φ := .f32) (iblk m c 5 t) (fun _ => P.bu) :=
  fun i j => (congrArg (V m c main_arg5) (emb5 t i j)).trans (by rw [V_main_arg5]; exact A.a5 _ _)
theorem x6_is (A : Args m c r tg P) (t : Fin cfg0.N) :
    Is2 (m := 4096) (n := 1024) (φ := .bf16) (iblk m c 6 t) (P.wd) :=
  fun i j => (congrArg (V m c main_v20) (emb6 t i j)).trans (by rw [V_v20]; exact A.a6 _ _)
theorem x7_is (A : Args m c r tg P) (t : Fin cfg0.N) :
    Is2 (m := 1) (n := 1024) (φ := .f32) (iblk m c 7 t) (fun _ => P.bd) :=
  fun i j => (congrArg (V m c main_arg7) (emb7 t i j)).trans (by rw [V_main_arg7]; exact A.a7 _ _)
theorem x8_is (A : Args m c r tg P) (t : Fin cfg0.N) :
    Is2 (m := 1) (n := 1024) (φ := .f32) (iblk m c 8 t) (fun _ => P.g2) :=
  fun i j => (congrArg (V m c main_arg8) (emb8 t i j)).trans (by rw [V_main_arg8]; exact A.a8 _ _)
theorem x9_is (A : Args m c r tg P) (t : Fin cfg0.N) :
    Is2 (m := 1) (n := 1024) (φ := .f32) (iblk m c 9 t) (fun _ => P.b2) :=
  fun i j => (congrArg (V m c main_arg9) (emb9 t i j)).trans (by rw [V_main_arg9]; exact A.a9 _ _)

set_option maxHeartbeats 2000000 in
theorem holds (A : Args m c r tg P) (t : Fin cfg0.N) :
    (blk m c t).Holds (fun i => xhat (r (tileRow t i))) (fun i => tg (tileRow t i)) P :=
  ⟨x0_is A t, x1_is A t, x2_is A t, x3_is A t, x4_is A t, x5_is A t, x6_is A t, x7_is A t, x8_is A t, x9_is A t⟩

end Cert.KerHost

end
-- ==== Proof.KerOut.lean ====
/- The real numbers in what the body stores at a grid point. -/
module

public import proofs.«01_k».proof.Proof.KerBlk

@[expose] public section

noncomputable section

open scoped BigOperators

namespace Cert.KerOut

open Idealize.ShloMosaic hiding ix0 ix1 ix2 eq_ix2
open Idealize.ShloMosaic.ValueIdx
open Cert.Reals Cert.Rows Cert.KerTile Cert.KerTile.Blk Cert.KerRead Cert.Pieces
open Cert.KernelIdeal Cert.KernelIdeal.Gen

variable {B : Blk Ideal} {h t : Fin 256 → Row} {P : Par}

theorem x1t_is (H : B.Holds h t P) : Is2 (m := 1024) (n := 256) (x1tAt B) (fun j i => P.x1 (h i) j) :=
  (xb_is H).transpose _

theorem hdn_is (H : B.Holds h t P) : Is2 (m := 256) (n := 4096) (hdnAt B) (fun i => P.hdn (P.x1 (h i))) :=
  canon_four (Val := Elt Ideal) (e := .bf16) (fun i f => ((P.hdn (P.x1 (h i)) f : ℝ) : EReal)) (hb0_is H) (hb1_is H) (hb2_is H)
    (hb3_is H)

theorem dr2t_is (H : B.Holds h t P) : Is2 (m := 1024) (n := 256) (dr2tAt B) (fun j i => P.dr2 (P.x1 (h i)) (t i) j) :=
  (dr2b_is H).transpose _

/-! ### The rectified values read back -/

theorem back_is (H : B.Holds h t P) {o : ℕ} (ho : o + 1024 ≤ 4096)
    (inb : ∀ d, (![0, o] : Fin 2 → ℕ) d + (![256, 1024] : Fin 2 → ℕ) d ≤ (⟨2, ![256, 4096]⟩ : Shape).size d) :
    Is2 (m := 256) (n := 1024) (φ := .f32) (back B (cols 256 o inb).toLoadRect) (fun i k => P.rl (P.x1 (h i)) (quarter o ho k)) :=
  fun i k => (readCov_cols (Val := Elt Ideal) (View.whole cc0_scratch0) _ ho inb i k).trans
    (canon_four (Val := Elt Ideal) (e := .f32) (fun i f => ((P.rl (P.x1 (h i)) f : ℝ) : EReal)) (rl0_is H |>.cast _) (rl1_is H |>.cast _)
      (rl2_is H |>.cast _) (rl3_is H |>.cast _) i _)

theorem back0_is (H : B.Holds h t P) : Is2 (m := 256) (n := 1024) (back0 B) (fun i k => P.rl (P.x1 (h i)) (q0 k)) :=
  back_is H _ _
theorem back1_is (H : B.Holds h t P) : Is2 (m := 256) (n := 1024) (back1 B) (fun i k => P.rl (P.x1 (h i)) (q1 k)) :=
  back_is H _ _
theorem back2_is (H : B.Holds h t P) : Is2 (m := 256) (n := 1024) (back2 B) (fun i k => P.rl (P.x1 (h i)) (q2 k)) :=
  back_is H _ _
theorem back3_is (H : B.Holds h t P) : Is2 (m := 256) (n := 1024) (back3 B) (fun i k => P.rl (P.x1 (h i)) (q3 k)) :=
  back_is H _ _

/-! ### The gradient of the inner width -/

theorem dp0_is (H : B.Holds h t P) : Is2 (m := 256) (n := 1024)
    (k0_pay42 (F := Ideal) B.dr2b (k0_pay39 B.dn0) (constant S256x1024 .f32 0#32) (back0 B))
    (fun i k => P.dpre (P.x1 (h i)) (t i) (q0 k)) := dpre_is H (dn0_is H) (back0_is H)
theorem dp1_is (H : B.Holds h t P) : Is2 (m := 256) (n := 1024) (k0_pay45 (F := Ideal) B.dr2b B.dn1 (back1 B))
    (fun i k => P.dpre (P.x1 (h i)) (t i) (q1 k)) := dpre_is H (dn1_is H) (back1_is H)
theorem dp2_is (H : B.Holds h t P) : Is2 (m := 256) (n := 1024) (k0_pay48 (F := Ideal) (k0_pay40 B.dr2b B.dn2) (back2 B))
    (fun i k => P.dpre (P.x1 (h i)) (t i) (q2 k)) := dpre_is H (dn2_is H) (back2_is H)
theorem dp3_is (H : B.Holds h t P) : Is2 (m := 256) (n := 1024) (k0_pay51 (F := Ideal) (k0_pay41 B.dr2b B.dn3) (back3 B))
    (fun i k => P.dpre (P.x1 (h i)) (t i) (q3 k)) := dpre_is H (dn3_is H) (back3_is H)

theorem dpre_is (H : B.Holds h t P) : Is2 (m := 256) (n := 4096) (dpreAt B) (fun i => P.dpre (P.x1 (h i)) (t i)) :=
  canon_four (Val := Elt Ideal) (e := .bf16) (fun i f => ((P.dpre (P.x1 (h i)) (t i) f : ℝ) : EReal)) (dp0_is H |>.trunc bitsLt_bf16_f32)
    (dp1_is H |>.trunc bitsLt_bf16_f32) (dp2_is H |>.trunc bitsLt_bf16_f32) (dp3_is H |>.trunc bitsLt_bf16_f32)

theorem dx1_is (H : B.Holds h t P) : Is2 (m := 256) (n := 1024) (dx1At B) (fun i => P.dx1 (P.x1 (h i)) (t i)) :=
  (((Is2.const word_alpha).mul (dr2_is H)).add
    ((((((dp0_is H).trunc bitsLt_bf16_f32).matmul rfl ((up0_is H).cast _) (Is2.splat word_zero)).add
      (((dp1_is H).trunc bitsLt_bf16_f32).matmul rfl ((up1_is H).cast _) (Is2.splat word_zero))).add
        (((dp2_is H).trunc bitsLt_bf16_f32).matmul rfl ((up2_is H).cast _) (Is2.splat word_zero))).add
          (((dp3_is H).trunc bitsLt_bf16_f32).matmul rfl ((up3_is H).cast _) (Is2.splat word_zero)))).congr fun i j => by
    simp only [zero_add]
    unfold Par.dx1
    rw [sum_quarters]

/-! ### The accumulated rows -/

section
variable {a : FVec Ideal S1x1024 .f32} {g : Row}

theorem dl2g_is (H : B.Holds h t P) (ha : Is2 (m := 1) (n := 1024) a (fun _ => g)) :
    Is2 (m := 1) (n := 1024) (dl2gAt B a)
      (fun _ j => g j + ∑ i, P.dy (P.x1 (h i)) (t i) j * xhat (P.r2 (P.x1 (h i))) j) :=
  acc_is ha ((dy_is H).mul (xh2_is H)) _ _ _ _ _

theorem dl2b_is (H : B.Holds h t P) (ha : Is2 (m := 1) (n := 1024) a (fun _ => g)) :
    Is2 (m := 1) (n := 1024) (dl2bAt B a) (fun _ j => g j + ∑ i, P.dy (P.x1 (h i)) (t i) j) :=
  acc_is ha (dy_is H) _ _ _ _ _

theorem dbdn_is (H : B.Holds h t P) (ha : Is2 (m := 1) (n := 1024) a (fun _ => g)) :
    Is2 (m := 1) (n := 1024) (dbdnAt B a) (fun _ j => g j + ∑ i, P.dr2 (P.x1 (h i)) (t i) j) :=
  acc_is ha (dr2_is H) _ _ _ _ _

end

theorem lossAt_is (H : B.Holds h t P) {a : FVec Ideal S1x128 .f32} {l : ℝ} (ha : Is2 (m := 1) (n := 128) a (fun _ _ => l)) :
    Is2 (m := 1) (n := 128) (lossAt B a) (fun _ _ => l + (∑ i, P.loss (P.x1 (h i)) (t i)) * (1 / 2048)) :=
  loss_is H ha

/-- The four stores of the bias row, from quarters that hold `g`. -/
theorem dbupCells_is (H : B.Holds h t P) {p0 p1 p2 p3 : FVec Ideal S1x1024 .f32} {g : Fin 4096 → ℝ}
    {L : List (View.Piece (Elt Ideal) S1x4096 .f32)}
    (h0 : Is2 (m := 1) (n := 1024) p0 (fun _ k => g (q0 k))) (h1 : Is2 (m := 1) (n := 1024) p1 (fun _ k => g (q1 k)))
    (h2 : Is2 (m := 1) (n := 1024) p2 (fun _ k => g (q2 k))) (h3 : Is2 (m := 1) (n := 1024) p3 (fun _ k => g (q3 k))) :
    Is2 (m := 1) (n := 4096) (φ := .f32) (View.canon (dbupCells B p0 p1 p2 p3 L))
      (fun _ f => g f + ∑ i, P.dpre (P.x1 (h i)) (t i) f) :=
  canon_four (Val := Elt Ideal) (e := .f32) (fun _ f => ((g f + ∑ i, P.dpre (P.x1 (h i)) (t i) f : ℝ) : EReal))
    (acc_is h0 (dp0_is H) _ _ _ _ _) (acc_is h1 (dp1_is H) _ _ _ _ _) (acc_is h2 (dp2_is H) _ _ _ _ _) (acc_is h3 (dp3_is H) _ _ _ _ _)

theorem part_is {v : FVec Ideal S1x4096 .f32} {g : Fin 4096 → ℝ} (hv : Is2 (m := 1) (n := 4096) v (fun _ => g)) :
    Is2 (m := 1) (n := 1024) (part0 v) (fun _ k => g (q0 k)) ∧ Is2 (m := 1) (n := 1024) (part1 v) (fun _ k => g (q1 k)) ∧
    Is2 (m := 1) (n := 1024) (part2 v) (fun _ k => g (q2 k)) ∧ Is2 (m := 1) (n := 1024) (part3 v) (fun _ k => g (q3 k)) :=
  ⟨fun i k => (ld_apply (Val := Elt Ideal) (e := .f32) v _ i k (by omega) (by omega)).trans (hv _ _),
    fun i k => (ld_apply (Val := Elt Ideal) (e := .f32) v _ i k (by omega) (by omega)).trans (hv _ _),
    fun i k => (ld_apply (Val := Elt Ideal) (e := .f32) v _ i k (by omega) (by omega)).trans (hv _ _),
    fun i k => (ld_apply (Val := Elt Ideal) (e := .f32) v _ i k (by omega) (by omega)).trans (hv _ _)⟩

/-- The row the first point starts from. -/
theorem dbupZero_is (i : Fin 1) (f : Fin 4096) : View.canon (dbupZero (F := Ideal)) (ix2 i f) = ((0 : ℝ) : EReal) := by
  unfold dbupZero
  rw [View.canon_unit_zero hz]
  exact Is2.const (m := 1) (n := 4096) word_zero i f

theorem dbupFour_is (H : B.Holds h t P) (v : View sig .tc .vmem S1x4096 .f32) :
    Is2 (m := 1) (n := 4096) (φ := .f32) (View.canon (dbupFour B v)) (fun _ f => 0 + ∑ i, P.dpre (P.x1 (h i)) (t i) f) :=
  dbupCells_is (g := fun _ => 0) (L := dbupZero) H
    (fun i k => (readCov_cols (Val := Elt Ideal) v _ (by norm_num) _ i k).trans (dbupZero_is i _))
    (fun i k => (readCov_cols (Val := Elt Ideal) v _ (by norm_num) _ i k).trans
      ((canon_miss (Val := Elt Ideal) _ (by norm_num) _ _ _ i k).trans (dbupZero_is i _)))
    (fun i k => (readCov_cols (Val := Elt Ideal) v _ (by norm_num) _ i k).trans
      ((canon_miss (Val := Elt Ideal) _ (by norm_num) _ _ _ i k).trans
        ((canon_miss (Val := Elt Ideal) _ (by norm_num) _ _ _ i k).trans (dbupZero_is i _))))
    (fun i k => (readCov_cols (Val := Elt Ideal) v _ (by norm_num) _ i k).trans
      ((canon_miss (Val := Elt Ideal) _ (by norm_num) _ _ _ i k).trans
        ((canon_miss (Val := Elt Ideal) _ (by norm_num) _ _ _ i k).trans
          ((canon_miss (Val := Elt Ideal) _ (by norm_num) _ _ _ i k).trans (dbupZero_is i _)))))

end Cert.KerOut

end
-- ==== Proof.KerReadA.lean ====
/- The blocks the body fills anew at every grid point. -/
module

public import proofs.«01_k».proof.Proof.KerBlk
public import Idealize.ShloMosaic.Lib.Tactic

@[expose] public section

noncomputable section

namespace Cert.KerRead

open Cert.KernelIdeal Cert.KernelIdeal.Gen Cert.KerTile Idealize.ShloMosaic Idealize.ShloMosaic.TcCoe Idealize.SL.Sem
open Idealize.ShloMosaic.Pipeline (Dat)

variable {F : FTy → Type} [FloatOps F] (m : (ℓ : Loc nD τ sig) → Buf (Elt F) ℓ)

set_option maxRecDepth 16384 in
set_option maxHeartbeats 2000000 in
theorem x1t_A (c : Dev nD) (t : Fin cfg0.N) (h0 : t.val % 32 = 0) :
    (outsAt0 m c t.val t.isLt).1 = x1tAt (blk m c t) := by
  rw [outsAt0_A m c t h0]
  dsimp only
  unfold out0_A_10
  refine (View.read_writes_eq_canon _ _ _ (fun y => by apply cover0_A_10)).trans ?_
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [x1tAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem x1t_B (c : Dev nD) (t : Fin cfg0.N) (h0 : ¬t.val % 32 = 0) :
    (outsAt0 m c t.val t.isLt).1 = x1tAt (blk m c t) := by
  rw [outsAt0_B m c t h0]
  dsimp only
  unfold out0_B_10
  refine (View.read_writes_eq_canon _ _ _ (fun y => by apply cover0_B_10)).trans ?_
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [x1tAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem hdn_A (c : Dev nD) (t : Fin cfg0.N) (h0 : t.val % 32 = 0) :
    (outsAt0 m c t.val t.isLt).2.1 = hdnAt (blk m c t) := by
  rw [outsAt0_A m c t h0]
  dsimp only
  unfold out0_A_11
  refine (View.read_writes_eq_canon _ _ _ (fun y => by apply cover0_A_11)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [hdnAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem hdn_B (c : Dev nD) (t : Fin cfg0.N) (h0 : ¬t.val % 32 = 0) :
    (outsAt0 m c t.val t.isLt).2.1 = hdnAt (blk m c t) := by
  rw [outsAt0_B m c t h0]
  dsimp only
  unfold out0_B_11
  refine (View.read_writes_eq_canon _ _ _ (fun y => by apply cover0_B_11)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [hdnAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dr2t_A (c : Dev nD) (t : Fin cfg0.N) (h0 : t.val % 32 = 0) :
    (outsAt0 m c t.val t.isLt).2.2.1 = dr2tAt (blk m c t) := by
  rw [outsAt0_A m c t h0]
  dsimp only
  unfold out0_A_12
  refine (View.read_writes_eq_canon _ _ _ (fun y => by apply cover0_A_12)).trans ?_
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [dr2tAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dr2t_B (c : Dev nD) (t : Fin cfg0.N) (h0 : ¬t.val % 32 = 0) :
    (outsAt0 m c t.val t.isLt).2.2.1 = dr2tAt (blk m c t) := by
  rw [outsAt0_B m c t h0]
  dsimp only
  unfold out0_B_12
  refine (View.read_writes_eq_canon _ _ _ (fun y => by apply cover0_B_12)).trans ?_
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [dr2tAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

end Cert.KerRead

end
-- ==== Proof.KerReadB.lean ====
/- The blocks the body fills anew at every grid point, those of the backward half. -/
module

public import proofs.«01_k».proof.Proof.KerBlk
public import Idealize.ShloMosaic.Lib.Tactic

@[expose] public section

noncomputable section

namespace Cert.KerRead

open Cert.KernelIdeal Cert.KernelIdeal.Gen Cert.KerTile Idealize.ShloMosaic Idealize.ShloMosaic.TcCoe Idealize.SL.Sem
open Idealize.ShloMosaic.Pipeline (Dat)

variable {F : FTy → Type} [FloatOps F] (m : (ℓ : Loc nD τ sig) → Buf (Elt F) ℓ)

set_option maxRecDepth 16384 in
set_option maxHeartbeats 2000000 in
theorem dpre_A (c : Dev nD) (t : Fin cfg0.N) (h0 : t.val % 32 = 0) :
    (outsAt0 m c t.val t.isLt).2.2.2.1 = dpreAt (blk m c t) := by
  rw [outsAt0_A m c t h0]
  dsimp only
  unfold out0_A_13
  refine (View.read_writes_eq_canon _ _ _ (fun y => by apply cover0_A_13)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [dpreAt, back0, back1, back2, back3, back, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dpre_B (c : Dev nD) (t : Fin cfg0.N) (h0 : ¬t.val % 32 = 0) :
    (outsAt0 m c t.val t.isLt).2.2.2.1 = dpreAt (blk m c t) := by
  rw [outsAt0_B m c t h0]
  dsimp only
  unfold out0_B_13
  refine (View.read_writes_eq_canon _ _ _ (fun y => by apply cover0_B_13)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [dpreAt, back0, back1, back2, back3, back, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dx1_A (c : Dev nD) (t : Fin cfg0.N) (h0 : t.val % 32 = 0) :
    (outsAt0 m c t.val t.isLt).2.2.2.2.1 = dx1At (blk m c t) := by
  rw [outsAt0_A m c t h0]
  dsimp only
  unfold out0_A_14
  refine (View.read_writes_eq_canon _ _ _ (fun y => by apply cover0_A_14)).trans ?_
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [dx1At, back0, back1, back2, back3, back, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dx1_B (c : Dev nD) (t : Fin cfg0.N) (h0 : ¬t.val % 32 = 0) :
    (outsAt0 m c t.val t.isLt).2.2.2.2.1 = dx1At (blk m c t) := by
  rw [outsAt0_B m c t h0]
  dsimp only
  unfold out0_B_14
  refine (View.read_writes_eq_canon _ _ _ (fun y => by apply cover0_B_14)).trans ?_
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [dx1At, back0, back1, back2, back3, back, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

end Cert.KerRead

end
-- ==== Proof.KerReadC.lean ====
/- The accumulated rows: the first point starts them from zero, every later point from what the point before left. -/
module

public import proofs.«01_k».proof.Proof.KerBlk
public import Idealize.ShloMosaic.Lib.Tactic

@[expose] public section

noncomputable section

namespace Cert.KerRead

open Cert.KernelIdeal Cert.KernelIdeal.Gen Cert.KerTile Idealize.ShloMosaic Idealize.ShloMosaic.TcCoe Idealize.SL.Sem
open Idealize.ShloMosaic.Pipeline (Dat)

variable {F : FTy → Type} [FloatOps F] (m : (ℓ : Loc nD τ sig) → Buf (Elt F) ℓ)

set_option maxRecDepth 16384 in
set_option maxHeartbeats 2000000 in
theorem loss_A (c : Dev nD) (t : Fin cfg0.N) (h0 : t.val % 32 = 0) :
    (outsAt0 m c t.val t.isLt).2.2.2.2.2.1 = lossAt (blk m c t) (k0_pay2 (F := F)) := by
  rw [outsAt0_A m c t h0]
  dsimp only
  unfold out0_A_15
  refine (View.read_writes_eq_canon _ _ _ (fun y => by apply cover0_A_15)).trans ?_
  unfold kernelRun0_A
  dsimp only
  rw [View.canon_cons_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, View.readCov_cons_toLoadRect]
  simp only [lossAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem loss_B (c : Dev nD) (t : Fin cfg0.N) (h0 : ¬t.val % 32 = 0) :
    (outsAt0 m c t.val t.isLt).2.2.2.2.2.1 = lossAt (blk m c t) (outsAt0 m c (t.val - 1) (by omega)).2.2.2.2.2.1 := by
  rw [outsAt0_B m c t h0]
  dsimp only
  unfold out0_B_15
  refine (View.read_writes_eq_canon _ _ _ (fun y => by apply cover0_B_15)).trans ?_
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, (hs0_15 t).read_unread]
  simp only [lossAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dl2g_A (c : Dev nD) (t : Fin cfg0.N) (h0 : t.val % 32 = 0) :
    (outsAt0 m c t.val t.isLt).2.2.2.2.2.2.1 = dl2gAt (blk m c t) (k0_pay3 (F := F)) := by
  rw [outsAt0_A m c t h0]
  dsimp only
  unfold out0_A_16
  refine (View.read_writes_eq_canon _ _ _ (fun y => by apply cover0_A_16)).trans ?_
  unfold kernelRun0_A
  dsimp only
  rw [View.canon_cons_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, View.readCov_cons_toLoadRect]
  simp only [dl2gAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dl2g_B (c : Dev nD) (t : Fin cfg0.N) (h0 : ¬t.val % 32 = 0) :
    (outsAt0 m c t.val t.isLt).2.2.2.2.2.2.1 = dl2gAt (blk m c t) (outsAt0 m c (t.val - 1) (by omega)).2.2.2.2.2.2.1 := by
  rw [outsAt0_B m c t h0]
  dsimp only
  unfold out0_B_16
  refine (View.read_writes_eq_canon _ _ _ (fun y => by apply cover0_B_16)).trans ?_
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, (hs0_16 t).read_unread]
  simp only [dl2gAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dl2b_A (c : Dev nD) (t : Fin cfg0.N) (h0 : t.val % 32 = 0) :
    (outsAt0 m c t.val t.isLt).2.2.2.2.2.2.2.1 = dl2bAt (blk m c t) (k0_pay4 (F := F)) := by
  rw [outsAt0_A m c t h0]
  dsimp only
  unfold out0_A_17
  refine (View.read_writes_eq_canon _ _ _ (fun y => by apply cover0_A_17)).trans ?_
  unfold kernelRun0_A
  dsimp only
  rw [View.canon_cons_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, View.readCov_cons_toLoadRect]
  simp only [dl2bAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dl2b_B (c : Dev nD) (t : Fin cfg0.N) (h0 : ¬t.val % 32 = 0) :
    (outsAt0 m c t.val t.isLt).2.2.2.2.2.2.2.1 = dl2bAt (blk m c t) (outsAt0 m c (t.val - 1) (by omega)).2.2.2.2.2.2.2.1 := by
  rw [outsAt0_B m c t h0]
  dsimp only
  unfold out0_B_17
  refine (View.read_writes_eq_canon _ _ _ (fun y => by apply cover0_B_17)).trans ?_
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, (hs0_17 t).read_unread]
  simp only [dl2bAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dbdn_A (c : Dev nD) (t : Fin cfg0.N) (h0 : t.val % 32 = 0) :
    (outsAt0 m c t.val t.isLt).2.2.2.2.2.2.2.2.1 = dbdnAt (blk m c t) (k0_pay5 (F := F)) := by
  rw [outsAt0_A m c t h0]
  dsimp only
  unfold out0_A_18
  refine (View.read_writes_eq_canon _ _ _ (fun y => by apply cover0_A_18)).trans ?_
  unfold kernelRun0_A
  dsimp only
  rw [View.canon_cons_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, View.readCov_cons_toLoadRect]
  simp only [dbdnAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dbdn_B (c : Dev nD) (t : Fin cfg0.N) (h0 : ¬t.val % 32 = 0) :
    (outsAt0 m c t.val t.isLt).2.2.2.2.2.2.2.2.1 = dbdnAt (blk m c t) (outsAt0 m c (t.val - 1) (by omega)).2.2.2.2.2.2.2.2.1 := by
  rw [outsAt0_B m c t h0]
  dsimp only
  unfold out0_B_18
  refine (View.read_writes_eq_canon _ _ _ (fun y => by apply cover0_B_18)).trans ?_
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, (hs0_18 t).read_unread]
  simp only [dbdnAt, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

end Cert.KerRead

end
-- ==== Proof.KerReadD.lean ====
/- The bias row summed a quarter at a time: the first point starts them from zero, every later point from what the point before left. -/
module

public import proofs.«01_k».proof.Proof.KerBlk
public import Idealize.ShloMosaic.Lib.Tactic

@[expose] public section

noncomputable section

namespace Cert.KerRead

open Cert.KernelIdeal Cert.KernelIdeal.Gen Cert.KerTile Idealize.ShloMosaic Idealize.ShloMosaic.TcCoe Idealize.SL.Sem
open Idealize.ShloMosaic.Pipeline (Dat)

variable {F : FTy → Type} [FloatOps F] (m : (ℓ : Loc nD τ sig) → Buf (Elt F) ℓ)

set_option maxRecDepth 16384 in
set_option maxHeartbeats 2000000 in
theorem dbup_A (c : Dev nD) (t : Fin cfg0.N) (h0 : t.val % 32 = 0) :
    (outsAt0 m c t.val t.isLt).2.2.2.2.2.2.2.2.2 = View.canon (dbupFour (blk m c t) (ms0_19 t).view) := by
  rw [outsAt0_A m c t h0]
  dsimp only
  unfold out0_A_19
  refine (View.read_writes_eq_canon _ _ _ (fun y => by apply cover0_A_19)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz]
  simp only [dbupFour, dbupThree, dbupTwo, dbupOne, dbupZero, back0, back1, back2, back3, back, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

set_option maxRecDepth 16384 in
set_option maxHeartbeats 2000000 in
theorem dbup_B (c : Dev nD) (t : Fin cfg0.N) (h0 : ¬t.val % 32 = 0) :
    (outsAt0 m c t.val t.isLt).2.2.2.2.2.2.2.2.2 = View.canon (dbupCells (blk m c t)
      (part0 (outsAt0 m c (t.val - 1) (by omega)).2.2.2.2.2.2.2.2.2) (part1 (outsAt0 m c (t.val - 1) (by omega)).2.2.2.2.2.2.2.2.2)
      (part2 (outsAt0 m c (t.val - 1) (by omega)).2.2.2.2.2.2.2.2.2) (part3 (outsAt0 m c (t.val - 1) (by omega)).2.2.2.2.2.2.2.2.2) []) := by
  rw [outsAt0_B m c t h0]
  dsimp only
  unfold out0_B_19
  refine (View.read_writes_eq_canon _ _ _ (fun y => by apply cover0_B_19)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
    View.ld_unit_zero (S := S256x1024) hz, View.ld_unit_zero (S := S1x1024) hz, View.ld_unit_zero (S := S1x128) hz, (hs0_19 t).read_unread]
  simp only [dbupCells, part0, part1, part2, part3, back0, back1, back2, back3, back, Blk.up0, Blk.up1, Blk.up2, Blk.up3, Blk.dn0, Blk.dn1, Blk.dn2, Blk.dn3, Blk.bu0, Blk.bu1, Blk.bu2, Blk.bu3,
    Blk.xin, Blk.rl0, Blk.pr1, Blk.pr2, Blk.pr3, Blk.rl1, Blk.rl2, Blk.rl3, Blk.hb0, Blk.hb1, Blk.hb2, Blk.r2, Blk.mu,
    Blk.mub, Blk.rs, Blk.xh2, Blk.err, Blk.dy, Blk.dr2, Blk.dr2b, blk]

end Cert.KerRead

end
-- ==== Proof.RefValue.lean ====
/- The real numbers the reference's arrays hold, operation by operation along its own list, and from them its ten
   results. -/
module

public import proofs.«01_k».proof.Proof.Norms
public import proofs.«01_k».proof.Proof.Gen.ReferenceIdeal.Run

@[expose] public section

noncomputable section

open scoped BigOperators

namespace Cert.RefValue

open Idealize.ShloMosaic hiding ix0 ix1 ix2 eq_ix2
open Idealize.ShloMosaic.ValueIdx
open Cert.Reals Cert.Rows Cert.Norms
open Cert.ReferenceIdeal Cert.ReferenceIdeal.Value

/-- The arguments hold real numbers: the rows `r` of the first residual sum, the targets `t`, the parameters `P`. -/
structure Args (V0 : Valuation τ sig (Elt Ideal)) (r t : Fin 8192 → Row) (P : Par) : Prop where
  a0 : Is2 (φ := .f32) (m := 8192) (n := 1024) (V0 (Proc.devRef .tc main_arg0)) r
  a1 : Is2 (φ := .f32) (m := 8192) (n := 1024) (V0 (Proc.devRef .tc main_arg1)) t
  a2 : Is2 (φ := .f32) (m := 1) (n := 1024) (V0 (Proc.devRef .tc main_arg2)) (fun _ => P.g1)
  a3 : Is2 (φ := .f32) (m := 1) (n := 1024) (V0 (Proc.devRef .tc main_arg3)) (fun _ => P.b1)
  a4 : Is2 (φ := .f32) (m := 1024) (n := 4096) (V0 (Proc.devRef .tc main_arg4)) P.wu
  a5 : Is2 (φ := .f32) (m := 1) (n := 4096) (V0 (Proc.devRef .tc main_arg5)) (fun _ => P.bu)
  a6 : Is2 (φ := .f32) (m := 4096) (n := 1024) (V0 (Proc.devRef .tc main_arg6)) P.wd
  a7 : Is2 (φ := .f32) (m := 1) (n := 1024) (V0 (Proc.devRef .tc main_arg7)) (fun _ => P.bd)
  a8 : Is2 (φ := .f32) (m := 1) (n := 1024) (V0 (Proc.devRef .tc main_arg8)) (fun _ => P.g2)
  a9 : Is2 (φ := .f32) (m := 1) (n := 1024) (V0 (Proc.devRef .tc main_arg9)) (fun _ => P.b2)

variable {V0 : Valuation τ sig (Elt Ideal)} {r t : Fin 8192 → Row} {P : Par}

/-- The rows that enter the feed-forward block. -/
def xin (P : Par) (r : Fin 8192 → Row) (i : Fin 8192) : Row := P.x1 (xhat (r i))

def zero0 : Is0 (constant (F := Ideal) S_ .f32 0x00000000#32) 0 := Is0.splat word_zero

theorem v3 (A : Args V0 r t P) : Is2 (φ := .f32) (m := 8192) (n := 1) (res_main_v3 V0) (fun i _ => mean (r i)) :=
  hmean A.a0 zero0 _ _ _ _

theorem v5 (A : Args V0 r t P) : Is2 (φ := .f32) (m := 8192) (n := 1024) (res_main_v5 V0) (fun i j => r i j - mean (r i)) :=
  A.a0.sub ((v3 A).hcol _)

theorem v21 (A : Args V0 r t P) : Is2 (φ := .f32) (m := 8192) (n := 1024) (res_main_v21 V0) (xin P r) :=
  ((((A.a0.sub ((v3 A).hcol _)).mul
    ((((hmean ((v5 A).mul (v5 A)) zero0 _ _ _ _).add ((Is0.splat word_eps).spread _)).hrsqrt
      fun i _ => variance_eps_pos (r i)).hcol _)).mul (A.a2.hrow _)).add (A.a3.hrow _))

theorem v27 (A : Args V0 r t P) :
    Is2 (φ := .f32) (m := 8192) (n := 4096) (res_main_v27 V0) (fun i => P.pre (xin P r i)) :=
  ((((v21 A).hdot rfl A.a4).add (A.a5.hrow _)).add ((Is0.splat word_zero).spread _)).congr fun i f => by
    rw [add_zero]; rfl

theorem v28 (A : Args V0 r t P) :
    Is2 (φ := .f32) (m := 8192) (n := 4096) (res_main_v28 V0) (fun i => P.rl (xin P r i)) :=
  (v27 A).max ((Is0.splat word_zero).spread _)

theorem v32 (A : Args V0 r t P) :
    Is2 (φ := .f32) (m := 8192) (n := 4096) (res_main_v32 V0) (fun i => P.hdn (xin P r i)) :=
  (v28 A).mul (v28 A)

theorem v41 (A : Args V0 r t P) :
    Is2 (φ := .f32) (m := 8192) (n := 1024) (res_main_v41 V0) (fun i => P.r2 (xin P r i)) :=
  ((((((Is0.splat word_alpha).spread _).mul (v21 A)).add ((v32 A).hdot rfl A.a6)).add (A.a7.hrow _)).add
    ((Is0.splat word_zero).spread _)).congr fun i f => by
      rw [add_zero]; rfl

theorem v45 (A : Args V0 r t P) :
    Is2 (φ := .f32) (m := 8192) (n := 1) (res_main_v45 V0) (fun i _ => mean (P.r2 (xin P r i))) :=
  hmean (v41 A) zero0 _ _ _ _

theorem v47 (A : Args V0 r t P) : Is2 (φ := .f32) (m := 8192) (n := 1024) (res_main_v47 V0)
    (fun i j => P.r2 (xin P r i) j - mean (P.r2 (xin P r i))) :=
  (v41 A).sub ((v45 A).hcol _)

theorem v56 (A : Args V0 r t P) : Is2 (φ := .f32) (m := 8192) (n := 1024) (res_main_v56 V0)
    (fun i j => P.r2 (xin P r i) j - mean (P.r2 (xin P r i))) :=
  (v41 A).sub ((v45 A).hcol _)

theorem v58 (A : Args V0 r t P) : Is2 (φ := .f32) (m := 8192) (n := 1) (res_main_v58 V0)
    (fun i _ => variance (P.r2 (xin P r i)) + eps) :=
  (hmean ((v47 A).mul (v47 A)) zero0 _ _ _ _).add ((Is0.splat word_eps).spread _)

theorem v59 (A : Args V0 r t P) : Is2 (φ := .f32) (m := 8192) (n := 1) (res_main_v59 V0) (fun i _ => rstd (P.r2 (xin P r i))) :=
  (v58 A).hrsqrt fun _ _ => variance_eps_pos _

theorem v64 (A : Args V0 r t P) :
    Is2 (φ := .f32) (m := 8192) (n := 1024) (res_main_v64 V0) (fun i => xhat (P.r2 (xin P r i))) :=
  (v56 A).mul ((v59 A).hcol _)

theorem v69 (A : Args V0 r t P) :
    Is2 (φ := .f32) (m := 8192) (n := 1024) (res_main_v69 V0) (fun i => P.err (xin P r i) (t i)) :=
  (((v64 A).mul (A.a8.hrow _)).add (A.a9.hrow _)).sub A.a1

theorem v83 (A : Args V0 r t P) :
    Is2 (φ := .f32) (m := 8192) (n := 1024) (res_main_v83 V0) (fun i => P.dy (xin P r i) (t i)) :=
  ((((((Is0.splat word_half).mul (Is0.splat word_one)).spread1 _).hdiv ((Is0.splat word_1024).spread1 _)
    fun _ => by norm_num).hcol _).mul (((Is0.splat word_two).spread _).mul (v69 A))).congr fun i j => by
      unfold Par.dy; ring

theorem v90 (A : Args V0 r t P) :
    Is2 (φ := .f32) (m := 8192) (n := 1024) (res_main_v90 V0) (fun i j => P.dy (xin P r i) (t i) j * P.g2 j) :=
  (v83 A).mul (A.a8.hrow _)

theorem v95 (A : Args V0 r t P) : Is2 (φ := .f32) (m := 8192) (n := 1024) (res_main_v95 V0)
    (fun i j => P.dy (xin P r i) (t i) j * P.g2 j * rstd (P.r2 (xin P r i))) :=
  (v90 A).mul ((v59 A).hcol _)

theorem v104 (A : Args V0 r t P) : Is2 (φ := .f32) (m := 8192) (n := 1024) (res_main_v104 V0)
    (fun i => varBack (fun j => P.dy (xin P r i) (t i) j * P.g2 j) (fun j => P.r2 (xin P r i) j - mean (P.r2 (xin P r i)))
      (rstd (P.r2 (xin P r i))) (variance (P.r2 (xin P r i)) + eps)) :=
  (((((((((v56 A).mul (v90 A)).hrowSums zero0 _ _).toCol _).mul
    (((Is0.splat word_neg_half).spread _).mul ((v59 A).hdiv (v58 A) fun _ _ => (variance_eps_pos _).ne'))).hdiv
      ((Is0.splat word_1024).spread _) ne1024).hrowSums zero0 _ _).hcol _).mul
        (((Is0.splat word_two).spread _).mul (v47 A)))

theorem v114 (A : Args V0 r t P) :
    Is2 (φ := .f32) (m := 8192) (n := 1024) (res_main_v114 V0) (fun i => P.dr2 (xin P r i) (t i)) :=
  (((v95 A).add (v104 A)).add ((((((v95 A).hneg.hrowSums zero0 _ _).toCol _).add
    (((v104 A).hneg.hrowSums zero0 _ _).toCol _)).hdiv ((Is0.splat word_1024).spread _) ne1024).hrowSums zero0 _ _ |>.hcol _)).congr
      fun i j => congrFun (lnPull_eq (fun j => P.dy (xin P r i) (t i) j * P.g2 j) (P.r2 (xin P r i))) j

theorem v122 (A : Args V0 r t P) :
    Is2 (φ := .f32) (m := 8192) (n := 4096) (res_main_v122 V0) (fun i => P.dpre (xin P r i) (t i)) :=
  ((v27 A).gtSelect ((Is0.splat word_zero).spread _) (((v114 A).hdotT rfl A.a6).mul
    (((Is0.splat word_two).spread _).mul (v28 A))) ((Is0.splat word_zero).spread _)).congr fun i f => P.dpre_select _ _ f

end Cert.RefValue

end
-- ==== Proof.RefOut.lean ====
/- The reference's ten results as arrays of real numbers, each a formula of its row or a sum over all rows. -/
module

public import proofs.«01_k».proof.Proof.RefValue

@[expose] public section

noncomputable section

open scoped BigOperators

namespace Cert.RefValue

open Idealize.ShloMosaic hiding ix0 ix1 ix2 eq_ix2
open Idealize.ShloMosaic.ValueIdx
open Idealize.SL.Sem Idealize.ShloMosaic.StableHlo
open Cert.Reals Cert.Rows Cert.Norms
open Cert.ReferenceIdeal Cert.ReferenceIdeal.Gen Cert.ReferenceIdeal.Value

/-- An array that is another one holds what it holds. -/
theorem is_of_eq {φ : FTy} {m n : ℕ} {v w : FVec Ideal ⟨2, ![m, n]⟩ φ} {f : Fin m → Fin n → ℝ} (e : v = w) (h : Is2 w f) : Is2 v f :=
  e ▸ h

/-- The ten results of the block over all rows. -/
structure Results (r t : Fin 8192 → Row) (P : Par) (x1t : FVec Ideal ⟨2, ![1024, 8192]⟩ .bf16) (hdn : FVec Ideal ⟨2, ![8192, 4096]⟩ .bf16)
    (dr2t : FVec Ideal ⟨2, ![1024, 8192]⟩ .bf16) (dpre : FVec Ideal ⟨2, ![8192, 4096]⟩ .bf16)
    (dx1 : FVec Ideal ⟨2, ![8192, 1024]⟩ .f32) (loss : FVec Ideal ⟨2, ![1, 128]⟩ .f32)
    (dl2g dl2b dbdn : FVec Ideal ⟨2, ![1, 1024]⟩ .f32) (dbup : FVec Ideal ⟨2, ![1, 4096]⟩ .f32) : Prop where
  x1t : Is2 x1t (fun j i => xin P r i j)
  hdn : Is2 hdn (fun i => P.hdn (xin P r i))
  dr2t : Is2 dr2t (fun j i => P.dr2 (xin P r i) (t i) j)
  dpre : Is2 dpre (fun i => P.dpre (xin P r i) (t i))
  dx1 : Is2 dx1 (fun i => P.dx1 (xin P r i) (t i))
  loss : Is2 loss (fun _ _ => ∑ i, P.loss (xin P r i) (t i) * (1 / 2048))
  dl2g : Is2 dl2g (fun _ j => ∑ i, P.dy (xin P r i) (t i) j * xhat (P.r2 (xin P r i)) j)
  dl2b : Is2 dl2b (fun _ j => ∑ i, P.dy (xin P r i) (t i) j)
  dbdn : Is2 dbdn (fun _ j => ∑ i, P.dr2 (xin P r i) (t i) j)
  dbup : Is2 dbup (fun _ f => ∑ i, P.dpre (xin P r i) (t i) f)

variable {r t : Fin 8192 → Row} {P : Par}

/-- What the reference leaves, from arguments that hold real numbers; the arguments stay. -/
theorem results (m : (ℓ : Loc nD τ sig) → Buf (Elt Ideal) ℓ) (ρ : Dev nD → PrngReg)
    (A : ∀ c : Dev nD, Args (launchContents m c) r t P) :
    θ_run defs (onTc (τ := τ) (main (F := Ideal))) ⟨m, fun _ => 0, ρ⟩ fun x => ∀ c : Dev nD,
      Results r t P (x.2.mem ((c.tc : Thread nD τ).loc main_v128)) (x.2.mem ((c.tc : Thread nD τ).loc main_v129))
        (x.2.mem ((c.tc : Thread nD τ).loc main_v131)) (x.2.mem ((c.tc : Thread nD τ).loc main_v132))
        (x.2.mem ((c.tc : Thread nD τ).loc main_v126)) (x.2.mem ((c.tc : Thread nD τ).loc main_v133))
        (x.2.mem ((c.tc : Thread nD τ).loc main_v88)) (x.2.mem ((c.tc : Thread nD τ).loc main_v85))
        (x.2.mem ((c.tc : Thread nD τ).loc main_v116)) (x.2.mem ((c.tc : Thread nD τ).loc main_v124))
      ∧ x.2.mem ((c.tc : Thread nD τ).loc main_arg0) = m ((c.tc : Thread nD τ).loc main_arg0)
      ∧ x.2.mem ((c.tc : Thread nD τ).loc main_arg1) = m ((c.tc : Thread nD τ).loc main_arg1)
      ∧ x.2.mem ((c.tc : Thread nD τ).loc main_arg2) = m ((c.tc : Thread nD τ).loc main_arg2)
      ∧ x.2.mem ((c.tc : Thread nD τ).loc main_arg3) = m ((c.tc : Thread nD τ).loc main_arg3)
      ∧ x.2.mem ((c.tc : Thread nD τ).loc main_arg4) = m ((c.tc : Thread nD τ).loc main_arg4)
      ∧ x.2.mem ((c.tc : Thread nD τ).loc main_arg5) = m ((c.tc : Thread nD τ).loc main_arg5)
      ∧ x.2.mem ((c.tc : Thread nD τ).loc main_arg6) = m ((c.tc : Thread nD τ).loc main_arg6)
      ∧ x.2.mem ((c.tc : Thread nD τ).loc main_arg7) = m ((c.tc : Thread nD τ).loc main_arg7)
      ∧ x.2.mem ((c.tc : Thread nD τ).loc main_arg8) = m ((c.tc : Thread nD τ).loc main_arg8)
      ∧ x.2.mem ((c.tc : Thread nD τ).loc main_arg9) = m ((c.tc : Thread nD τ).loc main_arg9) :=
  (θ_run defs _ _).mono (fun _ h c => by
    obtain ⟨h0, h1, h2, h3, h4, h5, h6, h7, h8, h9, keep⟩ := h c
    exact ⟨{
      x1t := is_of_eq h0 (((v21 (A c)).transpose _).trunc bitsLt_bf16_f32)
      hdn := is_of_eq h1 ((v32 (A c)).trunc bitsLt_bf16_f32)
      dr2t := is_of_eq h2 (((v114 (A c)).transpose _).trunc bitsLt_bf16_f32)
      dpre := is_of_eq h3 ((v122 (A c)).trunc bitsLt_bf16_f32)
      dx1 := is_of_eq h4 (((((Is0.splat word_alpha).spread _).mul (v114 (A c))).add ((v122 (A c)).hdotT rfl (A c).a4)).congr
        fun i j => rfl)
      loss := is_of_eq h5 ((((Is0.splat word_half).mul (((((v69 (A c)).mul (v69 (A c))).hrowSums zero0 _ _).hdiv
        ((Is0.splat word_1024).spread1 _) fun _ => by norm_num).hsum zero0 _ _)).spread _).congr fun _ _ => by
          rw [Finset.mul_sum]
          refine Finset.sum_congr rfl fun i _ => ?_
          unfold Par.loss
          ring)
      dl2g := is_of_eq h6 (((((v64 (A c)).mul (v83 (A c))).hcolSums zero0 _ _).toRow _).congr fun _ j =>
        Finset.sum_congr rfl fun i _ => mul_comm _ _)
      dl2b := is_of_eq h7 (((v83 (A c)).hcolSums zero0 _ _).toRow _)
      dbdn := is_of_eq h8 (((v114 (A c)).hcolSums zero0 _ _).toRow _)
      dbup := is_of_eq h9 (((v122 (A c)).hcolSums zero0 _ _).toRow _) }, keep⟩) (run m ρ)

end Cert.RefValue

end
-- ==== Proof.KerFin.lean ====
/- The kernel's ten output arrays after the run: five that each grid point writes its own rows of, five that all grid points
   add into and the last one writes back. -/
module

public import proofs.«01_k».proof.Proof.KerHost
public import proofs.«01_k».proof.Proof.KerOut
public import proofs.«01_k».proof.Proof.KerReadA
public import proofs.«01_k».proof.Proof.KerReadB
public import proofs.«01_k».proof.Proof.KerReadC
public import proofs.«01_k».proof.Proof.KerReadD
public import proofs.«01_k».proof.Proof.RefOut

@[expose] public section

noncomputable section

open scoped BigOperators

namespace Cert.KerFin

open Cert.KernelIdeal Cert.KernelIdeal.Gen Idealize.ShloMosaic.TcCoe
open Idealize.ShloMosaic hiding ix0 ix1 ix2 eq_ix2
open Idealize.ShloMosaic.ValueIdx
open Idealize.SL.Sem
open Cert.Reals Cert.Rows Cert.Norms Cert.KerTile Cert.KerRead Cert.KerOut Cert.KerHost
open Cert.RefValue (is_of_eq xin Results)

/-! ### Rows by grid point -/

theorem exists_tileRow (n : Fin 8192) : ∃ (t : Fin cfg0.N) (i : Fin 256), n = tileRow t i :=
  ⟨⟨n.val / 256, by have : cfg0.N = 32 := N_0; omega⟩, ⟨n.val % 256, by omega⟩, Fin.ext (by
    show n.val = n.val / 256 * 256 + n.val % 256
    omega)⟩

/-- What the rows of grid point `s` add up to. -/
def tileSum (g : Fin 8192 → ℝ) (s : ℕ) : ℝ := if h : s < 32 then ∑ i : Fin 256, g ⟨s * 256 + i.val, by omega⟩ else 0

theorem tileSum_eq (g : Fin 8192 → ℝ) (t : Fin cfg0.N) : tileSum g t.val = ∑ i, g (tileRow t i) := by
  have h : t.val < 32 := lt_of_lt_of_eq t.isLt N_0
  unfold tileSum
  rw [dif_pos h]
  rfl

theorem tileSum_all (g : Fin 8192 → ℝ) : ∑ s ∈ Finset.range 32, tileSum g s = ∑ n, g n := by
  rw [sum_tiles, Finset.sum_range]
  exact Finset.sum_congr rfl fun t _ => by unfold tileSum; rw [dif_pos t.isLt]

/-- A row that the first grid point starts from zero and every later one adds its rows to. -/
theorem fold {k : ℕ} (a : ∀ n, n < cfg0.N → FVec Ideal ⟨2, ![1, k]⟩ .f32) (g : Fin k → Fin 8192 → ℝ)
    (hA : ∀ t : Fin cfg0.N, t.val % 32 = 0 → Is2 (a t.val t.isLt) (fun _ j => 0 + ∑ i, g j (tileRow t i)))
    (hB : ∀ t : Fin cfg0.N, ¬t.val % 32 = 0 → Is2 (a (t.val - 1) (by omega)) (fun _ j => ∑ s ∈ Finset.range t.val, tileSum (g j) s) →
      Is2 (a t.val t.isLt) (fun _ j => (∑ s ∈ Finset.range t.val, tileSum (g j) s) + ∑ i, g j (tileRow t i))) :
    ∀ n (h : n < cfg0.N), Is2 (a n h) (fun _ j => ∑ s ∈ Finset.range (n + 1), tileSum (g j) s)
  | 0, h => (hA ⟨0, h⟩ rfl).congr fun _ j => by
      rw [← tileSum_eq (g j) ⟨0, h⟩, Finset.sum_range_one, zero_add]
  | n + 1, h => (hB ⟨n + 1, h⟩ (by have : cfg0.N = 32 := N_0; show ¬(n + 1) % 32 = 0; omega) (fold a g hA hB n (by omega))).congr
      fun _ j => by rw [← tileSum_eq (g j) ⟨n + 1, h⟩]; exact (Finset.sum_range_succ _ _).symm

/-- The last grid point. -/
def last : Fin cfg0.N := ⟨31, by have : cfg0.N = 32 := N_0; omega⟩

theorem fold_last {k : ℕ} {a : ∀ n, n < cfg0.N → FVec Ideal ⟨2, ![1, k]⟩ .f32} {g : Fin k → Fin 8192 → ℝ}
    (h : ∀ n (h : n < cfg0.N), Is2 (a n h) (fun _ j => ∑ s ∈ Finset.range (n + 1), tileSum (g j) s)) :
    Is2 (a last.val last.isLt) (fun _ j => ∑ n, g j n) :=
  (h 31 last.isLt).congr fun _ j => tileSum_all (g j)

/-! ### Where an element of an output block sits in its array -/

theorem idx10 : ∀ t : Fin cfg0.N, win0_10.index t 0 = 0 ∧ win0_10.index t 1 = t.val :=
  (by decide +kernel : ∀ t : Fin grid0.N, _)
theorem emb10 (t : Fin cfg0.N) (i : Fin 1024) (j : Fin 256) :
    (win0_10.blk t).view.emb (ix2 (n0 := 1024) (n1 := 256) i j) = ix2 (n0 := 1024) (n1 := 8192) i (tileRow t j) := by
  blk_ext [(idx10 t).1, (idx10 t).2, tileRow]
theorem idx11 : ∀ t : Fin cfg0.N, win0_11.index t 0 = t.val ∧ win0_11.index t 1 = 0 :=
  (by decide +kernel : ∀ t : Fin grid0.N, _)
theorem emb11 (t : Fin cfg0.N) (i : Fin 256) (j : Fin 4096) :
    (win0_11.blk t).view.emb (ix2 (n0 := 256) (n1 := 4096) i j) = ix2 (n0 := 8192) (n1 := 4096) (tileRow t i) j := by
  blk_ext [(idx11 t).1, (idx11 t).2, tileRow]
theorem idx12 : ∀ t : Fin cfg0.N, win0_12.index t 0 = 0 ∧ win0_12.index t 1 = t.val :=
  (by decide +kernel : ∀ t : Fin grid0.N, _)
theorem emb12 (t : Fin cfg0.N) (i : Fin 1024) (j : Fin 256) :
    (win0_12.blk t).view.emb (ix2 (n0 := 1024) (n1 := 256) i j) = ix2 (n0 := 1024) (n1 := 8192) i (tileRow t j) := by
  blk_ext [(idx12 t).1, (idx12 t).2, tileRow]
theorem idx13 : ∀ t : Fin cfg0.N, win0_13.index t 0 = t.val ∧ win0_13.index t 1 = 0 :=
  (by decide +kernel : ∀ t : Fin grid0.N, _)
theorem emb13 (t : Fin cfg0.N) (i : Fin 256) (j : Fin 4096) :
    (win0_13.blk t).view.emb (ix2 (n0 := 256) (n1 := 4096) i j) = ix2 (n0 := 8192) (n1 := 4096) (tileRow t i) j := by
  blk_ext [(idx13 t).1, (idx13 t).2, tileRow]
theorem idx14 : ∀ t : Fin cfg0.N, win0_14.index t 0 = t.val ∧ win0_14.index t 1 = 0 :=
  (by decide +kernel : ∀ t : Fin grid0.N, _)
theorem emb14 (t : Fin cfg0.N) (i : Fin 256) (j : Fin 1024) :
    (win0_14.blk t).view.emb (ix2 (n0 := 256) (n1 := 1024) i j) = ix2 (n0 := 8192) (n1 := 1024) (tileRow t i) j := by
  blk_ext [(idx14 t).1, (idx14 t).2, tileRow]
theorem idx15 : ∀ t : Fin cfg0.N, win0_15.index t 0 = 0 ∧ win0_15.index t 1 = 0 :=
  (by decide +kernel : ∀ t : Fin grid0.N, _)
theorem emb15 (t : Fin cfg0.N) (i : Fin 1) (j : Fin 128) :
    (win0_15.blk t).view.emb (ix2 (n0 := 1) (n1 := 128) i j) = ix2 (n0 := 1) (n1 := 128) i j := by
  blk_ext [(idx15 t).1, (idx15 t).2]
theorem idx16 : ∀ t : Fin cfg0.N, win0_16.index t 0 = 0 ∧ win0_16.index t 1 = 0 :=
  (by decide +kernel : ∀ t : Fin grid0.N, _)
theorem emb16 (t : Fin cfg0.N) (i : Fin 1) (j : Fin 1024) :
    (win0_16.blk t).view.emb (ix2 (n0 := 1) (n1 := 1024) i j) = ix2 (n0 := 1) (n1 := 1024) i j := by
  blk_ext [(idx16 t).1, (idx16 t).2]
theorem idx17 : ∀ t : Fin cfg0.N, win0_17.index t 0 = 0 ∧ win0_17.index t 1 = 0 :=
  (by decide +kernel : ∀ t : Fin grid0.N, _)
theorem emb17 (t : Fin cfg0.N) (i : Fin 1) (j : Fin 1024) :
    (win0_17.blk t).view.emb (ix2 (n0 := 1) (n1 := 1024) i j) = ix2 (n0 := 1) (n1 := 1024) i j := by
  blk_ext [(idx17 t).1, (idx17 t).2]
theorem idx18 : ∀ t : Fin cfg0.N, win0_18.index t 0 = 0 ∧ win0_18.index t 1 = 0 :=
  (by decide +kernel : ∀ t : Fin grid0.N, _)
theorem emb18 (t : Fin cfg0.N) (i : Fin 1) (j : Fin 1024) :
    (win0_18.blk t).view.emb (ix2 (n0 := 1) (n1 := 1024) i j) = ix2 (n0 := 1) (n1 := 1024) i j := by
  blk_ext [(idx18 t).1, (idx18 t).2]
theorem idx19 : ∀ t : Fin cfg0.N, win0_19.index t 0 = 0 ∧ win0_19.index t 1 = 0 :=
  (by decide +kernel : ∀ t : Fin grid0.N, _)
theorem emb19 (t : Fin cfg0.N) (i : Fin 1) (j : Fin 4096) :
    (win0_19.blk t).view.emb (ix2 (n0 := 1) (n1 := 4096) i j) = ix2 (n0 := 1) (n1 := 4096) i j := by
  blk_ext [(idx19 t).1, (idx19 t).2]

variable {m : (ℓ : Loc nD τ sig) → Buf (Elt Ideal) ℓ} {c : Dev nD} {r tg : Fin 8192 → Row} {P : Par}

/-! ### The arrays each grid point writes its rows of -/

theorem x1t_block (t : Fin cfg0.N) : (outsAt0 m c t.val t.isLt).1 = x1tAt (blk m c t) := by
  by_cases h : t.val % 32 = 0
  · exact x1t_A m c t h
  · exact x1t_B m c t h

theorem x1t_fin (A : Args m c r tg P) :
    Is2 (m := 1024) (n := 8192) (φ := .bf16) ((dats m 0 c).arrAt 10 cfg0.N) (fun j i => xin P r i j) := fun j n => by
  obtain ⟨t, i, rfl⟩ := exists_tileRow n
  exact (congrArg ((dats m 0 c).arrAt 10 cfg0.N) (emb10 t j i)).symm.trans
    ((congrFun (Cert.KernelIdeal.Value.blocks10 m c t (flush0_10 t)) (ix2 j i)).trans
      ((congrFun (Cert.KernelIdeal.Value.flushed10 m c t) (ix2 j i)).trans
        (is_of_eq (x1t_block t) (x1t_is (holds A t)) j i)))

theorem hdn_block (t : Fin cfg0.N) : (outsAt0 m c t.val t.isLt).2.1 = hdnAt (blk m c t) := by
  by_cases h : t.val % 32 = 0
  · exact hdn_A m c t h
  · exact hdn_B m c t h

theorem hdn_fin (A : Args m c r tg P) :
    Is2 (m := 8192) (n := 4096) (φ := .bf16) ((dats m 0 c).arrAt 11 cfg0.N) (fun i => P.hdn (xin P r i)) := fun n j => by
  obtain ⟨t, i, rfl⟩ := exists_tileRow n
  exact (congrArg ((dats m 0 c).arrAt 11 cfg0.N) (emb11 t i j)).symm.trans
    ((congrFun (Cert.KernelIdeal.Value.blocks11 m c t (flush0_11 t)) (ix2 i j)).trans
      ((congrFun (Cert.KernelIdeal.Value.flushed11 m c t) (ix2 i j)).trans
        (is_of_eq (hdn_block t) (hdn_is (holds A t)) i j)))

theorem dr2t_block (t : Fin cfg0.N) : (outsAt0 m c t.val t.isLt).2.2.1 = dr2tAt (blk m c t) := by
  by_cases h : t.val % 32 = 0
  · exact dr2t_A m c t h
  · exact dr2t_B m c t h

theorem dr2t_fin (A : Args m c r tg P) :
    Is2 (m := 1024) (n := 8192) (φ := .bf16) ((dats m 0 c).arrAt 12 cfg0.N) (fun j i => P.dr2 (xin P r i) (tg i) j) := fun j n => by
  obtain ⟨t, i, rfl⟩ := exists_tileRow n
  exact (congrArg ((dats m 0 c).arrAt 12 cfg0.N) (emb12 t j i)).symm.trans
    ((congrFun (Cert.KernelIdeal.Value.blocks12 m c t (flush0_12 t)) (ix2 j i)).trans
      ((congrFun (Cert.KernelIdeal.Value.flushed12 m c t) (ix2 j i)).trans
        (is_of_eq (dr2t_block t) (dr2t_is (holds A t)) j i)))

theorem dpre_block (t : Fin cfg0.N) : (outsAt0 m c t.val t.isLt).2.2.2.1 = dpreAt (blk m c t) := by
  by_cases h : t.val % 32 = 0
  · exact dpre_A m c t h
  · exact dpre_B m c t h

theorem dpre_fin (A : Args m c r tg P) :
    Is2 (m := 8192) (n := 4096) (φ := .bf16) ((dats m 0 c).arrAt 13 cfg0.N) (fun i => P.dpre (xin P r i) (tg i)) := fun n j => by
  obtain ⟨t, i, rfl⟩ := exists_tileRow n
  exact (congrArg ((dats m 0 c).arrAt 13 cfg0.N) (emb13 t i j)).symm.trans
    ((congrFun (Cert.KernelIdeal.Value.blocks13 m c t (flush0_13 t)) (ix2 i j)).trans
      ((congrFun (Cert.KernelIdeal.Value.flushed13 m c t) (ix2 i j)).trans
        (is_of_eq (dpre_block t) (dpre_is (holds A t)) i j)))

theorem dx1_block (t : Fin cfg0.N) : (outsAt0 m c t.val t.isLt).2.2.2.2.1 = dx1At (blk m c t) := by
  by_cases h : t.val % 32 = 0
  · exact dx1_A m c t h
  · exact dx1_B m c t h

theorem dx1_fin (A : Args m c r tg P) :
    Is2 (m := 8192) (n := 1024) (φ := .f32) ((dats m 0 c).arrAt 14 cfg0.N) (fun i => P.dx1 (xin P r i) (tg i)) := fun n j => by
  obtain ⟨t, i, rfl⟩ := exists_tileRow n
  exact (congrArg ((dats m 0 c).arrAt 14 cfg0.N) (emb14 t i j)).symm.trans
    ((congrFun (Cert.KernelIdeal.Value.blocks14 m c t (flush0_14 t)) (ix2 i j)).trans
      ((congrFun (Cert.KernelIdeal.Value.flushed14 m c t) (ix2 i j)).trans
        (is_of_eq (dx1_block t) (dx1_is (holds A t)) i j)))

/-! ### The arrays all grid points add into -/

theorem zero_row {n : ℕ} : Is2 (m := 1) (n := n) (broadcast ⟨2, ![1, n]⟩ (Scalar.ofBits (F := Ideal) .f32 0x00000000#32)) (fun _ _ => 0) :=
  Is2.const word_zero

theorem loss_fold (A : Args m c r tg P) : ∀ n (h : n < cfg0.N), Is2 (m := 1) (n := 128) (φ := .f32)
    ((outsAt0 m c n h).2.2.2.2.2.1) (fun _ j => ∑ s ∈ Finset.range (n + 1), tileSum ((fun _ n => P.loss (xin P r n) (tg n) * (1 / 2048)) j) s) :=
  fold (fun n h => (outsAt0 m c n h).2.2.2.2.2.1) (fun _ n => P.loss (xin P r n) (tg n) * (1 / 2048))
    (fun t h0 => is_of_eq (loss_A m c t h0) ((lossAt_is (holds A t) zero_row).congr fun _ _ => by rw [Finset.sum_mul]; rfl))
    (fun t h0 h => is_of_eq (loss_B m c t h0) ((lossAt_is (holds A t) h).congr fun _ _ => by rw [Finset.sum_mul]; rfl))

theorem flush15 {t : Fin cfg0.N} (h : (cfg0.win 15).flush t = true) : t = last :=
  Fin.ext (by have := (flush0_15 t).mp h; have := t.isLt; have : cfg0.N = 32 := N_0; show t.val = 31; omega)

theorem loss_fin (A : Args m c r tg P) : Is2 (m := 1) (n := 128) (φ := .f32) ((dats m 0 c).arrAt 15 cfg0.N)
    (fun _ j => ∑ n, (fun _ n => P.loss (xin P r n) (tg n) * (1 / 2048)) j n) := fun i j =>
  (congrArg ((dats m 0 c).arrAt 15 cfg0.N) (emb15 last i j)).symm.trans
    ((congrFun ((dats m 0 c).read_blk_arrAt_eq_flushed 15 (fun _ _ h h' hne => absurd ((flush15 h).trans (flush15 h').symm) hne)
      cfg0.N last last.isLt ((flush0_15 last).mpr rfl)) (ix2 i j)).trans
      ((congrFun (Cert.KernelIdeal.Value.flushed15 m c last) (ix2 i j)).trans (fold_last (loss_fold A) i j)))

theorem dl2g_fold (A : Args m c r tg P) : ∀ n (h : n < cfg0.N), Is2 (m := 1) (n := 1024) (φ := .f32)
    ((outsAt0 m c n h).2.2.2.2.2.2.1) (fun _ j => ∑ s ∈ Finset.range (n + 1), tileSum ((fun j n => P.dy (xin P r n) (tg n) j * xhat (P.r2 (xin P r n)) j) j) s) :=
  fold (fun n h => (outsAt0 m c n h).2.2.2.2.2.2.1) (fun j n => P.dy (xin P r n) (tg n) j * xhat (P.r2 (xin P r n)) j)
    (fun t h0 => is_of_eq (dl2g_A m c t h0) (dl2g_is (holds A t) zero_row))
    (fun t h0 h => is_of_eq (dl2g_B m c t h0) (dl2g_is (holds A t) h))

theorem flush16 {t : Fin cfg0.N} (h : (cfg0.win 16).flush t = true) : t = last :=
  Fin.ext (by have := (flush0_16 t).mp h; have := t.isLt; have : cfg0.N = 32 := N_0; show t.val = 31; omega)

theorem dl2g_fin (A : Args m c r tg P) : Is2 (m := 1) (n := 1024) (φ := .f32) ((dats m 0 c).arrAt 16 cfg0.N)
    (fun _ j => ∑ n, (fun j n => P.dy (xin P r n) (tg n) j * xhat (P.r2 (xin P r n)) j) j n) := fun i j =>
  (congrArg ((dats m 0 c).arrAt 16 cfg0.N) (emb16 last i j)).symm.trans
    ((congrFun ((dats m 0 c).read_blk_arrAt_eq_flushed 16 (fun _ _ h h' hne => absurd ((flush16 h).trans (flush16 h').symm) hne)
      cfg0.N last last.isLt ((flush0_16 last).mpr rfl)) (ix2 i j)).trans
      ((congrFun (Cert.KernelIdeal.Value.flushed16 m c last) (ix2 i j)).trans (fold_last (dl2g_fold A) i j)))

theorem dl2b_fold (A : Args m c r tg P) : ∀ n (h : n < cfg0.N), Is2 (m := 1) (n := 1024) (φ := .f32)
    ((outsAt0 m c n h).2.2.2.2.2.2.2.1) (fun _ j => ∑ s ∈ Finset.range (n + 1), tileSum ((fun j n => P.dy (xin P r n) (tg n) j) j) s) :=
  fold (fun n h => (outsAt0 m c n h).2.2.2.2.2.2.2.1) (fun j n => P.dy (xin P r n) (tg n) j)
    (fun t h0 => is_of_eq (dl2b_A m c t h0) (dl2b_is (holds A t) zero_row))
    (fun t h0 h => is_of_eq (dl2b_B m c t h0) (dl2b_is (holds A t) h))

theorem flush17 {t : Fin cfg0.N} (h : (cfg0.win 17).flush t = true) : t = last :=
  Fin.ext (by have := (flush0_17 t).mp h; have := t.isLt; have : cfg0.N = 32 := N_0; show t.val = 31; omega)

theorem dl2b_fin (A : Args m c r tg P) : Is2 (m := 1) (n := 1024) (φ := .f32) ((dats m 0 c).arrAt 17 cfg0.N)
    (fun _ j => ∑ n, (fun j n => P.dy (xin P r n) (tg n) j) j n) := fun i j =>
  (congrArg ((dats m 0 c).arrAt 17 cfg0.N) (emb17 last i j)).symm.trans
    ((congrFun ((dats m 0 c).read_blk_arrAt_eq_flushed 17 (fun _ _ h h' hne => absurd ((flush17 h).trans (flush17 h').symm) hne)
      cfg0.N last last.isLt ((flush0_17 last).mpr rfl)) (ix2 i j)).trans
      ((congrFun (Cert.KernelIdeal.Value.flushed17 m c last) (ix2 i j)).trans (fold_last (dl2b_fold A) i j)))

theorem dbdn_fold (A : Args m c r tg P) : ∀ n (h : n < cfg0.N), Is2 (m := 1) (n := 1024) (φ := .f32)
    ((outsAt0 m c n h).2.2.2.2.2.2.2.2.1) (fun _ j => ∑ s ∈ Finset.range (n + 1), tileSum ((fun j n => P.dr2 (xin P r n) (tg n) j) j) s) :=
  fold (fun n h => (outsAt0 m c n h).2.2.2.2.2.2.2.2.1) (fun j n => P.dr2 (xin P r n) (tg n) j)
    (fun t h0 => is_of_eq (dbdn_A m c t h0) (dbdn_is (holds A t) zero_row))
    (fun t h0 h => is_of_eq (dbdn_B m c t h0) (dbdn_is (holds A t) h))

theorem flush18 {t : Fin cfg0.N} (h : (cfg0.win 18).flush t = true) : t = last :=
  Fin.ext (by have := (flush0_18 t).mp h; have := t.isLt; have : cfg0.N = 32 := N_0; show t.val = 31; omega)

theorem dbdn_fin (A : Args m c r tg P) : Is2 (m := 1) (n := 1024) (φ := .f32) ((dats m 0 c).arrAt 18 cfg0.N)
    (fun _ j => ∑ n, (fun j n => P.dr2 (xin P r n) (tg n) j) j n) := fun i j =>
  (congrArg ((dats m 0 c).arrAt 18 cfg0.N) (emb18 last i j)).symm.trans
    ((congrFun ((dats m 0 c).read_blk_arrAt_eq_flushed 18 (fun _ _ h h' hne => absurd ((flush18 h).trans (flush18 h').symm) hne)
      cfg0.N last last.isLt ((flush0_18 last).mpr rfl)) (ix2 i j)).trans
      ((congrFun (Cert.KernelIdeal.Value.flushed18 m c last) (ix2 i j)).trans (fold_last (dbdn_fold A) i j)))

theorem dbup_fold (A : Args m c r tg P) : ∀ n (h : n < cfg0.N), Is2 (m := 1) (n := 4096) (φ := .f32)
    ((outsAt0 m c n h).2.2.2.2.2.2.2.2.2) (fun _ j => ∑ s ∈ Finset.range (n + 1), tileSum ((fun f n => P.dpre (xin P r n) (tg n) f) j) s) :=
  fold (fun n h => (outsAt0 m c n h).2.2.2.2.2.2.2.2.2) (fun f n => P.dpre (xin P r n) (tg n) f)
    (fun t h0 => is_of_eq (dbup_A m c t h0) (dbupFour_is (holds A t) _))
    (fun t h0 h => is_of_eq (dbup_B m c t h0) (dbupCells_is (holds A t) (part_is h).1 (part_is h).2.1 (part_is h).2.2.1 (part_is h).2.2.2))

theorem flush19 {t : Fin cfg0.N} (h : (cfg0.win 19).flush t = true) : t = last :=
  Fin.ext (by have := (flush0_19 t).mp h; have := t.isLt; have : cfg0.N = 32 := N_0; show t.val = 31; omega)

theorem dbup_fin (A : Args m c r tg P) : Is2 (m := 1) (n := 4096) (φ := .f32) ((dats m 0 c).arrAt 19 cfg0.N)
    (fun _ j => ∑ n, (fun f n => P.dpre (xin P r n) (tg n) f) j n) := fun i j =>
  (congrArg ((dats m 0 c).arrAt 19 cfg0.N) (emb19 last i j)).symm.trans
    ((congrFun ((dats m 0 c).read_blk_arrAt_eq_flushed 19 (fun _ _ h h' hne => absurd ((flush19 h).trans (flush19 h').symm) hne)
      cfg0.N last last.isLt ((flush0_19 last).mpr rfl)) (ix2 i j)).trans
      ((congrFun (Cert.KernelIdeal.Value.flushed19 m c last) (ix2 i j)).trans (fold_last (dbup_fold A) i j)))

/-- What the kernel leaves, from arguments that hold real numbers. -/
theorem results (A : Args m c r tg P) :
    Results r tg P ((dats m 0 c).arrAt 10 cfg0.N) ((dats m 0 c).arrAt 11 cfg0.N) ((dats m 0 c).arrAt 12 cfg0.N)
      ((dats m 0 c).arrAt 13 cfg0.N) ((dats m 0 c).arrAt 14 cfg0.N) ((dats m 0 c).arrAt 15 cfg0.N) ((dats m 0 c).arrAt 16 cfg0.N)
      ((dats m 0 c).arrAt 17 cfg0.N) ((dats m 0 c).arrAt 18 cfg0.N) ((dats m 0 c).arrAt 19 cfg0.N) :=
  ⟨x1t_fin A, hdn_fin A, dr2t_fin A, dpre_fin A, dx1_fin A, loss_fin A, dl2g_fin A, dl2b_fin A, dbdn_fin A, dbup_fin A⟩

end Cert.KerFin

end
-- ==== Proof.Join.lean ====
/- The kernel's ten results are the reference's: from finite arguments both are arrays of the same real numbers. -/
module

public import proofs.«01_k».proof.Defs
public import proofs.«01_k».proof.Proof.Finite
public import proofs.«01_k».proof.Proof.KerFin
public import proofs.«01_k».proof.Proof.RefOut
public import proofs.«01_k».proof.Proof.Gen.Pre_finite
public import proofs.«01_k».proof.Proof.Gen.KernelIdeal
public import proofs.«01_k».proof.Proof.Gen.ReferenceIdeal

@[expose] public section

noncomputable section

namespace Cert.Join

open Idealize.ShloMosaic hiding ix0 ix1 ix2 eq_ix2
open Idealize.ShloMosaic.ValueIdx
open Idealize.SL.Sem Idealize.ShloMosaic.StableHlo
open Cert.Reals Cert.Rows Cert.RefValue

/-- A single row of real numbers. -/
theorem row {n : ℕ} {v : FVec Ideal ⟨2, ![1, n]⟩ .f32} (h : ∃ f : Fin 1 → Fin n → ℝ, Is2 v f) : ∃ f : Fin n → ℝ, Is2 v (fun _ => f) := by
  obtain ⟨f, h⟩ := h
  refine ⟨f 0, fun i j => ?_⟩
  rw [Subsingleton.elim i 0]
  exact h 0 j

/-- Finite arguments hold real numbers. -/
theorem args (m : (ℓ : Loc Cert.KernelIdeal.nD Cert.KernelIdeal.τ Cert.KernelIdeal.sig) → Buf (Elt Ideal) ℓ)
    (h : Pre_KernelIdeal (hPre_finite := Cert.Pre_finite.Gen.facts) m) :
    ∃ r t P, ∀ c, Cert.KerHost.Args m c r t P := by
  obtain ⟨h0, h1, h2, h3, h4, h5, h6, h7, h8, h9⟩ := h 0
  obtain ⟨r, a0⟩ := Cert.Finite.reals (m := 8192) (n := 1024) h0
  obtain ⟨t, a1⟩ := Cert.Finite.reals (m := 8192) (n := 1024) h1
  obtain ⟨g1, a2⟩ := row (Cert.Finite.reals (m := 1) (n := 1024) h2)
  obtain ⟨b1, a3⟩ := row (Cert.Finite.reals (m := 1) (n := 1024) h3)
  obtain ⟨wu, a4⟩ := Cert.Finite.reals (m := 1024) (n := 4096) h4
  obtain ⟨bu, a5⟩ := row (Cert.Finite.reals (m := 1) (n := 4096) h5)
  obtain ⟨wd, a6⟩ := Cert.Finite.reals (m := 4096) (n := 1024) h6
  obtain ⟨bd, a7⟩ := row (Cert.Finite.reals (m := 1) (n := 1024) h7)
  obtain ⟨g2, a8⟩ := row (Cert.Finite.reals (m := 1) (n := 1024) h8)
  obtain ⟨b2, a9⟩ := row (Cert.Finite.reals (m := 1) (n := 1024) h9)
  refine ⟨r, t, { g1 := g1, b1 := b1, wu := wu, bu := bu, wd := wd, bd := bd, g2 := g2, b2 := b2 }, fun c => ?_⟩
  obtain rfl : c = 0 := Subsingleton.elim (α := Fin 1) c 0
  exact ⟨a0, a1, a2, a3, a4, a5, a6, a7, a8, a9⟩

/-- The reference's arguments are the kernel's. -/
theorem refArgs {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {r t : Fin 8192 → Row} {P : Par} {c : Dev Cert.KernelIdeal.nD} (A : Cert.KerHost.Args m c r t P)
    (agree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.RefValue.Args (launchContents m' c) r t P := by
  obtain ⟨e0, e1, e2, e3, e4, e5, e6, e7, e8, e9⟩ := agree
  have b0 := is_of_eq e0 A.a0
  have b1 := is_of_eq e1 A.a1
  have b2 := is_of_eq e2 A.a2
  have b3 := is_of_eq e3 A.a3
  have b4 := is_of_eq e4 A.a4
  have b5 := is_of_eq e5 A.a5
  have b6 := is_of_eq e6 A.a6
  have b7 := is_of_eq e7 A.a7
  have b8 := is_of_eq e8 A.a8
  have b9 := is_of_eq e9 A.a9
  exact ⟨b0, b1, b2, b3, b4, b5, b6, b7, b8, b9⟩

set_option maxHeartbeats 2000000 in
/-- The ten results are equal. -/
theorem algebraic : algebraic_KernelIdeal_ReferenceIdeal (hKernelIdeal := Cert.KernelIdeal.Gen.facts)
    (hReferenceIdeal := Cert.ReferenceIdeal.Gen.facts) (hPre_finite := Cert.Pre_finite.Gen.facts) := by
  intro m g m' g' hpre agree
  obtain ⟨r, t, P, A⟩ := args m hpre
  refine ⟨fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    fun c => (Cert.KernelIdeal.Gen.dats m 0 c).arrAt 17 Cert.KernelIdeal.cfg0.N,
    fun c => (Cert.KernelIdeal.Gen.dats m 0 c).arrAt 18 Cert.KernelIdeal.cfg0.N,
    fun c => (Cert.KernelIdeal.Gen.dats m 0 c).arrAt 19 Cert.KernelIdeal.cfg0.N,
    Cert.KernelIdeal.Value.run_blocks m g,
    (θ_run Cert.ReferenceIdeal.defs _ _).mono (fun x h c => ?_) (Cert.RefValue.results m' g' fun c => refArgs (A c) (agree c))⟩
  have k := Cert.KerFin.results (A c)
  obtain ⟨q, keep⟩ := h c
  exact ⟨q.x1t.unique k.x1t, q.hdn.unique k.hdn, q.dr2t.unique k.dr2t, q.dpre.unique k.dpre, q.dx1.unique k.dx1,
    q.loss.unique k.loss, q.dl2g.unique k.dl2g, q.dl2b.unique k.dl2b, q.dbdn.unique k.dbdn, q.dbup.unique k.dbup, keep⟩

end Cert.Join

end
-- ==== Proof.Layouts.lean ====
/- Arrays read element by element: slices, joins and paddings of matrices, and the sums, exponentials and maxima that a
   softmax over the rows of a matrix takes. -/
module

public import proofs.«01_k».proof.Proof.Reals
public import Idealize.ShloMosaic.Lib.KernelVsHost

@[expose] public section

noncomputable section

open scoped BigOperators

namespace Cert.Layouts

open Idealize.ShloMosaic hiding ix0 ix1 ix2 ix3 eq_ix2 eq_ix3
open Idealize.ShloMosaic.ValueIdx
open Cert.Reals

/-- The elements of the matrix `v` are those of `f`. -/
def Has2 {α : Type} {m n : ℕ} (v : (⟨2, ![m, n]⟩ : Shape).Idx → α) (f : Fin m → Fin n → α) : Prop := ∀ i j, v (ix2 i j) = f i j

/-- The elements of the vector `v` are those of `f`. -/
def Has1 {α : Type} {n : ℕ} (v : (⟨1, ![n]⟩ : Shape).Idx → α) (f : Fin n → α) : Prop := ∀ i, v (ix1 i) = f i

/-- The array `v` of three axes holds the real numbers `f`. -/
def Is3 {a b c : ℕ} {φ : FTy} (v : FVec Ideal ⟨3, ![a, b, c]⟩ φ) (f : Fin a → Fin b → Fin c → ℝ) : Prop :=
  ∀ i j k, v (ix3 i j k) = ((f i j k : ℝ) : EReal)

section Generic

variable {α : Type} {m n k : ℕ}

theorem Has2.unique {v w : (⟨2, ![m, n]⟩ : Shape).Idx → α} {f : Fin m → Fin n → α} (h : Has2 v f) (e : Has2 w f) : v = w := by
  funext i
  exact (congrArg v (eq_ix2 i)).trans ((h _ _).trans ((e _ _).symm.trans (congrArg w (eq_ix2 i)).symm))

theorem Has2.congr {v : (⟨2, ![m, n]⟩ : Shape).Idx → α} {f g : Fin m → Fin n → α} (h : Has2 v f) (e : ∀ i j, f i j = g i j) :
    Has2 v g := fun i j => (h i j).trans (e i j)

/-- A slice of a matrix. -/
theorem Has2.slice {v : (⟨2, ![m, n]⟩ : Shape).Idx → α} {f : Fin m → Fin n → α} (hv : Has2 v f) {a b o p : ℕ}
    (h : (⟨2, ![m, n]⟩ : Shape).Slices ![o, p] ⟨2, ![a, b]⟩) (r : Fin a → Fin m) (c : Fin b → Fin n)
    (hr : ∀ i, (r i).val = o + i.val) (hc : ∀ j, (c j).val = p + j.val) :
    Has2 (extractStridedSlice ⟨2, ![a, b]⟩ ![o, p] v h) (fun i j => f (r i) (c j)) := fun i j => by
  rw [extractStridedSlice_apply _ v h (ix2 i j) (ix2 (r i) (c j)) (fun d => by
    match d with
    | ⟨0, _⟩ => exact hr i
    | ⟨1, _⟩ => exact hc j)]
  exact hv _ _

/-- A slice of whole columns. -/
theorem Has2.cols {v : (⟨2, ![m, n]⟩ : Shape).Idx → α} {f : Fin m → Fin n → α} (hv : Has2 v f) {b p : ℕ}
    (h : (⟨2, ![m, n]⟩ : Shape).Slices ![0, p] ⟨2, ![m, b]⟩) (c : Fin b → Fin n) (hc : ∀ j, (c j).val = p + j.val) :
    Has2 (extractStridedSlice ⟨2, ![m, b]⟩ ![0, p] v h) (fun i j => f i (c j)) :=
  hv.slice h id c (fun i => (Nat.zero_add _).symm) hc

/-- One row repeated. -/
theorem Has2.row {v : (⟨2, ![1, n]⟩ : Shape).Idx → α} {f : Fin 1 → Fin n → α} (hv : Has2 v f)
    (h : (⟨2, ![1, n]⟩ : Shape).Broadcasts ⟨2, ![m, n]⟩) : Has2 (broadcastTo ⟨2, ![m, n]⟩ v h) (fun _ j => f 0 j) := fun i j => by
  rw [broadcastTo_apply v h _ (ix2 0 j) (fun a => by
    match a with
    | ⟨0, _⟩ => rfl
    | ⟨1, _⟩ =>
      show j.val = if n = 1 then 0 else j.val
      split
      · omega
      · rfl)]
  exact hv 0 j

/-- One row repeated, on the host. -/
theorem Has2.hrow {v : (⟨2, ![1, n]⟩ : Shape).Idx → α} {f : Fin 1 → Fin n → α} (hv : Has2 v f)
    (h : (⟨2, ![1, n]⟩ : Shape).BroadcastsInDim ⟨2, ![m, n]⟩ ![0, 1]) :
    Has2 (broadcastInDim ⟨2, ![m, n]⟩ ![0, 1] h v) (fun _ j => f 0 j) := fun i j => by
  rw [broadcastInDim_apply ![0, 1] h v _ (ix2 0 j) (fun a => by
    match a with
    | ⟨0, _⟩ => rfl
    | ⟨1, _⟩ =>
      show j.val = if n = 1 then 0 else j.val
      split
      · omega
      · rfl)]
  exact hv 0 j

theorem Has1.toRow {v : (⟨1, ![n]⟩ : Shape).Idx → α} {f : Fin n → α} (hv : Has1 v f)
    (h : (⟨1, ![n]⟩ : Shape).ShapeCasts ⟨2, ![1, n]⟩) : Has2 (shapeCast ⟨2, ![1, n]⟩ v h) (fun _ j => f j) := fun i j => by
  have hi : i.val = 0 := by omega
  rw [shapeCast_apply v h _ (ix1 j) (by
    rw [Shape.rowMajor_val_one, Shape.rowMajor_val_two]
    show j.val = i.val * n + j.val
    rw [hi]; omega)]
  exact hv j

theorem Has2.fromRow {v : (⟨2, ![1, n]⟩ : Shape).Idx → α} {f : Fin 1 → Fin n → α} (hv : Has2 v f)
    (h : (⟨2, ![1, n]⟩ : Shape).ShapeCasts ⟨1, ![n]⟩) : Has1 (shapeCast ⟨1, ![n]⟩ v h) (f 0) := fun j => by
  rw [shapeCast_apply v h _ (ix2 0 j) (by
    rw [Shape.rowMajor_val_one, Shape.rowMajor_val_two]
    show 0 * n + j.val = j.val
    omega)]
  exact hv 0 j

/-- A vector as one row, on the host. -/
theorem Has1.hrow {v : (⟨1, ![n]⟩ : Shape).Idx → α} {f : Fin n → α} (hv : Has1 v f)
    (h : (⟨1, ![n]⟩ : Shape).BroadcastsInDim ⟨2, ![m, n]⟩ ![1]) :
    Has2 (broadcastInDim ⟨2, ![m, n]⟩ ![1] h v) (fun _ j => f j) := fun i j => by
  rw [broadcastInDim_apply ![1] h v _ (ix1 j) (fun a => by
    match a with
    | ⟨0, _⟩ =>
      show j.val = if n = 1 then 0 else j.val
      split
      · omega
      · rfl)]
  exact hv j

theorem Has2.cast {v : (⟨2, ![m, n]⟩ : Shape).Idx → α} {f : Fin m → Fin n → α} (hv : Has2 v f)
    (h : (⟨2, ![m, n]⟩ : Shape).ShapeCasts ⟨2, ![m, n]⟩) : Has2 (shapeCast ⟨2, ![m, n]⟩ v h) f := by
  rw [shapeCast_self]; exact hv

theorem Has2.transpose {v : (⟨2, ![m, n]⟩ : Shape).Idx → α} {f : Fin m → Fin n → α} (hv : Has2 v f)
    (h : (⟨2, ![m, n]⟩ : Shape).Transposes [1, 0] ⟨2, ![n, m]⟩) :
    Has2 (Idealize.ShloMosaic.transpose ⟨2, ![n, m]⟩ [1, 0] v h) (fun i j => f j i) := fun i j => by
  rw [transpose_apply [1, 0] v h _ (ix2 j i) (fun b => by
    match b with
    | ⟨0, _⟩ => rfl
    | ⟨1, _⟩ => rfl)]
  exact hv j i

/-- A piece of a join along the columns. -/
theorem join_cols {xs : List ((s : Shape) × (s.Idx → α))} {t : ℕ}
    (h : Shape.Concatenates (xs.map (·.1)) ⟨2, ![m, t]⟩ 1) (k : ℕ) (hk : k < xs.length) {b : ℕ}
    {v : (⟨2, ![m, b]⟩ : Shape).Idx → α} {f : Fin m → Fin b → α} (hv : Has2 v f) (hx : xs[k] = ⟨⟨2, ![m, b]⟩, v⟩) (pre : ℕ)
    (hpre : (((xs.take k).map (·.1)).map fun s => if h : s.rank = (⟨2, ![m, t]⟩ : Shape).rank then s.size ((1 : Fin 2).cast h.symm) else 0).sum = pre)
    (i : Fin m) (j : Fin b) (c : Fin t) (hc : c.val = pre + j.val) :
    concatenate ⟨2, ![m, t]⟩ 1 xs h (ix2 i c) = f i j := by
  rw [concatenate_apply_piece (t := ⟨2, ![m, t]⟩) 1 xs h (ix2 i c) k hk _ v hx rfl pre hpre (ix2 i j) (fun d hd => by
    match d with
    | ⟨0, _⟩ => rfl
    | ⟨1, _⟩ => exact absurd rfl hd) hc.symm]
  exact hv i j

/-- A piece of a join along the rows. -/
theorem join_rows {xs : List ((s : Shape) × (s.Idx → α))} {t : ℕ}
    (h : Shape.Concatenates (xs.map (·.1)) ⟨2, ![t, n]⟩ 0) (k : ℕ) (hk : k < xs.length) {b : ℕ}
    {v : (⟨2, ![b, n]⟩ : Shape).Idx → α} {f : Fin b → Fin n → α} (hv : Has2 v f) (hx : xs[k] = ⟨⟨2, ![b, n]⟩, v⟩) (pre : ℕ)
    (hpre : (((xs.take k).map (·.1)).map fun s => if h : s.rank = (⟨2, ![t, n]⟩ : Shape).rank then s.size ((0 : Fin 2).cast h.symm) else 0).sum = pre)
    (i : Fin b) (j : Fin n) (r : Fin t) (hr : r.val = pre + i.val) :
    concatenate ⟨2, ![t, n]⟩ 0 xs h (ix2 r j) = f i j := by
  rw [concatenate_apply_piece (t := ⟨2, ![t, n]⟩) 0 xs h (ix2 r j) k hk _ v hx rfl pre hpre (ix2 i j) (fun d hd => by
    match d with
    | ⟨0, _⟩ => exact absurd rfl hd
    | ⟨1, _⟩ => rfl) hr.symm]
  exact hv i j

/-- A matrix between rows of padding. -/
theorem pad_rows {v : (⟨2, ![m, n]⟩ : Shape).Idx → α} {f : Fin m → Fin n → α} (hv : Has2 v f) {lo hi t : ℕ}
    {u : Shape} (z : u.Idx → α) (h : (⟨2, ![m, n]⟩ : Shape).Pads ![lo, 0] ![hi, 0] ![0, 0] ⟨2, ![t, n]⟩) (hu : 0 < u.numel) :
    Has2 (pad ⟨2, ![t, n]⟩ ![lo, 0] ![hi, 0] ![0, 0] v z h hu)
      (fun i j => if e : lo ≤ i.val ∧ i.val - lo < m then f ⟨i.val - lo, e.2⟩ j else z (Shape.Idx.first hu)) := fun i j => by
  beta_reduce
  by_cases e : lo ≤ i.val ∧ i.val - lo < m
  · rw [dif_pos e, pad_apply_of_inside _ _ _ v z h hu (ix2 i j) (ix2 ⟨i.val - lo, e.2⟩ j) (fun d => by
      match d with
      | ⟨0, _⟩ =>
        show i.val = lo + (i.val - lo) * (0 + 1)
        omega
      | ⟨1, _⟩ =>
        show j.val = 0 + j.val * (0 + 1)
        omega)]
    exact hv _ _
  · rw [dif_neg e]
    refine pad_apply_of_not_inside _ _ _ v z h hu (ix2 i j) 0 (fun q => e ?_)
    have q1 : lo ≤ i.val := q.1
    have q2 : (i.val - lo) / (0 + 1) < m := q.2.2
    exact ⟨q1, by rw [Nat.zero_add, Nat.div_one] at q2; exact q2⟩

end Generic

section Softmax

variable {m n : ℕ} {φ : FTy}

/-- The largest of finitely many real numbers, taken in the extended reals, is real. -/
theorem exists_fold_max {ι : Type} [DecidableEq ι] (s : Finset ι) (hs : s.Nonempty) (b : EReal) (hb : b ≠ ⊤) (f : ι → EReal)
    (hf : ∀ i, ∃ x : ℝ, f i = (x : EReal)) : ∃ x : ℝ, s.fold max b f = (x : EReal) := by
  have key : s.fold max b f ≠ ⊤ ∧ (s.Nonempty → s.fold max b f ≠ ⊥) := by
    clear hs
    induction s using Finset.induction_on with
    | empty => exact ⟨by simpa using hb, fun h => absurd h (by simp)⟩
    | insert a s ha ih =>
      obtain ⟨x, hx⟩ := hf a
      rw [Finset.fold_insert ha, hx]
      refine ⟨?_, fun _ h => ?_⟩
      · intro h
        rcases max_eq_iff.1 h with q | q
        · exact EReal.coe_ne_top _ q.1
        · exact ih.1 q.1
      · exact EReal.coe_ne_bot x (le_bot_iff.1 (h ▸ le_max_left _ _))
  induction h : s.fold max b f with
  | bot => exact absurd h (key.2 hs)
  | top => exact absurd h key.1
  | coe x => exact ⟨x, rfl⟩

/-- The maxima of the columns of a matrix of real numbers are real. -/
theorem Is2.colMax [NeZero m] {v : FVec Ideal ⟨2, ![m, n]⟩ φ} {f : Fin m → Fin n → ℝ} (hv : Is2 v f) {acc : BitVec φ.bits}
    (h : (⟨2, ![m, n]⟩ : Shape).Reduces [0] ⟨1, ![n]⟩) (hφ : FKind.Formats φ) (hacc : acc = FKind.maximumf.neutral φ hφ)
    (hb : Ideal.ofBits φ acc ≠ ⊤) :
    ∃ c : Fin n → ℝ, Is1 (multiReduction .maximumf [0] ⟨1, ![n]⟩ v acc h hφ hacc : FVec Ideal ⟨1, ![n]⟩ φ) c := by
  have key : ∀ j : Fin n, ∃ x : ℝ, (multiReduction .maximumf [0] ⟨1, ![n]⟩ v acc h hφ hacc : FVec Ideal ⟨1, ![n]⟩ φ) (ix1 j) = (x : EReal) :=
    fun j => by
      rw [Ideal.multiReduction_maximumf_single]
      exact exists_fold_max _ ⟨(0 : Fin m), Finset.mem_univ _⟩ _ hb _ (fun i => ⟨_, (congrArg v (eq_ix2 _)).trans (hv _ _)⟩)
  choose c hc using key
  exact ⟨c, hc⟩

theorem Is2.exp {a : FVec Ideal ⟨2, ![m, n]⟩ φ} {f : Fin m → Fin n → ℝ} (ha : Is2 a f) :
    Is2 (Idealize.ShloMosaic.exp a) (fun i j => Real.exp (f i j)) := fun i j => by
  show Ideal.exp (a (ix2 i j)) = _
  rw [ha]; rfl

theorem neg_inf : Ideal.ofBits .f32 0xFF800000#32 = ⊥ := by
  simp [Ideal.ofBits, Ideal.ieee]

theorem neg_inf_ne_top : Ideal.ofBits .f32 0xFF800000#32 ≠ ⊤ := by
  simp [Ideal.ofBits, Ideal.ieee]

/-- A slice of whole columns of a matrix of real numbers. -/
theorem Is2.cols {k : ℕ} {v : FVec Ideal ⟨2, ![m, n]⟩ φ} {f : Fin m → Fin n → ℝ} (hv : Is2 v f) {p : ℕ}
    (h : (⟨2, ![m, n]⟩ : Shape).Slices ![0, p] ⟨2, ![m, k]⟩) (c : Fin k → Fin n) (hc : ∀ j, (c j).val = p + j.val) :
    Is2 (extractStridedSlice ⟨2, ![m, k]⟩ ![0, p] v h : FVec Ideal ⟨2, ![m, k]⟩ φ) (fun i j => f i (c j)) :=
  Has2.cols (f := fun i j => ((f i j : ℝ) : EReal)) hv h c hc

end Softmax

section ThreeAxes

variable {a b c : ℕ} {φ : FTy}

theorem Is3.at {v : FVec Ideal ⟨3, ![a, b, c]⟩ φ} {f : Fin a → Fin b → Fin c → ℝ} (h : Is3 v f) (i : (⟨3, ![a, b, c]⟩ : Shape).Idx) :
    v i = ((f (i 0) (i 1) (i 2) : ℝ) : EReal) := (congrArg v (eq_ix3 i)).trans (h _ _ _)

theorem at2 {v : FVec Ideal ⟨2, ![a, b]⟩ φ} {f : Fin a → Fin b → ℝ} (h : Is2 v f) (i : (⟨2, ![a, b]⟩ : Shape).Idx) :
    v i = ((f (i 0) (i 1) : ℝ) : EReal) := (congrArg v (eq_ix2 i)).trans (h _ _)

theorem Is3.congr {v : FVec Ideal ⟨3, ![a, b, c]⟩ φ} {f g : Fin a → Fin b → Fin c → ℝ} (h : Is3 v f) (e : ∀ i j k, f i j k = g i j k) :
    Is3 v g := fun i j k => by rw [h i j k, e i j k]

/-- A sum of products of real numbers. -/
theorem sum_mul {ι : Type} [Fintype ι] {u v : ι → EReal} {f g : ι → ℝ} (hu : ∀ k, u k = ((f k : ℝ) : EReal))
    (hv : ∀ k, v k = ((g k : ℝ) : EReal)) : ∑ k, u k * v k = ((∑ k, f k * g k : ℝ) : EReal) := by
  rw [← coe_sum]
  exact Finset.sum_congr rfl fun k _ => by rw [hu, hv, EReal.coe_mul]

/-- A sum of real numbers from zero. -/
theorem zero_sum {ι : Type} [Fintype ι] {z : EReal} {u : ι → EReal} {f : ι → ℝ} (hz : z = ((0 : ℝ) : EReal))
    (hu : ∀ k, u k = ((f k : ℝ) : EReal)) : z + ∑ k, u k = ((∑ k, f k : ℝ) : EReal) := by
  rw [← coe_sum, hz, EReal.coe_zero, zero_add]
  exact Finset.sum_congr rfl fun k _ => hu k

variable {u v : FVec Ideal ⟨3, ![a, b, c]⟩ φ} {f g : Fin a → Fin b → Fin c → ℝ}

theorem Is3.add (hu : Is3 u f) (hv : Is3 v g) : Is3 (addf u v) (fun i j k => f i j k + g i j k) := fun i j k => by
  rw [addf_apply, hu, hv, EReal.coe_add]

theorem Is3.sub (hu : Is3 u f) (hv : Is3 v g) : Is3 (subf u v) (fun i j k => f i j k - g i j k) := fun i j k => by
  rw [subf_apply, hu, hv, EReal.coe_sub]

theorem Is3.mul (hu : Is3 u f) (hv : Is3 v g) : Is3 (mulf u v) (fun i j k => f i j k * g i j k) := fun i j k => by
  rw [mulf_apply, hu, hv, EReal.coe_mul]

theorem Is3.hdiv (hu : Is3 u f) (hv : Is3 v g) (h0 : ∀ i j k, g i j k ≠ 0) : Is3 (Host.divf u v) (fun i j k => f i j k / g i j k) :=
  fun i j k => by rw [hostDivf_apply, hu, hv, coe_div _ (h0 i j k)]

theorem Is3.hexp (hu : Is3 u f) : Is3 (Host.exp u) (fun i j k => Real.exp (f i j k)) := fun i j k => by
  show Ideal.exp (u (ix3 i j k)) = _
  rw [hu]; rfl

theorem Is3.hneg (hu : Is3 u f) : Is3 (Host.negf u) (fun i j k => -f i j k) := fun i j k => by
  show -(u (ix3 i j k)) = _
  rw [hu, EReal.coe_neg]

theorem spread3 {z : FVec Ideal ⟨0, ![]⟩ φ} {x : ℝ} (hz : Is0 z x) (h : (⟨0, ![]⟩ : Shape).BroadcastsInDim ⟨3, ![a, b, c]⟩ ![]) :
    Is3 (broadcastInDim ⟨3, ![a, b, c]⟩ ![] h z : FVec Ideal ⟨3, ![a, b, c]⟩ φ) (fun _ _ _ => x) := fun i j k => by
  rw [broadcastInDim_scalar_apply]; exact hz

/-- The maximum along the last axis is a real number. -/
theorem Is3.lastMax {m n k : ℕ} {v : FVec Ideal ⟨3, ![m, n, k + 1]⟩ .f32} {f : Fin m → Fin n → Fin (k + 1) → ℝ} (hv : Is3 v f)
    {u : Shape} (hu : 0 < u.numel) (h : (⟨3, ![m, n, k + 1]⟩ : Shape).ReducesTo [2] ⟨2, ![m, n]⟩)
    (h' : (⟨3, ![m, n, k + 1]⟩ : Shape).Reduces [2] ⟨2, ![m, n]⟩) (j : (⟨2, ![m, n]⟩ : Shape).Idx) :
    ∃ x : ℝ, Host.reduce FloatOps.maximumf v (constant (F := Ideal) u .f32 0xFF800000#32) h hu j = (x : EReal) := by
  have e := Ideal.multiReduction_maximumf_single (s := ⟨3, ![m, n, k + 1]⟩) (a := (2 : Fin 3)) v 0xFF800000#32 h' (.inl rfl) rfl j
  obtain ⟨x, hx⟩ := exists_fold_max (Finset.univ : Finset (Fin (k + 1))) ⟨0, Finset.mem_univ _⟩ (Ideal.ofBits .f32 0xFF800000#32)
    neg_inf_ne_top (v ∘ h'.lift j) (fun i => ⟨_, hv.at _⟩)
  exact ⟨x, (congrFun (hostReduce_maximumf_eq_multiReduction (φ := .f32) v 0xFF800000#32 h hu h' (.inl rfl) rfl) j).trans (e.trans hx)⟩

end ThreeAxes

end Cert.Layouts

end
-- ==== Proof.BrHost.lean ====
/- Where the blocks of the branch gradient's grid sit in their arrays (the grid goes from the last 512 rows to the first), what
   the host leaves in the kernel's operands, and sums over the grid. -/
module

public import proofs.«01_k».proof.Proof.Layouts
public import proofs.«01_k».proof.Proof.Gen.Kernel2Ideal.Value
public import Idealize.ShloMosaic.Lib.Pipeline.ValueKit

@[expose] public section

noncomputable section

open scoped BigOperators

namespace Cert.BrHost

open Cert.Kernel2Ideal Cert.Kernel2Ideal.Gen Idealize.ShloMosaic.TcCoe
open Idealize.ShloMosaic hiding ix0 ix1 ix2 ix3 eq_ix2 eq_ix3
open Idealize.ShloMosaic.ValueIdx
open Idealize.SL.Sem
open Cert.Reals Cert.Layouts

/-! ### Rows by grid point -/

/-- Row `i` of the block of grid point `t`. -/
def row (t : Fin cfg0.N) (i : Fin 512) : Fin 8192 := ⟨(15 - t.val) * 512 + i.val, by omega⟩

theorem exists_row (n : Fin 8192) : ∃ (t : Fin cfg0.N) (i : Fin 512), n = row t i :=
  ⟨⟨15 - n.val / 512, by have : cfg0.N = 16 := N_0; omega⟩, ⟨n.val % 512, by omega⟩, Fin.ext (by
    show n.val = (15 - (15 - n.val / 512)) * 512 + n.val % 512
    omega)⟩

section Sums

variable {M : Type} [AddCommMonoid M] (g : Fin 8192 → M)

/-- What the rows of grid point `s` add up to. -/
def part (s : ℕ) : M := if s < 16 then ∑ i : Fin 512, g ⟨(15 - s) * 512 + i.val, by omega⟩ else 0

theorem part_eq (t : Fin cfg0.N) : part g t.val = ∑ i, g (row t i) := by
  have h : t.val < 16 := lt_of_lt_of_eq t.isLt N_0
  unfold part
  rw [if_pos h]
  rfl

theorem part_all : ∑ s ∈ Finset.range 16, part g s = ∑ n, g n := by
  have e : ∑ n, g n = ∑ t : Fin 16, ∑ i : Fin 512, g ⟨t.val * 512 + i.val, by omega⟩ := by
    rw [← Fintype.sum_prod_type', ← Equiv.sum_comp (finProdFinEquiv (m := 16) (n := 512))]
    exact Finset.sum_congr rfl fun p _ => congrArg g (Fin.ext (by
      show p.2.val + 512 * p.1.val = p.1.val * 512 + p.2.val
      omega))
  rw [e, ← Finset.sum_range_reflect, Finset.sum_range]
  refine Finset.sum_congr rfl fun t _ => ?_
  unfold part
  rw [if_pos (by omega)]
  exact Finset.sum_congr rfl fun i _ => congrArg g (Fin.ext (by
    show (15 - (16 - 1 - t.val)) * 512 + i.val = t.val * 512 + i.val
    omega))

/-- A value that the first grid point starts from its own rows and every later one adds its rows to. -/
theorem fold (a : ∀ n, n < cfg0.N → M) (hA : ∀ t : Fin cfg0.N, t.val % 16 = 0 → a t.val t.isLt = ∑ i, g (row t i))
    (hB : ∀ t : Fin cfg0.N, ¬t.val % 16 = 0 →
      a t.val t.isLt = a (t.val - 1) (Nat.lt_of_le_of_lt (Nat.sub_le _ _) t.isLt) + ∑ i, g (row t i)) :
    ∀ n (h : n < cfg0.N), a n h = ∑ s ∈ Finset.range (n + 1), part g s
  | 0, h => by rw [Finset.sum_range_one, part_eq g ⟨0, h⟩]; exact hA ⟨0, h⟩ rfl
  | n + 1, h => by
      rw [Finset.sum_range_succ, ← fold a hA hB n (by omega), part_eq g ⟨n + 1, h⟩]
      exact hB ⟨n + 1, h⟩ (by have : cfg0.N = 16 := N_0; show ¬(n + 1) % 16 = 0; omega)

/-- The last grid point. -/
def last : Fin cfg0.N := ⟨15, by have : cfg0.N = 16 := N_0; omega⟩

theorem fold_last {a : ∀ n, n < cfg0.N → M} (h : ∀ n (h : n < cfg0.N), a n h = ∑ s ∈ Finset.range (n + 1), part g s) :
    a last.val last.isLt = ∑ n, g n := (h 15 last.isLt).trans (part_all g)

end Sums

/-! ### Where an element of a block sits in its array -/

theorem idx0 : ∀ t : Fin cfg0.N, win0_0.index t 0 = 15 - t.val ∧ win0_0.index t 1 = 0 := (by decide +kernel : ∀ t : Fin grid0.N, _)
theorem idx1 : ∀ t : Fin cfg0.N, win0_1.index t 0 = 15 - t.val ∧ win0_1.index t 1 = 0 := (by decide +kernel : ∀ t : Fin grid0.N, _)
theorem idx2 : ∀ t : Fin cfg0.N, win0_2.index t 0 = 15 - t.val ∧ win0_2.index t 1 = 0 := (by decide +kernel : ∀ t : Fin grid0.N, _)
theorem idx3 : ∀ t : Fin cfg0.N, win0_3.index t 0 = (15 - t.val) * 64 - 1 ∧ win0_3.index t 1 = 0 :=
  (by decide +kernel : ∀ t : Fin grid0.N, _)
theorem idx4 : ∀ t : Fin cfg0.N, win0_4.index t 0 = 15 - t.val ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 0 ∧ win0_9.index t 1 = 0 := (by decide +kernel : ∀ t : Fin grid0.N, _)
theorem idx10 : ∀ t : Fin cfg0.N, win0_10.index t 0 = 15 - t.val ∧ win0_10.index t 1 = 0 := (by decide +kernel : ∀ t : Fin grid0.N, _)
theorem idx11 : ∀ t : Fin cfg0.N, win0_11.index t 0 = 15 - t.val ∧ win0_11.index t 1 = 0 := (by decide +kernel : ∀ t : Fin grid0.N, _)
theorem idx12 : ∀ t : Fin cfg0.N, win0_12.index t 0 = 0 ∧ win0_12.index t 1 = 0 := (by decide +kernel : ∀ t : Fin grid0.N, _)

/-- Row `i` of the block of eight rows before the block of grid point `t`. -/
def before (t : Fin cfg0.N) (i : Fin 8) : Fin 8192 := ⟨((15 - t.val) * 64 - 1) * 8 + i.val, by omega⟩

theorem emb0 (t : Fin cfg0.N) (i : Fin 512) (j : Fin 1024) :
    (win0_0.blk t).view.emb (ix2 (n0 := 512) (n1 := 1024) i j) = ix2 (n0 := 8192) (n1 := 1024) (row t i) j := by
  blk_ext [(idx0 t).1, (idx0 t).2, row]
theorem emb1 (t : Fin cfg0.N) (i : Fin 512) (j : Fin 1024) :
    (win0_1.blk t).view.emb (ix2 (n0 := 512) (n1 := 1024) i j) = ix2 (n0 := 8192) (n1 := 1024) (row t i) j := by
  blk_ext [(idx1 t).1, (idx1 t).2, row]
theorem emb2 (t : Fin cfg0.N) (i : Fin 512) (j : Fin 1536) :
    (win0_2.blk t).view.emb (ix2 (n0 := 512) (n1 := 1536) i j) = ix2 (n0 := 8192) (n1 := 1536) (row t i) j := by
  blk_ext [(idx2 t).1, (idx2 t).2, row]
theorem emb3 (t : Fin cfg0.N) (i : Fin 8) (j : Fin 1536) :
    (win0_3.blk t).view.emb (ix2 (n0 := 8) (n1 := 1536) i j) = ix2 (n0 := 8192) (n1 := 1536) (before t i) j := by
  blk_ext [(idx3 t).1, (idx3 t).2, before]
theorem emb4 (t : Fin cfg0.N) (i : Fin 512) (j : Fin 512) :
    (win0_4.blk t).view.emb (ix2 (n0 := 512) (n1 := 512) i j) = ix2 (n0 := 8192) (n1 := 512) (row t i) j := by
  blk_ext [(idx4 t).1, (idx4 t).2, row]
theorem emb5 (t : Fin cfg0.N) (i : Fin 256) (j : Fin 1024) :
    (win0_5.blk t).view.emb (ix2 (n0 := 256) (n1 := 1024) i j) = ix2 (n0 := 256) (n1 := 1024) i j := by
  blk_ext [(idx5 t).1, (idx5 t).2]
theorem emb6 (t : Fin cfg0.N) (i : Fin 3) (j : Fin 512) :
    (win0_6.blk t).view.emb (ix2 (n0 := 3) (n1 := 512) i j) = ix2 (n0 := 3) (n1 := 512) i j := by
  blk_ext [(idx6 t).1, (idx6 t).2]
theorem emb7 (t : Fin cfg0.N) (i : Fin 1024) (j : Fin 512) :
    (win0_7.blk t).view.emb (ix2 (n0 := 1024) (n1 := 512) i j) = ix2 (n0 := 1024) (n1 := 512) i j := by
  blk_ext [(idx7 t).1, (idx7 t).2]
theorem emb8 (t : Fin cfg0.N) (i : Fin 1024) (j : Fin 512) :
    (win0_8.blk t).view.emb (ix2 (n0 := 1024) (n1 := 512) i j) = ix2 (n0 := 1024) (n1 := 512) i j := by
  blk_ext [(idx8 t).1, (idx8 t).2]
theorem emb9 (t : Fin cfg0.N) (i : Fin 512) (j : Fin 256) :
    (win0_9.blk t).view.emb (ix2 (n0 := 512) (n1 := 256) i j) = ix2 (n0 := 512) (n1 := 256) i j := by
  blk_ext [(idx9 t).1, (idx9 t).2]
theorem emb10 (t : Fin cfg0.N) (i : Fin 512) (j : Fin 1536) :
    (win0_10.blk t).view.emb (ix2 (n0 := 512) (n1 := 1536) i j) = ix2 (n0 := 8192) (n1 := 1536) (row t i) j := by
  blk_ext [(idx10 t).1, (idx10 t).2, row]
theorem emb11 (t : Fin cfg0.N) (i : Fin 512) (j : Fin 512) :
    (win0_11.blk t).view.emb (ix2 (n0 := 512) (n1 := 512) i j) = ix2 (n0 := 8192) (n1 := 512) (row t i) j := by
  blk_ext [(idx11 t).1, (idx11 t).2, row]
theorem emb12 (t : Fin cfg0.N) (i : Fin 256) (j : Fin 1024) :
    (win0_12.blk t).view.emb (ix2 (n0 := 256) (n1 := 1024) i j) = ix2 (n0 := 256) (n1 := 1024) i j := by
  blk_ext [(idx12 t).1, (idx12 t).2]

/-- A load through a unit-stride rectangle reads at the rectangle's offsets. -/
theorem ld_at {Val : EltTy → Type} {e : EltTy} {m n a b o p : ℕ} (X : (⟨2, ![m, n]⟩ : Shape).Idx → Val e)
    (inb : ∀ d, (![o, p] : Fin 2 → ℕ) d + (![a, b] : Fin 2 → ℕ) d ≤ (⟨2, ![m, n]⟩ : Shape).size d) (i : Fin a) (j : Fin b)
    (hi : o + i.val < m) (hj : p + j.val < n) :
    View.ld X (Rect.unit (s := ⟨2, ![m, n]⟩) ![o, p] ![a, b] inb) (ix2 i j) = X (ix2 ⟨o + i.val, hi⟩ ⟨p + j.val, hj⟩) := by
  refine congrArg X (funext fun d => Fin.ext ?_)
  match d with
  | ⟨0, _⟩ => show o + 1 * i.val = o + i.val; omega
  | ⟨1, _⟩ => show p + 1 * j.val = p + j.val; omega

/-! ### What the launch finds in its operands -/

section Host

variable {F : FTy → Type} [FloatOps F] (m : (ℓ : Loc nD τ sig) → Buf (Elt F) ℓ)

/-- The keys and values of the memory tokens on the host. -/
def hostKv (a : FVec F S256x1024 .f32) (w : FVec F S1024x1024 .f32) : FVec F S256x1024 .bf16 :=
  truncf .bf16 (Host.dotGeneral dot_S256x1024_S1024x1024_S256x1024_1_0_0_1_n_n none a w) bitsLt_bf16_f32

/-- The keys on the host, transposed. -/
def hostKt (a : FVec F S256x1024 .f32) (w : FVec F S1024x1024 .f32) : FVec F S512x256 .bf16 :=
  transpose S512x256 [1, 0] (extractStridedSlice S256x512 ![0, 0] (hostKv a w) slices_S256x1024_S256x512_0_0)
    transposes_S256x512_S512x256_1_0

theorem V_v1 (c : Dev nD) : V m c main_v1 = hostKv (m ((c : Thread nD τ).loc main_arg4)) (m ((c : Thread nD τ).loc main_arg5)) := by
  unfold V
  after_results
  rfl
theorem V_v2 (c : Dev nD) : V m c main_v2 = truncf .bf16 (m ((c : Thread nD τ).loc main_arg0) : FVec F S8192x1024 .f32) bitsLt_bf16_f32 := by
  unfold V
  after_results
theorem V_v3 (c : Dev nD) : V m c main_v3 = truncf .bf16 (m ((c : Thread nD τ).loc main_arg1) : FVec F S8192x1024 .f32) bitsLt_bf16_f32 := by
  unfold V
  after_results
theorem V_v4 (c : Dev nD) : V m c main_v4 = truncf .bf16 (m ((c : Thread nD τ).loc main_arg3) : FVec F S8192x512 .f32) bitsLt_bf16_f32 := by
  unfold V
  after_results
theorem V_v6 (c : Dev nD) : V m c main_v6 = hostKt (m ((c : Thread nD τ).loc main_arg4)) (m ((c : Thread nD τ).loc main_arg5)) := by
  unfold V
  after_results
  rfl
theorem V_v8 (c : Dev nD) : V m c main_v8 = truncf .bf16 (transpose S1024x512 [1, 0] (m ((c : Thread nD τ).loc main_arg7))
    transposes_S512x1024_S1024x512_1_0) bitsLt_bf16_f32 := by
  unfold V
  after_results
theorem V_v10 (c : Dev nD) : V m c main_v10 = truncf .bf16 (transpose S1024x512 [1, 0] (m ((c : Thread nD τ).loc main_arg8))
    transposes_S512x1024_S1024x512_1_0) bitsLt_bf16_f32 := by
  unfold V
  after_results

end Host

end Cert.BrHost

end
-- ==== Proof.Attn.lean ====
/- The gradient of attention over the memory tokens, in real numbers, one query row at a time: the queries `q` and the
   cotangent `g` of the attention's output have 4 heads of 128 numbers, the memory row `kv m` holds the keys of the 4 heads
   and then their values. -/
module

public import proofs.«01_k».proof.Proof.Layouts

@[expose] public section

noncomputable section

open scoped BigOperators

namespace Cert.Attn

open Cert.Reals Idealize.ShloMosaic

/-- Column `d` of head `h`. -/
def hd (h : Fin 4) (d : Fin 128) : Fin 512 := ⟨h.val * 128 + d.val, by omega⟩
/-- Column `d` of the keys of head `h` in a memory row. -/
def kc (h : Fin 4) (d : Fin 128) : Fin 1024 := ⟨h.val * 128 + d.val, by omega⟩
/-- Column `d` of the values of head `h` in a memory row. -/
def vc (h : Fin 4) (d : Fin 128) : Fin 1024 := ⟨512 + h.val * 128 + d.val, by omega⟩

/-- The factor of the scores: the real number of its float word. -/
def scale : ℝ := 11863283 / 2 ^ 27
theorem word_scale : Ideal.ofBits .f32 0x3DB504F3#32 = ((scale : ℝ) : EReal) := by
  unfold scale; simp [Ideal.ofBits, Ideal.ieee, -EReal.coe_mul]; norm_num

variable (kv : Fin 256 → Fin 1024 → ℝ) (q g : Fin 512 → ℝ) (h : Fin 4)

def score (m : Fin 256) : ℝ := (∑ d, kv m (kc h d) * q (hd h d)) * scale
def prob (m : Fin 256) : ℝ := Real.exp (score kv q h m) / ∑ k, Real.exp (score kv q h k)
def dprob (m : Fin 256) : ℝ := ∑ d, kv m (vc h d) * g (hd h d)
def dscore (m : Fin 256) : ℝ :=
  prob kv q h m * (dprob kv g h m - ∑ k, dprob kv g h k * prob kv q h k) * scale

/-- The gradient of the query row. -/
def dquery (d : Fin 128) : ℝ := ∑ m, kv m (kc h d) * dscore kv q g h m

/-- The head a column belongs to, and its place in it. -/
def hOf (c : Fin 512) : Fin 4 := ⟨c.val / 128, by omega⟩
def dOf (c : Fin 512) : Fin 128 := ⟨c.val % 128, by omega⟩
theorem hd_of (c : Fin 512) : hd (hOf c) (dOf c) = c := Fin.ext (by show c.val / 128 * 128 + c.val % 128 = c.val; omega)
theorem hOf_hd (h : Fin 4) (d : Fin 128) : hOf (hd h d) = h := Fin.ext (by show (h.val * 128 + d.val) / 128 = h.val; omega)
theorem dOf_hd (h : Fin 4) (d : Fin 128) : dOf (hd h d) = d := Fin.ext (by show (h.val * 128 + d.val) % 128 = d.val; omega)

/-- The whole gradient of a query row. -/
def drow (c : Fin 512) : ℝ := dquery kv q g (hOf c) (dOf c)

/-- What a query row adds to the gradient of a memory row: to the keys, then to the values. -/
def dmem (m : Fin 256) (c : Fin 1024) : ℝ :=
  if e : c.val < 512 then dscore kv q g (hOf ⟨c.val, e⟩) m * q ⟨c.val, e⟩
  else prob kv q (hOf ⟨c.val - 512, by omega⟩) m * g ⟨c.val - 512, by omega⟩

theorem dmem_kc (m : Fin 256) (d : Fin 128) : dmem kv q g m (kc h d) = dscore kv q g h m * q (hd h d) := by
  have e : (kc h d).val < 512 := by show h.val * 128 + d.val < 512; omega
  have e2 : (⟨(kc h d).val, e⟩ : Fin 512) = hd h d := rfl
  unfold dmem
  rw [dif_pos e, e2, hOf_hd]

theorem dmem_vc (m : Fin 256) (d : Fin 128) : dmem kv q g m (vc h d) = prob kv q h m * g (hd h d) := by
  have e : ¬(vc h d).val < 512 := by show ¬512 + h.val * 128 + d.val < 512; omega
  have e2 : (⟨(vc h d).val - 512, by have := (vc h d).isLt; omega⟩ : Fin 512) = hd h d :=
    Fin.ext (by show 512 + h.val * 128 + d.val - 512 = h.val * 128 + d.val; omega)
  unfold dmem
  rw [dif_neg e, e2, hOf_hd]

/-- Every column of a memory row is one of the keys or one of the values. -/
theorem kv_cases (c : Fin 1024) : (∃ h d, c = kc h d) ∨ ∃ h d, c = vc h d := by
  by_cases e : c.val < 512
  · exact .inl ⟨hOf ⟨c.val, e⟩, dOf ⟨c.val, e⟩, Fin.ext (by show c.val = c.val / 128 * 128 + c.val % 128; omega)⟩
  · have hc := c.isLt
    exact .inr ⟨hOf ⟨c.val - 512, by omega⟩, dOf ⟨c.val - 512, by omega⟩,
      Fin.ext (by show c.val = 512 + (c.val - 512) / 128 * 128 + (c.val - 512) % 128; omega)⟩

theorem sum_exp_pos {ι : Type} [Fintype ι] [Nonempty ι] (f : ι → ℝ) : 0 < ∑ k, Real.exp (f k) :=
  Finset.sum_pos (fun _ _ => Real.exp_pos _) Finset.univ_nonempty

/-- Scores moved by a common number have the same softmax. -/
theorem shifted {ι : Type} [Fintype ι] [Nonempty ι] (f : ι → ℝ) (c : ℝ) (m : ι) :
    Real.exp (f m - c) / ∑ k, Real.exp (f k - c) = Real.exp (f m) / ∑ k, Real.exp (f k) := by
  have e : ∀ k, Real.exp (f k - c) = Real.exp (f k) * (Real.exp c)⁻¹ := fun k => by rw [Real.exp_sub, div_eq_mul_inv]
  simp only [e, ← Finset.sum_mul]
  exact mul_div_mul_right _ _ (inv_ne_zero (Real.exp_ne_zero c))

/-- The derivative of the softmax as it is taken from the shifted exponentials `e` and their sum. -/
theorem dsoftmax {ι : Type} [Fintype ι] [Nonempty ι] (e dp p : ι → ℝ) (hp : ∀ m, e m / ∑ k, e k = p m) (hs : ∑ k, e k ≠ 0) (m : ι) :
    (dp m / (∑ k, e k) + -∑ k, dp k * (1 / ((∑ k, e k) * ∑ k, e k)) * e k) * e m
      = p m * (dp m - ∑ k, dp k * p k) := by
  set S := ∑ k, e k with hS
  have h1 : ∑ k, dp k * (1 / (S * S)) * e k = (∑ k, dp k * p k) / S := by
    rw [Finset.sum_div]
    refine Finset.sum_congr rfl fun k _ => ?_
    rw [← hp k]; field_simp
  rw [h1, ← hp m]
  field_simp
  ring

end Cert.Attn

end
-- ==== Proof.AttnTile.lean ====
/- One grid point of the branch gradient's kernel over real numbers, the attention: from the blocks it loads (512 query rows
   and cotangent rows, the memory whole) to the gradient of the query rows and what it adds to the gradient of the memory. -/
module

public import proofs.«01_k».proof.Proof.Attn
public import proofs.«01_k».proof.Proof.Gen.Kernel2Ideal.Skeleton

@[expose] public section

noncomputable section

open scoped BigOperators

namespace Cert.AttnTile

open Idealize.ShloMosaic hiding ix0 ix1 ix2 ix3 eq_ix2
open Idealize.ShloMosaic.ValueIdx
open Cert.Reals Cert.Layouts Cert.Attn
open Cert.Kernel2Ideal Cert.Kernel2Ideal.Gen

section Stages

variable {K : Fin 256 → Fin 1024 → ℝ} {Q G : Fin 512 → Fin 512 → ℝ}

/-- The scores of a head, memory rows down and query rows across. -/
theorem scores {kv : FVec Ideal S256x1024 .bf16} {q : FVec Ideal S512x512 .bf16} (hk : Is2 (m := 256) (n := 1024) kv K)
    (hq : Is2 (m := 512) (n := 512) q Q) (h : Fin 4) {o : ℕ} (ho : o = h.val * 128)
    (s1 : S256x1024.Slices ![0, o] S256x128) (s2 : S512x512.Slices ![0, o] S512x128) :
    Is2 (m := 256) (n := 512) (mulf (matmul dot_S256x128_S512x128_S256x512_1_1_0_0_n_n none
      (extractStridedSlice S256x128 ![0, o] kv s1) (extractStridedSlice S512x128 ![0, o] q s2) (constant S256x512 .f32 0x00000000#32))
      (broadcast S256x512 (Scalar.ofBits (F := Ideal) .f32 0x3DB504F3#32))) (fun m t => score K (Q t) h m) := by
  subst ho
  exact ((Is2.matmulT rfl (Layouts.Is2.cols hk s1 (kc h) (fun _ => rfl)) (Layouts.Is2.cols hq s2 (hd h) (fun _ => rfl))
    (Is2.splat word_zero)).mul (Is2.const word_scale)).congr fun m t => by rw [zero_add]; rfl

/-- The gradient of the probabilities of a head. -/
theorem dprobs {kv : FVec Ideal S256x1024 .bf16} {g : FVec Ideal S512x512 .bf16} (hk : Is2 (m := 256) (n := 1024) kv K)
    (hg : Is2 (m := 512) (n := 512) g G) (h : Fin 4) {o p : ℕ} (ho : o = h.val * 128) (hp : p = 512 + h.val * 128)
    (s1 : S256x1024.Slices ![0, p] S256x128) (s2 : S512x512.Slices ![0, o] S512x128) :
    Is2 (m := 256) (n := 512) (matmul dot_S256x128_S512x128_S256x512_1_1_0_0_n_n none
      (extractStridedSlice S256x128 ![0, p] kv s1) (extractStridedSlice S512x128 ![0, o] g s2) (constant S256x512 .f32 0x00000000#32))
      (fun m t => dprob K (G t) h m) := by
  subst ho hp
  exact (Is2.matmulT rfl (Layouts.Is2.cols hk s1 (vc h) (fun _ => rfl)) (Layouts.Is2.cols hg s2 (hd h) (fun _ => rfl))
    (Is2.splat word_zero)).congr fun m t => by rw [zero_add]; rfl

/-- The exponentials of scores less their column's maximum. -/
theorem expos {s : FVec Ideal S256x512 .f32} {S : Fin 256 → Fin 512 → ℝ} (hs : Is2 (m := 256) (n := 512) s S) :
    ∃ c : Fin 512 → ℝ, Is2 (m := 256) (n := 512) (exp (subf s (broadcastTo S256x512 (shapeCast S1x512
      (multiReduction .maximumf [0] S512 s 0xFF800000#32 reduces_S256x512_S512 (.inl rfl) rfl) shapeCasts_S512_S1x512)
      broadcasts_S1x512_S256x512))) (fun m t => Real.exp (S m t - c t)) := by
  obtain ⟨c, hc⟩ := Layouts.Is2.colMax (m := 256) (n := 512) hs (acc := 0xFF800000#32) reduces_S256x512_S512 (.inl rfl) rfl neg_inf_ne_top
  exact ⟨c, Layouts.Is2.exp (hs.sub ((hc.toRow shapeCasts_S512_S1x512).row broadcasts_S1x512_S256x512))⟩

/-- The probabilities, from such exponentials. -/
theorem probs {e : FVec Ideal S256x512 .f32} {h : Fin 4} {c : Fin 512 → ℝ}
    (he : Is2 (m := 256) (n := 512) e (fun m t => Real.exp (score K (Q t) h m - c t))) :
    Is2 (m := 256) (n := 512) (divf e (broadcastTo S256x512 (shapeCast S1x512
      (multiReduction .add [0] S512 e 0x00000000#32 reduces_S256x512_S512 (.inl rfl) rfl) shapeCasts_S512_S1x512)
      broadcasts_S1x512_S256x512)) (fun m t => prob K (Q t) h m) :=
  (he.div (((Is2.colSums he reduces_S256x512_S512 (.inl rfl) rfl).toRow shapeCasts_S512_S1x512).row broadcasts_S1x512_S256x512)
    (fun _ _ => (sum_exp_pos _).ne')).congr fun m t => shifted (score K (Q t) h) (c t) m

/-- The gradient of the scores. -/
theorem dscores {d p : FVec Ideal S256x512 .f32} {h : Fin 4} (hd : Is2 (m := 256) (n := 512) d (fun m t => dprob K (G t) h m))
    (hp : Is2 (m := 256) (n := 512) p (fun m t => prob K (Q t) h m)) :
    Is2 (m := 256) (n := 512) (truncf .bf16 (mulf (mulf p (subf d (broadcastTo S256x512 (shapeCast S1x512
      (multiReduction .add [0] S512 (mulf d p) 0x00000000#32 reduces_S256x512_S512 (.inl rfl) rfl) shapeCasts_S512_S1x512)
      broadcasts_S1x512_S256x512))) (broadcast S256x512 (Scalar.ofBits (F := Ideal) .f32 0x3DB504F3#32))) bitsLt_bf16_f32)
      (fun m t => dscore K (Q t) (G t) h m) :=
  ((hp.mul (hd.sub (((Is2.colSums (hd.mul hp) reduces_S256x512_S512 (.inl rfl) rfl).toRow shapeCasts_S512_S1x512).row
    broadcasts_S1x512_S256x512))).mul (Is2.const word_scale)).trunc _

/-- The sum over the query rows of a head's weights times the rows. -/
theorem weighted {w : FVec Ideal S256x512 .bf16} {q : FVec Ideal S512x512 .bf16} {W : Fin 256 → Fin 512 → ℝ}
    (hw : Is2 (m := 256) (n := 512) w W) (hq : Is2 (m := 512) (n := 512) q Q) (h : Fin 4) {o : ℕ} (ho : o = h.val * 128)
    (s2 : S512x512.Slices ![0, o] S512x128) :
    Is2 (m := 256) (n := 128) (matmul dot_S256x512_S512x128_S256x128_1_0_0_1_n_n none w
      (extractStridedSlice S512x128 ![0, o] q s2) (constant S256x128 .f32 0x00000000#32))
      (fun m d => ∑ t, W m t * Q t (hd h d)) := by
  subst ho
  exact (Is2.matmul rfl hw (Layouts.Is2.cols hq s2 (hd h) (fun _ => rfl)) (Is2.splat word_zero)).congr fun m d => zero_add _

/-- A head's part of the gradient of the query rows, transposed. -/
theorem dqueries {w : FVec Ideal S256x512 .bf16} {k : FVec Ideal S128x256 .bf16} {h : Fin 4}
    (hw : Is2 (m := 256) (n := 512) w (fun m t => dscore K (Q t) (G t) h m)) (hk : Is2 (m := 128) (n := 256) k (fun d m => K m (kc h d))) :
    Is2 (m := 128) (n := 512) (matmul dot_S128x256_S256x512_S128x512_1_0_0_1_n_n none
      (shapeCast S128x256 k shapeCasts_S128x256_S128x256) w (constant S128x512 .f32 0x00000000#32))
      (fun d t => dquery K (Q t) (G t) h d) :=
  (Is2.matmul rfl (hk.cast _) hw (Is2.splat word_zero)).congr fun m d => zero_add _

end Stages

/-- The blocks the attention's part of a grid point loads: the cotangent rows, the query rows, the memory, the weights of the
    output product, and the keys of the four heads transposed. -/
structure Blk (F : FTy → Type) where
  dy : FVec F S512x1024 .bf16
  qx : FVec F S512x512 .bf16
  kv : FVec F S256x1024 .bf16
  wx : FVec F S1024x512 .bf16
  k0 : FVec F S128x256 .bf16
  k1 : FVec F S128x256 .bf16
  k2 : FVec F S128x256 .bf16
  k3 : FVec F S128x256 .bf16

section Defs

variable {F : FTy → Type} [FloatOps F] (B : Blk F)

def Blk.q := k0_pay25 B.qx
def Blk.g := k0_pay26 B.dy B.wx
def Blk.e0 := k0_pay34 B.q B.kv
def Blk.e1 := k0_pay35 B.q B.kv
def Blk.s2 := k0_pay28 B.q B.kv
def Blk.s3 := k0_pay29 B.q B.kv
def Blk.x2 := k0_pay36 B.q B.kv
def Blk.p1 := k0_pay38 B.e1
def Blk.p2 := k0_pay39 B.s2 B.x2
def Blk.p3 := k0_pay40 B.s3
def Blk.d0 := k0_pay30 B.g B.kv
def Blk.d1 := k0_pay31 B.g B.kv
def Blk.d2 := k0_pay32 B.g B.kv
def Blk.d3 := k0_pay33 B.g B.kv
def Blk.r1 := k0_pay46 B.d1 B.e1
def Blk.t0 := k0_pay45 B.d0 B.e0
def Blk.t3 := k0_pay49 B.d3 B.p3

/-- The gradient of the query rows. -/
def Blk.dq : FVec F S512x512 .bf16 :=
  k0_pay1 B.t3 (k0_pay54 B.t0 B.k0) (k0_pay55 B.d1 B.p1 B.r1 B.k1) (k0_pay56 B.d2 B.p2 B.k2) B.k3

/-- The gradient of the memory, from what it was before. -/
def Blk.dkv (acc : FVec F S256x1024 .f32) : FVec F S256x1024 .f32 :=
  k0_pay2 (k0_pay41 B.g B.e0) (k0_pay42 B.g B.e1) (k0_pay43 B.g B.s2 B.x2) (k0_pay44 B.g B.s3)
    (k0_pay50 B.q B.t0) (k0_pay51 B.q B.d1 B.p1 B.r1) (k0_pay52 B.q B.d2 B.p2) (k0_pay53 B.q B.d3 B.p3) acc

end Defs

/-- The blocks hold real numbers: the cotangent rows `Y`, the query rows `Q`, the memory `K`, the weights `W`. -/
structure Blk.Holds (B : Blk Ideal) (Y : Fin 512 → Fin 1024 → ℝ) (Q : Fin 512 → Fin 512 → ℝ) (K : Fin 256 → Fin 1024 → ℝ)
    (W : Fin 1024 → Fin 512 → ℝ) : Prop where
  dy : Is2 (m := 512) (n := 1024) B.dy Y
  qx : Is2 (m := 512) (n := 512) B.qx Q
  kv : Is2 (m := 256) (n := 1024) B.kv K
  wx : Is2 (m := 1024) (n := 512) B.wx W
  k0 : Is2 (m := 128) (n := 256) B.k0 (fun d m => K m (kc 0 d))
  k1 : Is2 (m := 128) (n := 256) B.k1 (fun d m => K m (kc 1 d))
  k2 : Is2 (m := 128) (n := 256) B.k2 (fun d m => K m (kc 2 d))
  k3 : Is2 (m := 128) (n := 256) B.k3 (fun d m => K m (kc 3 d))

section Values

variable {B : Blk Ideal} {Y : Fin 512 → Fin 1024 → ℝ} {Q : Fin 512 → Fin 512 → ℝ} {K : Fin 256 → Fin 1024 → ℝ}
  {W : Fin 1024 → Fin 512 → ℝ} (H : B.Holds Y Q K W)

/-- The cotangent of the attention's output. -/
def cot (Y : Fin 512 → Fin 1024 → ℝ) (W : Fin 1024 → Fin 512 → ℝ) (t : Fin 512) (c : Fin 512) : ℝ := ∑ j, Y t j * W j c

include H

theorem Blk.Holds.q : Is2 (m := 512) (n := 512) B.q Q := H.qx.cast _
theorem Blk.Holds.kvc : Is2 (m := 256) (n := 1024) (k0_pay27 B.kv) K := H.kv.cast _
theorem Blk.Holds.g : Is2 (m := 512) (n := 512) B.g (cot Y W) :=
  ((Is2.matmul rfl (H.dy.cast _) (H.wx.cast _) (Is2.splat word_zero)).congr fun t c => zero_add _).trunc _

theorem Blk.Holds.e0 : ∃ c : Fin 512 → ℝ, Is2 (m := 256) (n := 512) B.e0 (fun m t => Real.exp (score K (Q t) 0 m - c t)) :=
  expos (scores H.kvc H.q 0 rfl _ _)
theorem Blk.Holds.e1 : ∃ c : Fin 512 → ℝ, Is2 (m := 256) (n := 512) B.e1 (fun m t => Real.exp (score K (Q t) 1 m - c t)) :=
  expos (scores H.kvc H.q 1 rfl _ _)
theorem Blk.Holds.p0 : Is2 (m := 256) (n := 512) (k0_pay37 B.e0) (fun m t => prob K (Q t) 0 m) :=
  H.e0.elim fun _ h => probs h
theorem Blk.Holds.p1 : Is2 (m := 256) (n := 512) B.p1 (fun m t => prob K (Q t) 1 m) := H.e1.elim fun _ h => probs h
theorem Blk.Holds.p2 : Is2 (m := 256) (n := 512) B.p2 (fun m t => prob K (Q t) 2 m) :=
  (expos (scores H.kvc H.q 2 rfl _ _)).elim fun _ h => probs h
theorem Blk.Holds.p3 : Is2 (m := 256) (n := 512) B.p3 (fun m t => prob K (Q t) 3 m) :=
  (expos (scores H.kvc H.q 3 rfl _ _)).elim fun _ h => probs h
theorem Blk.Holds.d0 : Is2 (m := 256) (n := 512) B.d0 (fun m t => dprob K (cot Y W t) 0 m) := dprobs H.kvc H.g 0 rfl rfl _ _
theorem Blk.Holds.d1 : Is2 (m := 256) (n := 512) B.d1 (fun m t => dprob K (cot Y W t) 1 m) := dprobs H.kvc H.g 1 rfl rfl _ _
theorem Blk.Holds.d2 : Is2 (m := 256) (n := 512) B.d2 (fun m t => dprob K (cot Y W t) 2 m) := dprobs H.kvc H.g 2 rfl rfl _ _
theorem Blk.Holds.d3 : Is2 (m := 256) (n := 512) B.d3 (fun m t => dprob K (cot Y W t) 3 m) := dprobs H.kvc H.g 3 rfl rfl _ _
theorem Blk.Holds.t0 : Is2 (m := 256) (n := 512) B.t0 (fun m t => dscore K (Q t) (cot Y W t) 0 m) := dscores H.d0 H.p0
theorem Blk.Holds.t1 : Is2 (m := 256) (n := 512) (k0_pay47 B.d1 B.p1 B.r1) (fun m t => dscore K (Q t) (cot Y W t) 1 m) :=
  dscores H.d1 H.p1
theorem Blk.Holds.t2 : Is2 (m := 256) (n := 512) (k0_pay48 B.d2 B.p2) (fun m t => dscore K (Q t) (cot Y W t) 2 m) :=
  dscores H.d2 H.p2
theorem Blk.Holds.t3 : Is2 (m := 256) (n := 512) B.t3 (fun m t => dscore K (Q t) (cot Y W t) 3 m) := dscores H.d3 H.p3

/-- The four heads' parts of the gradient of the query rows, joined. -/
theorem Blk.Holds.heads : Is2 (m := 512) (n := 512) (concatenate S512x512 0 [⟨S128x512, k0_pay54 B.t0 B.k0⟩,
    ⟨S128x512, k0_pay55 B.d1 B.p1 B.r1 B.k1⟩, ⟨S128x512, k0_pay56 B.d2 B.p2 B.k2⟩,
    ⟨S128x512, matmul dot_S128x256_S256x512_S128x512_1_0_0_1_n_n none
      (shapeCast S128x256 B.k3 shapeCasts_S128x256_S128x256) B.t3 (constant S128x512 .f32 0x00000000#32)⟩]
    concatenates_S128x512_S128x512_S128x512_S128x512_S512x512_d0) (fun c t => drow K (Q t) (cot Y W t) c) := fun c t => by
  have key : ∀ (h : Fin 4) (d : Fin 128), concatenate S512x512 0 [⟨S128x512, k0_pay54 B.t0 B.k0⟩,
      ⟨S128x512, k0_pay55 B.d1 B.p1 B.r1 B.k1⟩, ⟨S128x512, k0_pay56 B.d2 B.p2 B.k2⟩,
      ⟨S128x512, matmul dot_S128x256_S256x512_S128x512_1_0_0_1_n_n none
        (shapeCast S128x256 B.k3 shapeCasts_S128x256_S128x256) B.t3 (constant S128x512 .f32 0x00000000#32)⟩]
      concatenates_S128x512_S128x512_S128x512_S128x512_S512x512_d0 (ix2 (hd h d) t)
      = ((dquery K (Q t) (cot Y W t) h d : ℝ) : EReal) := fun h d => by
    match h with
    | 0 =>
      exact join_rows (n := 512) (t := 512) _ 0 (by exact (by decide : 0 < 4))
        (f := fun d t => ((dquery K (Q t) (cot Y W t) 0 d : ℝ) : EReal)) (dqueries H.t0 H.k0) rfl 0 rfl d t _ rfl
    | 1 =>
      exact join_rows (n := 512) (t := 512) _ 1 (by exact (by decide : 1 < 4))
        (f := fun d t => ((dquery K (Q t) (cot Y W t) 1 d : ℝ) : EReal)) (dqueries H.t1 H.k1) rfl 128 rfl d t _ rfl
    | 2 =>
      exact join_rows (n := 512) (t := 512) _ 2 (by exact (by decide : 2 < 4))
        (f := fun d t => ((dquery K (Q t) (cot Y W t) 2 d : ℝ) : EReal)) (dqueries H.t2 H.k2) rfl 256 rfl d t _ rfl
    | 3 =>
      exact join_rows (n := 512) (t := 512) _ 3 (by exact (by decide : 3 < 4))
        (f := fun d t => ((dquery K (Q t) (cot Y W t) 3 d : ℝ) : EReal)) (dqueries H.t3 H.k3) rfl 384 rfl d t _ rfl
  have h := key (hOf c) (dOf c)
  rw [hd_of] at h
  exact h

/-- The gradient of the query rows. -/
theorem Blk.Holds.dq : Is2 (m := 512) (n := 512) B.dq (fun t c => drow K (Q t) (cot Y W t) c) :=
  (H.heads.transpose transposes_S512x512_p1_0_S512x512).trunc bitsLt_bf16_f32

/-- The eight parts of the memory's gradient, joined. -/
theorem Blk.Holds.parts : Is2 (m := 256) (n := 1024) (concatenate S256x1024 1 [⟨S256x128, k0_pay50 B.q B.t0⟩,
    ⟨S256x128, k0_pay51 B.q B.d1 B.p1 B.r1⟩, ⟨S256x128, k0_pay52 B.q B.d2 B.p2⟩, ⟨S256x128, k0_pay53 B.q B.d3 B.p3⟩,
    ⟨S256x128, k0_pay41 B.g B.e0⟩, ⟨S256x128, k0_pay42 B.g B.e1⟩, ⟨S256x128, k0_pay43 B.g B.s2 B.x2⟩, ⟨S256x128, k0_pay44 B.g B.s3⟩]
    concatenates_S256x128_S256x128_S256x128_S256x128_S256x128_S256x128_S256x128_S256x128_S256x1024_d1) (fun m c => ∑ t, dmem K (Q t) (cot Y W t) m c) := fun m c => by
  rcases kv_cases c with ⟨h, d, rfl⟩ | ⟨h, d, rfl⟩
  · simp only [dmem_kc]
    match h with
    | 0 =>
      exact join_cols (m := 256) (t := 1024) _ 0 (by exact (by decide : 0 < 8))
        (f := fun m d => ((∑ t, dscore K (Q t) (cot Y W t) 0 m * Q t (hd 0 d) : ℝ) : EReal)) (weighted H.t0 H.q 0 rfl _) rfl 0 rfl m d _ rfl
    | 1 =>
      exact join_cols (m := 256) (t := 1024) _ 1 (by exact (by decide : 1 < 8))
        (f := fun m d => ((∑ t, dscore K (Q t) (cot Y W t) 1 m * Q t (hd 1 d) : ℝ) : EReal)) (weighted H.t1 H.q 1 rfl _) rfl 128 rfl m d _ rfl
    | 2 =>
      exact join_cols (m := 256) (t := 1024) _ 2 (by exact (by decide : 2 < 8))
        (f := fun m d => ((∑ t, dscore K (Q t) (cot Y W t) 2 m * Q t (hd 2 d) : ℝ) : EReal)) (weighted H.t2 H.q 2 rfl _) rfl 256 rfl m d _ rfl
    | 3 =>
      exact join_cols (m := 256) (t := 1024) _ 3 (by exact (by decide : 3 < 8))
        (f := fun m d => ((∑ t, dscore K (Q t) (cot Y W t) 3 m * Q t (hd 3 d) : ℝ) : EReal)) (weighted H.t3 H.q 3 rfl _) rfl 384 rfl m d _ rfl
  · simp only [dmem_vc]
    match h with
    | 0 =>
      exact join_cols (m := 256) (t := 1024) _ 4 (by exact (by decide : 4 < 8))
        (f := fun m d => ((∑ t, prob K (Q t) 0 m * cot Y W t (hd 0 d) : ℝ) : EReal)) (weighted (H.p0.trunc _) H.g 0 rfl _) rfl 512 rfl m d _ rfl
    | 1 =>
      exact join_cols (m := 256) (t := 1024) _ 5 (by exact (by decide : 5 < 8))
        (f := fun m d => ((∑ t, prob K (Q t) 1 m * cot Y W t (hd 1 d) : ℝ) : EReal)) (weighted (H.p1.trunc _) H.g 1 rfl _) rfl 640 rfl m d _ rfl
    | 2 =>
      exact join_cols (m := 256) (t := 1024) _ 6 (by exact (by decide : 6 < 8))
        (f := fun m d => ((∑ t, prob K (Q t) 2 m * cot Y W t (hd 2 d) : ℝ) : EReal)) (weighted (H.p2.trunc _) H.g 2 rfl _) rfl 768 rfl m d _ rfl
    | 3 =>
      exact join_cols (m := 256) (t := 1024) _ 7 (by exact (by decide : 7 < 8))
        (f := fun m d => ((∑ t, prob K (Q t) 3 m * cot Y W t (hd 3 d) : ℝ) : EReal)) (weighted (H.p3.trunc _) H.g 3 rfl _) rfl 896 rfl m d _ rfl

/-- The gradient of the memory, from the real numbers it held before. -/
theorem Blk.Holds.dkv {acc : FVec Ideal S256x1024 .f32} {A : Fin 256 → Fin 1024 → ℝ} (ha : Is2 (m := 256) (n := 1024) acc A) :
    Is2 (m := 256) (n := 1024) (B.dkv acc) (fun m c => A m c + ∑ t, dmem K (Q t) (cot Y W t) m c) :=
  (ha.cast _).add H.parts

end Values

end Cert.AttnTile

end
-- ==== Proof.AttnRead.lean ====
/- What the branch gradient's kernel leaves for the attention at a grid point: the block of the query rows' gradient, and the
   running gradient of the memory. -/
module

public import proofs.«01_k».proof.Proof.AttnTile
public import proofs.«01_k».proof.Proof.Gen.Kernel2Ideal.Value
public import Idealize.ShloMosaic.Lib.Tactic

@[expose] public section

noncomputable section

namespace Cert.AttnRead

open Cert.Kernel2Ideal Cert.Kernel2Ideal.Gen Cert.AttnTile Idealize.ShloMosaic Idealize.ShloMosaic.TcCoe Idealize.SL.Sem
open Idealize.ShloMosaic.Pipeline (Dat)

variable {F : FTy → Type} [FloatOps F] (m : (ℓ : Loc nD τ sig) → Buf (Elt F) ℓ)

theorem hz : (![0, 0] : Fin 2 → Nat) = fun _ => 0 := funext fun a => by fin_cases a <;> rfl

/-- The blocks the attention loads at a grid point. -/
def blk (c : Dev nD) (t : Fin cfg0.N) : Blk F where
  dy := iblk m c 1 t
  qx := iblk m c 4 t
  kv := iblk m c 5 t
  wx := iblk m c 8 t
  k0 := View.ld (iblk m c 9 t) (Rect.unit (s := S512x256) ![0, 0] S128x256.size inb_S512x256_S128x256_0_0)
  k1 := View.ld (iblk m c 9 t) (Rect.unit (s := S512x256) ![128, 0] S128x256.size inb_S512x256_S128x256_128_0)
  k2 := View.ld (iblk m c 9 t) (Rect.unit (s := S512x256) ![256, 0] S128x256.size inb_S512x256_S128x256_256_0)
  k3 := View.ld (iblk m c 9 t) (Rect.unit (s := S512x256) ![384, 0] S128x256.size inb_S512x256_S128x256_384_0)

set_option maxRecDepth 16384 in
set_option maxHeartbeats 4000000 in
theorem dq (c : Dev nD) (t : Fin cfg0.N) : (outsAt0 m c t.val t.isLt).2.1 = (blk m c t).dq := by
  by_cases h0 : t.val % 16 = 0
  · rw [outsAt0_A m c t h0 (by omega)]
    dsimp only
    unfold out0_A_11
    refine (View.read_writes_eq_canon _ _ _ (fun y => by apply cover0_A_11)).trans ?_
    unfold kernelRun0_A
    dsimp only
    rw [View.canon_unit_zero hz]
    sl_unfold_words
    simp only [View.readAt_eq_ld, (hs0_1 t).read_unread, (hs0_4 t).read_unread, (hs0_5 t).read_unread, (hs0_8 t).read_unread,
      (hs0_9 t).read_unread, View.ld_unit_zero (S := S512x1024) hz, View.ld_unit_zero (S := S512x512) hz,
      View.ld_unit_zero (S := S256x1024) hz, View.ld_unit_zero (S := S1024x512) hz]
    simp only [Blk.dq, Blk.q, Blk.g, Blk.e0, Blk.e1, Blk.s2, Blk.s3, Blk.x2, Blk.p1, Blk.p2, Blk.p3, Blk.d0, Blk.d1, Blk.d2, Blk.d3,
      Blk.r1, Blk.t0, Blk.t3, blk]
    rfl
  · by_cases h1 : t.val % 16 = 15
    · rw [outsAt0_C m c t h0 h1]
      dsimp only
      unfold out0_C_11
      refine (View.read_writes_eq_canon _ _ _ (fun y => by apply cover0_C_11)).trans ?_
      unfold kernelRun0_C
      dsimp only
      rw [View.canon_unit_zero hz]
      sl_unfold_words
      simp only [View.readAt_eq_ld, (hs0_1 t).read_unread, (hs0_4 t).read_unread, (hs0_5 t).read_unread, (hs0_8 t).read_unread,
        (hs0_9 t).read_unread, View.ld_unit_zero (S := S512x1024) hz, View.ld_unit_zero (S := S512x512) hz,
        View.ld_unit_zero (S := S256x1024) hz, View.ld_unit_zero (S := S1024x512) hz]
      simp only [Blk.dq, Blk.q, Blk.g, Blk.e0, Blk.e1, Blk.s2, Blk.s3, Blk.x2, Blk.p1, Blk.p2, Blk.p3, Blk.d0, Blk.d1, Blk.d2, Blk.d3,
        Blk.r1, Blk.t0, Blk.t3, blk]
      rfl
    · rw [outsAt0_B m c t h0 h1]
      dsimp only
      unfold out0_B_11
      refine (View.read_writes_eq_canon _ _ _ (fun y => by apply cover0_B_11)).trans ?_
      unfold kernelRun0_B
      dsimp only
      rw [View.canon_unit_zero hz]
      sl_unfold_words
      simp only [View.readAt_eq_ld, (hs0_1 t).read_unread, (hs0_4 t).read_unread, (hs0_5 t).read_unread, (hs0_8 t).read_unread,
        (hs0_9 t).read_unread, View.ld_unit_zero (S := S512x1024) hz, View.ld_unit_zero (S := S512x512) hz,
        View.ld_unit_zero (S := S256x1024) hz, View.ld_unit_zero (S := S1024x512) hz]
      simp only [Blk.dq, Blk.q, Blk.g, Blk.e0, Blk.e1, Blk.s2, Blk.s3, Blk.x2, Blk.p1, Blk.p2, Blk.p3, Blk.d0, Blk.d1, Blk.d2, Blk.d3,
        Blk.r1, Blk.t0, Blk.t3, blk]
      rfl

set_option maxRecDepth 16384 in
set_option maxHeartbeats 4000000 in
/-- At the first grid point the memory's gradient starts at zero. -/
theorem dkv_first (c : Dev nD) (t : Fin cfg0.N) (h0 : t.val % 16 = 0) :
    (outsAt0 m c t.val t.isLt).2.2.1 = (blk m c t).dkv (k0_pay4 (F := F)) := by
  rw [outsAt0_A m c t h0 (by omega)]
  dsimp only
  unfold out0_A_12
  refine (View.read_writes_eq_canon _ _ _ (fun y => by apply cover0_A_12)).trans ?_
  unfold kernelRun0_A
  dsimp only
  rw [View.canon_cons_unit_zero hz]
  sl_unfold_words
  simp only [View.readAt_eq_ld, (hs0_1 t).read_unread, (hs0_4 t).read_unread, (hs0_5 t).read_unread, (hs0_8 t).read_unread,
    View.ld_unit_zero (S := S512x1024) hz, View.ld_unit_zero (S := S512x512) hz,
    View.ld_unit_zero (S := S256x1024) hz, View.ld_unit_zero (S := S1024x512) hz, View.readCov_cons_toLoadRect]
  simp only [Blk.dkv, Blk.q, Blk.g, Blk.e0, Blk.e1, Blk.s2, Blk.s3, Blk.x2, Blk.p1, Blk.p2, Blk.p3, Blk.d0, Blk.d1, Blk.d2, Blk.d3,
    Blk.r1, Blk.t0, Blk.t3, blk]

set_option maxRecDepth 16384 in
set_option maxHeartbeats 4000000 in
/-- At a later grid point it goes on from the point before. -/
theorem dkv_next (c : Dev nD) (t : Fin cfg0.N) (h0 : ¬t.val % 16 = 0) :
    (outsAt0 m c t.val t.isLt).2.2.1
      = (blk m c t).dkv (outsAt0 m c (t.val - 1) (Nat.lt_of_le_of_lt (Nat.sub_le _ _) t.isLt)).2.2.1 := by
  by_cases h1 : t.val % 16 = 15
  · rw [outsAt0_C m c t h0 h1]
    dsimp only
    unfold out0_C_12
    refine (View.read_writes_eq_canon _ _ _ (fun y => by apply cover0_C_12)).trans ?_
    unfold kernelRun0_C
    dsimp only
    rw [View.canon_unit_zero hz]
    sl_unfold_words
    simp only [View.readAt_eq_ld, (hs0_1 t).read_unread, (hs0_4 t).read_unread, (hs0_5 t).read_unread, (hs0_8 t).read_unread,
      (hs0_12 t).read_unread, View.ld_unit_zero (S := S512x1024) hz, View.ld_unit_zero (S := S512x512) hz,
      View.ld_unit_zero (S := S256x1024) hz, View.ld_unit_zero (S := S1024x512) hz]
    simp only [Blk.dkv, Blk.q, Blk.g, Blk.e0, Blk.e1, Blk.s2, Blk.s3, Blk.x2, Blk.p1, Blk.p2, Blk.p3, Blk.d0, Blk.d1, Blk.d2, Blk.d3,
      Blk.r1, Blk.t0, Blk.t3, blk]
  · rw [outsAt0_B m c t h0 h1]
    dsimp only
    unfold out0_B_12
    refine (View.read_writes_eq_canon _ _ _ (fun y => by apply cover0_B_12)).trans ?_
    unfold kernelRun0_B
    dsimp only
    rw [View.canon_unit_zero hz]
    sl_unfold_words
    simp only [View.readAt_eq_ld, (hs0_1 t).read_unread, (hs0_4 t).read_unread, (hs0_5 t).read_unread, (hs0_8 t).read_unread,
      (hs0_12 t).read_unread, View.ld_unit_zero (S := S512x1024) hz, View.ld_unit_zero (S := S512x512) hz,
      View.ld_unit_zero (S := S256x1024) hz, View.ld_unit_zero (S := S1024x512) hz]
    simp only [Blk.dkv, Blk.q, Blk.g, Blk.e0, Blk.e1, Blk.s2, Blk.s3, Blk.x2, Blk.p1, Blk.p2, Blk.p3, Blk.d0, Blk.d1, Blk.d2, Blk.d3,
      Blk.r1, Blk.t0, Blk.t3, blk]

end Cert.AttnRead

end
-- ==== Proof.AttnRef.lean ====
/- The real numbers that the reference's gradient of the attention holds, operation by operation along its own list. -/
module

public import proofs.«01_k».proof.Proof.Attn
public import proofs.«01_k».proof.Proof.Gen.Reference2Ideal.Read

@[expose] public section

noncomputable section

open scoped BigOperators

namespace Cert.AttnRef

open Idealize.ShloMosaic hiding ix0 ix1 ix2 ix3 eq_ix2 eq_ix3
open Idealize.ShloMosaic.ValueIdx
open Cert.Reals Cert.Layouts Cert.Attn
open Cert.Reference2Ideal Cert.Reference2Ideal.Gen Cert.Reference2Ideal.Read

variable {x1 : FVec Ideal S8192x1024 .f32} {x3 : FVec Ideal S8192x512 .f32} {x4 : FVec Ideal S256x1024 .f32}
  {x5 : FVec Ideal S1024x1024 .f32} {x8 : FVec Ideal S512x1024 .f32}
  {Y : Fin 8192 → Fin 1024 → ℝ} {Q : Fin 8192 → Fin 512 → ℝ} {M : Fin 256 → Fin 1024 → ℝ} {Wk : Fin 1024 → Fin 1024 → ℝ}
  {Wx : Fin 512 → Fin 1024 → ℝ}

/-- The keys and values of the memory tokens. -/
def mem (M : Fin 256 → Fin 1024 → ℝ) (Wk : Fin 1024 → Fin 1024 → ℝ) (m : Fin 256) (c : Fin 1024) : ℝ := ∑ l, M m l * Wk l c
/-- The cotangent of the attention's output. -/
def cot (Y : Fin 8192 → Fin 1024 → ℝ) (Wx : Fin 512 → Fin 1024 → ℝ) (t : Fin 8192) (c : Fin 512) : ℝ := ∑ j, Y t j * Wx c j

/-- The arguments hold real numbers. -/
structure Args (x1 : FVec Ideal S8192x1024 .f32) (x3 : FVec Ideal S8192x512 .f32) (x4 : FVec Ideal S256x1024 .f32)
    (x5 : FVec Ideal S1024x1024 .f32) (x8 : FVec Ideal S512x1024 .f32) (Y : Fin 8192 → Fin 1024 → ℝ)
    (Q : Fin 8192 → Fin 512 → ℝ) (M : Fin 256 → Fin 1024 → ℝ) (Wk : Fin 1024 → Fin 1024 → ℝ) (Wx : Fin 512 → Fin 1024 → ℝ) : Prop where
  y : Is2 (m := 8192) (n := 1024) x1 Y
  q : Is2 (m := 8192) (n := 512) x3 Q
  m : Is2 (m := 256) (n := 1024) x4 M
  wk : Is2 (m := 1024) (n := 1024) x5 Wk
  wx : Is2 (m := 512) (n := 1024) x8 Wx

variable (A : Args x1 x3 x4 x5 x8 Y Q M Wk Wx)

include A

theorem v0 : Is2 (φ := .f32) (m := 256) (n := 1024) (val_main_v0 (F := Ideal) x4 x5) (mem M Wk) := A.m.hdot rfl A.wk

theorem v30 : Is2 (φ := .f32) (m := 256) (n := 512) (val_main_v30 (F := Ideal) x4 x5) (fun m c => mem M Wk m ⟨c.val, by omega⟩) :=
  Layouts.Is2.cols (v0 A) _ (fun c : Fin 512 => (⟨c.val, by omega⟩ : Fin 1024)) (fun j => (Nat.zero_add _).symm)

theorem v31 : Is2 (φ := .f32) (m := 256) (n := 512) (val_main_v31 (F := Ideal) x4 x5) (fun m c => mem M Wk m ⟨512 + c.val, by omega⟩) :=
  Layouts.Is2.cols (v0 A) _ (fun c : Fin 512 => (⟨512 + c.val, by omega⟩ : Fin 1024)) (fun j => rfl)

theorem v32 : Is3 (φ := .f32) (a := 8192) (b := 4) (c := 128) (val_main_v32 (F := Ideal) x3) (fun t h d => Q t (hd h d)) := fun t h d => by
  refine (val_main_v32_apply (F := Ideal) x3 (ix3 t h d)).trans ((at2 A.q _).trans (congrArg _ (congrArg₂ Q (Fin.ext ?_) (Fin.ext ?_))))
  · show ((t.val * 4 + h.val) * 128 + d.val) / 512 = t.val
    omega
  · show ((t.val * 4 + h.val) * 128 + d.val) % 512 = h.val * 128 + d.val
    omega

theorem v33 : Is3 (φ := .f32) (a := 256) (b := 4) (c := 128) (val_main_v33 (F := Ideal) x4 x5) (fun m h d => mem M Wk m (kc h d)) := fun m h d => by
  refine (val_main_v33_apply (F := Ideal) x4 x5 (ix3 m h d)).trans ((at2 (v30 A) _).trans (congrArg _ (congrArg₂ (mem M Wk) (Fin.ext ?_) (Fin.ext ?_))))
  · show ((m.val * 4 + h.val) * 128 + d.val) / 512 = m.val
    omega
  · show ((m.val * 4 + h.val) * 128 + d.val) % 512 = h.val * 128 + d.val
    omega

theorem v34 : Is3 (φ := .f32) (a := 256) (b := 4) (c := 128) (val_main_v34 (F := Ideal) x4 x5) (fun m h d => mem M Wk m (vc h d)) := fun m h d => by
  refine (val_main_v34_apply (F := Ideal) x4 x5 (ix3 m h d)).trans ((at2 (v31 A) _).trans (congrArg _ (congrArg₂ (mem M Wk) (Fin.ext ?_) (Fin.ext ?_))))
  · show ((m.val * 4 + h.val) * 128 + d.val) / 512 = m.val
    omega
  · show 512 + ((m.val * 4 + h.val) * 128 + d.val) % 512 = 512 + h.val * 128 + d.val
    omega

theorem v35 : Is3 (φ := .f32) (a := 4) (b := 8192) (c := 256) (val_main_v35 (F := Ideal) x3 x4 x5)
    (fun h t m => ∑ d, Q t (hd h d) * mem M Wk m (kc h d)) := fun h t m =>
  (val_main_v35_apply x3 x4 x5 (ix3 h t m)).trans (sum_mul (fun d => (v32 A).at _) (fun d => (v33 A).at _))

theorem v37 : Is3 (φ := .f32) (a := 4) (b := 8192) (c := 256) (val_main_v37 (F := Ideal) x3 x4 x5)
    (fun h t m => score (mem M Wk) (Q t) h m) :=
  ((v35 A).mul (spread3 (Is0.splat word_scale) _)).congr fun h t m => by
    unfold score
    exact congrArg (· * scale) (Finset.sum_congr rfl fun d _ => mul_comm _ _)

theorem v38 : ∃ c : Fin 4 → Fin 8192 → ℝ, Is2 (φ := .f32) (m := 4) (n := 8192) (val_main_v38 (F := Ideal) x3 x4 x5) c := by
  have key : ∀ h t, ∃ x : ℝ, val_main_v38 (F := Ideal) x3 x4 x5 (ix2 h t) = (x : EReal) := fun h t => by
    exact (v37 A).lastMax h_S_ reducesTo_S4x8192x256_S4x8192_d2 (by decide) (ix2 h t)
  choose c hc using key
  exact ⟨c, hc⟩

omit A in
theorem bot44 (i : S4x8192.Idx) : val_main_v44 (F := Ideal) i = ⊥ := by
  rw [val_main_v44_apply (F := Ideal), val_main_cst_4_apply (F := Ideal)]
  exact neg_inf

theorem v45 : ∃ c : Fin 4 → Fin 8192 → ℝ, Is2 (φ := .f32) (m := 4) (n := 8192) (val_main_v45 (F := Ideal) x3 x4 x5) c := by
  obtain ⟨c, hc⟩ := v38 A
  refine ⟨c, fun h t => ?_⟩
  unfold val_main_v45
  rw [maximumf_apply, bot44, hc]
  exact max_eq_right bot_le

/-- The shifted exponentials of the scores. -/
theorem v58 : ∃ c : Fin 4 → Fin 8192 → ℝ, Is3 (φ := .f32) (a := 4) (b := 8192) (c := 256) (val_main_v58 (F := Ideal) x3 x4 x5)
    (fun h t m => Real.exp (score (mem M Wk) (Q t) h m - c h t)) := by
  obtain ⟨c, h45⟩ := v45 A
  have h56 : Is3 (φ := .f32) (a := 4) (b := 8192) (c := 256) (val_main_v56 (F := Ideal) x3 x4 x5) (fun h t _ => c h t) := fun h t m =>
    (val_main_v56_apply (F := Ideal) x3 x4 x5 (ix3 h t m)).trans ((val_main_v55_apply (F := Ideal) x3 x4 x5 _).trans (at2 h45 _))
  have h57 : Is3 (φ := .f32) (a := 4) (b := 8192) (c := 256) (val_main_v57 (F := Ideal) x3 x4 x5) _ := (v37 A).sub h56
  exact ⟨c, h57.hexp⟩

omit A in
theorem zero0 : ∀ i : S_.Idx, constant (F := Ideal) S_ .f32 0x00000000#32 i = ((0 : ℝ) : EReal) := fun _ => word_zero

variable {c : Fin 4 → Fin 8192 → ℝ} (E : Is3 (φ := .f32) (a := 4) (b := 8192) (c := 256) (val_main_v58 (F := Ideal) x3 x4 x5)
    (fun h t m => Real.exp (score (mem M Wk) (Q t) h m - c h t)))

omit A in
include E in
theorem v60 : Is3 (φ := .f32) (a := 4) (b := 8192) (c := 1) (val_main_v60 (F := Ideal) x3 x4 x5)
    (fun h t _ => ∑ m, Real.exp (score (mem M Wk) (Q t) h m - c h t)) := fun h t j =>
  (val_main_v60_apply (F := Ideal) x3 x4 x5 (ix3 h t j)).trans ((val_main_v59_apply x3 x4 x5 _).trans (zero_sum (zero0 _) fun k => E.at _))

omit A in
include E in
theorem v62 : Is3 (φ := .f32) (a := 4) (b := 8192) (c := 256) (val_main_v62 (F := Ideal) x3 x4 x5)
    (fun h t m => prob (mem M Wk) (Q t) h m) :=
  (E.hdiv (fun h t m => (val_main_v61_apply (F := Ideal) x3 x4 x5 (ix3 h t m)).trans ((v60 E).at _)) fun _ _ _ => (sum_exp_pos _).ne').congr
    fun h t m => shifted (score (mem M Wk) (Q t) h) (c h t) m

theorem v70 : Is2 (φ := .f32) (m := 8192) (n := 512) (val_main_v70 (F := Ideal) x1 x8) (cot Y Wx) := A.y.hdotT rfl A.wx

theorem v72 : Is3 (φ := .f32) (a := 4) (b := 128) (c := 8192) (val_main_v72 (F := Ideal) x1 x8) (fun h d t => cot Y Wx t (hd h d)) := fun h d t => by
  refine (val_main_v72_apply (F := Ideal) x1 x8 (ix3 h d t)).trans ((val_main_v71_apply (F := Ideal) x1 x8 _).trans ((at2 (v70 A) _).trans
    (congrArg _ (congrArg₂ (cot Y Wx) (Fin.ext ?_) (Fin.ext ?_)))))
  · show ((t.val * 4 + h.val) * 128 + d.val) / 512 = t.val
    omega
  · show ((t.val * 4 + h.val) * 128 + d.val) % 512 = h.val * 128 + d.val
    omega

theorem v73 : Is3 (φ := .f32) (a := 4) (b := 8192) (c := 256) (val_main_v73 (F := Ideal) x1 x4 x5 x8)
    (fun h t m => dprob (mem M Wk) (cot Y Wx t) h m) := fun h t m =>
  (val_main_v73_apply x1 x4 x5 x8 (ix3 h t m)).trans ((sum_mul (fun d => (v72 A).at _) (fun d => (v34 A).at _)).trans
    (congrArg _ (Finset.sum_congr rfl fun d _ => mul_comm _ _)))

include E in
theorem v89 : Is3 (φ := .f32) (a := 4) (b := 8192) (c := 256) (val_main_v89 (F := Ideal) x1 x3 x4 x5 x8)
    (fun h t m => dscore (mem M Wk) (Q t) (cot Y Wx t) h m) := by
  have pos : ∀ h t, (∑ m, Real.exp (score (mem M Wk) (Q t) h m - c h t)) ≠ 0 := fun h t => (sum_exp_pos _).ne'
  have h65 : Is3 (φ := .f32) (a := 4) (b := 8192) (c := 1) (val_main_v65 (F := Ideal) x3 x4 x5)
      (fun h t _ => 1 / ((∑ m, Real.exp (score (mem M Wk) (Q t) h m - c h t)) * ∑ m, Real.exp (score (mem M Wk) (Q t) h m - c h t))) :=
    (spread3 (Is0.splat word_one) _).hdiv ((v60 E).mul (v60 E)) fun h t _ => mul_ne_zero (pos h t) (pos h t)
  have h78 := ((v73 A).mul (v := val_main_v76 (F := Ideal) x3 x4 x5)
    (fun h t m => (val_main_v76_apply (F := Ideal) x3 x4 x5 (ix3 h t m)).trans (h65.at _))).mul E
  have h81 : Is3 (φ := .f32) (a := 4) (b := 8192) (c := 1) (val_main_v81 (F := Ideal) x1 x3 x4 x5 x8) _ :=
    Is3.hneg (u := val_main_v80 (F := Ideal) x1 x3 x4 x5 x8) (fun h t j =>
      (val_main_v80_apply (F := Ideal) x1 x3 x4 x5 x8 (ix3 h t j)).trans ((congrArg (val_main_v79 (F := Ideal) x1 x3 x4 x5 x8)
        (show idx_main_v80 (ix3 h t j) = ix2 h t from funext fun a => by
          have hj : j.val = 0 := by omega
          match a with
          | ⟨0, _⟩ => exact Fin.ext (by show ((h.val * 8192 + t.val) * 1 + j.val) / 8192 = h.val; omega)
          | ⟨1, _⟩ => exact Fin.ext (by show ((h.val * 8192 + t.val) * 1 + j.val) % 8192 = t.val; omega))).trans
        ((val_main_v79_apply x1 x3 x4 x5 x8 (ix2 h t)).trans (zero_sum (zero0 _) fun k => h78.at _))))
  have h85 : Is3 (φ := .f32) (a := 4) (b := 8192) (c := 256) (val_main_v85 (F := Ideal) x1 x3 x4 x5 x8) _ := fun h t m =>
    (val_main_v85_apply (F := Ideal) x1 x3 x4 x5 x8 (ix3 h t m)).trans ((val_main_v84_apply x1 x3 x4 x5 x8 _).trans
      (zero_sum (zero0 _) fun k => h81.at _))
  refine ((((v73 A).hdiv (fun h t m => (val_main_v82_apply (F := Ideal) x3 x4 x5 (ix3 h t m)).trans ((v60 E).at _)) fun h t _ => pos h t).add h85).mul E).mul
    (spread3 (Is0.splat word_scale) _) |>.congr fun h t m => ?_
  refine congrArg (· * scale) (Eq.trans ?_ (dsoftmax (fun m => Real.exp (score (mem M Wk) (Q t) h m - c h t))
    (dprob (mem M Wk) (cot Y Wx t) h) (prob (mem M Wk) (Q t) h) (shifted (score (mem M Wk) (Q t) h) (c h t)) (pos h t) m))
  show (_ + ∑ _k : Fin 1, _) * _ = _
  rw [Fin.sum_univ_one]
  rfl

/-- The gradient of the query rows. -/
theorem v138 : Is2 (φ := .bf16) (m := 8192) (n := 512) (val_main_v138 (F := Ideal) x1 x3 x4 x5 x8)
    (fun t c => drow (mem M Wk) (Q t) (cot Y Wx t) c) := fun t col => by
  obtain ⟨c, E⟩ := v58 A
  have h93 : Is3 (φ := .f32) (a := 8192) (b := 4) (c := 128) (val_main_v93 (F := Ideal) x1 x3 x4 x5 x8)
      (fun t h d => dquery (mem M Wk) (Q t) (cot Y Wx t) h d) := fun t h d =>
    (val_main_v93_apply (F := Ideal) x1 x3 x4 x5 x8 (ix3 t h d)).trans ((val_main_v92_apply x1 x3 x4 x5 x8 _).trans
      ((sum_mul (fun m => (v89 A E).at _) (fun m => (v33 A).at _)).trans (congrArg _ (Finset.sum_congr rfl fun m _ => mul_comm _ _))))
  refine (val_main_v96_apply (F := Ideal) x1 x3 x4 x5 x8 (ix2 t col)).trans ((congrArg _ (funext fun a => ?_)).trans (h93 t (hOf col) (dOf col)))
  match a with
  | ⟨0, _⟩ => exact Fin.ext (by show (t.val * 512 + col.val) / 512 = t.val; omega)
  | ⟨1, _⟩ => exact Fin.ext (by show (t.val * 512 + col.val) / 128 % 4 = col.val / 128; omega)
  | ⟨2, _⟩ => exact Fin.ext (by show (t.val * 512 + col.val) % 128 = col.val % 128; omega)

/-- The gradient of the memory's keys and values. -/
theorem v97 : Is2 (φ := .f32) (m := 256) (n := 1024) (val_main_v97 (F := Ideal) x1 x3 x4 x5 x8)
    (fun m c => ∑ t, dmem (mem M Wk) (Q t) (cot Y Wx t) m c) := fun m col => by
  obtain ⟨c, E⟩ := v58 A
  have idx : ∀ (h : Fin 4) (d : Fin 128), idx_main_v95 (ix2 m (hd h d)) = ix3 m h d := fun h d => funext fun a => by
    match a with
    | ⟨0, _⟩ => exact Fin.ext (by show (m.val * 512 + (h.val * 128 + d.val)) / 512 = m.val; omega)
    | ⟨1, _⟩ => exact Fin.ext (by show (m.val * 512 + (h.val * 128 + d.val)) / 128 % 4 = h.val; omega)
    | ⟨2, _⟩ => exact Fin.ext (by show (m.val * 512 + (h.val * 128 + d.val)) % 128 = d.val; omega)
  rcases kv_cases col with ⟨h, d, rfl⟩ | ⟨h, d, rfl⟩
  · simp only [dmem_kc]
    refine (join_cols (m := 256) (t := 1024) _ 0 (by exact (by decide : 0 < 2)) (f := fun m j => val_main_v95 (F := Ideal) x1 x3 x4 x5 x8 (ix2 m j))
      (fun _ _ => rfl) rfl 0 rfl m (hd h d) _ (Nat.zero_add _).symm).trans ?_
    exact (val_main_v95_apply (F := Ideal) x1 x3 x4 x5 x8 _).trans ((congrArg _ (idx h d)).trans ((val_main_v91_apply (F := Ideal) x1 x3 x4 x5 x8 _).trans
      ((val_main_v90_apply x1 x3 x4 x5 x8 _).trans (sum_mul (fun t => (v89 A E).at _) (fun t => (v32 A).at _)))))
  · simp only [dmem_vc]
    refine (join_cols (m := 256) (t := 1024) _ 1 (by exact (by decide : 1 < 2)) (f := fun m j => val_main_v94 (F := Ideal) x1 x3 x4 x5 x8 (ix2 m j))
      (fun _ _ => rfl) rfl 512 rfl m (hd h d) _ (by show 512 + h.val * 128 + d.val = 512 + (h.val * 128 + d.val); omega)).trans ?_
    refine (val_main_v94_apply (F := Ideal) x1 x3 x4 x5 x8 _).trans ((congrArg _ (idx h d)).trans ((val_main_v75_apply (F := Ideal) x1 x3 x4 x5 x8 _).trans
      ((val_main_v74_apply x1 x3 x4 x5 x8 _).trans ((sum_mul (fun t => (v72 A).at _) (fun t => (v62 E).at _)).trans ?_))))
    exact congrArg _ (Finset.sum_congr rfl fun t _ => mul_comm _ _)

end Cert.AttnRef

end
-- ==== Proof.AttnFin.lean ====
/- The branch gradient's kernel after its run, the attention: the gradient of the query rows, block by block, and the gradient of
   the memory, which all grid points add into. -/
module

public import proofs.«01_k».proof.Proof.BrHost
public import proofs.«01_k».proof.Proof.AttnRead
public import proofs.«01_k».proof.Proof.AttnRef

@[expose] public section

noncomputable section

open scoped BigOperators

namespace Cert.AttnFin

open Cert.Kernel2Ideal Cert.Kernel2Ideal.Gen Idealize.ShloMosaic.TcCoe
open Idealize.ShloMosaic hiding ix0 ix1 ix2 ix3 eq_ix2 eq_ix3
open Idealize.ShloMosaic.ValueIdx
open Idealize.SL.Sem
open Cert.Reals Cert.Layouts Cert.Attn Cert.BrHost
open Cert.AttnRef (mem)

/-- The arguments of the attention hold real numbers. -/
structure Args (m : (ℓ : Loc nD τ sig) → Buf (Elt Ideal) ℓ) (c : Dev nD) (Y : Fin 8192 → Fin 1024 → ℝ) (Q : Fin 8192 → Fin 512 → ℝ)
    (M : Fin 256 → Fin 1024 → ℝ) (Wk : Fin 1024 → Fin 1024 → ℝ) (Wx : Fin 512 → Fin 1024 → ℝ) : Prop where
  y : Is2 (φ := .f32) (m := 8192) (n := 1024) (m ((c : Thread nD τ).loc main_arg1)) Y
  q : Is2 (φ := .f32) (m := 8192) (n := 512) (m ((c : Thread nD τ).loc main_arg3)) Q
  me : Is2 (φ := .f32) (m := 256) (n := 1024) (m ((c : Thread nD τ).loc main_arg4)) M
  wk : Is2 (φ := .f32) (m := 1024) (n := 1024) (m ((c : Thread nD τ).loc main_arg5)) Wk
  wx : Is2 (φ := .f32) (m := 512) (n := 1024) (m ((c : Thread nD τ).loc main_arg8)) Wx

variable {m : (ℓ : Loc nD τ sig) → Buf (Elt Ideal) ℓ} {c : Dev nD} {Y : Fin 8192 → Fin 1024 → ℝ} {Q : Fin 8192 → Fin 512 → ℝ}
  {M : Fin 256 → Fin 1024 → ℝ} {Wk : Fin 1024 → Fin 1024 → ℝ} {Wx : Fin 512 → Fin 1024 → ℝ}

theorem kv_is (A : Args m c Y Q M Wk Wx) : Is2 (m := 256) (n := 1024)
    (hostKv (m ((c : Thread nD τ).loc main_arg4)) (m ((c : Thread nD τ).loc main_arg5))) (mem M Wk) := (A.me.hdot rfl A.wk).trunc _

theorem kt_is (A : Args m c Y Q M Wk Wx) : Is2 (m := 512) (n := 256)
    (hostKt (m ((c : Thread nD τ).loc main_arg4)) (m ((c : Thread nD τ).loc main_arg5)))
    (fun d i => mem M Wk i ⟨d.val, by omega⟩) :=
  Is2.transpose (m := 256) (n := 512) (Layouts.Is2.cols (kv_is A) slices_S256x1024_S256x512_0_0 (fun d : Fin 512 => (⟨d.val, by omega⟩ : Fin 1024))
    (fun j => (Nat.zero_add _).symm)) _

theorem x1_is (A : Args m c Y Q M Wk Wx) (t : Fin cfg0.N) :
    Is2 (m := 512) (n := 1024) (φ := .bf16) (iblk m c 1 t) (fun i => Y (row t i)) :=
  fun i j => (congrArg (V m c main_v3) (emb1 t i j)).trans (by rw [V_v3]; exact A.y _ _)
theorem x4_is (A : Args m c Y Q M Wk Wx) (t : Fin cfg0.N) :
    Is2 (m := 512) (n := 512) (φ := .bf16) (iblk m c 4 t) (fun i => Q (row t i)) :=
  fun i j => (congrArg (V m c main_v4) (emb4 t i j)).trans (by rw [V_v4]; exact A.q _ _)
theorem x5_is (A : Args m c Y Q M Wk Wx) (t : Fin cfg0.N) :
    Is2 (m := 256) (n := 1024) (φ := .bf16) (iblk m c 5 t) (mem M Wk) :=
  fun i j => (congrArg (V m c main_v1) (emb5 t i j)).trans (by rw [V_v1]; exact kv_is A _ _)
theorem x8_is (A : Args m c Y Q M Wk Wx) (t : Fin cfg0.N) :
    Is2 (m := 1024) (n := 512) (φ := .bf16) (iblk m c 8 t) (fun j d => Wx d j) :=
  fun i j => (congrArg (V m c main_v10) (emb8 t i j)).trans
    (by rw [V_v10]; exact ((A.wx.transpose transposes_S512x1024_S1024x512_1_0).trunc bitsLt_bf16_f32) _ _)
theorem x9_is (A : Args m c Y Q M Wk Wx) (t : Fin cfg0.N) :
    Is2 (m := 512) (n := 256) (φ := .bf16) (iblk m c 9 t) (fun d i => mem M Wk i ⟨d.val, by omega⟩) :=
  fun i j => (congrArg (V m c main_v6) (emb9 t i j)).trans (by rw [V_v6]; exact kt_is A _ _)

/-- The keys of a head, loaded from the transposed keys. -/
theorem keys_is (A : Args m c Y Q M Wk Wx) (t : Fin cfg0.N) (h : Fin 4) {o : ℕ} (ho : o = h.val * 128)
    (inb : ∀ d, (![o, 0] : Fin 2 → ℕ) d + (![128, 256] : Fin 2 → ℕ) d ≤ (⟨2, ![512, 256]⟩ : Shape).size d) :
    Is2 (m := 128) (n := 256) (φ := .bf16)
      (View.ld (Val := Elt Ideal) (e' := .bf16) (iblk m c 9 t) (Rect.unit (s := ⟨2, ![512, 256]⟩) ![o, 0] ![128, 256] inb))
      (fun d i => mem M Wk i (kc h d)) := fun d i => by
  refine (ld_at _ inb d i (by omega) (by omega)).trans ((x9_is A t _ _).trans (congrArg _ ?_))
  exact congrArg₂ (mem M Wk) (Fin.ext (Nat.zero_add _)) (Fin.ext (by show o + d.val = h.val * 128 + d.val; omega))

theorem holds (A : Args m c Y Q M Wk Wx) (t : Fin cfg0.N) :
    (AttnRead.blk m c t).Holds (fun i => Y (row t i)) (fun i => Q (row t i)) (mem M Wk) (fun j d => Wx d j) :=
  ⟨x1_is A t, x4_is A t, x5_is A t, x8_is A t, keys_is A t 0 rfl _, keys_is A t 1 rfl _, keys_is A t 2 rfl _, keys_is A t 3 rfl _⟩

/-- The gradient of the query rows after the run. -/
theorem dq (A : Args m c Y Q M Wk Wx) : Is2 (m := 8192) (n := 512) (φ := .bf16) ((dats m 0 c).arrAt 11 cfg0.N)
    (fun n => drow (mem M Wk) (Q n) (AttnRef.cot Y Wx n)) := fun n j => by
  obtain ⟨t, i, rfl⟩ := exists_row n
  exact (congrArg ((dats m 0 c).arrAt 11 cfg0.N) (emb11 t i j)).symm.trans
    ((congrFun (Cert.Kernel2Ideal.Value.blocks11 m c t (flush0_11 t)) (ix2 i j)).trans
      ((congrFun (Cert.Kernel2Ideal.Value.flushed11 m c t) (ix2 i j)).trans
        ((congrFun (AttnRead.dq m c t) (ix2 i j)).trans ((holds A t).dq i j))))

theorem dkv_start (A : Args m c Y Q M Wk Wx) (t : Fin cfg0.N) (h0 : t.val % 16 = 0) : Is2 (m := 256) (n := 1024) (φ := .f32)
    (outsAt0 m c t.val t.isLt).2.2.1 (fun i j => ∑ k, dmem (mem M Wk) (Q (row t k)) (AttnRef.cot Y Wx (row t k)) i j) := by
  rw [AttnRead.dkv_first m c t h0]
  exact ((holds A t).dkv (A := fun _ _ => 0) (Is2.const word_zero)).congr fun i j => zero_add _

theorem dkv_step (A : Args m c Y Q M Wk Wx) (t : Fin cfg0.N) (h0 : ¬t.val % 16 = 0) {f : Fin 256 → Fin 1024 → ℝ}
    (h : Is2 (m := 256) (n := 1024) (φ := .f32) (outsAt0 m c (t.val - 1) (Nat.lt_of_le_of_lt (Nat.sub_le _ _) t.isLt)).2.2.1 f) :
    Is2 (m := 256) (n := 1024) (φ := .f32) (outsAt0 m c t.val t.isLt).2.2.1
      (fun i j => f i j + ∑ k, dmem (mem M Wk) (Q (row t k)) (AttnRef.cot Y Wx (row t k)) i j) := by
  rw [AttnRead.dkv_next m c t h0]
  exact (holds A t).dkv h

theorem dkv_fold (A : Args m c Y Q M Wk Wx) : ∀ n (h : n < cfg0.N), Is2 (m := 256) (n := 1024) (φ := .f32) (outsAt0 m c n h).2.2.1
    (fun i j => ∑ s ∈ Finset.range (n + 1), part (fun n => dmem (mem M Wk) (Q n) (AttnRef.cot Y Wx n) i j) s)
  | 0, h => (dkv_start A ⟨0, h⟩ rfl).congr fun i j => by rw [Finset.sum_range_one]; exact (part_eq (fun n => dmem (mem M Wk) (Q n) (AttnRef.cot Y Wx n) i j) ⟨0, h⟩).symm
  | n + 1, h => (dkv_step A ⟨n + 1, h⟩ (by have : cfg0.N = 16 := N_0; show ¬(n + 1) % 16 = 0; omega)
      (dkv_fold A n (by omega))).congr fun i j => by
        rw [Finset.sum_range_succ _ (n + 1)]
        exact congrArg (_ + ·) (part_eq (fun n => dmem (mem M Wk) (Q n) (AttnRef.cot Y Wx n) i j) ⟨n + 1, h⟩).symm

theorem flush12 {t : Fin cfg0.N} (h : (cfg0.win 12).flush t = true) : t = last :=
  Fin.ext (by have := (flush0_12 t).mp h; have := t.isLt; have : cfg0.N = 16 := N_0; show t.val = 15; omega)

/-- The gradient of the memory after the run. -/
theorem dkv (A : Args m c Y Q M Wk Wx) : Is2 (m := 256) (n := 1024) (φ := .f32) ((dats m 0 c).arrAt 12 cfg0.N)
    (fun i j => ∑ n, dmem (mem M Wk) (Q n) (AttnRef.cot Y Wx n) i j) := fun i j =>
  (congrArg ((dats m 0 c).arrAt 12 cfg0.N) (emb12 last i j)).symm.trans
    ((congrFun ((dats m 0 c).read_blk_arrAt_eq_flushed 12 (fun _ _ h h' hne => absurd ((flush12 h).trans (flush12 h').symm) hne)
      cfg0.N last last.isLt ((flush0_12 last).mpr rfl)) (ix2 i j)).trans
      ((congrFun (Cert.Kernel2Ideal.Value.flushed12 m c last) (ix2 i j)).trans
        ((dkv_fold A 15 last.isLt i j).trans (congrArg _ (part_all _)))))

end Cert.AttnFin

end
-- ==== Proof.Conv.lean ====
/- The short convolution along the tokens and its gradient, element by element over the extended reals: no sum is split and
   no product distributed, so nothing here asks that a number be finite. -/
module

public import proofs.«01_k».proof.Proof.Layouts

@[expose] public section

noncomputable section

open scoped BigOperators

namespace Cert.Conv

open Idealize.ShloMosaic hiding ix0 ix1 ix2 ix3 eq_ix2 eq_ix3
open Idealize.ShloMosaic.ValueIdx
open Cert.Reals Cert.Layouts

/-! ### The three groups of columns -/

/-- A column of the gate on the way out, -/
def c0 (c : Fin 512) : Fin 1536 := ⟨c.val, by omega⟩
/-- of the gate on the way in, -/
def c1 (c : Fin 512) : Fin 1536 := ⟨512 + c.val, by omega⟩
/-- and of the signal. -/
def c2 (c : Fin 512) : Fin 1536 := ⟨1024 + c.val, by omega⟩

theorem cols_cases (j : Fin 1536) : ∃ c, j = c0 c ∨ j = c1 c ∨ j = c2 c := by
  refine ⟨⟨j.val % 512, Nat.mod_lt _ (by norm_num)⟩, ?_⟩
  have := j.isLt
  simp only [Fin.ext_iff, c0, c1, c2]
  omega

section Spec
variable (X : Fin 8192 → Fin 1536 → EReal) (W : Fin 3 → Fin 512 → EReal) (D : Fin 8192 → Fin 512 → EReal)

/-- The gated signal two tokens before: zero before the first token. -/
def zs (r : ℕ) (c : Fin 512) : EReal := if h : 2 ≤ r ∧ r - 2 < 8192 then X ⟨r - 2, h.2⟩ (c1 c) * X ⟨r - 2, h.2⟩ (c2 c) else 0

/-- The convolution of three taps. -/
def cz (r : ℕ) (c : Fin 512) : EReal := W 0 c * zs X r c + W 1 c * zs X (r + 1) c + W 2 c * zs X (r + 2) c

/-- The gradient of the convolution: zero after the last token. -/
def ds (r : ℕ) (c : Fin 512) : EReal := if h : r < 8192 then D ⟨r, h⟩ c * X ⟨r, h⟩ (c0 c) else 0

/-- The gradient of the gated signal. -/
def dz (r : ℕ) (c : Fin 512) : EReal := W 2 c * ds X D r c + W 1 c * ds X D (r + 1) c + W 0 c * ds X D (r + 2) c

/-- An array of the gradients of the three groups. -/
structure Grads (v : (⟨2, ![8192, 1536]⟩ : Shape).Idx → EReal) : Prop where
  g0 : ∀ n c, v (ix2 n (c0 c)) = D n c * cz X W n.val c
  g1 : ∀ n c, v (ix2 n (c1 c)) = dz X W D n.val c * X n (c2 c)
  g2 : ∀ n c, v (ix2 n (c2 c)) = dz X W D n.val c * X n (c1 c)

/-- A tap's gradient. -/
def tap (k : ℕ) (c : Fin 512) : EReal := ∑ n : Fin 8192, ds X D n.val c * zs X (n.val + k) c

/-- The taps' gradients, in the first three of eight rows. -/
def taps (k : Fin 8) (c : Fin 512) : EReal := if k.val < 3 then tap X D k.val c else 0

variable {X W D}

theorem Grads.unique {v w : (⟨2, ![8192, 1536]⟩ : Shape).Idx → EReal} (h : Grads X W D v) (k : Grads X W D w) : v = w := by
  refine Has2.unique (f := fun i j => w (ix2 i j)) (fun n j => ?_) (fun _ _ => rfl)
  obtain ⟨c, rfl | rfl | rfl⟩ := cols_cases j
  · exact (h.g0 n c).trans (k.g0 n c).symm
  · exact (h.g1 n c).trans (k.g1 n c).symm
  · exact (h.g2 n c).trans (k.g2 n c).symm

theorem zs_add (n : Fin 8192) (c : Fin 512) : zs X (n.val + 2) c = X n (c1 c) * X n (c2 c) := by
  unfold zs
  rw [dif_pos (by omega)]
  rfl

theorem zs_lt {r : ℕ} (h : r < 2) (c : Fin 512) : zs X r c = 0 := dif_neg (by omega)

theorem ds_val (n : Fin 8192) (c : Fin 512) : ds X D n.val c = D n c * X n (c0 c) := dif_pos n.isLt

theorem ds_ge {r : ℕ} (h : 8192 ≤ r) (c : Fin 512) : ds X D r c = 0 := dif_neg (by omega)

end Spec

/-- An array of the ideal instance holds these extended reals. -/
abbrev E2 {m n : ℕ} {φ : FTy} (v : FVec Ideal ⟨2, ![m, n]⟩ φ) (f : Fin m → Fin n → EReal) : Prop := Has2 (α := EReal) v f

/-! ### Operations on extended reals -/
section Ops
variable {m n k : ℕ} {φ φ₁ φ₂ ψ : FTy}

theorem mul {u v : FVec Ideal ⟨2, ![m, n]⟩ φ} {f g : Fin m → Fin n → EReal} (hu : Has2 (α := EReal) u f) (hv : Has2 (α := EReal) v g) :
    Has2 (α := EReal) (mulf u v) (fun i j => f i j * g i j) := fun i j => by
  beta_reduce
  rw [← hu i j, ← hv i j]
  rfl

theorem add {u v : FVec Ideal ⟨2, ![m, n]⟩ φ} {f g : Fin m → Fin n → EReal} (hu : Has2 (α := EReal) u f) (hv : Has2 (α := EReal) v g) :
    Has2 (α := EReal) (addf u v) (fun i j => f i j + g i j) := fun i j => by
  beta_reduce
  rw [← hu i j, ← hv i j]
  rfl

theorem trunc {u : FVec Ideal ⟨2, ![m, n]⟩ φ} {f : Fin m → Fin n → EReal} (hu : Has2 (α := EReal) u f) (h : ψ.bits < φ.bits) :
    Has2 (α := EReal) (truncf ψ u h : FVec Ideal ⟨2, ![m, n]⟩ ψ) f := hu

/-- The sums of the columns. -/
theorem colSums {v : FVec Ideal ⟨2, ![m, n]⟩ φ} {f : Fin m → Fin n → EReal} (hv : Has2 (α := EReal) v f) {acc : BitVec φ.bits}
    (h : (⟨2, ![m, n]⟩ : Shape).Reduces [0] ⟨1, ![n]⟩) (hφ : FKind.Formats φ) (hacc : acc = FKind.add.neutral φ hφ) :
    Has1 (α := EReal) (multiReduction .add [0] ⟨1, ![n]⟩ v acc h hφ hacc : FVec Ideal ⟨1, ![n]⟩ φ) (fun j => ∑ i, f i j) := fun j => by
  rw [multiReduction_add_apply]
  show Ideal.reduceAdd h v (ix1 j) = _
  rw [Ideal.reduceAdd_r2_a0]
  exact Finset.sum_congr rfl fun i _ => hv i j

/-- Rows times columns, from zero. -/
theorem dot {d : DotDims ⟨2, ![m, k]⟩ ⟨2, ![k, n]⟩ ⟨2, ![m, n]⟩} (hd : d = DotDims.plain m k n)
    {prec : Option ContractPrecision} {a : FVec Ideal ⟨2, ![m, k]⟩ φ₁} {b : FVec Ideal ⟨2, ![k, n]⟩ φ₂}
    {f : Fin m → Fin k → EReal} {g : Fin k → Fin n → EReal} (ha : Has2 (α := EReal) a f) (hb : Has2 (α := EReal) b g) :
    Has2 (α := EReal) (Idealize.ShloMosaic.matmul d prec a b (constant ⟨2, ![m, n]⟩ .f32 0x00000000#32))
      (fun i j => ∑ l, f i l * g l j) := fun i j => by
  subst hd
  show FloatOps.matmul (DotDims.plain m k n) prec a b (constant ⟨2, ![m, n]⟩ .f32 0x00000000#32) (ix2 i j) = _
  rw [Ideal.matmul_plain_apply]
  show Ideal.ofBits .f32 0x00000000#32 + _ = _
  rw [Ideal.ofBits_zero_f32, zero_add]
  refine Finset.sum_congr rfl fun l _ => ?_
  rw [ha, hb]

end Ops

end Cert.Conv

end
-- ==== Proof.ConvTile.lean ====
/- What the kernel computes of the convolution's gradient on one tile of 512 tokens, and what its scratch buffers hold. -/
module

public import proofs.«01_k».proof.Proof.Conv
public import proofs.«01_k».proof.Proof.BrHost
public import Idealize.ShloMosaic.Lib.WritesUnit

@[expose] public section

noncomputable section

open scoped BigOperators

namespace Cert.ConvTile

open Idealize.ShloMosaic hiding ix0 ix1 ix2 ix3 eq_ix2 eq_ix3
open Idealize.ShloMosaic.ValueIdx
open Cert.Kernel2Ideal Cert.Kernel2Ideal.Gen
open Cert.Reals Cert.Layouts Cert.Conv Cert.BrHost

/-! ### Stores into boxes of a matrix, and loads from them -/
section Boxes
variable {Val : EltTy → Type} {e : EltTy} {m n : ℕ} {sig : RefSig} {κ : Kind} {sp : Space}
  (v : View sig κ sp ⟨2, ![m, n]⟩ e) (f : v.ty.Contents Val)

/-- Under the last store, its payload; -/
theorem hit {o p a b : ℕ} (inb : ∀ d, (![o, p] : Fin 2 → ℕ) d + (![a, b] : Fin 2 → ℕ) d ≤ (⟨2, ![m, n]⟩ : Shape).size d)
    (w : (⟨2, ![a, b]⟩ : Shape).Idx → Val e) (L : List (View.Piece Val ⟨2, ![m, n]⟩ e)) {q : Fin m} {r : Fin n} (i : Fin a) (j : Fin b)
    (hq : q.val = o + i.val) (hr : r.val = p + j.val) :
    v.read Val (v.writes Val f ((⟨Rect.unit (s := ⟨2, ![m, n]⟩) ![o, p] ![a, b] inb, w⟩ : View.Piece Val ⟨2, ![m, n]⟩ e) :: L)) (ix2 q r)
      = w (ix2 i j) :=
  View.read_writes_cons_unit_of_mem v f inb w L (ix2 q r) (ix2 i j) rfl (Fin.forall_fin_two.mpr ⟨hq, hr⟩)

/-- above or below it, the earlier stores; -/
theorem missRow {o p a b : ℕ} (inb : ∀ d, (![o, p] : Fin 2 → ℕ) d + (![a, b] : Fin 2 → ℕ) d ≤ (⟨2, ![m, n]⟩ : Shape).size d)
    (w : (⟨2, ![a, b]⟩ : Shape).Idx → Val e) (L : List (View.Piece Val ⟨2, ![m, n]⟩ e)) {q : Fin m} {r : Fin n}
    (hq : q.val < o ∨ o + a ≤ q.val) :
    v.read Val (v.writes Val f ((⟨Rect.unit (s := ⟨2, ![m, n]⟩) ![o, p] ![a, b] inb, w⟩ : View.Piece Val ⟨2, ![m, n]⟩ e) :: L)) (ix2 q r)
      = v.read Val (v.writes Val f L) (ix2 q r) :=
  View.read_writes_cons_unit_of_not_mem v f inb w L (ix2 q r) rfl (0 : Fin 2) hq

/-- and left or right of it too. -/
theorem missCol {o p a b : ℕ} (inb : ∀ d, (![o, p] : Fin 2 → ℕ) d + (![a, b] : Fin 2 → ℕ) d ≤ (⟨2, ![m, n]⟩ : Shape).size d)
    (w : (⟨2, ![a, b]⟩ : Shape).Idx → Val e) (L : List (View.Piece Val ⟨2, ![m, n]⟩ e)) {q : Fin m} {r : Fin n}
    (hr : r.val < p ∨ p + b ≤ r.val) :
    v.read Val (v.writes Val f ((⟨Rect.unit (s := ⟨2, ![m, n]⟩) ![o, p] ![a, b] inb, w⟩ : View.Piece Val ⟨2, ![m, n]⟩ e) :: L)) (ix2 q r)
      = v.read Val (v.writes Val f L) (ix2 q r) :=
  View.read_writes_cons_unit_of_not_mem v f inb w L (ix2 q r) rfl (1 : Fin 2) hr

/-- A load of a box reads what the stores left there. -/
theorem load [∀ e, Nonempty (Val e)] (L : List (View.Piece Val ⟨2, ![m, n]⟩ e)) {o p a b : ℕ}
    (inb : ∀ d, (![o, p] : Fin 2 → ℕ) d + (![a, b] : Fin 2 → ℕ) d ≤ (⟨2, ![m, n]⟩ : Shape).size d) {q : Fin m} {r : Fin n} (i : Fin a)
    (j : Fin b) (hq : q.val = o + i.val) (hr : r.val = p + j.val) :
    v.readCov L (Rect.unit (s := ⟨2, ![m, n]⟩) ![o, p] ![a, b] inb).toLoadRect (ix2 i j)
      = v.read Val (v.writes Val v.junk L) (ix2 q r) := by
  refine congrArg (v.read Val (v.writes Val v.junk L)) (funext fun d => Fin.ext ?_)
  match d with
  | ⟨0, _⟩ => show o + 1 * i.val = q.val; omega
  | ⟨1, _⟩ => show p + 1 * j.val = r.val; omega

end Boxes

section Tile
variable {X : Fin 8192 → Fin 1536 → EReal} {W : Fin 3 → Fin 512 → EReal} {D : Fin 8192 → Fin 512 → EReal} {t : Fin cfg0.N}
  {cv : FVec Ideal S512x1536 .f32} {dy : FVec Ideal S512x1024 .bf16} {wo : FVec Ideal S1024x512 .bf16} {w : FVec Ideal S3x512 .f32}

theorem gate (hc : E2 (m := 512) (n := 1536) cv (fun i j => X (row t i) j)) :
    E2 (m := 512) (n := 512) (k0_pay6 cv) (fun i c => X (row t i) (c0 c)) := hc.cols slices_S512x1536_o0_0_S512x512 c0 (fun _ => (Nat.zero_add _).symm)
theorem inner (hc : E2 (m := 512) (n := 1536) cv (fun i j => X (row t i) j)) :
    E2 (m := 512) (n := 512) (k0_pay7 cv) (fun i c => X (row t i) (c1 c)) := hc.cols slices_S512x1536_o0_512_S512x512 c1 (fun _ => rfl)
theorem signal (hc : E2 (m := 512) (n := 1536) cv (fun i j => X (row t i) j)) :
    E2 (m := 512) (n := 512) (k0_pay8 cv) (fun i c => X (row t i) (c2 c)) := hc.cols slices_S512x1536_o0_1024_S512x512 c2 (fun _ => rfl)

theorem gated (hc : E2 (m := 512) (n := 1536) cv (fun i j => X (row t i) j)) :
    E2 (m := 512) (n := 512) (k0_pay9 cv) (fun i c => zs X ((row t i).val + 2) c) :=
  (mul (inner hc) (signal hc)).congr fun i c => (zs_add _ _).symm

/-- A tap, repeated down the tile. -/
theorem weight (hw : E2 (m := 3) (n := 512) w W) (k : Fin 3) {o : ℕ} (ho : k.val = o)
    (h : S3x512.Slices ![o, 0] S1x512) :
    E2 (m := 512) (n := 512) (broadcastTo S512x512 (extractStridedSlice S1x512 ![o, 0] w h) broadcasts_S1x512_S512x512)
      (fun _ c => W k c) :=
  (hw.slice h (fun _ => k) id (fun i => by have := i.isLt; omega) (fun j => (Nat.zero_add _).symm)).row _

theorem conv (hc : E2 (m := 512) (n := 1536) cv (fun i j => X (row t i) j)) (hw : E2 (m := 3) (n := 512) w W)
    {z1 z2 : FVec Ideal S512x512 .f32} (h1 : E2 (m := 512) (n := 512) z1 (fun i c => zs X ((row t i).val + 1) c))
    (h2 : E2 (m := 512) (n := 512) z2 (fun i c => zs X (row t i).val c)) :
    E2 (m := 512) (n := 512) (k0_pay12 cv z1 z2 w) (fun i c => cz X W (row t i).val c) :=
  add (add (mul (weight hw 0 rfl slices_S3x512_o0_0_S1x512) h2) (mul (weight hw 1 rfl slices_S3x512_o1_0_S1x512) h1)) (mul (weight hw 2 rfl slices_S3x512_o2_0_S1x512) (gated hc))

theorem dconv (hc : E2 (m := 512) (n := 1536) cv (fun i j => X (row t i) j))
    (hd : E2 (m := 512) (n := 512) (k0_pay13 dy wo) (fun i c => D (row t i) c)) :
    E2 (m := 512) (n := 512) (k0_pay15 (k0_pay6 cv) dy wo) (fun i c => ds X D (row t i).val c) :=
  (mul hd (gate hc)).congr fun i c => (ds_val _ _).symm

theorem dgated (hc : E2 (m := 512) (n := 1536) cv (fun i j => X (row t i) j)) (hw : E2 (m := 3) (n := 512) w W)
    (hd : E2 (m := 512) (n := 512) (k0_pay13 dy wo) (fun i c => D (row t i) c))
    {v1 v2 : FVec Ideal S512x512 .f32} (h1 : E2 (m := 512) (n := 512) v1 (fun i c => ds X D ((row t i).val + 1) c))
    (h2 : E2 (m := 512) (n := 512) v2 (fun i c => ds X D ((row t i).val + 2) c)) :
    E2 (m := 512) (n := 512) (k0_pay17 (k0_pay6 cv) w dy wo v1 v2) (fun i c => dz X W D (row t i).val c) :=
  add (add (mul (weight hw 2 rfl slices_S3x512_o2_0_S1x512) (dconv hc hd)) (mul (weight hw 1 rfl slices_S3x512_o1_0_S1x512) h1)) (mul (weight hw 0 rfl slices_S3x512_o0_0_S1x512) h2)

/-- What the tile adds to a tap's gradient. -/
theorem tapSum (hc : E2 (m := 512) (n := 1536) cv (fun i j => X (row t i) j))
    (hd : E2 (m := 512) (n := 512) (k0_pay13 dy wo) (fun i c => D (row t i) c)) {z : FVec Ideal S512x512 .f32} {k : ℕ}
    (hz : E2 (m := 512) (n := 512) z (fun i c => zs X ((row t i).val + k) c)) {a : FVec Ideal S1x512 .f32}
    {A : Fin 512 → EReal} (ha : E2 (m := 1) (n := 512) a (fun _ c => A c)) :
    E2 (m := 1) (n := 512) (shapeCast S1x512 (addf a (shapeCast S1x512 (multiReduction .add [0] S512
      (mulf (k0_pay15 (k0_pay6 cv) dy wo) z) 0x00000000#32 reduces_S512x512_S512 (.inl rfl) rfl) shapeCasts_S512_S1x512))
      shapeCasts_S1x512_S1x512) (fun _ c => A c + ∑ i, ds X D (row t i).val c * zs X ((row t i).val + k) c) :=
  (add ha ((colSums (φ := .f32) (mul (dconv hc hd) hz) reduces_S512x512_S512 (.inl rfl) rfl).toRow shapeCasts_S512_S1x512)).cast _

/-! ### The tile of the gated signal and the eight rows before it -/

theorem first : ∀ t : Fin cfg0.N, Scalar.cmpi .eq (Scalar.subi 15#32 (BitVec.ofNat 32 ((grid0.coords t) 0).val)) 0#32
    = if t.val = 15 then 1#1 else 0#1 := (by decide +kernel : ∀ t : Fin grid0.N, _)

theorem zeros {a b : ℕ} : E2 (m := a) (n := b) (broadcast ⟨2, ![a, b]⟩ (Scalar.ofBits (F := Ideal) .f32 0x00000000#32))
    (fun _ _ => 0) := fun _ _ => Ideal.ofBits_zero_f32

theorem halo {ha : FVec Ideal S8x1536 .f32} (hh : E2 (m := 8) (n := 1536) ha (fun i j => X (before t i) j)) (i : Fin 8)
    (hi : 6 ≤ i.val) (c : Fin 512) : k0_pay10 (F := Ideal) (grid0.coords t) ha (ix2 i c) = zs X ((15 - t.val) * 512 + i.val - 6) c := by
  have ht : t.val < 16 := by have : cfg0.N = 16 := N_0; omega
  have e : k0_pay10 (F := Ideal) (grid0.coords t) ha (ix2 i c) = (Scalar.select (if t.val = 15 then 1#1 else 0#1)
      (broadcast S8x512 (Scalar.ofBits (F := Ideal) .f32 0x00000000#32) : FVec Ideal S8x512 .f32)
      (mulf (extractStridedSlice S8x512 ![0, 512] ha slices_S8x1536_o0_512_S8x512)
        (extractStridedSlice S8x512 ![0, 1024] ha slices_S8x1536_o0_1024_S8x512))) (ix2 i c) := by
    rw [← first t]
    exact (Has2.cast (fun _ _ => rfl) shapeCasts_S8x512_S8x512 : Has2 _ _) i c
  rw [e]
  by_cases h : t.val = 15
  · rw [if_pos h, zs_lt (by omega)]
    exact Ideal.ofBits_zero_f32
  · rw [if_neg h]
    refine ((mul (hh.cols slices_S8x1536_o0_512_S8x512 c1 (fun _ => rfl)) (hh.cols slices_S8x1536_o0_1024_S8x512 c2 (fun _ => rfl))) i c).trans ?_
    refine (zs_add (before t i) c).symm.trans (congrArg (fun r => zs X r c) ?_)
    show ((15 - t.val) * 64 - 1) * 8 + i.val + 2 = _
    omega

section Scratch
variable {ha : FVec Ideal S8x1536 .f32} (hc : E2 (m := 512) (n := 1536) cv (fun i j => X (row t i) j))
  (hh : E2 (m := 8) (n := 1536) ha (fun i j => X (before t i) j))
include hc hh

theorem shifted {o : ℕ} (k : ℕ) (hk : o = 6 + k) (ho : o ≤ 8) (inb) :
    E2 (m := 512) (n := 512) (φ := .f32) ((View.whole cc0_scratch0).readCov (Val := Elt Ideal)
      [⟨Rect.unit ![8, 0] ![512, 512] inb_S520x512_S512x512_8_0, k0_pay11 (F := Ideal) cv⟩,
        ⟨Rect.unit ![0, 0] ![8, 512] inb_S520x512_S8x512_0_0, k0_pay10 (F := Ideal) (grid0.coords t) ha⟩]
      (Rect.unit (s := S520x512) ![o, 0] ![512, 512] inb).toLoadRect) (fun i c => zs X ((row t i).val + k) c) := fun i c => by
  beta_reduce
  rw [load (m := 520) (n := 512) (View.whole cc0_scratch0) _ inb (q := ⟨o + i.val, by omega⟩) (r := c) i c rfl (by simp)]
  by_cases h : o + i.val < 8
  · rw [missRow (m := 520) (n := 512) _ _ _ _ _ (.inl h),
      hit (m := 520) (n := 512) _ _ _ _ _ ⟨o + i.val, h⟩ c (by simp) (by simp)]
    refine (halo hh _ (by show 6 ≤ o + i.val; omega) c).trans (congrArg (fun r => zs X r c) ?_)
    show (15 - t.val) * 512 + (o + i.val) - 6 = (15 - t.val) * 512 + i.val + k
    omega
  · rw [hit (m := 520) (n := 512) _ _ _ _ _ ⟨o + i.val - 8, by omega⟩ c (by show o + i.val = 8 + (o + i.val - 8); omega) (by simp)]
    refine ((gated hc).cast shapeCasts_S512x512_S512x512 _ c).trans (congrArg (fun r => zs X r c) ?_)
    show (15 - t.val) * 512 + (o + i.val - 8) + 2 = (15 - t.val) * 512 + i.val + k
    omega

end Scratch

/-! ### The tile of the convolution's gradient and the eight rows after it -/
section After
variable (hc : E2 (m := 512) (n := 1536) cv (fun i j => X (row t i) j))
  (hd : E2 (m := 512) (n := 512) (k0_pay13 dy wo) (fun i c => D (row t i) c))
include hc hd

/-- Row by row, the stored tile over contents whose last eight rows are those after it. -/
theorem after (f : (View.whole cc0_scratch1).ty.Contents (Elt Ideal)) (L) (hf : ∀ (i : Fin 8) (c : Fin 512) (q : Fin 520), q.val = 512 + i.val →
      (View.whole cc0_scratch1).read (Elt Ideal) ((View.whole cc0_scratch1).writes (Elt Ideal) f L) (ix2 q c)
        = ds X D ((15 - t.val) * 512 + 512 + i.val) c) (q : Fin 520) (c : Fin 512) :
    (View.whole cc0_scratch1).read (Elt Ideal) ((View.whole cc0_scratch1).writes (Elt Ideal) f
      (⟨Rect.unit ![0, 0] ![512, 512] inb_S520x512_S512x512_0_0, k0_pay16 (F := Ideal) (k0_pay6 cv) dy wo⟩ :: L)) (ix2 q c)
      = ds X D ((15 - t.val) * 512 + q.val) c := by
  by_cases h : q.val < 512
  · rw [hit (m := 520) (n := 512) _ _ _ _ _ ⟨q.val, h⟩ c (by simp) (by simp)]
    exact (dconv hc hd).cast shapeCasts_S512x512_S512x512 _ c
  · rw [missRow (m := 520) (n := 512) _ _ _ _ _ (.inr (by omega)), hf ⟨q.val - 512, by omega⟩ c q (by show q.val = 512 + (q.val - 512); omega)]
    refine congrArg (fun r => ds X D r c) ?_
    show (15 - t.val) * 512 + 512 + (q.val - 512) = _
    omega

end After

end Tile

end Cert.ConvTile

end
-- ==== Proof.ConvFin.lean ====
/- The convolution's gradients after the run, from what the grid points leave one after the other. -/
module

public import proofs.«01_k».proof.Proof.ConvTile
public import Idealize.ShloMosaic.Lib.Tactic
public import proofs.«01_k».proof.Proof.Gen.Kernel2Ideal.Value

@[expose] public section

noncomputable section

open scoped BigOperators

namespace Cert.ConvFin

open Cert.Kernel2Ideal Cert.Kernel2Ideal.Gen Idealize.ShloMosaic.TcCoe
open Idealize.ShloMosaic hiding ix0 ix1 ix2 ix3 eq_ix2 eq_ix3
open Idealize.ShloMosaic.ValueIdx
open Idealize.SL.Sem
open Cert.Reals Cert.Layouts Cert.Conv Cert.ConvTile Cert.BrHost

variable (m : (ℓ : Loc nD τ sig) → Buf (Elt Ideal) ℓ) (c : Dev nD)

/-- The joined input of the convolution, -/
def X (n : Fin 8192) (j : Fin 1536) : EReal := (m ((c : Thread nD τ).loc main_arg2) : FVec Ideal S8192x1536 .f32) (ix2 n j)
/-- its taps, -/
def W (k : Fin 3) (d : Fin 512) : EReal := (m ((c : Thread nD τ).loc main_arg6) : FVec Ideal S3x512 .f32) (ix2 k d)
/-- the gradient of the token's sum, -/
def Y (n : Fin 8192) (l : Fin 1024) : EReal := (m ((c : Thread nD τ).loc main_arg0) : FVec Ideal S8192x1024 .f32) (ix2 n l)
/-- the weight of the projection out, -/
def O (d : Fin 512) (l : Fin 1024) : EReal := (m ((c : Thread nD τ).loc main_arg7) : FVec Ideal S512x1024 .f32) (ix2 d l)
/-- and the gradient of the gated output. -/
def D (n : Fin 8192) (d : Fin 512) : EReal := ∑ l : Fin 1024, Y m c n l * O m c d l

theorem hz : (![0, 0] : Fin 2 → Nat) = fun _ => 0 := funext fun a => by fin_cases a <;> rfl

/-! ### The blocks of a grid point -/

theorem x2_is (t : Fin cfg0.N) : E2 (m := 512) (n := 1536) (φ := .f32) (iblk m c 2 t) (fun i j => X m c (row t i) j) :=
  fun i j => congrArg (V m c main_arg2) (emb2 t i j)
theorem x3_is (t : Fin cfg0.N) : E2 (m := 8) (n := 1536) (φ := .f32) (iblk m c 3 t) (fun i j => X m c (before t i) j) :=
  fun i j => congrArg (V m c main_arg2) (emb3 t i j)
theorem x6_is (t : Fin cfg0.N) : E2 (m := 3) (n := 512) (φ := .f32) (iblk m c 6 t) (W m c) :=
  fun i j => congrArg (V m c main_arg6) (emb6 t i j)
theorem x0_is (t : Fin cfg0.N) : E2 (m := 512) (n := 1024) (φ := .bf16) (iblk m c 0 t)
    (fun i l => Y m c (row t i) l) :=
  fun i j => (congrArg (V m c main_v2) (emb0 t i j)).trans (by rw [V_v2]; rfl)
theorem x7_is (t : Fin cfg0.N) : E2 (m := 1024) (n := 512) (φ := .bf16) (iblk m c 7 t)
    (fun l d => O m c d l) :=
  fun i j => (congrArg (V m c main_v8) (emb7 t i j)).trans (by
    rw [V_v8]
    exact (trunc (Has2.transpose (m := 512) (n := 1024) (fun _ _ => rfl) transposes_S512x1024_S1024x512_1_0) bitsLt_bf16_f32 : E2 (φ := .bf16) _ _) i j)
theorem out_is (t : Fin cfg0.N) : E2 (m := 512) (n := 512) (k0_pay13 (iblk m c 0 t) (iblk m c 7 t)) (fun i d => D m c (row t i) d) :=
  dot rfl ((x0_is m c t).cast shapeCasts_S512x1024_S512x1024) ((x7_is m c t).cast shapeCasts_S1024x512_S1024x512)

/-! ### What a grid point leaves -/

/-- The rows of the convolution's gradient that the next grid point needs. -/
theorem carried (t : Fin cfg0.N) (i : Fin 8) (d : Fin 512) (q : Fin 520) (hq : q.val = 512 + i.val) :
    (outsAt0 m c t.val t.isLt).2.2.2.1 (ix2 q d) = ds (X m c) (D m c) ((15 - t.val) * 512 + i.val) d := by
  have key : ∀ (f : (View.whole cc0_scratch1).ty.Contents (Elt Ideal)) (L), (View.whole cc0_scratch1).read (Elt Ideal)
      ((View.whole cc0_scratch1).writes (Elt Ideal) f (⟨Rect.unit ![0, 0] ![512, 512] inb_S520x512_S512x512_0_0,
        k0_pay16 (F := Ideal) (k0_pay6 (iblk m c 2 t)) (iblk m c 0 t) (iblk m c 7 t)⟩ :: L)) (ix2 ⟨i.val, by omega⟩ d)
      = ds (X m c) (D m c) ((15 - t.val) * 512 + i.val) d := fun f L => by
    rw [hit (m := 520) (n := 512) _ _ _ _ _ ⟨i.val, by omega⟩ d (by simp) (by simp)]
    exact (dconv (x2_is m c t) (out_is m c t)).cast shapeCasts_S512x512_S512x512 _ d
  have cast8 : ∀ v : FVec Ideal S8x512 .f32, k0_pay18 v (ix2 i d) = v (ix2 i d) := fun v =>
    (Has2.cast (fun _ _ => rfl) shapeCasts_S8x512_S8x512 : Has2 _ _) i d
  by_cases h0 : t.val % 16 = 0
  · rw [outsAt0_A m c t h0 (by omega)]
    dsimp only
    unfold sout0_A_1 kernelRun0_A
    dsimp only
    sl_unfold_words
    simp only [View.readAt_eq_ld, (hs0_0 t).read_unread, (hs0_2 t).read_unread, (hs0_7 t).read_unread,
      View.ld_unit_zero (S := S512x1024) hz, View.ld_unit_zero (S := S512x1536) hz, View.ld_unit_zero (S := S1024x512) hz]
    exact (hit (m := 520) (n := 512) _ _ _ _ _ i d hq (by simp)).trans ((cast8 _).trans
      ((load (m := 520) (n := 512) _ _ _ i d (by simp) (by simp)).trans (key _ _)))
  · by_cases h1 : t.val % 16 = 15
    · rw [outsAt0_C m c t h0 h1]
      dsimp only
      unfold sout0_C_1 kernelRun0_C
      dsimp only
      sl_unfold_words
      simp only [View.readAt_eq_ld, (hs0_0 t).read_unread, (hs0_2 t).read_unread, (hs0_7 t).read_unread,
        View.ld_unit_zero (S := S512x1024) hz, View.ld_unit_zero (S := S512x1536) hz, View.ld_unit_zero (S := S1024x512) hz]
      exact (hit (m := 520) (n := 512) _ _ _ _ _ i d hq (by simp)).trans ((cast8 _).trans
        ((load (m := 520) (n := 512) _ _ _ i d (by simp) (by simp)).trans (key _ _)))
    · rw [outsAt0_B m c t h0 h1]
      dsimp only
      unfold sout0_B_1 kernelRun0_B
      dsimp only
      sl_unfold_words
      simp only [View.readAt_eq_ld, (hs0_0 t).read_unread, (hs0_2 t).read_unread, (hs0_7 t).read_unread,
        View.ld_unit_zero (S := S512x1024) hz, View.ld_unit_zero (S := S512x1536) hz, View.ld_unit_zero (S := S1024x512) hz]
      exact (hit (m := 520) (n := 512) _ _ _ _ _ i d hq (by simp)).trans ((cast8 _).trans
        ((load (m := 520) (n := 512) _ _ _ i d (by simp) (by simp)).trans (key _ _)))

/-- The three groups of columns of a tile of the result. -/
theorem groups (t : Fin cfg0.N) {sp : Space} {κ : Kind} (v : View sig κ sp S512x1536 .bf16) (f : v.ty.Contents (Elt Ideal)) (L)
    {z1 z2 v1 v2 : FVec Ideal S512x512 .f32}
    (hz1 : E2 (m := 512) (n := 512) z1 (fun i d => zs (X m c) ((row t i).val + 1) d))
    (hz2 : E2 (m := 512) (n := 512) z2 (fun i d => zs (X m c) (row t i).val d))
    (h1 : E2 (m := 512) (n := 512) v1 (fun i d => ds (X m c) (D m c) ((row t i).val + 1) d))
    (h2 : E2 (m := 512) (n := 512) v2 (fun i d => ds (X m c) (D m c) ((row t i).val + 2) d))
    (b : FVec Ideal S512x1536 .bf16) (hb : b = v.read (Elt Ideal) (v.writes (Elt Ideal) f
      (⟨Rect.unit ![0, 1024] ![512, 512] inb_S512x1536_S512x512_0_1024, k0_pay24 (F := Ideal) (k0_pay7 (iblk m c 2 t))
          (k0_pay17 (k0_pay6 (iblk m c 2 t)) (iblk m c 6 t) (iblk m c 0 t) (iblk m c 7 t) v1 v2)⟩
        :: ⟨Rect.unit ![0, 512] ![512, 512] inb_S512x1536_S512x512_0_512, k0_pay23 (F := Ideal) (k0_pay8 (iblk m c 2 t))
          (k0_pay17 (k0_pay6 (iblk m c 2 t)) (iblk m c 6 t) (iblk m c 0 t) (iblk m c 7 t) v1 v2)⟩
        :: ⟨Rect.unit ![0, 0] ![512, 512] inb_S512x1536_S512x512_0_0, k0_pay22 (F := Ideal) (k0_pay14
          (k0_pay12 (iblk m c 2 t) z1 z2 (iblk m c 6 t)) (iblk m c 0 t) (iblk m c 7 t))⟩ :: L))) (i : Fin 512) (d : Fin 512) :
    b (ix2 i (c0 d)) = D m c (row t i) d * cz (X m c) (W m c) (row t i).val d
    ∧ b (ix2 i (c1 d)) = dz (X m c) (W m c) (D m c) (row t i).val d * X m c (row t i) (c2 d)
    ∧ b (ix2 i (c2 d)) = dz (X m c) (W m c) (D m c) (row t i).val d * X m c (row t i) (c1 d) := by
  have hd := d.isLt
  have g := dgated (x2_is m c t) (x6_is m c t) (out_is m c t) h1 h2
  subst hb
  refine ⟨?_, ?_, ?_⟩
  · rw [missCol (m := 512) (n := 1536) _ _ _ _ _ (.inl (by show d.val < 1024; omega)),
      missCol (m := 512) (n := 1536) _ _ _ _ _ (.inl (by show d.val < 512; omega)),
      hit (m := 512) (n := 1536) _ _ _ _ _ i d (by simp) (by simp [c0])]
    exact (mul (out_is m c t) (conv (x2_is m c t) (x6_is m c t) hz1 hz2)) i d
  · rw [missCol (m := 512) (n := 1536) _ _ _ _ _ (.inl (by show 512 + d.val < 1024; omega)),
      hit (m := 512) (n := 1536) _ _ _ _ _ i d (by simp) rfl]
    exact (mul g (signal (x2_is m c t))) i d
  · rw [hit (m := 512) (n := 1536) _ _ _ _ _ i d (by simp) rfl]
    exact (mul g (inner (x2_is m c t))) i d

theorem prev_row {t : Fin cfg0.N} (h0 : ¬t.val % 16 = 0) : (15 - (t.val - 1)) * 512 = (15 - t.val) * 512 + 512 := by
  have : t.val < 16 := by have : cfg0.N = 16 := N_0; omega
  omega

/-- The stored tile over what the point before left. -/
theorem over_prev (t : Fin cfg0.N) (h0 : ¬t.val % 16 = 0) (hw : (Memref.whole cc0_scratch1).IsWhole) {o : ℕ} (k : ℕ) (ho : o = k) (hk : k ≤ 2)
    (inb) : E2 (m := 512) (n := 512) (φ := .f32) (View.ld (View.read (Elt Ideal) (View.whole cc0_scratch1)
      ((View.whole cc0_scratch1).writes (Elt Ideal) (hw.unread (outsAt0 m c (t.val - 1) (Nat.lt_of_le_of_lt (Nat.sub_le _ _) t.isLt)).2.2.2.1)
        [⟨Rect.unit ![0, 0] ![512, 512] inb_S520x512_S512x512_0_0,
          k0_pay16 (F := Ideal) (k0_pay6 (iblk m c 2 t)) (iblk m c 0 t) (iblk m c 7 t)⟩]))
      (Rect.unit (s := S520x512) ![o, 0] ![512, 512] inb)) (fun i d => ds (X m c) (D m c) ((row t i).val + k) d) := fun i d => by
  subst ho
  refine (ld_at _ inb i d (by omega) (by omega)).trans ((after (x2_is m c t) (out_is m c t) _ [] (fun i d q hq => ?_) _ _).trans ?_)
  · refine (congrFun (hw.read_unread _) _).trans ((carried m c ⟨t.val - 1, Nat.lt_of_le_of_lt (Nat.sub_le _ _) t.isLt⟩ i d q hq).trans ?_)
    show ds _ _ ((15 - (t.val - 1)) * 512 + i.val) d = _
    rw [prev_row h0]
  · show ds _ _ ((15 - t.val) * 512 + (o + i.val)) (⟨0 + d.val, _⟩ : Fin 512) = ds _ _ ((15 - t.val) * 512 + i.val + o) d
    simp only [Nat.zero_add]
    exact congrArg (fun r => ds _ _ r d) (by omega)

/-- The stored tile over the zeros of the first point. -/
theorem over_zero (t : Fin cfg0.N) (h0 : t.val % 16 = 0) {o : ℕ} (k : ℕ) (ho : o = k) (hk : k ≤ 2) (inb) :
    E2 (m := 512) (n := 512) (φ := .f32) ((View.whole cc0_scratch1).readCov (Val := Elt Ideal)
      [⟨Rect.unit ![0, 0] ![512, 512] inb_S520x512_S512x512_0_0,
          k0_pay16 (F := Ideal) (k0_pay6 (iblk m c 2 t)) (iblk m c 0 t) (iblk m c 7 t)⟩,
        ⟨Rect.unit ![512, 0] ![8, 512] inb_S520x512_S8x512_512_0, k0_pay5 (F := Ideal)⟩]
      (Rect.unit (s := S520x512) ![o, 0] ![512, 512] inb).toLoadRect) (fun i d => ds (X m c) (D m c) ((row t i).val + k) d) := fun i d => by
  subst ho
  have ht : t.val = 0 := by have : cfg0.N = 16 := N_0; omega
  refine (load (m := 520) (n := 512) _ _ inb (q := ⟨o + i.val, by omega⟩) (r := d) i d rfl (by simp)).trans
    ((after (x2_is m c t) (out_is m c t) _ _ (fun i d q hq => ?_) _ _).trans ?_)
  · rw [hit (m := 520) (n := 512) _ _ _ _ _ i d hq (by simp), ds_ge (by omega)]
    exact (zeros (a := 8) (b := 512)).cast shapeCasts_S8x512_S8x512 i d
  · show ds _ _ ((15 - t.val) * 512 + (o + i.val)) d = ds _ _ ((15 - t.val) * 512 + i.val + o) d
    exact congrArg (fun r => ds _ _ r d) (by omega)

set_option maxRecDepth 16384 in
set_option maxHeartbeats 4000000 in
theorem tile (t : Fin cfg0.N) (i : Fin 512) (d : Fin 512) :
    (outsAt0 m c t.val t.isLt).1 (ix2 i (c0 d)) = D m c (row t i) d * cz (X m c) (W m c) (row t i).val d
    ∧ (outsAt0 m c t.val t.isLt).1 (ix2 i (c1 d)) = dz (X m c) (W m c) (D m c) (row t i).val d * X m c (row t i) (c2 d)
    ∧ (outsAt0 m c t.val t.isLt).1 (ix2 i (c2 d)) = dz (X m c) (W m c) (D m c) (row t i).val d * X m c (row t i) (c1 d) := by
  have z1 := shifted (x2_is m c t) (x3_is m c t) 1 (o := 7) rfl (by omega) inb_S520x512_S512x512_7_0
  have z2 := shifted (x2_is m c t) (x3_is m c t) 0 (o := 6) rfl (by omega) inb_S520x512_S512x512_6_0
  by_cases h0 : t.val % 16 = 0
  · refine groups m c t VO0_10 VO0_10.junk [] z1 z2 (over_zero m c t h0 1 rfl (by omega) inb_S520x512_S512x512_1_0)
      (over_zero m c t h0 2 rfl (by omega) inb_S520x512_S512x512_2_0) _ ?_ i d
    rw [outsAt0_A m c t h0 (by omega)]
    dsimp only
    unfold out0_A_10 kernelRun0_A
    dsimp only
    sl_unfold_words
    simp only [View.readAt_eq_ld, (hs0_0 t).read_unread, (hs0_2 t).read_unread, (hs0_3 t).read_unread, (hs0_6 t).read_unread,
      (hs0_7 t).read_unread, View.ld_unit_zero (S := S512x1024) hz, View.ld_unit_zero (S := S512x1536) hz,
      View.ld_unit_zero (S := S8x1536) hz, View.ld_unit_zero (S := S1024x512) hz, View.ld_unit_zero (S := S3x512) hz]
  · by_cases h1 : t.val % 16 = 15
    · refine groups m c t VO0_10 VO0_10.junk [] z1 z2 (over_prev m c t h0 (Memref.isWhole_whole _) 1 rfl (by omega) inb_S520x512_S512x512_1_0)
        (over_prev m c t h0 (Memref.isWhole_whole _) 2 rfl (by omega) inb_S520x512_S512x512_2_0) _ ?_ i d
      rw [outsAt0_C m c t h0 h1]
      dsimp only
      unfold out0_C_10 kernelRun0_C
      dsimp only
      sl_unfold_words
      simp only [View.readAt_eq_ld, (hs0_0 t).read_unread, (hs0_2 t).read_unread, (hs0_3 t).read_unread, (hs0_6 t).read_unread,
        (hs0_7 t).read_unread, View.ld_unit_zero (S := S512x1024) hz, View.ld_unit_zero (S := S512x1536) hz,
        View.ld_unit_zero (S := S8x1536) hz, View.ld_unit_zero (S := S1024x512) hz, View.ld_unit_zero (S := S3x512) hz]
      rfl
    · refine groups m c t VO0_10 VO0_10.junk [] z1 z2 (over_prev m c t h0 (Memref.isWhole_whole _) 1 rfl (by omega) inb_S520x512_S512x512_1_0)
        (over_prev m c t h0 (Memref.isWhole_whole _) 2 rfl (by omega) inb_S520x512_S512x512_2_0) _ ?_ i d
      rw [outsAt0_B m c t h0 h1]
      dsimp only
      unfold out0_B_10 kernelRun0_B
      dsimp only
      sl_unfold_words
      simp only [View.readAt_eq_ld, (hs0_0 t).read_unread, (hs0_2 t).read_unread, (hs0_3 t).read_unread, (hs0_6 t).read_unread,
        (hs0_7 t).read_unread, View.ld_unit_zero (S := S512x1024) hz, View.ld_unit_zero (S := S512x1536) hz,
        View.ld_unit_zero (S := S8x1536) hz, View.ld_unit_zero (S := S1024x512) hz, View.ld_unit_zero (S := S3x512) hz]
      rfl

/-- The gradient of the convolution's joined input after the run. -/
theorem dconv_all : Grads (X m c) (W m c) (D m c) ((dats m 0 c).arrAt 10 cfg0.N) := by
  have key : ∀ (t : Fin cfg0.N) (i : Fin 512) (j : Fin 1536), (dats m 0 c).arrAt 10 cfg0.N (ix2 (row t i) j)
      = (outsAt0 m c t.val t.isLt).1 (ix2 i j) := fun t i j =>
    (congrArg ((dats m 0 c).arrAt 10 cfg0.N) (emb10 t i j)).symm.trans
      ((congrFun (Cert.Kernel2Ideal.Value.blocks10 m c t (flush0_10 t)) (ix2 i j)).trans
        (congrFun (Cert.Kernel2Ideal.Value.flushed10 m c t) (ix2 i j)))
  refine ⟨fun n d => ?_, fun n d => ?_, fun n d => ?_⟩ <;> obtain ⟨t, i, rfl⟩ := exists_row n <;> rw [key]
  · exact (tile m c t i d).1
  · exact (tile m c t i d).2.1
  · exact (tile m c t i d).2.2

end Cert.ConvFin

end
-- ==== Proof.ConvTap.lean ====
/- The gradients of the convolution's taps: each grid point adds its tile's sums to the rows it carries, the last one copies
   them out. -/
module

public import proofs.«01_k».proof.Proof.ConvFin

@[expose] public section

noncomputable section

open scoped BigOperators

namespace Cert.ConvFin

open Cert.Kernel2Ideal Cert.Kernel2Ideal.Gen Idealize.ShloMosaic.TcCoe
open Idealize.ShloMosaic hiding ix0 ix1 ix2 ix3 eq_ix2 eq_ix3
open Idealize.ShloMosaic.ValueIdx
open Idealize.SL.Sem
open Cert.Reals Cert.Layouts Cert.Conv Cert.ConvTile Cert.BrHost

variable (m : (ℓ : Loc nD τ sig) → Buf (Elt Ideal) ℓ) (c : Dev nD)

/-- What a token adds to a row of the taps' gradients. -/
def share (k : Fin 8) (d : Fin 512) (n : Fin 8192) : EReal :=
  if k.val < 3 then ds (X m c) (D m c) n.val d * zs (X m c) (n.val + k.val) d else 0

theorem rows_cases (k : Fin 8) : k = 0 ∨ k = 1 ∨ k = 2 ∨ 3 ≤ k.val := by
  simp only [Fin.ext_iff]
  show k.val = 0 ∨ k.val = 1 ∨ k.val = 2 ∨ 3 ≤ k.val
  omega

/-- The three rows that a point stores, over rows that hold `A`. -/
theorem rows (t : Fin cfg0.N) {sp : Space} {κ : Kind} (v : View sig κ sp S8x512 .f32) (f : v.ty.Contents (Elt Ideal)) (L)
    {z1 z2 : FVec Ideal S512x512 .f32} {a0 a1 a2 : FVec Ideal S1x512 .f32} (A : Fin 8 → Fin 512 → EReal)
    (hz1 : E2 (m := 512) (n := 512) z1 (fun i d => zs (X m c) ((row t i).val + 1) d))
    (hz2 : E2 (m := 512) (n := 512) z2 (fun i d => zs (X m c) ((row t i).val + 0) d))
    (h0 : E2 (m := 1) (n := 512) a0 (fun _ d => A 0 d)) (h1 : E2 (m := 1) (n := 512) a1 (fun _ d => A 1 d))
    (h2 : E2 (m := 1) (n := 512) a2 (fun _ d => A 2 d))
    (hL : ∀ (k : Fin 8) (d : Fin 512), 3 ≤ k.val → v.read (Elt Ideal) (v.writes (Elt Ideal) f L) (ix2 k d) = A k d)
    (b : FVec Ideal S8x512 .f32) (hb : b = v.read (Elt Ideal) (v.writes (Elt Ideal) f
      (⟨Rect.unit ![2, 0] ![1, 512] inb_S8x512_S1x512_2_0, k0_pay21 (F := Ideal) (k0_pay9 (iblk m c 2 t))
          (k0_pay15 (k0_pay6 (iblk m c 2 t)) (iblk m c 0 t) (iblk m c 7 t)) a2⟩
        :: ⟨Rect.unit ![1, 0] ![1, 512] inb_S8x512_S1x512_1_0, k0_pay20 (F := Ideal) z1
          (k0_pay15 (k0_pay6 (iblk m c 2 t)) (iblk m c 0 t) (iblk m c 7 t)) a1⟩
        :: ⟨Rect.unit ![0, 0] ![1, 512] inb_S8x512_S1x512_0_0, k0_pay19 (F := Ideal) (k0_pay6 (iblk m c 2 t)) z2
          (iblk m c 0 t) (iblk m c 7 t) a0⟩ :: L))) (k : Fin 8) (d : Fin 512) :
    b (ix2 k d) = A k d + ∑ i, share m c k d (row t i) := by
  subst hb
  obtain rfl | rfl | rfl | hk := rows_cases k
  · rw [missRow (m := 8) (n := 512) _ _ _ _ _ (.inl (by decide)), missRow (m := 8) (n := 512) _ _ _ _ _ (.inl (by decide)),
      hit (m := 8) (n := 512) _ _ _ _ _ (0 : Fin 1) d (by rfl) (by simp)]
    exact tapSum (x2_is m c t) (out_is m c t) hz2 h0 0 d
  · rw [missRow (m := 8) (n := 512) _ _ _ _ _ (.inl (by decide)),
      hit (m := 8) (n := 512) _ _ _ _ _ (0 : Fin 1) d (by rfl) (by simp)]
    exact tapSum (x2_is m c t) (out_is m c t) hz1 h1 0 d
  · rw [hit (m := 8) (n := 512) _ _ _ _ _ (0 : Fin 1) d (by rfl) (by simp)]
    exact tapSum (x2_is m c t) (out_is m c t) (gated (x2_is m c t)) h2 0 d
  · rw [missRow (m := 8) (n := 512) _ _ _ _ _ (.inr hk), missRow (m := 8) (n := 512) _ _ _ _ _ (.inr (by show 1 + 1 ≤ k.val; omega)),
      missRow (m := 8) (n := 512) _ _ _ _ _ (.inr (by show 0 + 1 ≤ k.val; omega)), hL k d hk]
    refine ((add_zero _).symm.trans (congrArg _ ?_))
    exact (Finset.sum_eq_zero fun i _ => if_neg (by omega)).symm

/-- A row of what the point before left. -/
theorem row_prev {hw : (Memref.whole cc0_scratch2).IsWhole} (P : FVec Ideal S8x512 .f32) (k : Fin 8) {o : ℕ} (ho : k.val = o) (inb) :
    E2 (m := 1) (n := 512) (φ := .f32) (View.ld (View.read (Elt Ideal) (View.whole cc0_scratch2) (hw.unread P))
      (Rect.unit (s := S8x512) ![o, 0] ![1, 512] inb)) (fun _ d => P (ix2 k d)) := fun i d => by
  subst ho
  have e : View.read (Elt Ideal) (View.whole cc0_scratch2) (hw.unread P) = P :=
    Memref.IsWhole.read_unread (Val := Elt Ideal) hw P
  rw [e]
  refine (ld_at (m := 8) (n := 512) _ inb i d (by omega) (by omega)).trans ?_
  exact congrArg P (congrArg₂ ix2 (Fin.ext (by show k.val + i.val = k.val; omega)) (Fin.ext (by show 0 + d.val = d.val; omega)))

theorem zero_row (f : (View.whole cc0_scratch2).ty.Contents (Elt Ideal)) (k : Fin 8) (d : Fin 512) :
    (View.whole cc0_scratch2).read (Elt Ideal) ((View.whole cc0_scratch2).writes (Elt Ideal) f
      [⟨Rect.unit ![0, 0] ![8, 512] inb_S8x512_S8x512_0_0, k0_pay3 (F := Ideal)⟩]) (ix2 k d) = (0 : EReal) := by
  rw [hit (m := 8) (n := 512) _ _ _ _ _ k d (by simp) (by simp)]
  exact (zeros (a := 8) (b := 512)).cast shapeCasts_S8x512_S8x512 k d

set_option maxRecDepth 16384 in
set_option maxHeartbeats 4000000 in
theorem taps_first (t : Fin cfg0.N) (h0 : t.val % 16 = 0) (k : Fin 8) (d : Fin 512) :
    (outsAt0 m c t.val t.isLt).2.2.2.2.1 (ix2 k d) = ∑ i, share m c k d (row t i) := by
  have z1 := shifted (x2_is m c t) (x3_is m c t) 1 (o := 7) rfl (by omega) inb_S520x512_S512x512_7_0
  have z2 := shifted (x2_is m c t) (x3_is m c t) 0 (o := 6) rfl (by omega) inb_S520x512_S512x512_6_0
  refine (rows m c t VS0_2 VS0_2.junk [⟨Rect.unit ![0, 0] ![8, 512] inb_S8x512_S8x512_0_0, k0_pay3 (F := Ideal)⟩] (fun _ _ => 0) z1 z2
    (a0 := ?_) (a1 := ?_) (a2 := ?_) ?_ ?_ ?_ (fun k d _ => zero_row _ k d) _ ?_ k d).trans (zero_add _)
  rotate_left 6
  · rw [outsAt0_A m c t h0 (by omega)]
    dsimp only
    unfold sout0_A_2 kernelRun0_A
    dsimp only
    sl_unfold_words
    simp only [View.readAt_eq_ld, (hs0_0 t).read_unread, (hs0_2 t).read_unread, (hs0_3 t).read_unread,
      (hs0_7 t).read_unread, View.ld_unit_zero (S := S512x1024) hz, View.ld_unit_zero (S := S512x1536) hz,
      View.ld_unit_zero (S := S8x1536) hz, View.ld_unit_zero (S := S1024x512) hz]
    rfl
  · exact fun i d => (load (m := 8) (n := 512) _ _ _ (q := 0) (r := d) i d (by simp) (by simp)).trans (zero_row _ _ _)
  · exact fun i d => (load (m := 8) (n := 512) _ _ _ (q := 1) (r := d) i d (by simp) (by simp)).trans
      ((missRow (m := 8) (n := 512) _ _ _ _ _ (.inr (by decide))).trans (zero_row _ _ _))
  · exact fun i d => (load (m := 8) (n := 512) _ _ _ (q := 2) (r := d) i d (by simp) (by simp)).trans
      ((missRow (m := 8) (n := 512) _ _ _ _ _ (.inr (by decide))).trans
        ((missRow (m := 8) (n := 512) _ _ _ _ _ (.inr (by decide))).trans (zero_row _ _ _)))

set_option maxRecDepth 16384 in
set_option maxHeartbeats 4000000 in
theorem taps_next (t : Fin cfg0.N) (h0 : ¬t.val % 16 = 0) (k : Fin 8) (d : Fin 512) : (outsAt0 m c t.val t.isLt).2.2.2.2.1 (ix2 k d)
    = (outsAt0 m c (t.val - 1) (Nat.lt_of_le_of_lt (Nat.sub_le _ _) t.isLt)).2.2.2.2.1 (ix2 k d) + ∑ i, share m c k d (row t i) := by
  have z1 := shifted (x2_is m c t) (x3_is m c t) 1 (o := 7) rfl (by omega) inb_S520x512_S512x512_7_0
  have z2 := shifted (x2_is m c t) (x3_is m c t) 0 (o := 6) rfl (by omega) inb_S520x512_S512x512_6_0
  have hw : (Memref.whole cc0_scratch2).IsWhole := Memref.isWhole_whole _
  refine rows m c t (View.whole cc0_scratch2)
    (hw.unread (outsAt0 m c (t.val - 1) (Nat.lt_of_le_of_lt (Nat.sub_le _ _) t.isLt)).2.2.2.2.1) [] (fun k d => (outsAt0 m c (t.val - 1) (Nat.lt_of_le_of_lt (Nat.sub_le _ _) t.isLt)).2.2.2.2.1 (ix2 k d)) z1 z2
    (row_prev (hw := hw) _ 0 rfl inb_S8x512_S1x512_0_0) (row_prev (hw := hw) _ 1 rfl inb_S8x512_S1x512_1_0)
    (row_prev (hw := hw) _ 2 rfl inb_S8x512_S1x512_2_0) (fun k d _ => congrFun (hw.read_unread _) (ix2 k d)) _ ?_ k d
  by_cases h1 : t.val % 16 = 15
  · rw [outsAt0_C m c t h0 h1]
    dsimp only
    unfold sout0_C_2 kernelRun0_C
    dsimp only
    sl_unfold_words
    simp only [View.readAt_eq_ld, (hs0_0 t).read_unread, (hs0_2 t).read_unread, (hs0_3 t).read_unread,
      (hs0_7 t).read_unread, View.ld_unit_zero (S := S512x1024) hz, View.ld_unit_zero (S := S512x1536) hz,
      View.ld_unit_zero (S := S8x1536) hz, View.ld_unit_zero (S := S1024x512) hz]
    rfl
  · rw [outsAt0_B m c t h0 h1]
    dsimp only
    unfold sout0_B_2 kernelRun0_B
    dsimp only
    sl_unfold_words
    simp only [View.readAt_eq_ld, (hs0_0 t).read_unread, (hs0_2 t).read_unread, (hs0_3 t).read_unread,
      (hs0_7 t).read_unread, View.ld_unit_zero (S := S512x1024) hz, View.ld_unit_zero (S := S512x1536) hz,
      View.ld_unit_zero (S := S8x1536) hz, View.ld_unit_zero (S := S1024x512) hz]
    rfl

/-- The carried rows after the last point. -/
theorem taps_last (k : Fin 8) (d : Fin 512) : (outsAt0 m c last.val last.isLt).2.2.2.2.1 (ix2 k d) = taps (X m c) (D m c) k d := by
  refine (fold_last (share m c k d) (fold (share m c k d) (fun n h => (outsAt0 m c n h).2.2.2.2.1 (ix2 k d))
    (fun t h0 => taps_first m c t h0 k d) (fun t h0 => taps_next m c t h0 k d))).trans ?_
  unfold taps
  by_cases hk : k.val < 3
  · rw [if_pos hk]
    exact Finset.sum_congr rfl fun n _ => if_pos hk
  · rw [if_neg hk]
    exact Finset.sum_eq_zero fun n _ => if_neg hk

theorem into (k : Fin 8) (d : Fin 512) : (((View.whole main_v11_3).slice (Rect.unit ![0, 0, 0] ![1, 8, 512]
      inb_S1x8x512_S1x8x512_0_0_0)).reshape S8x512 (Shape.Squeezes.numel_eq squeezes_S1x8x512_S8x512)).emb (ix2 k d) = (ix3 (0 : Fin 1) k d : S1x8x512.Idx) := by
    rw [View.emb_reshape]
    show Rect.emb _ (Shape.reshapeEquiv _ (ix2 k d)) = _
    refine (congrArg _ (Shape.reshapeEquiv_eq_of_rowMajor (y := (ix3 (0 : Fin 1) k d : S1x8x512.Idx)) _ ?_)).trans ?_
    · rw [Shape.rowMajor_val_three, Shape.rowMajor_val_two]
      show ((0 * 8 + k.val) * 512 + d.val) = k.val * 512 + d.val
      omega
    · funext a
      fin_cases a <;> apply Fin.ext
      · simp
      · rw [Rect.emb_apply]
        show 0 + 1 * k.val = k.val
        omega
      · rw [Rect.emb_apply]
        show 0 + 1 * d.val = d.val
        omega

set_option maxRecDepth 16384 in
set_option maxHeartbeats 4000000 in
/-- What the last point copies out is the carried rows. -/
theorem copied (k : Fin 8) (d : Fin 512) : (outsAt0 m c last.val last.isLt).2.2.2.2.2 (ix3 (0 : Fin 1) k d)
    = (outsAt0 m c last.val last.isLt).2.2.2.2.1 (ix2 k d) := by
  rw [outsAt0_C m c last (by decide) (by decide)]
  dsimp only
  unfold hbw0_C_0 sout0_C_2 kernelRun0_C
  dsimp only
  sl_unfold_words
  simp only [View.readAt_eq_ld]
  generalize (View.read (Elt Ideal) (View.whole cc0_scratch2) _) = w
  have e := into k d
  refine (congrArg _ e.symm).trans ((View.write_emb_of_mem _ _ (Finset.mem_univ (ix2 k d))).trans ?_)
  rfl

end Cert.ConvFin

end
-- ==== Proof.ConvRef.lean ====
/- The reference's gradients of the short convolution, operation by operation along its own list. -/
module

public import proofs.«01_k».proof.Proof.Conv
public import proofs.«01_k».proof.Proof.Gen.Reference2Ideal.Read

@[expose] public section

noncomputable section

open scoped BigOperators

namespace Cert.ConvRef

open Idealize.ShloMosaic hiding ix0 ix1 ix2 ix3 eq_ix2 eq_ix3
open Idealize.ShloMosaic.ValueIdx
open Cert.Layouts Cert.Conv
open Cert.Reference2Ideal Cert.Reference2Ideal.Gen Cert.Reference2Ideal.Read

variable (x0 : FVec Ideal S8192x1024 .f32) (x2 : FVec Ideal S8192x1536 .f32) (x6 : FVec Ideal S3x512 .f32) (x7 : FVec Ideal S512x1024 .f32)

/-- The signal and its gates. -/
def X (n : Fin 8192) (j : Fin 1536) : EReal := x2 (ix2 n j)
/-- The taps. -/
def W (k : Fin 3) (c : Fin 512) : EReal := x6 (ix2 k c)
/-- The cotangent of the branch before its projection. -/
def D (n : Fin 8192) (c : Fin 512) : EReal := ∑ l, (x0 (ix2 n l) : EReal) * x7 (ix2 c l)

theorem zero0 (i : S_.Idx) : constant (F := Ideal) S_ .f32 0x00000000#32 i = (0 : EReal) := Ideal.ofBits_zero_f32

theorem at2 {m n : ℕ} {φ : FTy} {v : FVec Ideal ⟨2, ![m, n]⟩ φ} {f : Fin m → Fin n → EReal} (h : E2 v f) (i : (⟨2, ![m, n]⟩ : Shape).Idx) :
    v i = f (i 0) (i 1) := (congrArg v (eq_ix2 i)).trans (h _ _)

theorem g1 : E2 (φ := .f32) (m := 8192) (n := 512) (val_main_v1 (F := Ideal) x2) (fun n c => X x2 n (c0 c)) :=
  Has2.cols (α := EReal) (f := X x2) (fun _ _ => rfl) _ c0 (fun _ => (Nat.zero_add _).symm)

theorem g2 : E2 (φ := .f32) (m := 8192) (n := 512) (val_main_v2 (F := Ideal) x2) (fun n c => X x2 n (c1 c)) :=
  Has2.cols (α := EReal) (f := X x2) (fun _ _ => rfl) _ c1 (fun _ => rfl)

theorem g3 : E2 (φ := .f32) (m := 8192) (n := 512) (val_main_v3 (F := Ideal) x2) (fun n c => X x2 n (c2 c)) :=
  Has2.cols (α := EReal) (f := X x2) (fun _ _ => rfl) _ c2 (fun _ => rfl)

theorem g4 : E2 (φ := .f32) (m := 8192) (n := 512) (val_main_v4 (F := Ideal) x2) (fun n c => X x2 n (c1 c) * X x2 n (c2 c)) :=
  mul (g2 x2) (g3 x2)

theorem g5 : E2 (φ := .f32) (m := 2) (n := 512) (val_main_v5 (F := Ideal)) (fun _ _ => 0) := fun i j =>
  (val_main_v5_apply (F := Ideal) (ix2 i j)).trans (zero0 _)

/-- The gated signal behind two rows of zeros. -/
theorem g6 : E2 (φ := .f32) (m := 8194) (n := 512) (val_main_v6 (F := Ideal) x2) (fun r c => zs (X x2) r.val c) := fun r c => by
  unfold val_main_v6
  by_cases h : r.val < 2
  · refine (join_rows _ 0 (by exact (by decide : 0 < 2)) g5 rfl 0 rfl ⟨r.val, h⟩ c r (Nat.zero_add _).symm).trans ?_
    exact (zs_lt h c).symm
  · refine (join_rows _ 1 (by exact (by decide : 1 < 2)) (g4 x2) rfl 2 rfl ⟨r.val - 2, by omega⟩ c r (by show r.val = 2 + (r.val - 2); omega)).trans ?_
    have e : r.val = r.val - 2 + 2 := by omega
    exact ((congrArg (fun q => zs (X x2) q c) e).trans (zs_add (X := X x2) ⟨r.val - 2, by omega⟩ c)).symm

theorem sig (o : ℕ) (ho : o ≤ 2) (h : (⟨2, ![8194, 512]⟩ : Shape).Slices ![o, 0] ⟨2, ![8192, 512]⟩) :
    E2 (φ := .f32) (m := 8192) (n := 512) (extractStridedSlice ⟨2, ![8192, 512]⟩ ![o, 0] (val_main_v6 (F := Ideal) x2) h)
      (fun n c => zs (X x2) (n.val + o) c) :=
  ((g6 x2).slice h (fun n => ⟨o + n.val, by omega⟩) (fun c => c) (fun _ => rfl) (fun _ => (Nat.zero_add _).symm)).congr
    fun n c => congrArg (fun q => zs (X x2) q c) (Nat.add_comm _ _)

/-- A tap along the rows. -/
theorem weight (k : Fin 3) (o : ℕ) (ho : k.val = o) (h : (⟨2, ![3, 512]⟩ : Shape).Slices ![o, 0] ⟨2, ![1, 512]⟩) (h1 h2 h3) :
    E2 (φ := .f32) (m := 8192) (n := 512) (broadcastInDim ⟨2, ![8192, 512]⟩ ![0, 1] h3 (broadcastInDim ⟨2, ![1, 512]⟩ ![1] h2
      (shapeCast ⟨1, ![512]⟩ (extractStridedSlice ⟨2, ![1, 512]⟩ ![o, 0] x6 h) h1))) (fun _ c => W x6 k c) :=
  Has2.hrow (Has1.hrow (Has2.fromRow (Has2.slice (α := EReal) (f := W x6) (fun _ _ => rfl) h (fun _ => k) (fun c => c)
    (fun i => by have : i.val = 0 := by omega
                 omega) (fun _ => (Nat.zero_add _).symm)) h1) h2) h3

theorem g13 : E2 (φ := .f32) (m := 8192) (n := 512) (val_main_v13 (F := Ideal) x2 x6) (fun n c => W x6 0 c * zs (X x2) (n.val + 0) c) :=
  mul (weight x6 0 0 rfl _ _ _ _) (sig x2 0 (by omega) _)

theorem g19 : E2 (φ := .f32) (m := 8192) (n := 512) (val_main_v19 (F := Ideal) x2 x6) (fun n c => W x6 1 c * zs (X x2) (n.val + 1) c) :=
  mul (weight x6 1 1 rfl _ _ _ _) (sig x2 1 (by omega) _)

theorem g26 : E2 (φ := .f32) (m := 8192) (n := 512) (val_main_v26 (F := Ideal) x2 x6) (fun n c => W x6 2 c * zs (X x2) (n.val + 2) c) :=
  mul (weight x6 2 2 rfl _ _ _ _) (sig x2 2 (by omega) _)

theorem g27 : E2 (φ := .f32) (m := 8192) (n := 512) (val_main_v27 (F := Ideal) x2 x6) (fun n c => cz (X x2) (W x6) n.val c) :=
  add (add (g13 x2 x6) (g19 x2 x6)) (g26 x2 x6)

theorem g98 : E2 (φ := .f32) (m := 8192) (n := 512) (val_main_v98 (F := Ideal) x0 x7) (D x0 x7) := fun n c => by
  refine (val_main_v98_apply x0 x7 (ix2 n c)).trans (Finset.sum_congr rfl fun k _ => ?_)
  exact congrArg₂ (fun a b : EReal => a * b) (congrArg x0 (eq_ix2 _)) (congrArg x7 (eq_ix2 _))

theorem g99 : E2 (φ := .f32) (m := 8192) (n := 512) (val_main_v99 (F := Ideal) x0 x2 x7) (fun n c => ds (X x2) (D x0 x7) n.val c) :=
  (mul (g1 x2) (g98 x0 x7)).congr fun n c => (mul_comm _ _).trans (ds_val n c).symm

theorem g100 : E2 (φ := .f32) (m := 8192) (n := 512) (val_main_v100 (F := Ideal) x0 x2 x6 x7) (fun n c => D x0 x7 n c * cz (X x2) (W x6) n.val c) :=
  mul (g98 x0 x7) (g27 x2 x6)

/-- A tap's part of the gradient of the padded signal, two rows further on. -/
theorem padded {v : FVec Ideal ⟨2, ![8192, 512]⟩ .f32} {w : Fin 512 → EReal} (hv : E2 v (fun n c => w c * ds (X x2) (D x0 x7) n.val c))
    {lo hi k : ℕ} (hk : lo + k = 2) {z : FVec Ideal S_ .f32} (hz : ∀ i, z i = (0 : EReal))
    (h : (⟨2, ![8192, 512]⟩ : Shape).Pads ![lo, 0] ![hi, 0] ![0, 0] ⟨2, ![8194, 512]⟩) (hu : 0 < S_.numel) (n : Fin 8192) (c : Fin 512) :
    pad ⟨2, ![8194, 512]⟩ ![lo, 0] ![hi, 0] ![0, 0] v z h hu (ix2 ⟨2 + n.val, by omega⟩ c) = w c * ds (X x2) (D x0 x7) (n.val + k) c := by
  refine (pad_rows hv z h hu _ c).trans ?_
  have e : 2 + n.val - lo = n.val + k := by omega
  by_cases hn : n.val + k < 8192
  · refine (dif_pos (show lo ≤ 2 + n.val ∧ 2 + n.val - lo < 8192 by omega)).trans ?_
    exact congrArg (fun q => w c * ds (X x2) (D x0 x7) q c) e
  · refine (dif_neg (show ¬(lo ≤ 2 + n.val ∧ 2 + n.val - lo < 8192) by omega)).trans ?_
    rw [hz, ds_ge (by omega), mul_zero]

theorem g133 : E2 (φ := .f32) (m := 8192) (n := 512) (val_main_v133 (F := Ideal) x0 x2 x6 x7) (fun n c => dz (X x2) (W x6) (D x0 x7) n.val c) :=
  fun n c => by
    refine (Has2.slice (α := EReal) (f := fun r d => val_main_v128 (F := Ideal) x0 x2 x6 x7 (ix2 r d)) (fun _ _ => rfl)
      slices_S8194x512_S8192x512_2_0 (fun n => ⟨2 + n.val, by omega⟩) (fun c => c) (fun _ => rfl) (fun _ => (Nat.zero_add _).symm) n c).trans ?_
    exact congrArg₂ (fun a b : EReal => a + b) (congrArg₂ (fun a b : EReal => a + b)
      (padded x0 x2 x7 (w := W x6 2) (mul (weight x6 2 2 rfl _ _ _ _) (g99 x0 x2 x7)) (k := 0) rfl zero0 _ _ n c)
      (padded x0 x2 x7 (w := W x6 1) (mul (weight x6 1 1 rfl _ _ _ _) (g99 x0 x2 x7)) (k := 1) rfl zero0 _ _ n c))
      (padded x0 x2 x7 (w := W x6 0) (mul (weight x6 0 0 rfl _ _ _ _) (g99 x0 x2 x7)) (k := 2) rfl zero0 _ _ n c)

theorem g134 : E2 (φ := .f32) (m := 8192) (n := 512) (val_main_v134 (F := Ideal) x0 x2 x6 x7)
    (fun n c => X x2 n (c1 c) * dz (X x2) (W x6) (D x0 x7) n.val c) := mul (g2 x2) (g133 x0 x2 x6 x7)

theorem g135 : E2 (φ := .f32) (m := 8192) (n := 512) (val_main_v135 (F := Ideal) x0 x2 x6 x7)
    (fun n c => dz (X x2) (W x6) (D x0 x7) n.val c * X x2 n (c2 c)) := mul (g133 x0 x2 x6 x7) (g3 x2)

/-- The first result. -/
theorem grads : Grads (X x2) (W x6) (D x0 x7) (val_main_v137 (F := Ideal) x0 x2 x6 x7) where
  g0 n c := by
    refine (val_main_v137_apply (F := Ideal) x0 x2 x6 x7 _).trans ?_
    show val_main_v136 (F := Ideal) x0 x2 x6 x7 _ = _
    unfold val_main_v136
    exact join_cols _ 0 (by exact (by decide : 0 < 3)) (g100 x0 x2 x6 x7) rfl 0 rfl n c (c0 c) (Nat.zero_add _).symm
  g1 n c := by
    refine (val_main_v137_apply (F := Ideal) x0 x2 x6 x7 _).trans ?_
    show val_main_v136 (F := Ideal) x0 x2 x6 x7 _ = _
    unfold val_main_v136
    exact join_cols _ 1 (by exact (by decide : 1 < 3)) (g135 x0 x2 x6 x7) rfl 512 rfl n c (c1 c) rfl
  g2 n c := by
    refine (val_main_v137_apply (F := Ideal) x0 x2 x6 x7 _).trans ?_
    show val_main_v136 (F := Ideal) x0 x2 x6 x7 _ = _
    unfold val_main_v136
    exact (join_cols _ 2 (by exact (by decide : 2 < 3)) (g134 x0 x2 x6 x7) rfl 1024 rfl n c (c2 c) rfl).trans (mul_comm _ _)

/-! ### The taps -/

theorem sums {v : FVec Ideal ⟨2, ![8192, 512]⟩ .f32} {k : ℕ} (hv : E2 v (fun n c => zs (X x2) (n.val + k) c)) :
    E2 (mulf (val_main_v99 (F := Ideal) x0 x2 x7) v) (fun n c => ds (X x2) (D x0 x7) n.val c * zs (X x2) (n.val + k) c) :=
  mul (g99 x0 x2 x7) hv

theorem from_zero {n : ℕ} {z : EReal} {u f : Fin n → EReal} (hz : z = 0) (hu : ∀ k, u k = f k) : z + ∑ k, u k = ∑ k, f k := by
  rw [hz, zero_add]
  exact Finset.sum_congr rfl fun k _ => hu k

theorem g104 (c : Fin 512) : val_main_v104 (F := Ideal) x0 x2 x7 (ix1 c) = tap (X x2) (D x0 x7) 2 c := by
  refine (val_main_v104_apply x0 x2 x7 (ix1 c)).trans (from_zero (zero0 _) fun n => ?_)
  exact at2 (sums x0 x2 x7 (sig x2 2 (by omega) slices_S8194x512_S8192x512_2_0)) _

theorem g106 (c : Fin 512) : val_main_v106 (F := Ideal) x0 x2 x7 (ix1 c) = tap (X x2) (D x0 x7) 2 c := by
  have e : ∀ k : Fin 1, val_main_v105 (F := Ideal) x0 x2 x7 (idx_main_v106 (ix1 c) k) = tap (X x2) (D x0 x7) 2 c := fun k =>
    (val_main_v105_apply (F := Ideal) x0 x2 x7 _).trans ((congrArg (val_main_v104 (F := Ideal) x0 x2 x7) ((ValueIdx.eq_ix1 (n := 512) _).trans
      (congrArg ValueIdx.ix1 (Fin.ext (by show k.val * 512 + c.val = c.val; omega))))).trans (g104 x0 x2 x7 c))
  rw [val_main_v106_apply, Fin.sum_univ_one, e]
  exact (congrArg (fun z : EReal => z + _) (zero0 _)).trans (zero_add _)

theorem g113 (c : Fin 512) : val_main_v113 (F := Ideal) x0 x2 x7 (ix1 c) = tap (X x2) (D x0 x7) 1 c := by
  refine (val_main_v113_apply x0 x2 x7 (ix1 c)).trans (from_zero (zero0 _) fun n => ?_)
  exact at2 (sums x0 x2 x7 (sig x2 1 (by omega) slices_S8194x512_S8192x512_1_0)) _

theorem g115 (c : Fin 512) : val_main_v115 (F := Ideal) x0 x2 x7 (ix1 c) = tap (X x2) (D x0 x7) 1 c := by
  have e : ∀ k : Fin 1, val_main_v114 (F := Ideal) x0 x2 x7 (idx_main_v115 (ix1 c) k) = tap (X x2) (D x0 x7) 1 c := fun k =>
    (val_main_v114_apply (F := Ideal) x0 x2 x7 _).trans ((congrArg (val_main_v113 (F := Ideal) x0 x2 x7) ((ValueIdx.eq_ix1 (n := 512) _).trans
      (congrArg ValueIdx.ix1 (Fin.ext (by show k.val * 512 + c.val = c.val; omega))))).trans (g113 x0 x2 x7 c))
  rw [val_main_v115_apply, Fin.sum_univ_one, e]
  exact (congrArg (fun z : EReal => z + _) (zero0 _)).trans (zero_add _)

theorem g124 (c : Fin 512) : val_main_v124 (F := Ideal) x0 x2 x7 (ix1 c) = tap (X x2) (D x0 x7) 0 c := by
  refine (val_main_v124_apply x0 x2 x7 (ix1 c)).trans (from_zero (zero0 _) fun n => ?_)
  exact at2 (sums x0 x2 x7 (sig x2 0 (by omega) slices_S8194x512_S8192x512_0_0)) _

theorem g126 (c : Fin 512) : val_main_v126 (F := Ideal) x0 x2 x7 (ix1 c) = tap (X x2) (D x0 x7) 0 c := by
  have e : ∀ k : Fin 1, val_main_v125 (F := Ideal) x0 x2 x7 (idx_main_v126 (ix1 c) k) = tap (X x2) (D x0 x7) 0 c := fun k =>
    (val_main_v125_apply (F := Ideal) x0 x2 x7 _).trans ((congrArg (val_main_v124 (F := Ideal) x0 x2 x7) ((ValueIdx.eq_ix1 (n := 512) _).trans
      (congrArg ValueIdx.ix1 (Fin.ext (by show k.val * 512 + c.val = c.val; omega))))).trans (g124 x0 x2 x7 c))
  rw [val_main_v126_apply, Fin.sum_univ_one, e]
  exact (congrArg (fun z : EReal => z + _) (zero0 _)).trans (zero_add _)

/-- A row set among three. -/
theorem among {v : FVec Ideal ⟨1, ![512]⟩ .f32} {f : Fin 512 → EReal} (hv : ∀ c, v (ix1 c) = f c) {lo hi : ℕ}
    {z : FVec Ideal S_ .f32} (hz : ∀ i, z i = (0 : EReal)) (hb)
    (h : (⟨2, ![1, 512]⟩ : Shape).Pads ![lo, 0] ![hi, 0] ![0, 0] ⟨2, ![3, 512]⟩) (hu : 0 < S_.numel) (k : Fin 3) (c : Fin 512) :
    pad ⟨2, ![3, 512]⟩ ![lo, 0] ![hi, 0] ![0, 0] (broadcastInDim ⟨2, ![1, 512]⟩ ![1] hb v) z h hu (ix2 k c) = if k.val = lo then f c else 0 := by
  refine (pad_rows (Has1.hrow (α := EReal) (f := f) hv hb) z h hu k c).trans ?_
  by_cases e : k.val = lo
  · exact (dif_pos (show lo ≤ k.val ∧ k.val - lo < 1 by omega)).trans (if_pos e).symm
  · exact (dif_neg (show ¬(lo ≤ k.val ∧ k.val - lo < 1) by omega)).trans ((hz _).trans (if_neg e).symm)

theorem g131 : E2 (φ := .f32) (m := 3) (n := 512) (val_main_v131 (F := Ideal) x0 x2 x7) (fun k c => tap (X x2) (D x0 x7) k.val c) := fun k c => by
  refine (congrArg₂ (fun a b : EReal => a + b) (congrArg₂ (fun a b : EReal => a + b)
    (among (g106 x0 x2 x7) zero0 bcast_S512_S1x512_1 pads_S1x512_S3x512_200_000 h_S_ k c)
    (among (g115 x0 x2 x7) zero0 bcast_S512_S1x512_1 pads_S1x512_S3x512_110_000 h_S_ k c))
    (among (g126 x0 x2 x7) zero0 bcast_S512_S1x512_1 pads_S1x512_S3x512_020_000 h_S_ k c)).trans ?_
  have hk : k = 0 ∨ k = 1 ∨ k = 2 := by omega
  obtain rfl | rfl | rfl := hk <;> simp

/-- The fourth result. -/
theorem rows (k : Fin 8) (c : Fin 512) : val_main_v140 (F := Ideal) x0 x2 x7 (ix3 (0 : Fin 1) k c) = taps (X x2) (D x0 x7) k c := by
  refine (val_main_v140_apply (F := Ideal) x0 x2 x7 _).trans ((congrArg _ (eq_ix2 _)).trans ?_)
  unfold val_main_v139
  refine (pad_rows (g131 x0 x2 x7) _ pads_S3x512_S8x512_050_000 h_S_ k c).trans ?_
  unfold taps
  by_cases e : k.val < 3
  · exact (dif_pos (show 0 ≤ k.val ∧ k.val - 0 < 3 by omega)).trans (if_pos e).symm
  · refine (dif_neg (show ¬(0 ≤ k.val ∧ k.val - 0 < 3) by omega)).trans (Eq.trans ?_ (if_neg e).symm)
    show (((0#32 : BitVec 32).toInt : ℝ) : EReal) = 0
    simp

end Cert.ConvRef

end
-- ==== Proof.Join2.lean ====
/- The four results of the convolution and the attention are the reference's: the convolution's over the extended reals, the
   attention's as arrays of the same real numbers. -/
module

public import proofs.«01_k».proof.Defs
public import proofs.«01_k».proof.Proof.Finite
public import proofs.«01_k».proof.Proof.AttnFin
public import proofs.«01_k».proof.Proof.ConvTap
public import proofs.«01_k».proof.Proof.ConvRef
public import proofs.«01_k».proof.Proof.Gen.Pre_finite2
public import proofs.«01_k».proof.Proof.Gen.Kernel2Ideal
public import proofs.«01_k».proof.Proof.Gen.Reference2Ideal

@[expose] public section

noncomputable section

open scoped BigOperators

namespace Cert.Join2

open Idealize.ShloMosaic hiding ix0 ix1 ix2 ix3 eq_ix2 eq_ix3
open Idealize.ShloMosaic.ValueIdx
open Idealize.SL.Sem Idealize.ShloMosaic.StableHlo
open Cert.Reals Cert.Layouts Cert.Conv

/-- Finite arguments of the attention hold real numbers. -/
theorem args (m : (ℓ : Loc Cert.Kernel2Ideal.nD Cert.Kernel2Ideal.τ Cert.Kernel2Ideal.sig) → Buf (Elt Ideal) ℓ)
    (h : Pre_Kernel2Ideal (hPre_finite2 := Cert.Pre_finite2.Gen.facts) m) :
    ∃ Y Q M Wk Wx, ∀ c, Cert.AttnFin.Args m c Y Q M Wk Wx := by
  obtain ⟨h1, h3, h4, h5, h8⟩ := h 0
  obtain ⟨Y, a1⟩ := Cert.Finite.reals (m := 8192) (n := 1024) h1
  obtain ⟨Q, a3⟩ := Cert.Finite.reals (m := 8192) (n := 512) h3
  obtain ⟨M, a4⟩ := Cert.Finite.reals (m := 256) (n := 1024) h4
  obtain ⟨Wk, a5⟩ := Cert.Finite.reals (m := 1024) (n := 1024) h5
  obtain ⟨Wx, a8⟩ := Cert.Finite.reals (m := 512) (n := 1024) h8
  refine ⟨Y, Q, M, Wk, Wx, fun c => ?_⟩
  obtain rfl : c = 0 := Subsingleton.elim (α := Fin 1) c 0
  exact ⟨a1, a3, a4, a5, a8⟩

theorem at_eq {α : Type} {N : ℕ} (f : ∀ n, n < N → α) {n k : ℕ} (h : n < N) (hk : k < N) (e : n = k) : f n h = f k hk := by
  subst e; rfl

section Last

variable (m : (ℓ : Loc Cert.Kernel2Ideal.nD Cert.Kernel2Ideal.τ Cert.Kernel2Ideal.sig) → Buf (Elt Ideal) ℓ) (c : Dev Cert.Kernel2Ideal.nD)

/-- The rows the kernel copies out at grid point `n`. -/
def out (n : ℕ) (h : n < Cert.Kernel2Ideal.cfg0.N) : FVec Ideal ⟨3, ![1, 8, 512]⟩ .f32 :=
  (Cert.Kernel2Ideal.Gen.outsAt0 m c n h).2.2.2.2.2

/-- Those of the last one. -/
theorem taps_at {n : ℕ} (h : n < Cert.Kernel2Ideal.cfg0.N) (hn : n = Cert.BrHost.last.val) (k : Fin 8) (d : Fin 512) :
    out m c n h (ix3 (0 : Fin 1) k d) = taps (Cert.ConvFin.X m c) (Cert.ConvFin.D m c) k d :=
  (congrFun (at_eq (out m c) h Cert.BrHost.last.isLt hn) _).trans ((Cert.ConvFin.copied m c k d).trans (Cert.ConvFin.taps_last m c k d))

end Last

section Equal

variable {m : (ℓ : Loc Cert.Kernel2Ideal.nD Cert.Kernel2Ideal.τ Cert.Kernel2Ideal.sig) → Buf (Elt Ideal) ℓ} {c : Dev Cert.Kernel2Ideal.nD}

/-- An array of eight rows is known by its elements. -/
theorem ext_rows {v w : FVec Ideal ⟨3, ![1, 8, 512]⟩ .f32} (h : ∀ k d, v (ix3 (0 : Fin 1) k d) = w (ix3 (0 : Fin 1) k d)) : v = w := by
  funext i
  have e : i = ix3 (0 : Fin 1) (i 1) (i 2) := (eq_ix3 i).trans (congrArg (fun a : Fin 1 => ix3 a (i 1) (i 2)) (Subsingleton.elim (α := Fin 1) _ _))
  rw [e]
  exact h _ _

variable {x0 : FVec Ideal ⟨2, ![8192, 1024]⟩ .f32} {x2 : FVec Ideal ⟨2, ![8192, 1536]⟩ .f32} {x6 : FVec Ideal ⟨2, ![3, 512]⟩ .f32}
  {x7 : FVec Ideal ⟨2, ![512, 1024]⟩ .f32}
  (e0 : x0 = m ((c.tc : Thread Cert.Kernel2Ideal.nD Cert.Kernel2Ideal.τ).loc Cert.Kernel2Ideal.main_arg0))
  (e2 : x2 = m ((c.tc : Thread Cert.Kernel2Ideal.nD Cert.Kernel2Ideal.τ).loc Cert.Kernel2Ideal.main_arg2))
  (e7 : x7 = m ((c.tc : Thread Cert.Kernel2Ideal.nD Cert.Kernel2Ideal.τ).loc Cert.Kernel2Ideal.main_arg7))

include e0 e2 e7

/-- The gradient of the convolution's input. -/
theorem dconv (e6 : x6 = m ((c.tc : Thread Cert.Kernel2Ideal.nD Cert.Kernel2Ideal.τ).loc Cert.Kernel2Ideal.main_arg6)) :
    Cert.Reference2Ideal.Read.val_main_v137 (F := Ideal) x0 x2 x6 x7
    = (Cert.Kernel2Ideal.Gen.dats m 0 c).arrAt 10 Cert.Kernel2Ideal.cfg0.N := by
  subst e0 e2 e6 e7
  exact (Cert.ConvRef.grads _ _ _ _).unique (Cert.ConvFin.dconv_all m c)

/-- The gradients of the taps. -/
theorem dtaps {v : FVec Ideal ⟨3, ![1, 8, 512]⟩ .f32}
    (hv : ∀ (k : Fin 8) (d : Fin 512), v (ix3 (0 : Fin 1) k d) = taps (Cert.ConvFin.X m c) (Cert.ConvFin.D m c) k d) :
    Cert.Reference2Ideal.Read.val_main_v140 (F := Ideal) x0 x2 x7 = v := by
  subst e0 e2 e7
  exact ext_rows fun k d => (Cert.ConvRef.rows _ _ _ k d).trans (hv k d).symm

end Equal

theorem is_of_eq {m n : ℕ} {φ : FTy} {v w : FVec Ideal ⟨2, ![m, n]⟩ φ} {f : Fin m → Fin n → ℝ} (e : v = w) (h : Is2 w f) : Is2 v f :=
  e ▸ h

/-- The reference's attention arguments are the kernel's. -/
theorem refArgs {m : (ℓ : Loc Cert.Kernel2Ideal.nD Cert.Kernel2Ideal.τ Cert.Kernel2Ideal.sig) → Buf (Elt Ideal) ℓ} {c : Dev Cert.Kernel2Ideal.nD}
    {Y Q M Wk Wx} (A : Cert.AttnFin.Args m c Y Q M Wk Wx)
    {x1 : FVec Ideal ⟨2, ![8192, 1024]⟩ .f32} {x3 : FVec Ideal ⟨2, ![8192, 512]⟩ .f32} {x4 : FVec Ideal ⟨2, ![256, 1024]⟩ .f32}
    {x5 : FVec Ideal ⟨2, ![1024, 1024]⟩ .f32} {x8 : FVec Ideal ⟨2, ![512, 1024]⟩ .f32}
    (e1 : x1 = m ((c.tc : Thread Cert.Kernel2Ideal.nD Cert.Kernel2Ideal.τ).loc Cert.Kernel2Ideal.main_arg1))
    (e3 : x3 = m ((c.tc : Thread Cert.Kernel2Ideal.nD Cert.Kernel2Ideal.τ).loc Cert.Kernel2Ideal.main_arg3))
    (e4 : x4 = m ((c.tc : Thread Cert.Kernel2Ideal.nD Cert.Kernel2Ideal.τ).loc Cert.Kernel2Ideal.main_arg4))
    (e5 : x5 = m ((c.tc : Thread Cert.Kernel2Ideal.nD Cert.Kernel2Ideal.τ).loc Cert.Kernel2Ideal.main_arg5))
    (e8 : x8 = m ((c.tc : Thread Cert.Kernel2Ideal.nD Cert.Kernel2Ideal.τ).loc Cert.Kernel2Ideal.main_arg8)) :
    Cert.AttnRef.Args x1 x3 x4 x5 x8 Y Q M Wk Wx :=
  ⟨is_of_eq e1 A.y, is_of_eq e3 A.q, is_of_eq e4 A.me, is_of_eq e5 A.wk, is_of_eq e8 A.wx⟩

theorem last_lt : (Fin.last Cert.Kernel2Ideal.cfg0.N).val - 1 < Cert.Kernel2Ideal.cfg0.N := by
  rw [Fin.val_last]
  have : Cert.Kernel2Ideal.cfg0.N = 16 := Cert.Kernel2Ideal.Gen.N_0
  omega

set_option maxHeartbeats 2000000 in
/-- The four results are equal. -/
theorem algebraic : algebraic_Kernel2Ideal_Reference2Ideal (hKernel2Ideal := Cert.Kernel2Ideal.Gen.facts)
    (hReference2Ideal := Cert.Reference2Ideal.Gen.facts) (hPre_finite2 := Cert.Pre_finite2.Gen.facts) := by
  intro m g m' g' hpre agree
  obtain ⟨Y, Q, M, Wk, Wx, A⟩ := args m hpre
  refine ⟨fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => out m c ((Fin.last Cert.Kernel2Ideal.cfg0.N).val - 1) last_lt,
    (θ_run Cert.Kernel2Ideal.defs _ _).mono (fun x h c => ?_) (Cert.Kernel2Ideal.Value.run_blocks m g),
    (θ_run Cert.Reference2Ideal.defs _ _).mono (fun x h c => ?_) (Cert.Reference2Ideal.Value.run (F := Ideal) m' g')⟩
  · obtain ⟨h0, h1, h2, k0, k1, k2, k3, k4, k5, k6, k7, k8, h3⟩ := h c
    exact ⟨h0, h1, h2, h3, k0, k1, k2, k3, k4, k5, k6, k7, k8⟩
  · obtain ⟨h0, h1, h2, h3, keep⟩ := h c
    obtain ⟨e0, e1, e2, e3, e4, e5, e6, e7, e8⟩ := agree c
    have R := refArgs (A c) e1 e3 e4 e5 e8
    exact ⟨h0.trans ((Cert.Reference2Ideal.Read.val_main_v137_eq m' c).trans (dconv e0 e2 e7 e6)),
      h1.trans ((Cert.Reference2Ideal.Read.val_main_v138_eq m' c).trans ((Cert.AttnRef.v138 R).unique (Cert.AttnFin.dq (A c)))),
      h2.trans ((Cert.Reference2Ideal.Read.val_main_v97_eq m' c).trans ((Cert.AttnRef.v97 R).unique (Cert.AttnFin.dkv (A c)))),
      h3.trans ((Cert.Reference2Ideal.Read.val_main_v140_eq _ _ _).trans (dtaps e0 e2 e7 (fun k d => taps_at m c last_lt (by rw [Fin.val_last]; rfl) k d))), keep⟩

end Cert.Join2

end
-- ==== Proof.Merge.lean ====
/- The merge of the three branches and the normalisation of its rows, forward, element by element over the extended reals: the
   products that the two programs associate differently are products of the same factors, no sum is split and no product
   distributed, so nothing here asks that a number be finite. -/
module

public import proofs.«01_k».proof.Proof.Conv

@[expose] public section

noncomputable section

open scoped BigOperators

namespace Cert.Merge

open Idealize.ShloMosaic hiding ix0 ix1 ix2 ix3 eq_ix2 eq_ix3
open Idealize.ShloMosaic.ValueIdx
open Cert.Reals Cert.Layouts
open Cert.Conv (E2)

/-! ### The formulas -/

/-- Column `k` of the group of 1024 columns from `o` on. -/
def part (n o : ℕ) (ho : o + 1024 ≤ n) (k : Fin 1024) : Fin n := ⟨o + k.val, by omega⟩

/-- The rectifier. -/
def gelu (x : EReal) : EReal :=
  x * (Ideal.ofBits .f32 0x3F000000#32 * (Ideal.ofBits .f32 0x3F800000#32 + Ideal.tanh (Ideal.ofBits .f32 0x3F4C422A#32 *
    (x + Ideal.ofBits .f32 0x3D372713#32 * (x * x * x)))))

/-- The rectifier with its factors in the kernel's order. -/
theorem gelu_eq (x : EReal) :
    Ideal.ofBits .f32 0x3F000000#32 * x * (Ideal.ofBits .f32 0x3F800000#32 + Ideal.tanh (Ideal.ofBits .f32 0x3F4C422A#32 *
      (x + Ideal.ofBits .f32 0x3D372713#32 * x * x * x))) = gelu x := by
  unfold gelu
  rw [mul_comm (Ideal.ofBits .f32 0x3F000000#32) x, mul_assoc x, mul_assoc (_ * x) x x, mul_assoc _ x (x * x), mul_assoc x x x]

/-- The logistic function. -/
def gate (z : EReal) : EReal :=
  Ideal.div (Ideal.ofBits .f32 0x3F800000#32) (Ideal.ofBits .f32 0x3F800000#32 + Ideal.exp (-z))

theorem gate_eq (z : EReal) : Ideal.logistic z = gate z := by
  unfold gate
  rw [word_one, EReal.coe_one]
  rfl

/-- The weights, shared by all rows. -/
structure Par where
  wg : Fin 512 → Fin 2048 → EReal
  wc : Fin 512 → Fin 1024 → EReal
  wx : Fin 512 → Fin 1024 → EReal
  wo : Fin 1024 → Fin 1024 → EReal

/-- What one row brings: the recurrence's, the gates, the convolution's, the attention's and the residual. -/
structure Tok where
  y : Fin 512 → EReal
  g : Fin 3072 → EReal
  a : Fin 512 → EReal
  o : Fin 512 → EReal
  x : Fin 1024 → EReal

/-- Row `n` of the arrays a launch is given. -/
def tok (y : FVec Ideal ⟨2, ![8192, 512]⟩ .f32) (g : FVec Ideal ⟨2, ![8192, 3072]⟩ .f32) (a o : FVec Ideal ⟨2, ![8192, 512]⟩ .f32)
    (x : FVec Ideal ⟨2, ![8192, 1024]⟩ .f32) (n : Fin 8192) : Tok :=
  ⟨fun k => y (ix2 n k), fun k => g (ix2 n k), fun k => a (ix2 n k), fun k => o (ix2 n k), fun k => x (ix2 n k)⟩

/-- The weights a launch is given. -/
def par (wg : FVec Ideal ⟨2, ![512, 2048]⟩ .f32) (wc wx : FVec Ideal ⟨2, ![512, 1024]⟩ .f32) (wo : FVec Ideal ⟨2, ![1024, 1024]⟩ .f32) : Par :=
  ⟨fun k f => wg (ix2 k f), fun k f => wc (ix2 k f), fun k f => wx (ix2 k f), fun k f => wo (ix2 k f)⟩

section
variable (P : Par) (T : Tok)

def act : Fin 512 → EReal := fun k => gelu (T.y k)
def glu : Fin 2048 → EReal := fun f => ∑ k, act T k * P.wg k f
def ssm : Fin 1024 → EReal := fun j => glu P T (part 2048 0 (by norm_num) j) * gate (glu P T (part 2048 1024 (by norm_num) j))
def cv : Fin 1024 → EReal := fun j => ∑ k, T.a k * P.wc k j
def xa : Fin 1024 → EReal := fun j => ∑ k, T.o k * P.wx k j
def mix : Fin 1024 → EReal := fun j => T.g (part 3072 0 (by norm_num) j) * cv P T j + T.g (part 3072 1024 (by norm_num) j) * ssm P T j
  + T.g (part 3072 2048 (by norm_num) j) * xa P T j
def res : Fin 1024 → EReal := fun j => Ideal.ofBits .f32 0x3F9837F0#32 * T.x j + ∑ i, mix P T i * P.wo i j
def avg (r : Fin 1024 → EReal) : EReal := Ideal.div (∑ j, r j) (Ideal.ofBits .f32 0x44800000#32)
def off (r : Fin 1024 → EReal) : Fin 1024 → EReal := fun j => r j - avg r
def scale (r : Fin 1024 → EReal) : EReal :=
  Ideal.rsqrt (avg (fun j => off r j * off r j) + Ideal.ofBits .f32 0x3727C5AC#32)
def unit (r : Fin 1024 → EReal) : Fin 1024 → EReal := fun j => off r j * scale r

end

/-! ### Operations -/

section
variable {m n k : ℕ} {φ φ₁ φ₂ : FTy}

theorem sub {u v : FVec Ideal ⟨2, ![m, n]⟩ φ} {f g : Fin m → Fin n → EReal} (hu : Has2 (α := EReal) u f) (hv : Has2 (α := EReal) v g) :
    Has2 (α := EReal) (subf u v) (fun i j => f i j - g i j) := fun i j => by
  beta_reduce
  rw [← hu i j, ← hv i j]
  rfl

/-- A function of the elements, applied to each. -/
theorem map {u w : FVec Ideal ⟨2, ![m, n]⟩ φ} {f : Fin m → Fin n → EReal} (hu : Has2 (α := EReal) u f) (F : EReal → EReal)
    (h : ∀ i, w i = F (u i)) : Has2 (α := EReal) w (fun i j => F (f i j)) := fun i j => (h _).trans (congrArg F (hu i j))

/-- A matrix of one number. -/
theorem const {w : FVec Ideal ⟨2, ![m, n]⟩ φ} {z : EReal} (h : ∀ i, w i = z) : Has2 (α := EReal) w (fun _ _ => z) := fun _ _ => h _

/-- One column repeated. -/
theorem col {v : FVec Ideal ⟨2, ![m, 1]⟩ φ} {f : Fin m → EReal} (hv : Has2 (α := EReal) v (fun i _ => f i))
    (h : (⟨2, ![m, 1]⟩ : Shape).Broadcasts ⟨2, ![m, n]⟩) :
    Has2 (α := EReal) (broadcastTo ⟨2, ![m, n]⟩ v h) (fun i _ => f i) := fun i j => by
  rw [broadcastTo_apply v h _ (ix2 i 0) (fun a => by
    match a with
    | ⟨0, _⟩ =>
      show i.val = if m = 1 then 0 else i.val
      split
      · omega
      · rfl
    | ⟨1, _⟩ => rfl)]
  exact hv i 0

/-- One column repeated, on the host. -/
theorem hcol {v : FVec Ideal ⟨2, ![m, 1]⟩ φ} {f : Fin m → EReal} (hv : Has2 (α := EReal) v (fun i _ => f i))
    (h : (⟨2, ![m, 1]⟩ : Shape).BroadcastsInDim ⟨2, ![m, n]⟩ ![0, 1]) :
    Has2 (α := EReal) (broadcastInDim ⟨2, ![m, n]⟩ ![0, 1] h v) (fun i _ => f i) := fun i j => by
  rw [broadcastInDim_apply ![0, 1] h v _ (ix2 i 0) (fun a => by
    match a with
    | ⟨0, _⟩ =>
      show i.val = if m = 1 then 0 else i.val
      split
      · omega
      · rfl
    | ⟨1, _⟩ => rfl)]
  exact hv i 0

/-- The sums of the rows as one column. -/
theorem rowSums {v : FVec Ideal ⟨2, ![m, n]⟩ φ} {f : Fin m → Fin n → EReal} (hv : Has2 (α := EReal) v f) {acc : BitVec φ.bits}
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) :
    Has2 (α := EReal) (shapeCast ⟨2, ![m, 1]⟩ (multiReduction .add [1] ⟨1, ![m]⟩ v acc h hφ hacc : FVec Ideal ⟨1, ![m]⟩ φ) hc)
      (fun i _ => ∑ j, f i j) := fun i j => by
  rw [shapeCast_apply _ hc _ (ix1 i) (by
    rw [Shape.rowMajor_val_one, Shape.rowMajor_val_two]
    show i.val = i.val * 1 + j.val
    omega), multiReduction_add_apply]
  show Ideal.reduceAdd h v (ix1 i) = _
  rw [Ideal.reduceAdd_r2_a1]
  exact Finset.sum_congr rfl fun j _ => hv i j

/-- The host's sums of the rows, from zero, as one column. -/
theorem hrowSums {v : FVec Ideal ⟨2, ![m, n]⟩ .f32} {f : Fin m → Fin n → EReal} (hv : Has2 (α := EReal) v f)
    (h : (⟨2, ![m, n]⟩ : Shape).ReducesTo [1] ⟨1, ![m]⟩) (hu : 0 < (⟨0, ![]⟩ : Shape).numel)
    (hb : (⟨1, ![m]⟩ : Shape).BroadcastsInDim ⟨2, ![m, 1]⟩ ![0]) :
    Has2 (α := EReal) (broadcastInDim ⟨2, ![m, 1]⟩ ![0] hb
      (Host.reduceAdd v (constant (F := Ideal) ⟨0, ![]⟩ .f32 0x00000000#32) h hu)) (fun i _ => ∑ j, f i j) := fun i j => by
  rw [broadcastInDim_apply ![0] hb _ _ (ix1 i) (fun a => by
    match a with
    | ⟨0, _⟩ =>
      show i.val = if m = 1 then 0 else i.val
      split
      · omega
      · rfl), hostReduceAdd_apply, Ideal.hostReduceAdd_r2_a1]
  show Ideal.ofBits .f32 0x00000000#32 + _ = _
  rw [Ideal.ofBits_zero_f32, zero_add]
  exact Finset.sum_congr rfl fun j _ => hv i j

/-- Rows times rows, from zero. -/
theorem dotT {d : DotDims ⟨2, ![m, k]⟩ ⟨2, ![n, k]⟩ ⟨2, ![m, n]⟩} (hd : d = DotDims.transposedRhs m k n)
    {prec : Option ContractPrecision} {a : FVec Ideal ⟨2, ![m, k]⟩ φ₁} {b : FVec Ideal ⟨2, ![n, k]⟩ φ₂}
    {f : Fin m → Fin k → EReal} {g : Fin n → Fin k → EReal} (ha : Has2 (α := EReal) a f) (hb : Has2 (α := EReal) b g) :
    Has2 (α := EReal) (Idealize.ShloMosaic.matmul d prec a b (constant ⟨2, ![m, n]⟩ .f32 0x00000000#32))
      (fun i j => ∑ l, f i l * g j l) := fun i j => by
  subst hd
  show FloatOps.matmul (DotDims.transposedRhs m k n) prec a b (constant ⟨2, ![m, n]⟩ .f32 0x00000000#32) (ix2 i j) = _
  rw [Ideal.matmul_transposedRhs_apply]
  show Ideal.ofBits .f32 0x00000000#32 + _ = _
  rw [Ideal.ofBits_zero_f32, zero_add]
  refine Finset.sum_congr rfl fun l _ => ?_
  rw [ha, hb]

/-- The host's product of rows and columns. -/
theorem hdot {d : DotDims ⟨2, ![m, k]⟩ ⟨2, ![k, n]⟩ ⟨2, ![m, n]⟩} (hd : d = DotDims.plain m k n)
    {prec : Option ContractPrecision} {a : FVec Ideal ⟨2, ![m, k]⟩ φ₁} {b : FVec Ideal ⟨2, ![k, n]⟩ φ₂}
    {f : Fin m → Fin k → EReal} {g : Fin k → Fin n → EReal} (ha : Has2 (α := EReal) a f) (hb : Has2 (α := EReal) b g) :
    Has2 (α := EReal) (Host.dotGeneral d prec a b) (fun i j => ∑ l, f i l * g l j) := fun i j => by
  have h := Cert.Conv.dot (prec := none) hd ha hb i j
  refine Eq.trans ?_ h
  show FloatOps.dotGeneral _ _ _ _ _ _ = FloatOps.matmul _ _ _ _ _ _
  rw [Ideal.dotGeneral_apply, Ideal.matmul_constant_zero_apply]

/-- One of three matrices laid along a middle axis. -/
theorem third {v : FVec Ideal ⟨2, ![m, 3072]⟩ φ} {f : Fin m → Fin 3072 → EReal} (hv : Has2 (α := EReal) v f) {q : ℕ} (hq : q < 3)
    (ho : q * 1024 + 1024 ≤ 3072)
    (h : (⟨2, ![m, 3072]⟩ : Shape).ShapeCasts ⟨3, ![m, 3, 1024]⟩)
    (hs : (⟨3, ![m, 3, 1024]⟩ : Shape).Slices ![0, q, 0] ⟨3, ![m, 1, 1024]⟩)
    (hc : (⟨3, ![m, 1, 1024]⟩ : Shape).ShapeCasts ⟨2, ![m, 1024]⟩) :
    Has2 (α := EReal) (shapeCast ⟨2, ![m, 1024]⟩ (extractStridedSlice ⟨3, ![m, 1, 1024]⟩ ![0, q, 0] (shapeCast ⟨3, ![m, 3, 1024]⟩ v h) hs) hc)
      (fun i j => f i (part 3072 (q * 1024) ho j)) := fun i j => by
  rw [shapeCast_apply _ hc (ix2 i j) (ix3 i 0 j) (by
      rw [Shape.rowMajor_val_three, Shape.rowMajor_val_two]
      show (i.val * 1 + 0) * 1024 + j.val = i.val * 1024 + j.val
      omega),
    extractStridedSlice_apply _ _ hs (ix3 i 0 j) (ix3 i ⟨q, hq⟩ j) (fun d => by
      match d with
      | ⟨0, _⟩ => show i.val = 0 + i.val; omega
      | ⟨1, _⟩ => show q = q + 0; omega
      | ⟨2, _⟩ => show j.val = 0 + j.val; omega),
    shapeCast_apply _ h (ix3 i ⟨q, hq⟩ j) (ix2 i (part 3072 (q * 1024) ho j)) (by
      rw [Shape.rowMajor_val_three, Shape.rowMajor_val_two]
      show i.val * 3072 + (q * 1024 + j.val) = (i.val * 3 + q) * 1024 + j.val
      omega)]
  exact hv _ _

end

end Cert.Merge

end
-- ==== Proof.MergeTile.lean ====
/- One grid point of the merge's forward kernel over the extended reals: from the blocks it loads (512 rows of everything a token
   brings, and the weights whole) to the arrays it computes, payload by payload. -/
module

public import proofs.«01_k».proof.Proof.Merge
public import proofs.«01_k».proof.Proof.Gen.Kernel3Ideal.Frame

@[expose] public section

noncomputable section

open scoped BigOperators

namespace Cert.MergeTile

open Idealize.ShloMosaic hiding ix0 ix1 ix2 ix3 eq_ix2 eq_ix3
open Idealize.ShloMosaic.ValueIdx
open Cert.Layouts Cert.Merge
open Cert.Conv (E2)
open Cert.Kernel3Ideal Cert.Kernel3Ideal.Gen

/-- The blocks hold the tokens `T` and the weights `P`. -/
structure Holds (x0 : FVec Ideal S512x512 .f32) (x1 : FVec Ideal S512x3072 .bf16) (x2 x3 : FVec Ideal S512x512 .bf16)
    (x4 : FVec Ideal S512x1024 .f32) (x5 : FVec Ideal S2048x512 .bf16) (x6 x7 : FVec Ideal S1024x512 .bf16)
    (x8 : FVec Ideal S1024x1024 .bf16) (T : Fin 512 → Tok) (P : Par) : Prop where
  y : E2 (m := 512) (n := 512) x0 (fun i => (T i).y)
  g : E2 (m := 512) (n := 3072) x1 (fun i => (T i).g)
  a : E2 (m := 512) (n := 512) x2 (fun i => (T i).a)
  o : E2 (m := 512) (n := 512) x3 (fun i => (T i).o)
  x : E2 (m := 512) (n := 1024) x4 (fun i => (T i).x)
  wg : E2 (m := 2048) (n := 512) x5 (fun f k => P.wg k f)
  wc : E2 (m := 1024) (n := 512) x6 (fun j k => P.wc k j)
  wx : E2 (m := 1024) (n := 512) x7 (fun j k => P.wx k j)
  wo : E2 (m := 1024) (n := 1024) x8 P.wo

variable {x0 : FVec Ideal S512x512 .f32} {x1 : FVec Ideal S512x3072 .bf16} {x2 x3 : FVec Ideal S512x512 .bf16}
  {x4 : FVec Ideal S512x1024 .f32} {x5 : FVec Ideal S2048x512 .bf16} {x6 x7 : FVec Ideal S1024x512 .bf16}
  {x8 : FVec Ideal S1024x1024 .bf16} {x9 x10 : FVec Ideal S1x1024 .f32} {T : Fin 512 → Tok} {P : Par}

theorem hz : (![0, 0] : Fin 2 → Nat) = fun _ => 0 := funext fun a => by fin_cases a <;> rfl

theorem act_is (H : Holds x0 x1 x2 x3 x4 x5 x6 x7 x8 T P) :
    E2 (m := 512) (n := 512) (k0_pay1 (F := Ideal) x0) (fun i => act (T i)) :=
  Merge.map (F := gelu) H.y (fun i => gelu_eq (x0 i))

theorem glu_is (H : Holds x0 x1 x2 x3 x4 x5 x6 x7 x8 T P) :
    E2 (m := 512) (n := 1024) (k0_pay4 (F := Ideal) x0 x5) (fun i => ssm P (T i)) :=
  have h := dotT (prec := none) (show dot_S512x512_S2048x512_S512x2048_1_1_0_0_n_n = DotDims.transposedRhs 512 512 2048 from rfl)
    (act_is H) (H.wg.cast shapeCasts_S2048x512_S2048x512)
  Conv.mul (h.cols slices_S512x2048_o0_0_S512x1024 (part 2048 0 (by norm_num)) (fun _ => rfl))
    (Merge.map (F := gate) (h.cols slices_S512x2048_o0_1024_S512x1024 (part 2048 1024 (by norm_num)) (fun _ => rfl))
      (fun i => gate_eq _))

theorem cv_is (H : Holds x0 x1 x2 x3 x4 x5 x6 x7 x8 T P) :
    E2 (m := 512) (n := 1024) (k0_pay2 (F := Ideal) x2 x6) (fun i => cv P (T i)) :=
  dotT (prec := none) (show dot_S512x512_S1024x512_S512x1024_1_1_0_0_n_n = DotDims.transposedRhs 512 512 1024 from rfl)
    (H.a.cast shapeCasts_S512x512_S512x512) (H.wc.cast shapeCasts_S1024x512_S1024x512)

theorem xa_is (H : Holds x0 x1 x2 x3 x4 x5 x6 x7 x8 T P) :
    E2 (m := 512) (n := 1024) (k0_pay3 (F := Ideal) x3 x7) (fun i => xa P (T i)) :=
  dotT (prec := none) (show dot_S512x512_S1024x512_S512x1024_1_1_0_0_n_n = DotDims.transposedRhs 512 512 1024 from rfl)
    (H.o.cast shapeCasts_S512x512_S512x512) (H.wx.cast shapeCasts_S1024x512_S1024x512)

theorem actT_is (H : Holds x0 x1 x2 x3 x4 x5 x6 x7 x8 T P) :
    E2 (m := 512) (n := 512) (k0_pay5 (F := Ideal) x0) (fun k i => act (T i) k) :=
  Has2.transpose (α := EReal) (act_is H) transposes_S512x512_p1_0_S512x512

section
variable {va vo vs : FVec Ideal S512x1024 .f32}

theorem mix_is (H : Holds x0 x1 x2 x3 x4 x5 x6 x7 x8 T P) (ha : E2 (m := 512) (n := 1024) va (fun i => cv P (T i)))
    (ho : E2 (m := 512) (n := 1024) vo (fun i => xa P (T i))) (hs : E2 (m := 512) (n := 1024) vs (fun i => ssm P (T i))) :
    E2 (m := 512) (n := 1024) (k0_pay6 (F := Ideal) va vo vs x1) (fun i => mix P (T i)) :=
  have g : E2 (m := 512) (n := 3072) (extf .f32 (shapeCast S512x3072 x1 shapeCasts_S512x3072_S512x3072 : FVec Ideal S512x3072 .bf16)
    bitsLt_bf16_f32) (fun i => (T i).g) := H.g.cast shapeCasts_S512x3072_S512x3072
  Conv.trunc (Conv.add (Conv.add
    (Conv.mul (g.cols slices_S512x3072_o0_0_S512x1024 (part 3072 0 (by norm_num)) (fun _ => rfl)) ha)
    (Conv.mul (g.cols slices_S512x3072_o0_1024_S512x1024 (part 3072 1024 (by norm_num)) (fun _ => rfl)) hs))
    (Conv.mul (g.cols slices_S512x3072_o0_2048_S512x1024 (part 3072 2048 (by norm_num)) (fun _ => rfl)) ho)) _

theorem res_is (H : Holds x0 x1 x2 x3 x4 x5 x6 x7 x8 T P) (ha : E2 (m := 512) (n := 1024) va (fun i => cv P (T i)))
    (ho : E2 (m := 512) (n := 1024) vo (fun i => xa P (T i))) (hs : E2 (m := 512) (n := 1024) vs (fun i => ssm P (T i))) :
    E2 (m := 512) (n := 1024) (k0_pay7 (F := Ideal) va vo vs x1 x4 x8) (fun i => res P (T i)) :=
  Conv.add (Conv.mul (Merge.const (fun _ => rfl)) H.x)
    (Conv.dot (prec := none) (show dot_S512x1024_S1024x1024_S512x1024_1_0_0_1_n_n = DotDims.plain 512 1024 1024 from rfl)
      (mix_is H ha ho hs) (H.wo.cast shapeCasts_S1024x1024_S1024x1024))

/-- A row's mean, from its sum. -/
theorem avg_is {v : FVec Ideal S512x1024 .f32} {r : Fin 512 → Fin 1024 → EReal} (hv : E2 (m := 512) (n := 1024) v r) :
    E2 (m := 512) (n := 1) (divf (shapeCast S512x1 (multiReduction (F := Ideal) .add [1] S512 v 0x00000000#32 reduces_S512x1024_S512
      (.inl rfl) rfl) shapeCasts_S512_S512x1) (broadcast S512x1 (Scalar.ofBits .f32 0x44800000#32))) (fun i _ => avg (r i)) :=
  Merge.map (F := fun s => Ideal.div s (Ideal.ofBits .f32 0x44800000#32)) (rowSums hv _ _ _ _) (fun _ => rfl)

theorem mean_is (H : Holds x0 x1 x2 x3 x4 x5 x6 x7 x8 T P) (ha : E2 (m := 512) (n := 1024) va (fun i => cv P (T i)))
    (ho : E2 (m := 512) (n := 1024) vo (fun i => xa P (T i))) (hs : E2 (m := 512) (n := 1024) vs (fun i => ssm P (T i))) :
    E2 (m := 512) (n := 1) (k0_pay8 (F := Ideal) va vo vs x1 x4 x8) (fun i _ => avg (res P (T i))) :=
  avg_is (res_is H ha ho hs)

theorem off_is (H : Holds x0 x1 x2 x3 x4 x5 x6 x7 x8 T P) (ha : E2 (m := 512) (n := 1024) va (fun i => cv P (T i)))
    (ho : E2 (m := 512) (n := 1024) vo (fun i => xa P (T i))) (hs : E2 (m := 512) (n := 1024) vs (fun i => ssm P (T i))) :
    E2 (m := 512) (n := 1024) (subf (k0_pay7 (F := Ideal) va vo vs x1 x4 x8)
      (broadcastTo S512x1024 (k0_pay8 (F := Ideal) va vo vs x1 x4 x8) broadcasts_S512x1_S512x1024)) (fun i => off (res P (T i))) :=
  Merge.sub (res_is H ha ho hs) (Merge.col (mean_is H ha ho hs) _)

theorem scale_is (H : Holds x0 x1 x2 x3 x4 x5 x6 x7 x8 T P) (ha : E2 (m := 512) (n := 1024) va (fun i => cv P (T i)))
    (ho : E2 (m := 512) (n := 1024) vo (fun i => xa P (T i))) (hs : E2 (m := 512) (n := 1024) vs (fun i => ssm P (T i))) :
    E2 (m := 512) (n := 1) (k0_pay9 (F := Ideal) va vo vs x1 x4 x8) (fun i _ => scale (res P (T i))) :=
  Merge.map (F := fun s => Ideal.rsqrt (s + Ideal.ofBits .f32 0x3727C5AC#32))
    (avg_is (Conv.mul (off_is H ha ho hs) (off_is H ha ho hs))) (fun _ => rfl)

theorem unit_is (H : Holds x0 x1 x2 x3 x4 x5 x6 x7 x8 T P) (ha : E2 (m := 512) (n := 1024) va (fun i => cv P (T i)))
    (ho : E2 (m := 512) (n := 1024) vo (fun i => xa P (T i))) (hs : E2 (m := 512) (n := 1024) vs (fun i => ssm P (T i))) :
    E2 (m := 512) (n := 1024) (k0_pay10 (F := Ideal) va vo vs x1 x4 x8) (fun i => Merge.unit (res P (T i))) :=
  Conv.mul (off_is H ha ho hs) (Merge.col (scale_is H ha ho hs) _)

end

/-! ### What the body leaves in its output blocks -/

theorem ld11 : k0_pay11 (F := Ideal) x0 x1 x2 x3 x4 x5 x6 x7 x8 x9 x10 = k0_pay2 (F := Ideal) x2 x6 := by
  unfold k0_pay11
  rw [View.ld_unit_zero (S := S512x512) hz, View.ld_unit_zero (S := S1024x512) hz]

theorem ld12 : k0_pay12 (F := Ideal) x0 x1 x2 x3 x4 x5 x6 x7 x8 x9 x10 = k0_pay3 (F := Ideal) x3 x7 := by
  unfold k0_pay12
  rw [View.ld_unit_zero (S := S512x512) hz, View.ld_unit_zero (S := S1024x512) hz]

theorem ld13 : k0_pay13 (F := Ideal) x0 x1 x2 x3 x4 x5 x6 x7 x8 x9 x10 = k0_pay4 (F := Ideal) x0 x5 := by
  unfold k0_pay13
  rw [View.ld_unit_zero (S := S512x512) hz, View.ld_unit_zero (S := S2048x512) hz]

variable (x9 x10)

theorem out11 (H : Holds x0 x1 x2 x3 x4 x5 x6 x7 x8 T P) :
    E2 (m := 512) (n := 512) (φ := .bf16) (out0_11 (F := Ideal) x0 x1 x2 x3 x4 x5 x6 x7 x8 x9 x10) (fun k i => act (T i) k) := by
  unfold out0_11
  rw [View.canon_unit_zero hz, View.ld_unit_zero (S := S512x512) hz]
  exact actT_is H

theorem out12 (H : Holds x0 x1 x2 x3 x4 x5 x6 x7 x8 T P) :
    E2 (m := 512) (n := 1024) (φ := .bf16) (out0_12 (F := Ideal) x0 x1 x2 x3 x4 x5 x6 x7 x8 x9 x10) (fun i => mix P (T i)) := by
  unfold out0_12
  rw [View.canon_unit_zero hz, View.ld_unit_zero (S := S512x3072) hz, ld11, ld12, ld13]
  exact mix_is H (cv_is H) (xa_is H) (glu_is H)

theorem out13 (H : Holds x0 x1 x2 x3 x4 x5 x6 x7 x8 T P) :
    E2 (m := 512) (n := 1024) (φ := .f32) (out0_13 (F := Ideal) x0 x1 x2 x3 x4 x5 x6 x7 x8 x9 x10)
      (fun i => Merge.unit (res P (T i))) := by
  unfold out0_13
  rw [View.canon_unit_zero hz, View.ld_unit_zero (S := S512x3072) hz, View.ld_unit_zero (S := S512x1024) hz,
    View.ld_unit_zero (S := S1024x1024) hz, ld11, ld12, ld13]
  exact unit_is H (cv_is H) (xa_is H) (glu_is H)

theorem out14 (H : Holds x0 x1 x2 x3 x4 x5 x6 x7 x8 T P) :
    E2 (m := 512) (n := 1) (φ := .f32) (out0_14 (F := Ideal) x0 x1 x2 x3 x4 x5 x6 x7 x8 x9 x10)
      (fun i _ => scale (res P (T i))) := by
  unfold out0_14
  rw [View.canon_unit_zero hz, View.ld_unit_zero (S := S512x3072) hz, View.ld_unit_zero (S := S512x1024) hz,
    View.ld_unit_zero (S := S1024x1024) hz, ld11, ld12, ld13]
  exact scale_is H (cv_is H) (xa_is H) (glu_is H)

end Cert.MergeTile

end
-- ==== Proof.MergeFin.lean ====
/- The merge's forward kernel after its run: what its launch finds in its operands, and its four output arrays, of which each grid
   point writes its own rows. -/
module

public import proofs.«01_k».proof.Proof.MergeTile
public import Idealize.ShloMosaic.Lib.Pipeline.Value
public import Idealize.ShloMosaic.Lib.Pipeline.ValueKit

@[expose] public section

noncomputable section

open scoped BigOperators

namespace Cert.MergeFin

open Cert.Kernel3Ideal Cert.Kernel3Ideal.Gen Idealize.ShloMosaic.TcCoe
open Idealize.ShloMosaic hiding ix0 ix1 ix2 ix3 eq_ix2 eq_ix3
open Idealize.ShloMosaic.ValueIdx
open Idealize.SL.Sem
open Cert.Layouts Cert.Merge Cert.MergeTile
open Cert.Conv (E2)

section
variable {F : FTy → Type} [FloatOps F] (m : (ℓ : Loc nD τ sig) → Buf (Elt F) ℓ) (c : Dev nD)

theorem V_v0 : V m c main_v0 = truncf .bf16 (m ((c : Thread nD τ).loc main_arg1) : FVec F S8192x3072 .f32) bitsLt_bf16_f32 := by
  unfold V
  after_results

theorem V_v1 : V m c main_v1 = truncf .bf16 (m ((c : Thread nD τ).loc main_arg2) : FVec F S8192x512 .f32) bitsLt_bf16_f32 := by
  unfold V
  after_results

theorem V_v2 : V m c main_v2 = truncf .bf16 (m ((c : Thread nD τ).loc main_arg3) : FVec F S8192x512 .f32) bitsLt_bf16_f32 := by
  unfold V
  after_results

theorem V_v4 : V m c main_v4 = truncf .bf16 (transpose S2048x512 [1, 0] (m ((c : Thread nD τ).loc main_arg5))
    transposes_S512x2048_S2048x512_1_0) bitsLt_bf16_f32 := by
  unfold V
  after_results

theorem V_v6 : V m c main_v6 = truncf .bf16 (transpose S1024x512 [1, 0] (m ((c : Thread nD τ).loc main_arg6))
    transposes_S512x1024_S1024x512_1_0) bitsLt_bf16_f32 := by
  unfold V
  after_results

theorem V_v8 : V m c main_v8 = truncf .bf16 (transpose S1024x512 [1, 0] (m ((c : Thread nD τ).loc main_arg7))
    transposes_S512x1024_S1024x512_1_0) bitsLt_bf16_f32 := by
  unfold V
  after_results

theorem V_v9 : V m c main_v9 = truncf .bf16 (m ((c : Thread nD τ).loc main_arg8) : FVec F S1024x1024 .f32) bitsLt_bf16_f32 := by
  unfold V
  after_results

end

/-! ### Where an element of a block sits in its array -/

/-- Row `i` of the block of grid point `t`. -/
def tileRow (t : Fin cfg0.N) (i : Fin 512) : Fin 8192 :=
  ⟨t.val * 512 + i.val, by have := t.isLt; have : cfg0.N = 16 := N_0; omega⟩

theorem exists_tileRow (n : Fin 8192) : ∃ (t : Fin cfg0.N) (i : Fin 512), n = tileRow t i :=
  ⟨⟨n.val / 512, by have : cfg0.N = 16 := N_0; omega⟩, ⟨n.val % 512, by omega⟩, Fin.ext (by
    show n.val = n.val / 512 * 512 + n.val % 512
    omega)⟩

theorem idx0 : ∀ t : Fin cfg0.N, win0_0.index t 0 = t.val ∧ win0_0.index t 1 = 0 :=
  (by decide +kernel : ∀ t : Fin grid0.N, _)
theorem emb0 (t : Fin cfg0.N) (i : Fin 512) (j : Fin 512) :
    (win0_0.blk t).view.emb (ix2 (n0 := 512) (n1 := 512) i j) = ix2 (n0 := 8192) (n1 := 512) (tileRow t i) j := by
  blk_ext [(idx0 t).1, (idx0 t).2, tileRow]
theorem idx1 : ∀ t : Fin cfg0.N, win0_1.index t 0 = t.val ∧ win0_1.index t 1 = 0 :=
  (by decide +kernel : ∀ t : Fin grid0.N, _)
theorem emb1 (t : Fin cfg0.N) (i : Fin 512) (j : Fin 3072) :
    (win0_1.blk t).view.emb (ix2 (n0 := 512) (n1 := 3072) i j) = ix2 (n0 := 8192) (n1 := 3072) (tileRow t i) j := by
  blk_ext [(idx1 t).1, (idx1 t).2, tileRow]
theorem idx2 : ∀ t : Fin cfg0.N, win0_2.index t 0 = t.val ∧ win0_2.index t 1 = 0 :=
  (by decide +kernel : ∀ t : Fin grid0.N, _)
theorem emb2 (t : Fin cfg0.N) (i : Fin 512) (j : Fin 512) :
    (win0_2.blk t).view.emb (ix2 (n0 := 512) (n1 := 512) i j) = ix2 (n0 := 8192) (n1 := 512) (tileRow t i) j := by
  blk_ext [(idx2 t).1, (idx2 t).2, tileRow]
theorem idx3 : ∀ t : Fin cfg0.N, win0_3.index t 0 = t.val ∧ win0_3.index t 1 = 0 :=
  (by decide +kernel : ∀ t : Fin grid0.N, _)
theorem emb3 (t : Fin cfg0.N) (i : Fin 512) (j : Fin 512) :
    (win0_3.blk t).view.emb (ix2 (n0 := 512) (n1 := 512) i j) = ix2 (n0 := 8192) (n1 := 512) (tileRow t i) j := by
  blk_ext [(idx3 t).1, (idx3 t).2, tileRow]
theorem idx4 : ∀ t : Fin cfg0.N, win0_4.index t 0 = t.val ∧ win0_4.index t 1 = 0 :=
  (by decide +kernel : ∀ t : Fin grid0.N, _)
theorem emb4 (t : Fin cfg0.N) (i : Fin 512) (j : Fin 1024) :
    (win0_4.blk t).view.emb (ix2 (n0 := 512) (n1 := 1024) i j) = ix2 (n0 := 8192) (n1 := 1024) (tileRow t i) j := by
  blk_ext [(idx4 t).1, (idx4 t).2, tileRow]
theorem idx5 : ∀ t : Fin cfg0.N, win0_5.index t 0 = 0 ∧ win0_5.index t 1 = 0 :=
  (by decide +kernel : ∀ t : Fin grid0.N, _)
theorem emb5 (t : Fin cfg0.N) (i : Fin 2048) (j : Fin 512) :
    (win0_5.blk t).view.emb (ix2 (n0 := 2048) (n1 := 512) i j) = ix2 (n0 := 2048) (n1 := 512) i j := by
  blk_ext [(idx5 t).1, (idx5 t).2]
theorem idx6 : ∀ t : Fin cfg0.N, win0_6.index t 0 = 0 ∧ win0_6.index t 1 = 0 :=
  (by decide +kernel : ∀ t : Fin grid0.N, _)
theorem emb6 (t : Fin cfg0.N) (i : Fin 1024) (j : Fin 512) :
    (win0_6.blk t).view.emb (ix2 (n0 := 1024) (n1 := 512) i j) = ix2 (n0 := 1024) (n1 := 512) i j := by
  blk_ext [(idx6 t).1, (idx6 t).2]
theorem idx7 : ∀ t : Fin cfg0.N, win0_7.index t 0 = 0 ∧ win0_7.index t 1 = 0 :=
  (by decide +kernel : ∀ t : Fin grid0.N, _)
theorem emb7 (t : Fin cfg0.N) (i : Fin 1024) (j : Fin 512) :
    (win0_7.blk t).view.emb (ix2 (n0 := 1024) (n1 := 512) i j) = ix2 (n0 := 1024) (n1 := 512) i j := by
  blk_ext [(idx7 t).1, (idx7 t).2]
theorem idx8 : ∀ t : Fin cfg0.N, win0_8.index t 0 = 0 ∧ win0_8.index t 1 = 0 :=
  (by decide +kernel : ∀ t : Fin grid0.N, _)
theorem emb8 (t : Fin cfg0.N) (i : Fin 1024) (j : Fin 1024) :
    (win0_8.blk t).view.emb (ix2 (n0 := 1024) (n1 := 1024) i j) = ix2 (n0 := 1024) (n1 := 1024) i j := by
  blk_ext [(idx8 t).1, (idx8 t).2]
theorem idx11 : ∀ t : Fin cfg0.N, win0_11.index t 0 = 0 ∧ win0_11.index t 1 = t.val :=
  (by decide +kernel : ∀ t : Fin grid0.N, _)
theorem emb11 (t : Fin cfg0.N) (i : Fin 512) (j : Fin 512) :
    (win0_11.blk t).view.emb (ix2 (n0 := 512) (n1 := 512) i j) = ix2 (n0 := 512) (n1 := 8192) i (tileRow t j) := by
  blk_ext [(idx11 t).1, (idx11 t).2, tileRow]
theorem idx12 : ∀ t : Fin cfg0.N, win0_12.index t 0 = t.val ∧ win0_12.index t 1 = 0 :=
  (by decide +kernel : ∀ t : Fin grid0.N, _)
theorem emb12 (t : Fin cfg0.N) (i : Fin 512) (j : Fin 1024) :
    (win0_12.blk t).view.emb (ix2 (n0 := 512) (n1 := 1024) i j) = ix2 (n0 := 8192) (n1 := 1024) (tileRow t i) j := by
  blk_ext [(idx12 t).1, (idx12 t).2, tileRow]
theorem idx13 : ∀ t : Fin cfg0.N, win0_13.index t 0 = t.val ∧ win0_13.index t 1 = 0 :=
  (by decide +kernel : ∀ t : Fin grid0.N, _)
theorem emb13 (t : Fin cfg0.N) (i : Fin 512) (j : Fin 1024) :
    (win0_13.blk t).view.emb (ix2 (n0 := 512) (n1 := 1024) i j) = ix2 (n0 := 8192) (n1 := 1024) (tileRow t i) j := by
  blk_ext [(idx13 t).1, (idx13 t).2, tileRow]
theorem idx14 : ∀ t : Fin cfg0.N, win0_14.index t 0 = t.val ∧ win0_14.index t 1 = 0 :=
  (by decide +kernel : ∀ t : Fin grid0.N, _)
theorem emb14 (t : Fin cfg0.N) (i : Fin 512) (j : Fin 1) :
    (win0_14.blk t).view.emb (ix2 (n0 := 512) (n1 := 1) i j) = ix2 (n0 := 8192) (n1 := 1) (tileRow t i) j := by
  blk_ext [(idx14 t).1, (idx14 t).2, tileRow]

variable (m : (ℓ : Loc nD τ sig) → Buf (Elt Ideal) ℓ) (c : Dev nD)

/-- The rows the launch is given. -/
def toks : Fin 8192 → Tok :=
  tok (m ((c : Thread nD τ).loc main_arg0)) (m ((c : Thread nD τ).loc main_arg1)) (m ((c : Thread nD τ).loc main_arg2))
    (m ((c : Thread nD τ).loc main_arg3)) (m ((c : Thread nD τ).loc main_arg4))

/-- The weights it is given. -/
def pars : Par :=
  par (m ((c : Thread nD τ).loc main_arg5)) (m ((c : Thread nD τ).loc main_arg6)) (m ((c : Thread nD τ).loc main_arg7))
    (m ((c : Thread nD τ).loc main_arg8))

/-- The blocks of a grid point. -/
theorem holds (t : Fin cfg0.N) : Holds (iblk m c 0 t) (iblk m c 1 t) (iblk m c 2 t) (iblk m c 3 t) (iblk m c 4 t) (iblk m c 5 t)
    (iblk m c 6 t) (iblk m c 7 t) (iblk m c 8 t) (fun i => toks m c (tileRow t i)) (pars m c) where
  y := fun i j => (congrArg (V m c main_arg0) (emb0 t i j)).trans (by rw [V_main_arg0]; rfl)
  g := fun i j => (congrArg (V m c main_v0) (emb1 t i j)).trans (by rw [V_v0]; rfl)
  a := fun i j => (congrArg (V m c main_v1) (emb2 t i j)).trans (by rw [V_v1]; rfl)
  o := fun i j => (congrArg (V m c main_v2) (emb3 t i j)).trans (by rw [V_v2]; rfl)
  x := fun i j => (congrArg (V m c main_arg4) (emb4 t i j)).trans (by rw [V_main_arg4]; rfl)
  wg := fun i j => (congrArg (V m c main_v4) (emb5 t i j)).trans (by
    rw [V_v4]; exact Has2.transpose (α := EReal) (fun _ _ => rfl) transposes_S512x2048_S2048x512_1_0 i j)
  wc := fun i j => (congrArg (V m c main_v6) (emb6 t i j)).trans (by
    rw [V_v6]; exact Has2.transpose (α := EReal) (fun _ _ => rfl) transposes_S512x1024_S1024x512_1_0 i j)
  wx := fun i j => (congrArg (V m c main_v8) (emb7 t i j)).trans (by
    rw [V_v8]; exact Has2.transpose (α := EReal) (fun _ _ => rfl) transposes_S512x1024_S1024x512_1_0 i j)
  wo := fun i j => (congrArg (V m c main_v9) (emb8 t i j)).trans (by rw [V_v9]; rfl)

/-! ### The output arrays -/

/-- The rectified rows, transposed. -/
theorem act_fin : E2 (m := 512) (n := 8192) (φ := .bf16) ((dats m 0 c).arrAt 11 cfg0.N) (fun k n => act (toks m c n) k) := fun k n => by
  obtain ⟨t, i, rfl⟩ := exists_tileRow n
  exact (congrArg ((dats m 0 c).arrAt 11 cfg0.N) (emb11 t k i)).symm.trans
    ((congrFun ((dats m 0 c).read_blk_arrAt_eq_flushed 11 (fun s s' _ _ hne => (cfg0.win 11).disjoint_blk fun h =>
        hne (Fin.ext ((idx11 s).2.symm.trans ((congrFun h 1).trans (idx11 s').2)))) cfg0.N t t.isLt (flush0_11 t))
        (ix2 k i)).trans
      ((congrFun (congrArg ((cfg0.win 11).cut (grid0.coords t)) (after0_11 m c t)) (ix2 k i)).trans
        (out11 _ _ (holds m c t) k i)))

/-- The merged branches. -/
theorem mix_fin : E2 (m := 8192) (n := 1024) (φ := .bf16) ((dats m 0 c).arrAt 12 cfg0.N) (fun n => mix (pars m c) (toks m c n)) := fun n k => by
  obtain ⟨t, i, rfl⟩ := exists_tileRow n
  exact (congrArg ((dats m 0 c).arrAt 12 cfg0.N) (emb12 t i k)).symm.trans
    ((congrFun ((dats m 0 c).read_blk_arrAt_eq_flushed 12 (fun s s' _ _ hne => (cfg0.win 12).disjoint_blk fun h =>
        hne (Fin.ext ((idx12 s).1.symm.trans ((congrFun h 0).trans (idx12 s').1)))) cfg0.N t t.isLt (flush0_12 t))
        (ix2 i k)).trans
      ((congrFun (congrArg ((cfg0.win 12).cut (grid0.coords t)) (after0_12 m c t)) (ix2 i k)).trans
        (out12 _ _ (holds m c t) i k)))

/-- The normalised rows. -/
theorem unit_fin : E2 (m := 8192) (n := 1024) (φ := .f32) ((dats m 0 c).arrAt 13 cfg0.N) (fun n => Merge.unit (res (pars m c) (toks m c n))) := fun n k => by
  obtain ⟨t, i, rfl⟩ := exists_tileRow n
  exact (congrArg ((dats m 0 c).arrAt 13 cfg0.N) (emb13 t i k)).symm.trans
    ((congrFun ((dats m 0 c).read_blk_arrAt_eq_flushed 13 (fun s s' _ _ hne => (cfg0.win 13).disjoint_blk fun h =>
        hne (Fin.ext ((idx13 s).1.symm.trans ((congrFun h 0).trans (idx13 s').1)))) cfg0.N t t.isLt (flush0_13 t))
        (ix2 i k)).trans
      ((congrFun (congrArg ((cfg0.win 13).cut (grid0.coords t)) (after0_13 m c t)) (ix2 i k)).trans
        (out13 _ _ (holds m c t) i k)))

/-- The rows' scales. -/
theorem scale_fin : E2 (m := 8192) (n := 1) (φ := .f32) ((dats m 0 c).arrAt 14 cfg0.N) (fun n _ => scale (res (pars m c) (toks m c n))) := fun n k => by
  obtain ⟨t, i, rfl⟩ := exists_tileRow n
  exact (congrArg ((dats m 0 c).arrAt 14 cfg0.N) (emb14 t i k)).symm.trans
    ((congrFun ((dats m 0 c).read_blk_arrAt_eq_flushed 14 (fun s s' _ _ hne => (cfg0.win 14).disjoint_blk fun h =>
        hne (Fin.ext ((idx14 s).1.symm.trans ((congrFun h 0).trans (idx14 s').1)))) cfg0.N t t.isLt (flush0_14 t))
        (ix2 i k)).trans
      ((congrFun (congrArg ((cfg0.win 14).cut (grid0.coords t)) (after0_14 m c t)) (ix2 i k)).trans
        (out14 _ _ (holds m c t) i k)))

end Cert.MergeFin

end
-- ==== Proof.MergeRef.lean ====
/- The reference of the merge's forward pass over the extended reals: its four results, step by step as the host computes them. -/
module

public import proofs.«01_k».proof.Proof.Merge
public import proofs.«01_k».proof.Proof.Gen.Reference3Ideal.Run

@[expose] public section

noncomputable section

open scoped BigOperators

namespace Cert.MergeRef

open Cert.Reference3Ideal Cert.Reference3Ideal.Gen
open Idealize.ShloMosaic hiding ix0 ix1 ix2 ix3 eq_ix2 eq_ix3
open Idealize.ShloMosaic.ValueIdx
open Cert.Layouts Cert.Merge
open Cert.Conv (E2)

/-! ### The steps -/

section
variable {F : FTy → Type} [FloatOps F]

/-- The rectifier. -/
def hAct (y : FVec F S8192x512 .f32) : FVec F S8192x512 .f32 :=
  mulf y (mulf (broadcastInDim S8192x512 ![] bcast_S_S8192x512 (constant S_ .f32 0x3F000000#32))
    (addf (broadcastInDim S8192x512 ![] bcast_S_S8192x512 (constant S_ .f32 0x3F800000#32))
      (Host.tanh (mulf (broadcastInDim S8192x512 ![] bcast_S_S8192x512 (constant S_ .f32 0x3F4C422A#32))
        (addf y (mulf (broadcastInDim S8192x512 ![] bcast_S_S8192x512 (constant S_ .f32 0x3D372713#32)) (mulf (mulf y y) y)))))))

/-- The gated unit. -/
def hSsm (y : FVec F S8192x512 .f32) (w : FVec F S512x2048 .f32) : FVec F S8192x1024 .f32 :=
  mulf (extractStridedSlice S8192x1024 ![0, 0] (Host.dotGeneral dot_S8192x512_S512x2048_S8192x2048_1_0_0_1_n_n none (hAct y) w)
      slices_S8192x2048_S8192x1024_0_0)
    (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (extractStridedSlice S8192x1024 ![0, 1024]
          (Host.dotGeneral dot_S8192x512_S512x2048_S8192x2048_1_0_0_1_n_n none (hAct y) w) slices_S8192x2048_S8192x1024_0_1024)))))

/-- A product of 512 by 1024 weights. -/
def hProd (a : FVec F S8192x512 .f32) (w : FVec F S512x1024 .f32) : FVec F S8192x1024 .f32 :=
  Host.dotGeneral dot_S8192x512_S512x1024_S8192x1024_1_0_0_1_n_n none a w

/-- The merged branches. -/
def hMix (g : FVec F S8192x3072 .f32) (a s o : FVec F S8192x1024 .f32) : FVec F S8192x1024 .f32 :=
  addf (addf
    (mulf (shapeCast _ (extractStridedSlice S8192x1x1024 ![0, 0, 0] (shapeCast _ g shapeCasts_S8192x3072_S8192x3x1024)
      slices_S8192x3x1024_S8192x1x1024_0_0_0) shapeCasts_S8192x1x1024_S8192x1024) a)
    (mulf (shapeCast _ (extractStridedSlice S8192x1x1024 ![0, 1, 0] (shapeCast _ g shapeCasts_S8192x3072_S8192x3x1024)
      slices_S8192x3x1024_S8192x1x1024_0_1_0) shapeCasts_S8192x1x1024_S8192x1024) s))
    (mulf (shapeCast _ (extractStridedSlice S8192x1x1024 ![0, 2, 0] (shapeCast _ g shapeCasts_S8192x3072_S8192x3x1024)
      slices_S8192x3x1024_S8192x1x1024_0_2_0) shapeCasts_S8192x1x1024_S8192x1024) o)

/-- The residual sum. -/
def hRes (x v : FVec F S8192x1024 .f32) (w : FVec F S1024x1024 .f32) : FVec F S8192x1024 .f32 :=
  addf (mulf (broadcastInDim S8192x1024 ![] bcast_S_S8192x1024 (constant S_ .f32 0x3F9837F0#32)) x)
    (Host.dotGeneral dot_S8192x1024_S1024x1024_S8192x1024_1_0_0_1_n_n none v w)

/-- The row means. -/
def hAvg (r : FVec F S8192x1024 .f32) : FVec F S8192x1 .f32 :=
  Host.divf (broadcastInDim S8192x1 ![0] bcast_S8192_S8192x1_0
      (Host.reduceAdd r (constant S_ .f32 0x00000000#32) reducesTo_S8192x1024_S8192_d1 h_S_))
    (broadcastInDim S8192x1 ![] bcast_S_S8192x1 (constant S_ .f32 0x44800000#32))

/-- The rows less their means. -/
def hOff (r : FVec F S8192x1024 .f32) : FVec F S8192x1024 .f32 :=
  subf r (broadcastInDim S8192x1024 ![0, 1] bcast_S8192x1_S8192x1024_0_1 (hAvg r))

/-- The rows' scales. -/
def hScale (r : FVec F S8192x1024 .f32) : FVec F S8192x1 .f32 :=
  Host.rsqrt (addf (hAvg (mulf (hOff r) (hOff r))) (broadcastInDim S8192x1 ![] bcast_S_S8192x1 (constant S_ .f32 0x3727C5AC#32)))

/-- The normalised rows. -/
def hUnit (r : FVec F S8192x1024 .f32) : FVec F S8192x1024 .f32 :=
  mulf (hOff r) (broadcastInDim S8192x1024 ![0, 1] bcast_S8192x1_S8192x1024_0_1 (hScale r))

end

/-! ### Their values -/

section
variable {y a o : FVec Ideal S8192x512 .f32} {g : FVec Ideal S8192x3072 .f32} {x : FVec Ideal S8192x1024 .f32}
  {wg : FVec Ideal S512x2048 .f32} {wc wx : FVec Ideal S512x1024 .f32} {wo : FVec Ideal S1024x1024 .f32}

theorem act_is : E2 (m := 8192) (n := 512) (hAct y) (fun i => act (tok y g a o x i)) := fun _ _ => rfl

theorem ssm_is : E2 (m := 8192) (n := 1024) (hSsm y wg) (fun i => ssm (par wg wc wx wo) (tok y g a o x i)) :=
  have h := hdot (prec := none) (show dot_S8192x512_S512x2048_S8192x2048_1_0_0_1_n_n = DotDims.plain 8192 512 2048 from rfl)
    (act_is (y := y) (g := g) (a := a) (o := o) (x := x)) (g := (par wg wc wx wo).wg) (b := wg) (fun _ _ => rfl)
  Conv.mul (h.cols slices_S8192x2048_S8192x1024_0_0 (part 2048 0 (by norm_num)) (fun _ => rfl))
    (Merge.map (F := gate) (h.cols slices_S8192x2048_S8192x1024_0_1024 (part 2048 1024 (by norm_num)) (fun _ => rfl)) (fun _ => rfl))

theorem cv_is : E2 (m := 8192) (n := 1024) (hProd a wc) (fun i => cv (par wg wc wx wo) (tok y g a o x i)) :=
  hdot (prec := none) (show dot_S8192x512_S512x1024_S8192x1024_1_0_0_1_n_n = DotDims.plain 8192 512 1024 from rfl)
    (fun _ _ => rfl) (fun _ _ => rfl)

theorem xa_is : E2 (m := 8192) (n := 1024) (hProd o wx) (fun i => xa (par wg wc wx wo) (tok y g a o x i)) :=
  hdot (prec := none) (show dot_S8192x512_S512x1024_S8192x1024_1_0_0_1_n_n = DotDims.plain 8192 512 1024 from rfl)
    (fun _ _ => rfl) (fun _ _ => rfl)

theorem mix_is : E2 (m := 8192) (n := 1024) (hMix g (hProd a wc) (hSsm y wg) (hProd o wx))
    (fun i => mix (par wg wc wx wo) (tok y g a o x i)) :=
  have hg : E2 (m := 8192) (n := 3072) g (fun i => (tok y g a o x i).g) := fun _ _ => rfl
  Conv.add (Conv.add
    (Conv.mul (Merge.third hg (q := 0) (by norm_num) (by norm_num) _ _ _) cv_is)
    (Conv.mul (Merge.third hg (q := 1) (by norm_num) (by norm_num) _ _ _) ssm_is))
    (Conv.mul (Merge.third hg (q := 2) (by norm_num) (by norm_num) _ _ _) xa_is)

theorem res_is : E2 (m := 8192) (n := 1024) (hRes x (hMix g (hProd a wc) (hSsm y wg) (hProd o wx)) wo)
    (fun i => res (par wg wc wx wo) (tok y g a o x i)) :=
  Conv.add (Conv.mul (Merge.const (fun _ => rfl)) (fun _ _ => rfl))
    (hdot (prec := none) (show dot_S8192x1024_S1024x1024_S8192x1024_1_0_0_1_n_n = DotDims.plain 8192 1024 1024 from rfl)
      mix_is (fun _ _ => rfl))

variable {v : FVec Ideal S8192x1024 .f32} {r : Fin 8192 → Fin 1024 → EReal}

theorem avg_is (hv : E2 (m := 8192) (n := 1024) v r) : E2 (m := 8192) (n := 1) (hAvg v) (fun i _ => avg (r i)) :=
  Merge.map (F := fun s => Ideal.div s (Ideal.ofBits .f32 0x44800000#32)) (hrowSums hv _ _ _) (fun _ => rfl)

theorem off_is (hv : E2 (m := 8192) (n := 1024) v r) : E2 (m := 8192) (n := 1024) (hOff v) (fun i => off (r i)) :=
  Merge.sub hv (Merge.hcol (avg_is hv) _)

theorem scale_is (hv : E2 (m := 8192) (n := 1024) v r) : E2 (m := 8192) (n := 1) (hScale v) (fun i _ => scale (r i)) :=
  Merge.map (F := fun s => Ideal.rsqrt (s + Ideal.ofBits .f32 0x3727C5AC#32)) (avg_is (Conv.mul (off_is hv) (off_is hv))) (fun _ => rfl)

theorem unit_is (hv : E2 (m := 8192) (n := 1024) v r) : E2 (m := 8192) (n := 1024) (hUnit v) (fun i => Merge.unit (r i)) :=
  Conv.mul (off_is hv) (Merge.hcol (scale_is hv) _)

end

/-! ### The results -/

section
open Idealize.SL.Sem Idealize.ShloMosaic.StableHlo Idealize.ShloMosaic.TcCoe
variable (m : (ℓ : Loc nD τ sig) → Buf (Elt Ideal) ℓ) (c : Dev nD)

/-- The residual sum of the arguments. -/
def sum : FVec Ideal S8192x1024 .f32 :=
  hRes (m ((c.tc : Thread nD τ).loc main_arg4)) (hMix (m ((c.tc : Thread nD τ).loc main_arg1))
    (hProd (m ((c.tc : Thread nD τ).loc main_arg2)) (m ((c.tc : Thread nD τ).loc main_arg6)))
    (hSsm (m ((c.tc : Thread nD τ).loc main_arg0)) (m ((c.tc : Thread nD τ).loc main_arg5)))
    (hProd (m ((c.tc : Thread nD τ).loc main_arg3)) (m ((c.tc : Thread nD τ).loc main_arg7)))) (m ((c.tc : Thread nD τ).loc main_arg8))

theorem v61_eq : Cert.Reference3Ideal.Value.res_main_v61 m c = hUnit (sum m c) := rfl

theorem v54_eq : Cert.Reference3Ideal.Value.res_main_v54 m c = hScale (sum m c) := rfl

end

end Cert.MergeRef

end
-- ==== Proof.Join3.lean ====
/- The four results of the merge's forward pass are the reference's, as arrays of the same extended reals. -/
module

public import proofs.«01_k».proof.Defs
public import proofs.«01_k».proof.Proof.MergeFin
public import proofs.«01_k».proof.Proof.MergeRef
public import proofs.«01_k».proof.Proof.Gen.Kernel3Ideal
public import proofs.«01_k».proof.Proof.Gen.Reference3Ideal

@[expose] public section

noncomputable section

open scoped BigOperators

namespace Cert.Join3

open Idealize.ShloMosaic hiding ix0 ix1 ix2 ix3 eq_ix2 eq_ix3
open Idealize.ShloMosaic.ValueIdx
open Idealize.SL.Sem Idealize.ShloMosaic.StableHlo
open Cert.Layouts Cert.Merge
open Cert.Conv (E2)

section
variable {y y' a a' o o' : FVec Ideal ⟨2, ![8192, 512]⟩ .f32} {g g' : FVec Ideal ⟨2, ![8192, 3072]⟩ .f32}
  {x x' : FVec Ideal ⟨2, ![8192, 1024]⟩ .f32} {wg wg' : FVec Ideal ⟨2, ![512, 2048]⟩ .f32} {wc wc' wx wx' : FVec Ideal ⟨2, ![512, 1024]⟩ .f32}
  {wo wo' : FVec Ideal ⟨2, ![1024, 1024]⟩ .f32}

theorem tok_eq (e0 : y = y') (e1 : g = g') (e2 : a = a') (e3 : o = o') (e4 : x = x') : tok y g a o x = tok y' g' a' o' x' := by
  rw [e0, e1, e2, e3, e4]

theorem par_eq (e5 : wg = wg') (e6 : wc = wc') (e7 : wx = wx') (e8 : wo = wo') : par wg wc wx wo = par wg' wc' wx' wo' := by
  rw [e5, e6, e7, e8]

end

set_option maxHeartbeats 2000000 in
/-- The four results are equal. -/
theorem algebraic : algebraic_Kernel3Ideal_Reference3Ideal (hKernel3Ideal := Cert.Kernel3Ideal.Gen.facts)
    (hReference3Ideal := Cert.Reference3Ideal.Gen.facts) := by
  intro m g m' g' _ agree
  refine ⟨fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    (θ_run Cert.Kernel3Ideal.defs _ _).mono (fun x h c => ?_)
      (θ_run_and (Cert.Kernel3Ideal.Gen.run_main m g) (Cert.Kernel3Ideal.Gen.unchanged m g)),
    (θ_run Cert.Reference3Ideal.defs _ _).mono (fun x h c => ?_) (Cert.Reference3Ideal.Value.run (F := Ideal) m' g')⟩
  · exact ⟨(h.1 c).1 11, (h.1 c).1 12, (h.1 c).1 13, (h.1 c).1 14, h.2 c⟩
  · obtain ⟨h0, h1, h2, h3, keep⟩ := h c
    obtain ⟨e0, e1, e2, e3, e4, e5, e6, e7, e8, e9, e10⟩ := agree c
    have t := tok_eq e0 e1 e2 e3 e4
    have p := par_eq e5 e6 e7 e8
    have r : E2 (m := 8192) (n := 1024) (Cert.MergeRef.sum m' c) (fun i => res (Cert.MergeFin.pars m c) (Cert.MergeFin.toks m c i)) :=
      Has2.congr (α := EReal) Cert.MergeRef.res_is fun i j => by rw [t, p]; rfl
    refine ⟨h0.trans (Has2.unique (α := EReal) (f := fun k n => act (Cert.MergeFin.toks m c n) k) ?_ (Cert.MergeFin.act_fin m c)),
      h1.trans (Has2.unique (α := EReal) (f := fun n => mix (Cert.MergeFin.pars m c) (Cert.MergeFin.toks m c n)) ?_ (Cert.MergeFin.mix_fin m c)),
      h2.trans ((Cert.MergeRef.v61_eq m' c).trans (Has2.unique (α := EReal) (Cert.MergeRef.unit_is r) (Cert.MergeFin.unit_fin m c))),
      h3.trans ((Cert.MergeRef.v54_eq m' c).trans (Has2.unique (α := EReal) (Cert.MergeRef.scale_is r) (Cert.MergeFin.scale_fin m c))), keep⟩
    · exact Has2.congr (α := EReal) (Has2.transpose (α := EReal) Cert.MergeRef.act_is _)
        fun i j => by rw [t]; rfl
    · exact Has2.congr (α := EReal) Cert.MergeRef.mix_is fun i j => by rw [t, p]; rfl

end Cert.Join3

end
-- ==== Proof.Proj.lean ====
/- The projection into the layer, forward, element by element over the extended reals: one product, its gates, its short convolution
   and its attention over the memory tokens. No sum is split and no product distributed, so nothing here asks that a number be
   finite; the maximum that a softmax subtracts stays what it is on both sides. -/
module

public import proofs.«01_k».proof.Proof.Merge
public import proofs.«01_k».proof.Proof.Attn

@[expose] public section

noncomputable section

open scoped BigOperators

namespace Cert.Proj

open Idealize.ShloMosaic hiding ix0 ix1 ix2 ix3 eq_ix2 eq_ix3
open Idealize.ShloMosaic.ValueIdx
open Cert.Reals Cert.Layouts Cert.Conv
open Cert.Attn (hd kc vc hOf dOf)

/-! ### The formulas -/

/-- A column of the gates in the product, -/
def gc (j : Fin 3072) : Fin 5632 := ⟨0 + j.val, by omega⟩
/-- of the convolution's input, -/
def cc (j : Fin 1536) : Fin 5632 := ⟨3072 + j.val, by omega⟩
/-- of the recurrence's input, -/
def uc (j : Fin 512) : Fin 5632 := ⟨4608 + j.val, by omega⟩
/-- and of the queries. -/
def qc (j : Fin 512) : Fin 5632 := ⟨5120 + j.val, by omega⟩

/-- What the call is given: the rows, the weight, the gates' bias, the taps, and the keys and values of the memory tokens. -/
structure Arg where
  x : Fin 8192 → Fin 1024 → EReal
  w : Fin 1024 → Fin 5632 → EReal
  b : Fin 3072 → EReal
  t : Fin 3 → Fin 512 → EReal
  k : Fin 256 → Fin 1024 → EReal

/-- The arguments as the arrays hold them, with the keys and values as a product. -/
def arg (x : FVec Ideal ⟨2, ![8192, 1024]⟩ .f32) (w : FVec Ideal ⟨2, ![1024, 5632]⟩ .f32) (b : FVec Ideal ⟨2, ![1, 3072]⟩ .f32)
    (t : FVec Ideal ⟨2, ![3, 512]⟩ .f32) (u : FVec Ideal ⟨2, ![256, 1024]⟩ .f32) (v : FVec Ideal ⟨2, ![1024, 1024]⟩ .f32) : Arg :=
  ⟨fun n l => x (ix2 n l), fun l j => w (ix2 l j), fun j => b (ix2 0 j), fun k c => t (ix2 k c),
    fun m j => ∑ l, (u (ix2 m l) : EReal) * v (ix2 l j)⟩

section
variable (K : Fin 256 → Fin 1024 → EReal) (q : Fin 512 → EReal)

/-- A row's score against a memory token, for one head; -/
def score (h : Fin 4) (m : Fin 256) : EReal := (∑ d, q (hd h d) * K m (kc h d)) * Ideal.ofBits .f32 0x3DB504F3#32

/-- the largest of its scores; -/
def top (f : Fin 256 → EReal) : EReal := (Finset.univ : Finset (Fin 256)).fold max (Ideal.ofBits .f32 0xFF800000#32) f

/-- the exponential of the score's distance to it; -/
def expo (h : Fin 4) (m : Fin 256) : EReal := Ideal.exp (score K q h m - top (score K q h))

/-- its part of their sum; -/
def prob (h : Fin 4) (m : Fin 256) : EReal := Ideal.div (expo K q h m) (∑ j, expo K q h j)

/-- and the values weighted by it. -/
def att (c : Fin 512) : EReal := ∑ m, prob K q (hOf c) m * K m (vc (hOf c) (dOf c))

end

section
variable (A : Arg)

def pj (n : Fin 8192) (j : Fin 5632) : EReal := ∑ l, A.x n l * A.w l j
def gts (n : Fin 8192) (j : Fin 3072) : EReal := Merge.gate (pj A n (gc j) + A.b j)
def cin (n : Fin 8192) (j : Fin 1536) : EReal := pj A n (cc j)
def rin (n : Fin 8192) (j : Fin 512) : EReal := pj A n (uc j)
def qry (n : Fin 8192) (j : Fin 512) : EReal := pj A n (qc j)
def cnv (n : Fin 8192) (c : Fin 512) : EReal := cin A n (c0 c) * cz (cin A) A.t n.val c
def atn (n : Fin 8192) (c : Fin 512) : EReal := att A.k (qry A n) c

end

/-! ### Operations -/

section
variable {m n : ℕ} {φ : FTy}

/-- The largest element of each row, as one column. -/
theorem rowMax {v : FVec Ideal ⟨2, ![m, n]⟩ φ} {f : Fin m → Fin n → EReal} (hv : Has2 (α := EReal) v f) {acc : BitVec φ.bits}
    (h : (⟨2, ![m, n]⟩ : Shape).Reduces [1] ⟨1, ![m]⟩) (hφ : FKind.Formats φ) (hacc : acc = FKind.maximumf.neutral φ hφ)
    (hc : (⟨1, ![m]⟩ : Shape).ShapeCasts ⟨2, ![m, 1]⟩) :
    Has2 (α := EReal) (shapeCast ⟨2, ![m, 1]⟩ (multiReduction .maximumf [1] ⟨1, ![m]⟩ v acc h hφ hacc : FVec Ideal ⟨1, ![m]⟩ φ) hc)
      (fun i _ => (Finset.univ : Finset (Fin n)).fold max (Ideal.ofBits φ acc) (f i)) := fun i j => by
  rw [shapeCast_apply _ hc _ (ix1 i) (by
    rw [Shape.rowMajor_val_one, Shape.rowMajor_val_two]
    show i.val = i.val * 1 + j.val
    omega), multiReduction_maximumf_eq_fold, h.fold_fiber_r2_a1]
  exact Finset.fold_congr fun k _ => hv i k

/-- The exponentials of a row's distances to its largest element. -/
theorem expos {v : FVec Ideal ⟨2, ![m, 256]⟩ .f32} {f : Fin m → Fin 256 → EReal} (hv : Has2 (α := EReal) v f)
    (h : (⟨2, ![m, 256]⟩ : Shape).Reduces [1] ⟨1, ![m]⟩) (hφ : FKind.Formats .f32) (hacc : 0xFF800000#32 = FKind.maximumf.neutral .f32 hφ)
    (hc : (⟨1, ![m]⟩ : Shape).ShapeCasts ⟨2, ![m, 1]⟩) (hb : (⟨2, ![m, 1]⟩ : Shape).Broadcasts ⟨2, ![m, 256]⟩) :
    Has2 (α := EReal) (exp (subf v (broadcastTo ⟨2, ![m, 256]⟩ (shapeCast ⟨2, ![m, 1]⟩
      (multiReduction .maximumf [1] ⟨1, ![m]⟩ v 0xFF800000#32 h hφ hacc : FVec Ideal ⟨1, ![m]⟩ .f32) hc) hb)))
      (fun i j => Ideal.exp (f i j - top (f i))) :=
  Merge.map (F := Ideal.exp) (Merge.sub hv (Merge.col (φ := .f32) (rowMax hv h hφ hacc hc) hb)) (fun _ => rfl)

/-- A row over its sum. -/
theorem parts {v : FVec Ideal ⟨2, ![m, 256]⟩ .f32} {f : Fin m → Fin 256 → EReal} (hv : Has2 (α := EReal) v f)
    (h : (⟨2, ![m, 256]⟩ : Shape).Reduces [1] ⟨1, ![m]⟩) (hφ : FKind.Formats .f32) (hacc : 0x00000000#32 = FKind.add.neutral .f32 hφ)
    (hc : (⟨1, ![m]⟩ : Shape).ShapeCasts ⟨2, ![m, 1]⟩) (hb : (⟨2, ![m, 1]⟩ : Shape).Broadcasts ⟨2, ![m, 256]⟩) :
    Has2 (α := EReal) (divf v (broadcastTo ⟨2, ![m, 256]⟩ (shapeCast ⟨2, ![m, 1]⟩
      (multiReduction .add [1] ⟨1, ![m]⟩ v 0x00000000#32 h hφ hacc : FVec Ideal ⟨1, ![m]⟩ .f32) hc) hb))
      (fun i j => Ideal.div (f i j) (∑ k, f i k)) := fun i j =>
  congrArg₂ Ideal.div (hv i j) (Merge.col (φ := .f32) (Merge.rowSums hv h hφ hacc hc) hb i j)

end

end Cert.Proj

end
-- ==== Proof.ProjTile.lean ====
/- One grid point of the projection's kernel over the extended reals: from the blocks it loads (512 rows, the weight whole, the
   bias, the taps, the keys and values) to the arrays it computes, payload by payload. -/
module

public import proofs.«01_k».proof.Proof.Proj
public import proofs.«01_k».proof.Proof.ConvTile
public import proofs.«01_k».proof.Proof.Gen.Kernel4Ideal.Frame

@[expose] public section

noncomputable section

open scoped BigOperators

namespace Cert.ProjTile

open Idealize.ShloMosaic hiding ix0 ix1 ix2 ix3 eq_ix2 eq_ix3
open Idealize.ShloMosaic.ValueIdx
open Cert.Layouts Cert.Conv Cert.Proj
open Cert.Attn (hd kc vc hOf dOf)
open Cert.ConvTile (hit missRow load)
open Cert.BrHost (ld_at)
open Cert.Kernel4Ideal Cert.Kernel4Ideal.Gen

/-- The blocks hold the rows `r` of the arguments `A`. -/
structure Holds (x0 : FVec Ideal S512x1024 .f32) (x1 : FVec Ideal S5632x1024 .bf16) (x2 : FVec Ideal S1x3072 .f32)
    (x3 : FVec Ideal S3x512 .f32) (x4 : FVec Ideal S256x1024 .bf16) (A : Arg) (r : Fin 512 → Fin 8192) : Prop where
  x : E2 (m := 512) (n := 1024) x0 (fun i => A.x (r i))
  w : E2 (m := 5632) (n := 1024) x1 (fun j l => A.w l j)
  b : E2 (m := 1) (n := 3072) x2 (fun _ => A.b)
  t : E2 (m := 3) (n := 512) x3 A.t
  k : E2 (m := 256) (n := 1024) x4 A.k

variable {x0 : FVec Ideal S512x1024 .f32} {x1 : FVec Ideal S5632x1024 .bf16} {x2 : FVec Ideal S1x3072 .f32}
  {x3 : FVec Ideal S3x512 .f32} {x4 : FVec Ideal S256x1024 .bf16} {A : Arg} {r : Fin 512 → Fin 8192}

theorem hz : (![0, 0] : Fin 2 → Nat) = fun _ => 0 := funext fun a => by fin_cases a <;> rfl

/-! ### The product and its groups of columns -/

theorem rowsT (H : Holds x0 x1 x2 x3 x4 A r) : E2 (m := 1024) (n := 512) (k0_pay4 (F := Ideal) x0) (fun l i => A.x (r i) l) :=
  Has2.transpose (α := EReal) (Conv.trunc (ψ := .bf16) H.x bitsLt_bf16_f32) transposes_S512x1024_p1_0_S1024x512

theorem prod (H : Holds x0 x1 x2 x3 x4 A r) : E2 (m := 512) (n := 5632) (k0_pay5 (F := Ideal) x0 x1) (fun i => pj A (r i)) :=
  Merge.dotT (prec := none) (show dot_S512x1024_S5632x1024_S512x5632_1_1_0_0_n_n = DotDims.transposedRhs 512 1024 5632 from rfl)
    (Conv.trunc (ψ := .bf16) H.x bitsLt_bf16_f32) (H.w.cast shapeCasts_S5632x1024_S5632x1024)

theorem gates (H : Holds x0 x1 x2 x3 x4 A r) : E2 (m := 512) (n := 3072) (k0_pay6 (F := Ideal) x0 x1 x2) (fun i => gts A (r i)) :=
  Merge.map (F := Merge.gate) (Conv.add ((prod H).cols slices_S512x5632_o0_0_S512x3072 gc (fun _ => rfl))
    (H.b.row broadcasts_S1x3072_S512x3072)) (fun _ => Merge.gate_eq _)

theorem conv_in (H : Holds x0 x1 x2 x3 x4 A r) : E2 (m := 512) (n := 1536) (k0_pay7 (F := Ideal) x0 x1) (fun i => cin A (r i)) :=
  (prod H).cols slices_S512x5632_o0_3072_S512x1536 cc (fun _ => rfl)

theorem rec_in (H : Holds x0 x1 x2 x3 x4 A r) : E2 (m := 512) (n := 512) (k0_pay8 (F := Ideal) x0 x1) (fun i => rin A (r i)) :=
  (prod H).cols slices_S512x5632_o0_4608_S512x512 uc (fun _ => rfl)

theorem query (H : Holds x0 x1 x2 x3 x4 A r) : E2 (m := 512) (n := 512) (k0_pay9 (F := Ideal) x0 x1) (fun i => qry A (r i)) :=
  (prod H).cols slices_S512x5632_o0_5120_S512x512 qc (fun _ => rfl)

/-! ### The convolution -/

theorem outer (H : Holds x0 x1 x2 x3 x4 A r) :
    E2 (m := 512) (n := 512) (k0_pay10 (F := Ideal) x0 x1) (fun i c => cin A (r i) (c0 c)) :=
  (conv_in H).cols slices_S512x1536_o0_0_S512x512 c0 (fun _ => (Nat.zero_add _).symm)

theorem gated (H : Holds x0 x1 x2 x3 x4 A r) :
    E2 (m := 512) (n := 512) (k0_pay11 (F := Ideal) x0 x1) (fun i c => zs (cin A) ((r i).val + 2) c) :=
  (Conv.mul ((conv_in H).cols slices_S512x1536_o0_512_S512x512 c1 (fun _ => rfl))
    ((conv_in H).cols slices_S512x1536_o0_1024_S512x512 c2 (fun _ => rfl))).congr fun i c => (zs_add _ _).symm

/-- A tap, repeated down the tile. -/
theorem weight (H : Holds x0 x1 x2 x3 x4 A r) (k : Fin 3) {o : ℕ} (ho : k.val = o) (h : S3x512.Slices ![o, 0] S1x512) :
    E2 (m := 512) (n := 512) (broadcastTo S512x512 (extractStridedSlice S1x512 ![o, 0] x3 h) broadcasts_S1x512_S512x512)
      (fun _ c => A.t k c) :=
  (H.t.slice h (fun _ => k) id (fun i => by have := i.isLt; omega) (fun j => (Nat.zero_add _).symm)).row _

theorem conv (H : Holds x0 x1 x2 x3 x4 A r) {z1 z2 : FVec Ideal S512x512 .f32}
    (h1 : E2 (m := 512) (n := 512) z1 (fun i c => zs (cin A) ((r i).val + 1) c))
    (h2 : E2 (m := 512) (n := 512) z2 (fun i c => zs (cin A) (r i).val c)) :
    E2 (m := 512) (n := 512) (k0_pay15 (F := Ideal) (k0_pay10 x0 x1) (k0_pay11 x0 x1) z1 z2 x3) (fun i => cnv A (r i)) :=
  Conv.mul (outer H) (Conv.add (Conv.add (Conv.mul (weight H 0 rfl slices_S3x512_o0_0_S1x512) h2)
    (Conv.mul (weight H 1 rfl slices_S3x512_o1_0_S1x512) h1)) (Conv.mul (weight H 2 rfl slices_S3x512_o2_0_S1x512) (gated H)))

/-! ### The attention -/

section
variable {q : FVec Ideal S512x512 .bf16} {Q : Fin 512 → Fin 512 → EReal} {K : Fin 256 → Fin 1024 → EReal}
  {k : FVec Ideal S256x128 .bf16}

/-- The scores of one head. -/
theorem scores (hq : E2 (m := 512) (n := 512) q Q) (h : Fin 4) (hk : E2 (m := 256) (n := 128) k (fun j d => K j (kc h d))) {o : ℕ}
    (ho : o = h.val * 128) (hs : S512x512.Slices ![0, o] S512x128) :
    E2 (m := 512) (n := 256) (φ := .f32) (mulf (matmul dot_S512x128_S256x128_S512x256_1_1_0_0_n_n none
      (extractStridedSlice S512x128 ![0, o] q hs) (shapeCast S256x128 k shapeCasts_S256x128_S256x128 : FVec Ideal S256x128 .bf16)
      (constant S512x256 .f32 0x00000000#32))
      (broadcast S512x256 (Scalar.ofBits .f32 0x3DB504F3#32))) (fun i => score K (Q i) h) :=
  Conv.mul (Merge.dotT (prec := none) (show dot_S512x128_S256x128_S512x256_1_1_0_0_n_n = DotDims.transposedRhs 512 128 256 from rfl)
    (hq.cols hs (hd h) (fun d => by show h.val * 128 + d.val = o + d.val; omega)) (hk.cast shapeCasts_S256x128_S256x128))
    (Merge.const (fun _ => rfl))

theorem expo0 (hq : E2 (m := 512) (n := 512) q Q) (hk : E2 (m := 256) (n := 128) k (fun j d => K j (kc 0 d))) :
    E2 (m := 512) (n := 256) (k0_pay17 (F := Ideal) q k) (fun i => expo K (Q i) 0) :=
  expos (scores hq 0 hk rfl slices_S512x512_o0_0_S512x128) _ _ _ _ _

theorem prob0 (hq : E2 (m := 512) (n := 512) q Q) (hk : E2 (m := 256) (n := 128) k (fun j d => K j (kc 0 d))) :
    E2 (m := 512) (n := 256) (k0_pay19 (F := Ideal) (k0_pay17 q k) (k0_pay18 q k)) (fun i => prob K (Q i) 0) :=
  parts (expo0 hq hk) reduces_S512x256_S512 (.inl rfl) rfl shapeCasts_S512_S512x1 broadcasts_S512x1_S512x256

theorem prob1 (hq : E2 (m := 512) (n := 512) q Q) (hk : E2 (m := 256) (n := 128) k (fun j d => K j (kc 1 d))) :
    E2 (m := 512) (n := 256) (k0_pay20 (F := Ideal) q k) (fun i => prob K (Q i) 1) :=
  parts (expos (scores hq 1 hk rfl slices_S512x512_o0_128_S512x128) _ _ _ _ _) _ _ _ _ _

theorem prob2 (hq : E2 (m := 512) (n := 512) q Q) (hk : E2 (m := 256) (n := 128) k (fun j d => K j (kc 2 d))) :
    E2 (m := 512) (n := 256) (k0_pay21 (F := Ideal) q k) (fun i => prob K (Q i) 2) :=
  parts (expos (scores hq 2 hk rfl slices_S512x512_o0_256_S512x128) _ _ _ _ _) _ _ _ _ _

theorem expo3 (hq : E2 (m := 512) (n := 512) q Q) (hk : E2 (m := 256) (n := 128) k (fun j d => K j (kc 3 d))) :
    E2 (m := 512) (n := 256) (k0_pay22 (F := Ideal) q k) (fun i => expo K (Q i) 3) :=
  expos (scores hq 3 hk rfl slices_S512x512_o0_384_S512x128) _ _ _ _ _

/-- The values weighted by one head's parts. -/
theorem mixed {p : FVec Ideal S512x256 .f32} {P : Fin 512 → Fin 256 → EReal} (hp : E2 (m := 512) (n := 256) p P)
    {v : FVec Ideal S256x128 .bf16} {V : Fin 256 → Fin 128 → EReal} (hv : E2 (m := 256) (n := 128) v V) :
    E2 (m := 512) (n := 128) (φ := .f32) (matmul dot_S512x256_S256x128_S512x128_1_0_0_1_n_n none (truncf .bf16 p bitsLt_bf16_f32 : FVec Ideal S512x256 .bf16)
      (shapeCast S256x128 v shapeCasts_S256x128_S256x128 : FVec Ideal S256x128 .bf16) (constant S512x128 .f32 0x00000000#32))
      (fun i d => ∑ j, P i j * V j d) :=
  Conv.dot (prec := none) (show dot_S512x256_S256x128_S512x128_1_0_0_1_n_n = DotDims.plain 512 256 128 from rfl)
    (Conv.trunc (ψ := .bf16) hp bitsLt_bf16_f32) (hv.cast shapeCasts_S256x128_S256x128)

theorem heads {p0 p1 p2 e3 : FVec Ideal S512x256 .f32} {v0 v1 v2 v3 : FVec Ideal S256x128 .bf16}
    (h0 : E2 (m := 512) (n := 256) p0 (fun i => prob K (Q i) 0)) (h1 : E2 (m := 512) (n := 256) p1 (fun i => prob K (Q i) 1))
    (h2 : E2 (m := 512) (n := 256) p2 (fun i => prob K (Q i) 2)) (h3 : E2 (m := 512) (n := 256) e3 (fun i => expo K (Q i) 3))
    (k0 : E2 (m := 256) (n := 128) v0 (fun j d => K j (vc 0 d))) (k1 : E2 (m := 256) (n := 128) v1 (fun j d => K j (vc 1 d)))
    (k2 : E2 (m := 256) (n := 128) v2 (fun j d => K j (vc 2 d))) (k3 : E2 (m := 256) (n := 128) v3 (fun j d => K j (vc 3 d))) :
    E2 (m := 512) (n := 512) (k0_pay1 (F := Ideal) p0 p1 p2 e3 v0 v1 v2 v3) (fun i => att K (Q i)) := fun i c => by
  have hp3 : E2 (m := 512) (n := 256) (divf e3 (broadcastTo S512x256 (shapeCast S512x1 (multiReduction (F := Ideal) .add [1] S512 e3
      0x00000000#32 reduces_S512x256_S512 (.inl rfl) rfl) shapeCasts_S512_S512x1) broadcasts_S512x1_S512x256))
      (fun i => prob K (Q i) 3) := parts h3 _ _ _ _ _
  have key : ∀ (h : Fin 4) (d : Fin 128), k0_pay1 (F := Ideal) p0 p1 p2 e3 v0 v1 v2 v3 (ix2 i (hd h d))
      = ∑ j, prob K (Q i) h j * K j (vc h d) := fun h d => by
    have piece : ∀ {x0 x1 x2 x3 : FVec Ideal S512x128 .f32} {f : Fin 4 → Fin 512 → Fin 128 → EReal},
        E2 (m := 512) (n := 128) x0 (f 0) → E2 (m := 512) (n := 128) x1 (f 1) → E2 (m := 512) (n := 128) x2 (f 2) →
        E2 (m := 512) (n := 128) x3 (f 3) →
        concatenate S512x512 1 [⟨S512x128, x0⟩, ⟨S512x128, x1⟩, ⟨S512x128, x2⟩, ⟨S512x128, x3⟩]
          concatenates_S512x128_S512x128_S512x128_S512x128_S512x512_d1 (ix2 i (hd h d)) = f h i d := by
      intro x0 x1 x2 x3 f g0 g1 g2 g3
      match h with
      | ⟨0, _⟩ => exact join_cols _ 0 (by simp) g0 rfl 0 rfl i d _ rfl
      | ⟨1, _⟩ => exact join_cols _ 1 (by simp) g1 rfl 128 rfl i d _ rfl
      | ⟨2, _⟩ => exact join_cols _ 2 (by simp) g2 rfl 256 rfl i d _ rfl
      | ⟨3, _⟩ => exact join_cols _ 3 (by simp) g3 rfl 384 rfl i d _ rfl
    exact piece (f := fun h i d => ∑ j, prob K (Q i) h j * K j (vc h d)) (mixed h0 k0) (mixed h1 k1) (mixed h2 k2) (mixed hp3 k3)
  exact (congrArg (fun c => k0_pay1 (F := Ideal) p0 p1 p2 e3 v0 v1 v2 v3 (ix2 i c)) (Attn.hd_of c)).symm.trans (key _ _)

end

end Cert.ProjTile

end
-- ==== Proof.ProjFin.lean ====
/- The projection's kernel after its run: what its launch finds in its operands, what a grid point leaves in its blocks and in the
   rows the next one reads, and its nine output arrays, of which each grid point writes its own rows. -/
module

public import proofs.«01_k».proof.Proof.ProjTile
public import Idealize.ShloMosaic.Lib.Tactic
public import Idealize.ShloMosaic.Lib.Pipeline.Value
public import Idealize.ShloMosaic.Lib.Pipeline.ValueKit

@[expose] public section

noncomputable section

open scoped BigOperators

namespace Cert.ProjFin

open Cert.Kernel4Ideal Cert.Kernel4Ideal.Gen Idealize.ShloMosaic.TcCoe
open Idealize.ShloMosaic hiding ix0 ix1 ix2 ix3 eq_ix2 eq_ix3
open Idealize.ShloMosaic.ValueIdx
open Idealize.SL.Sem
open Cert.Layouts Cert.Conv Cert.Proj Cert.ProjTile
open Cert.Attn (hd kc vc hOf dOf)
open Cert.ConvTile (hit missRow load)
open Cert.BrHost (ld_at)

section
variable {F : FTy → Type} [FloatOps F] (m : (ℓ : Loc nD τ sig) → Buf (Elt F) ℓ) (c : Dev nD)

theorem V_v1 : V m c main_v1 = truncf .bf16 (Host.dotGeneral dot_S256x1024_S1024x1024_S256x1024_1_0_0_1_n_n none
    (m ((c : Thread nD τ).loc main_arg4) : FVec F S256x1024 .f32) (m ((c : Thread nD τ).loc main_arg5) : FVec F S1024x1024 .f32))
    bitsLt_bf16_f32 := by
  unfold V
  after_results

theorem V_v3 : V m c main_v3 = truncf .bf16 (transpose S5632x1024 [1, 0] (m ((c : Thread nD τ).loc main_arg1))
    transposes_S1024x5632_S5632x1024_1_0) bitsLt_bf16_f32 := by
  unfold V
  after_results

end

/-! ### Where an element of a block sits in its array -/

/-- Row `i` of the block of grid point `t`. -/
def tileRow (t : Fin cfg0.N) (i : Fin 512) : Fin 8192 :=
  ⟨t.val * 512 + i.val, by have := t.isLt; have : cfg0.N = 16 := N_0; omega⟩

theorem exists_tileRow (n : Fin 8192) : ∃ (t : Fin cfg0.N) (i : Fin 512), n = tileRow t i :=
  ⟨⟨n.val / 512, by have : cfg0.N = 16 := N_0; omega⟩, ⟨n.val % 512, by omega⟩, Fin.ext (by
    show n.val = n.val / 512 * 512 + n.val % 512
    omega)⟩

theorem idx0 : ∀ t : Fin cfg0.N, win0_0.index t 0 = t.val ∧ win0_0.index t 1 = 0 :=
  (by decide +kernel : ∀ t : Fin grid0.N, _)
theorem emb0 (t : Fin cfg0.N) (i : Fin 512) (j : Fin 1024) :
    (win0_0.blk t).view.emb (ix2 (n0 := 512) (n1 := 1024) i j) = ix2 (n0 := 8192) (n1 := 1024) (tileRow t i) j := by
  blk_ext [(idx0 t).1, (idx0 t).2, tileRow]
theorem idx1 : ∀ t : Fin cfg0.N, win0_1.index t 0 = 0 ∧ win0_1.index t 1 = 0 :=
  (by decide +kernel : ∀ t : Fin grid0.N, _)
theorem emb1 (t : Fin cfg0.N) (i : Fin 5632) (j : Fin 1024) :
    (win0_1.blk t).view.emb (ix2 (n0 := 5632) (n1 := 1024) i j) = ix2 (n0 := 5632) (n1 := 1024) i j := by
  blk_ext [(idx1 t).1, (idx1 t).2]
theorem idx2 : ∀ t : Fin cfg0.N, win0_2.index t 0 = 0 ∧ win0_2.index t 1 = 0 :=
  (by decide +kernel : ∀ t : Fin grid0.N, _)
theorem emb2 (t : Fin cfg0.N) (i : Fin 1) (j : Fin 3072) :
    (win0_2.blk t).view.emb (ix2 (n0 := 1) (n1 := 3072) i j) = ix2 (n0 := 1) (n1 := 3072) i j := by
  blk_ext [(idx2 t).1, (idx2 t).2]
theorem idx3 : ∀ t : Fin cfg0.N, win0_3.index t 0 = 0 ∧ win0_3.index t 1 = 0 :=
  (by decide +kernel : ∀ t : Fin grid0.N, _)
theorem emb3 (t : Fin cfg0.N) (i : Fin 3) (j : Fin 512) :
    (win0_3.blk t).view.emb (ix2 (n0 := 3) (n1 := 512) i j) = ix2 (n0 := 3) (n1 := 512) i j := by
  blk_ext [(idx3 t).1, (idx3 t).2]
theorem idx4 : ∀ t : Fin cfg0.N, win0_4.index t 0 = 0 ∧ win0_4.index t 1 = 0 :=
  (by decide +kernel : ∀ t : Fin grid0.N, _)
theorem emb4 (t : Fin cfg0.N) (i : Fin 256) (j : Fin 1024) :
    (win0_4.blk t).view.emb (ix2 (n0 := 256) (n1 := 1024) i j) = ix2 (n0 := 256) (n1 := 1024) i j := by
  blk_ext [(idx4 t).1, (idx4 t).2]
theorem idx5 : ∀ t : Fin cfg0.N, win0_5.index t 0 = 0 ∧ win0_5.index t 1 = t.val :=
  (by decide +kernel : ∀ t : Fin grid0.N, _)
theorem emb5 (t : Fin cfg0.N) (i : Fin 1024) (j : Fin 512) :
    (win0_5.blk t).view.emb (ix2 (n0 := 1024) (n1 := 512) i j) = ix2 (n0 := 1024) (n1 := 8192) i (tileRow t j) := by
  blk_ext [(idx5 t).1, (idx5 t).2, tileRow]
theorem idx6 : ∀ t : Fin cfg0.N, win0_6.index t 0 = t.val ∧ win0_6.index t 1 = 0 :=
  (by decide +kernel : ∀ t : Fin grid0.N, _)
theorem emb6 (t : Fin cfg0.N) (i : Fin 512) (j : Fin 3072) :
    (win0_6.blk t).view.emb (ix2 (n0 := 512) (n1 := 3072) i j) = ix2 (n0 := 8192) (n1 := 3072) (tileRow t i) j := by
  blk_ext [(idx6 t).1, (idx6 t).2, tileRow]
theorem idx7 : ∀ t : Fin cfg0.N, win0_7.index t 0 = t.val ∧ win0_7.index t 1 = 0 :=
  (by decide +kernel : ∀ t : Fin grid0.N, _)
theorem emb7 (t : Fin cfg0.N) (i : Fin 512) (j : Fin 1536) :
    (win0_7.blk t).view.emb (ix2 (n0 := 512) (n1 := 1536) i j) = ix2 (n0 := 8192) (n1 := 1536) (tileRow t i) j := by
  blk_ext [(idx7 t).1, (idx7 t).2, tileRow]
theorem idx8 : ∀ t : Fin cfg0.N, win0_8.index t 0 = t.val ∧ win0_8.index t 1 = 0 :=
  (by decide +kernel : ∀ t : Fin grid0.N, _)
theorem emb8 (t : Fin cfg0.N) (i : Fin 512) (j : Fin 512) :
    (win0_8.blk t).view.emb (ix2 (n0 := 512) (n1 := 512) i j) = ix2 (n0 := 8192) (n1 := 512) (tileRow t i) j := by
  blk_ext [(idx8 t).1, (idx8 t).2, tileRow]
theorem idx9 : ∀ t : Fin cfg0.N, win0_9.index t 0 = t.val ∧ win0_9.index t 1 = 0 :=
  (by decide +kernel : ∀ t : Fin grid0.N, _)
theorem emb9 (t : Fin cfg0.N) (i : Fin 512) (j : Fin 512) :
    (win0_9.blk t).view.emb (ix2 (n0 := 512) (n1 := 512) i j) = ix2 (n0 := 8192) (n1 := 512) (tileRow t i) j := by
  blk_ext [(idx9 t).1, (idx9 t).2, tileRow]
theorem idx10 : ∀ t : Fin cfg0.N, win0_10.index t 0 = t.val ∧ win0_10.index t 1 = 0 :=
  (by decide +kernel : ∀ t : Fin grid0.N, _)
theorem emb10 (t : Fin cfg0.N) (i : Fin 512) (j : Fin 512) :
    (win0_10.blk t).view.emb (ix2 (n0 := 512) (n1 := 512) i j) = ix2 (n0 := 8192) (n1 := 512) (tileRow t i) j := by
  blk_ext [(idx10 t).1, (idx10 t).2, tileRow]
theorem idx11 : ∀ t : Fin cfg0.N, win0_11.index t 0 = t.val ∧ win0_11.index t 1 = 0 :=
  (by decide +kernel : ∀ t : Fin grid0.N, _)
theorem emb11 (t : Fin cfg0.N) (i : Fin 512) (j : Fin 512) :
    (win0_11.blk t).view.emb (ix2 (n0 := 512) (n1 := 512) i j) = ix2 (n0 := 8192) (n1 := 512) (tileRow t i) j := by
  blk_ext [(idx11 t).1, (idx11 t).2, tileRow]
theorem idx12 : ∀ t : Fin cfg0.N, win0_12.index t 0 = 0 ∧ win0_12.index t 1 = t.val :=
  (by decide +kernel : ∀ t : Fin grid0.N, _)
theorem emb12 (t : Fin cfg0.N) (i : Fin 512) (j : Fin 512) :
    (win0_12.blk t).view.emb (ix2 (n0 := 512) (n1 := 512) i j) = ix2 (n0 := 512) (n1 := 8192) i (tileRow t j) := by
  blk_ext [(idx12 t).1, (idx12 t).2, tileRow]
theorem idx13 : ∀ t : Fin cfg0.N, win0_13.index t 0 = 0 ∧ win0_13.index t 1 = t.val :=
  (by decide +kernel : ∀ t : Fin grid0.N, _)
theorem emb13 (t : Fin cfg0.N) (i : Fin 512) (j : Fin 512) :
    (win0_13.blk t).view.emb (ix2 (n0 := 512) (n1 := 512) i j) = ix2 (n0 := 512) (n1 := 8192) i (tileRow t j) := by
  blk_ext [(idx13 t).1, (idx13 t).2, tileRow]

variable (m : (ℓ : Loc nD τ sig) → Buf (Elt Ideal) ℓ) (c : Dev nD)

/-- What the launch is given. -/
def args : Arg :=
  arg (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The blocks of a grid point. -/
theorem holds (t : Fin cfg0.N) : Holds (iblk m c 0 t) (iblk m c 1 t) (iblk m c 2 t) (iblk m c 3 t) (iblk m c 4 t) (args m c)
    (tileRow t) where
  x := fun i j => (congrArg (V m c main_arg0) (emb0 t i j)).trans (by rw [V_main_arg0]; rfl)
  w := fun i j => (congrArg (V m c main_v3) (emb1 t i j)).trans (by
    rw [V_v3]; exact Has2.transpose (α := EReal) (fun _ _ => rfl) transposes_S1024x5632_S5632x1024_1_0 i j)
  b := fun i j => (congrArg (V m c main_arg2) (emb2 t i j)).trans (by
    rw [V_main_arg2]; obtain rfl : i = 0 := Fin.ext (by omega); rfl)
  t := fun i j => (congrArg (V m c main_arg3) (emb3 t i j)).trans (by rw [V_main_arg3]; rfl)
  k := fun i j => (congrArg (V m c main_v1) (emb4 t i j)).trans (by
    rw [V_v1]
    exact Merge.hdot (φ₁ := .f32) (φ₂ := .f32) (prec := none) (show dot_S256x1024_S1024x1024_S256x1024_1_0_0_1_n_n = DotDims.plain 256 1024 1024 from rfl)
      (fun _ _ => rfl) (fun _ _ => rfl) i j)

/-! ### The rows carried from point to point -/

/-- The last eight rows, moved to the front. -/
theorem moved (t : Fin cfg0.N) {v : View sig .tc .vmem S520x512 .f32} (f : v.ty.Contents (Elt Ideal)) (L M)
    (i : Fin 8) (d : Fin 512) (q : Fin 520) (hq : q.val = i.val) :
    v.read (Elt Ideal) (v.writes (Elt Ideal) f (⟨Rect.unit ![0, 0] ![8, 512] inb_S520x512_S8x512_0_0, k0_pay14 (F := Ideal)
      ((View.whole cc0_scratch0).readCov
        (⟨Rect.unit ![8, 0] ![512, 512] inb_S520x512_S512x512_8_0, k0_pay13 (F := Ideal) (iblk m c 0 t) (iblk m c 1 t)⟩ :: L)
        (Rect.unit ![512, 0] ![8, 512] inb_S520x512_S8x512_512_0).toLoadRect)⟩ :: M)) (ix2 q d)
      = zs (cin (args m c)) (t.val * 512 + 506 + i.val) d := by
  refine (hit (m := 520) (n := 512) _ _ _ _ _ i d (by simpa using hq) (by simp)).trans ?_
  have cast8 : ∀ v : FVec Ideal S8x512 .f32, k0_pay14 v (ix2 i d) = v (ix2 i d) := fun v =>
    (Has2.cast (fun _ _ => rfl) shapeCasts_S8x512_S8x512 : Has2 _ _) i d
  refine (cast8 _).trans ?_
  refine (load (m := 520) (n := 512) _ _ _ (q := ⟨512 + i.val, by omega⟩) (r := d) i d rfl (by simp)).trans ?_
  refine (hit (m := 520) (n := 512) _ _ _ _ _ ⟨504 + i.val, by omega⟩ d (by show 512 + i.val = 8 + (504 + i.val); omega) (by simp)).trans ?_
  refine (((gated (holds m c t)).cast shapeCasts_S512x512_S512x512) _ d).trans (congrArg (fun r => zs (cin (args m c)) r d) ?_)
  show t.val * 512 + (504 + i.val) + 2 = _
  omega

set_option maxRecDepth 16384 in
/-- The last rows of the gated signal, which the next grid point needs. -/
theorem carried (t : Fin cfg0.N) (i : Fin 8) (d : Fin 512) (q : Fin 520) (hq : q.val = i.val) :
    (outsAt0 m c t.val t.isLt).2.2.2.2.2.2.2.2.2 (ix2 q d) = zs (cin (args m c)) (t.val * 512 + 506 + i.val) d := by
  by_cases h0 : t.val % 16 = 0
  · rw [outsAt0_A m c t h0]
    dsimp only
    unfold sout0_A_0 kernelRun0_A
    dsimp only
    sl_unfold_words
    simp only [View.readAt_eq_ld, (hs0_0 t).read_unread, (hs0_1 t).read_unread,
      View.ld_unit_zero (S := S512x1024) hz, View.ld_unit_zero (S := S5632x1024) hz]
    exact moved m c t _ _ _ i d q hq
  · rw [outsAt0_B m c t h0]
    dsimp only
    unfold sout0_B_0 kernelRun0_B
    dsimp only
    sl_unfold_words
    simp only [View.readAt_eq_ld, (hs0_0 t).read_unread, (hs0_1 t).read_unread,
      View.ld_unit_zero (S := S512x1024) hz, View.ld_unit_zero (S := S5632x1024) hz]
    exact moved m c t _ _ _ i d q hq

/-- The stored rows behind what lies in the first eight, read from row `6 + k` on. -/
theorem shifted (t : Fin cfg0.N) {v : View sig .tc .vmem S520x512 .f32} (f : v.ty.Contents (Elt Ideal)) (L) {o : ℕ} (k : ℕ) (ho : o = 6 + k)
    (hL : ∀ (i : Fin 8) (d : Fin 512) (q : Fin 520), q.val = i.val → 6 ≤ i.val → v.read (Elt Ideal) (v.writes (Elt Ideal) f L) (ix2 q d)
      = zs (cin (args m c)) (t.val * 512 + i.val - 6) d) (i d : Fin 512) (q : Fin 520) (hq : q.val = o + i.val) :
    v.read (Elt Ideal) (v.writes (Elt Ideal) f (⟨Rect.unit ![8, 0] ![512, 512] inb_S520x512_S512x512_8_0,
      k0_pay13 (F := Ideal) (iblk m c 0 t) (iblk m c 1 t)⟩ :: L)) (ix2 q d) = zs (cin (args m c)) ((tileRow t i).val + k) d := by
  by_cases h : q.val < 8
  · refine (missRow (m := 520) (n := 512) _ _ _ _ _ (.inl h)).trans ((hL ⟨q.val, h⟩ d q rfl (by show 6 ≤ q.val; omega)).trans ?_)
    refine congrArg (fun r => zs (cin (args m c)) r d) ?_
    show t.val * 512 + q.val - 6 = t.val * 512 + i.val + k
    omega
  · refine (hit (m := 520) (n := 512) _ _ _ _ _ ⟨q.val - 8, by omega⟩ d (by show q.val = 8 + (q.val - 8); omega) (by simp)).trans ?_
    refine (((gated (holds m c t)).cast shapeCasts_S512x512_S512x512) _ d).trans (congrArg (fun r => zs (cin (args m c)) r d) ?_)
    show t.val * 512 + (q.val - 8) + 2 = t.val * 512 + i.val + k
    omega

/-- The stored rows behind what the point before left. -/
theorem over_prev (t : Fin cfg0.N) (h0 : ¬t.val % 16 = 0) (hw : (Memref.whole cc0_scratch0).IsWhole) {o : ℕ} (k : ℕ) (ho : o = 6 + k)
    (hk : k ≤ 1) (inb) : E2 (m := 512) (n := 512) (φ := .f32) (View.ld (View.read (Elt Ideal) (View.whole cc0_scratch0)
      ((View.whole cc0_scratch0).writes (Elt Ideal)
        (hw.unread (outsAt0 m c (t.val - 1) (Nat.lt_of_le_of_lt (Nat.sub_le _ _) t.isLt)).2.2.2.2.2.2.2.2.2)
        [⟨Rect.unit ![8, 0] ![512, 512] inb_S520x512_S512x512_8_0, k0_pay13 (F := Ideal) (iblk m c 0 t) (iblk m c 1 t)⟩]))
      (Rect.unit (s := S520x512) ![o, 0] ![512, 512] inb)) (fun i d => zs (cin (args m c)) ((tileRow t i).val + k) d) := fun i d => by
  refine (ld_at _ inb i d (by omega) (by omega)).trans ?_
  have e : (⟨0 + d.val, by omega⟩ : Fin 512) = d := Fin.ext (Nat.zero_add _)
  rw [e]
  refine shifted m c t _ [] k ho (fun i d q hq hi => ?_) i d _ rfl
  refine (congrFun (hw.read_unread _) _).trans ((carried m c ⟨t.val - 1, Nat.lt_of_le_of_lt (Nat.sub_le _ _) t.isLt⟩ i d q hq).trans ?_)
  refine congrArg (fun r => zs (cin (args m c)) r d) ?_
  show (t.val - 1) * 512 + 506 + i.val = t.val * 512 + i.val - 6
  omega

/-- The stored rows behind the zeros of the first point. -/
theorem over_zero (t : Fin cfg0.N) (h0 : t.val % 16 = 0) {o : ℕ} (k : ℕ) (ho : o = 6 + k) (hk : k ≤ 1) (inb) :
    E2 (m := 512) (n := 512) (φ := .f32) ((View.whole cc0_scratch0).readCov (Val := Elt Ideal)
      [⟨Rect.unit ![8, 0] ![512, 512] inb_S520x512_S512x512_8_0, k0_pay13 (F := Ideal) (iblk m c 0 t) (iblk m c 1 t)⟩,
        ⟨Rect.unit ![0, 0] ![8, 512] inb_S520x512_S8x512_0_0, k0_pay12 (F := Ideal)⟩]
      (Rect.unit (s := S520x512) ![o, 0] ![512, 512] inb).toLoadRect) (fun i d => zs (cin (args m c)) ((tileRow t i).val + k) d) := fun i d => by
  have ht : t.val = 0 := by have : cfg0.N = 16 := N_0; omega
  refine (load (m := 520) (n := 512) _ _ inb (q := ⟨o + i.val, by omega⟩) (r := d) i d rfl (by simp)).trans ?_
  refine shifted m c t _ _ k ho (fun i d q hq hi => ?_) i d _ rfl
  refine (hit (m := 520) (n := 512) _ _ _ _ _ i d (by simpa using hq) (by simp)).trans ?_
  refine ((Has2.cast (α := EReal) (v := broadcast S8x512 (Scalar.ofBits (F := Ideal) .f32 0x00000000#32)) (f := fun _ _ => 0)
    (fun _ _ => Ideal.ofBits_zero_f32) shapeCasts_S8x512_S8x512) i d).trans ?_
  exact (zs_lt (by omega) d).symm

/-! ### What a grid point leaves -/

section
variable {A : Arg}

/-- A head's keys, -/
theorem keys {x4 : FVec Ideal S256x1024 .bf16} (hk : E2 (m := 256) (n := 1024) x4 A.k) (h : Fin 4) {p : ℕ} (hp : p = h.val * 128) (inb) :
    E2 (m := 256) (n := 128) (φ := .bf16) (View.ld (Val := Elt Ideal) (e' := .bf16) x4 (Rect.unit (s := S256x1024) ![0, p] ![256, 128] inb)) (fun j d => A.k j (kc h d)) := fun j d =>
  (ld_at (Val := Elt Ideal) (e := .bf16) x4 inb j d (by omega) (by omega)).trans ((hk _ _).trans (congrArg₂ A.k (Fin.ext (Nat.zero_add _))
    (Fin.ext (by show p + d.val = h.val * 128 + d.val; omega))))

/-- and its values. -/
theorem vals {x4 : FVec Ideal S256x1024 .bf16} (hk : E2 (m := 256) (n := 1024) x4 A.k) (h : Fin 4) {p : ℕ} (hp : p = 512 + h.val * 128) (inb) :
    E2 (m := 256) (n := 128) (φ := .bf16) (View.ld (Val := Elt Ideal) (e' := .bf16) x4 (Rect.unit (s := S256x1024) ![0, p] ![256, 128] inb)) (fun j d => A.k j (vc h d)) := fun j d =>
  (ld_at (Val := Elt Ideal) (e := .bf16) x4 inb j d (by omega) (by omega)).trans ((hk _ _).trans (congrArg₂ A.k (Fin.ext (Nat.zero_add _))
    (Fin.ext (by show p + d.val = 512 + h.val * 128 + d.val; omega))))

end

/-- The arrays a grid point leaves hold its rows of the results. -/
structure Left (A : Arg) (r : Fin 512 → Fin 8192) (b5 : FVec Ideal S1024x512 .bf16) (b6 : FVec Ideal S512x3072 .bf16)
    (b7 : FVec Ideal S512x1536 .f32) (b8 : FVec Ideal S512x512 .f32) (b9 b10 b11 b12 b13 : FVec Ideal S512x512 .bf16) : Prop where
  x : E2 (m := 1024) (n := 512) b5 (fun l i => A.x (r i) l)
  g : E2 (m := 512) (n := 3072) b6 (fun i => gts A (r i))
  s : E2 (m := 512) (n := 1536) b7 (fun i => cin A (r i))
  u : E2 (m := 512) (n := 512) b8 (fun i => rin A (r i))
  q : E2 (m := 512) (n := 512) b9 (fun i => qry A (r i))
  a : E2 (m := 512) (n := 512) b10 (fun i => cnv A (r i))
  o : E2 (m := 512) (n := 512) b11 (fun i => atn A (r i))
  a' : E2 (m := 512) (n := 512) b12 (fun d i => cnv A (r i) d)
  o' : E2 (m := 512) (n := 512) b13 (fun d i => atn A (r i) d)

set_option maxRecDepth 16384 in
set_option maxHeartbeats 4000000 in
theorem left (t : Fin cfg0.N) : Left (args m c) (tileRow t) (outsAt0 m c t.val t.isLt).1 (outsAt0 m c t.val t.isLt).2.1
    (outsAt0 m c t.val t.isLt).2.2.1 (outsAt0 m c t.val t.isLt).2.2.2.1 (outsAt0 m c t.val t.isLt).2.2.2.2.1
    (outsAt0 m c t.val t.isLt).2.2.2.2.2.1 (outsAt0 m c t.val t.isLt).2.2.2.2.2.2.1 (outsAt0 m c t.val t.isLt).2.2.2.2.2.2.2.1
    (outsAt0 m c t.val t.isLt).2.2.2.2.2.2.2.2.1 := by
  have H := holds m c t
  have att := heads (prob0 (query H) (keys H.k 0 rfl inb_S256x1024_S256x128_0_0)) (prob1 (query H) (keys H.k 1 rfl inb_S256x1024_S256x128_0_128))
    (prob2 (query H) (keys H.k 2 rfl inb_S256x1024_S256x128_0_256)) (expo3 (query H) (keys H.k 3 rfl inb_S256x1024_S256x128_0_384))
    (vals H.k 0 rfl inb_S256x1024_S256x128_0_512) (vals H.k 1 rfl inb_S256x1024_S256x128_0_640)
    (vals H.k 2 rfl inb_S256x1024_S256x128_0_768) (vals H.k 3 rfl inb_S256x1024_S256x128_0_896)
  by_cases h0 : t.val % 16 = 0
  · have cv := conv H (over_zero m c t h0 1 rfl (by omega) inb_S520x512_S512x512_7_0) (over_zero m c t h0 0 rfl (by omega) inb_S520x512_S512x512_6_0)
    rw [outsAt0_A m c t h0]
    dsimp only
    unfold out0_A_5 out0_A_6 out0_A_7 out0_A_8 out0_A_9 out0_A_10 out0_A_11 out0_A_12 out0_A_13 kernelRun0_A
    dsimp only
    sl_unfold_words
    simp only [View.readAt_eq_ld, (hs0_0 t).read_unread, (hs0_1 t).read_unread, (hs0_2 t).read_unread, (hs0_3 t).read_unread,
      (hs0_4 t).read_unread, View.ld_unit_zero (S := S512x1024) hz, View.ld_unit_zero (S := S5632x1024) hz,
      View.ld_unit_zero (S := S1x3072) hz, View.ld_unit_zero (S := S3x512) hz]
    exact {
      x := fun i j => (hit (m := 1024) (n := 512) _ _ _ _ [] i j (by simp) (by simp)).trans (rowsT H i j)
      g := fun i j => (hit (m := 512) (n := 3072) _ _ _ _ [] i j (by simp) (by simp)).trans (gates H i j)
      s := fun i j => (hit (m := 512) (n := 1536) _ _ _ _ [] i j (by simp) (by simp)).trans (conv_in H i j)
      u := fun i j => (hit (m := 512) (n := 512) _ _ _ _ [] i j (by simp) (by simp)).trans (rec_in H i j)
      q := fun i j => (hit (m := 512) (n := 512) _ _ _ _ [] i j (by simp) (by simp)).trans (query H i j)
      a := fun i j => (hit (m := 512) (n := 512) _ _ _ _ [] i j (by simp) (by simp)).trans (cv i j)
      o := fun i j => (hit (m := 512) (n := 512) _ _ _ _ [] i j (by simp) (by simp)).trans (att i j)
      a' := fun i j => (hit (m := 512) (n := 512) _ _ _ _ [] i j (by simp) (by simp)).trans
        (Has2.transpose (α := EReal) cv transposes_S512x512_p1_0_S512x512 i j)
      o' := fun i j => (hit (m := 512) (n := 512) _ _ _ _ [] i j (by simp) (by simp)).trans
        (Has2.transpose (α := EReal) att transposes_S512x512_p1_0_S512x512 i j) }
  · have cv := conv H (over_prev m c t h0 (Memref.isWhole_whole _) 1 rfl (by omega) inb_S520x512_S512x512_7_0)
      (over_prev m c t h0 (Memref.isWhole_whole _) 0 rfl (by omega) inb_S520x512_S512x512_6_0)
    rw [outsAt0_B m c t h0]
    dsimp only
    unfold out0_B_5 out0_B_6 out0_B_7 out0_B_8 out0_B_9 out0_B_10 out0_B_11 out0_B_12 out0_B_13 kernelRun0_B
    dsimp only
    sl_unfold_words
    simp only [View.readAt_eq_ld, (hs0_0 t).read_unread, (hs0_1 t).read_unread, (hs0_2 t).read_unread, (hs0_3 t).read_unread,
      (hs0_4 t).read_unread, View.ld_unit_zero (S := S512x1024) hz, View.ld_unit_zero (S := S5632x1024) hz,
      View.ld_unit_zero (S := S1x3072) hz, View.ld_unit_zero (S := S3x512) hz]
    exact {
      x := fun i j => (hit (m := 1024) (n := 512) _ _ _ _ [] i j (by simp) (by simp)).trans (rowsT H i j)
      g := fun i j => (hit (m := 512) (n := 3072) _ _ _ _ [] i j (by simp) (by simp)).trans (gates H i j)
      s := fun i j => (hit (m := 512) (n := 1536) _ _ _ _ [] i j (by simp) (by simp)).trans (conv_in H i j)
      u := fun i j => (hit (m := 512) (n := 512) _ _ _ _ [] i j (by simp) (by simp)).trans (rec_in H i j)
      q := fun i j => (hit (m := 512) (n := 512) _ _ _ _ [] i j (by simp) (by simp)).trans (query H i j)
      a := fun i j => (hit (m := 512) (n := 512) _ _ _ _ [] i j (by simp) (by simp)).trans (cv i j)
      o := fun i j => (hit (m := 512) (n := 512) _ _ _ _ [] i j (by simp) (by simp)).trans (att i j)
      a' := fun i j => (hit (m := 512) (n := 512) _ _ _ _ [] i j (by simp) (by simp)).trans
        (Has2.transpose (α := EReal) cv transposes_S512x512_p1_0_S512x512 i j)
      o' := fun i j => (hit (m := 512) (n := 512) _ _ _ _ [] i j (by simp) (by simp)).trans
        (Has2.transpose (α := EReal) att transposes_S512x512_p1_0_S512x512 i j) }

/-! ### The output arrays -/

/-- The block of an array after the launch is what the grid point left, when the blocks are numbered by the points along an axis. -/
theorem back (k : Fin cfg0.W) (a) (h : ∀ t, (cfg0.win k).index t a = t.val) (hf : ∀ t, (cfg0.win k).flush t = true) (t : Fin cfg0.N)
    {b} (hb : (dats m 0 c).after k t = b) (hk : (cfg0.win k).kind = .blocked := by rfl) :
    ((cfg0.win k).blk t).view.read (Elt Ideal) ((dats m 0 c).arrAt k cfg0.N) = (cfg0.win k).cut (grid0.coords t) b :=
  ((dats m 0 c).read_blk_arrAt_eq_flushed k (fun s s' _ _ hne => (cfg0.win k).disjoint_blk (fun e =>
    hne (Fin.ext ((h s).symm.trans ((congrFun e a).trans (h s'))))) hk) cfg0.N t t.isLt (hf t)).trans
    (congrArg ((cfg0.win k).cut (grid0.coords t)) hb)

/-- The rows, transposed. -/
theorem fin5 : E2 (m := 1024) (n := 8192) (φ := .bf16) ((dats m 0 c).arrAt 5 cfg0.N) (fun l n => (args m c).x n l) := fun k n => by
  obtain ⟨t, i, rfl⟩ := exists_tileRow n
  exact (congrArg ((dats m 0 c).arrAt 5 cfg0.N) (emb5 t k i)).symm.trans ((congrFun
    (back m c 5 1 (fun t => (idx5 t).2) flush0_5 t (after0_5 m c t)) (ix2 k i)).trans ((left m c t).x k i))

/-- The gates. -/
theorem fin6 : E2 (m := 8192) (n := 3072) (φ := .bf16) ((dats m 0 c).arrAt 6 cfg0.N) (gts (args m c)) := fun n k => by
  obtain ⟨t, i, rfl⟩ := exists_tileRow n
  exact (congrArg ((dats m 0 c).arrAt 6 cfg0.N) (emb6 t i k)).symm.trans ((congrFun
    (back m c 6 0 (fun t => (idx6 t).1) flush0_6 t (after0_6 m c t)) (ix2 i k)).trans ((left m c t).g i k))

/-- The convolution's input. -/
theorem fin7 : E2 (m := 8192) (n := 1536) (φ := .f32) ((dats m 0 c).arrAt 7 cfg0.N) (cin (args m c)) := fun n k => by
  obtain ⟨t, i, rfl⟩ := exists_tileRow n
  exact (congrArg ((dats m 0 c).arrAt 7 cfg0.N) (emb7 t i k)).symm.trans ((congrFun
    (back m c 7 0 (fun t => (idx7 t).1) flush0_7 t (after0_7 m c t)) (ix2 i k)).trans ((left m c t).s i k))

/-- The recurrence's input. -/
theorem fin8 : E2 (m := 8192) (n := 512) (φ := .f32) ((dats m 0 c).arrAt 8 cfg0.N) (rin (args m c)) := fun n k => by
  obtain ⟨t, i, rfl⟩ := exists_tileRow n
  exact (congrArg ((dats m 0 c).arrAt 8 cfg0.N) (emb8 t i k)).symm.trans ((congrFun
    (back m c 8 0 (fun t => (idx8 t).1) flush0_8 t (after0_8 m c t)) (ix2 i k)).trans ((left m c t).u i k))

/-- The queries. -/
theorem fin9 : E2 (m := 8192) (n := 512) (φ := .bf16) ((dats m 0 c).arrAt 9 cfg0.N) (qry (args m c)) := fun n k => by
  obtain ⟨t, i, rfl⟩ := exists_tileRow n
  exact (congrArg ((dats m 0 c).arrAt 9 cfg0.N) (emb9 t i k)).symm.trans ((congrFun
    (back m c 9 0 (fun t => (idx9 t).1) flush0_9 t (after0_9 m c t)) (ix2 i k)).trans ((left m c t).q i k))

/-- The convolution. -/
theorem fin10 : E2 (m := 8192) (n := 512) (φ := .bf16) ((dats m 0 c).arrAt 10 cfg0.N) (cnv (args m c)) := fun n k => by
  obtain ⟨t, i, rfl⟩ := exists_tileRow n
  exact (congrArg ((dats m 0 c).arrAt 10 cfg0.N) (emb10 t i k)).symm.trans ((congrFun
    (back m c 10 0 (fun t => (idx10 t).1) flush0_10 t (after0_10 m c t)) (ix2 i k)).trans ((left m c t).a i k))

/-- The attention. -/
theorem fin11 : E2 (m := 8192) (n := 512) (φ := .bf16) ((dats m 0 c).arrAt 11 cfg0.N) (atn (args m c)) := fun n k => by
  obtain ⟨t, i, rfl⟩ := exists_tileRow n
  exact (congrArg ((dats m 0 c).arrAt 11 cfg0.N) (emb11 t i k)).symm.trans ((congrFun
    (back m c 11 0 (fun t => (idx11 t).1) flush0_11 t (after0_11 m c t)) (ix2 i k)).trans ((left m c t).o i k))

/-- The convolution, transposed. -/
theorem fin12 : E2 (m := 512) (n := 8192) (φ := .bf16) ((dats m 0 c).arrAt 12 cfg0.N) (fun d n => cnv (args m c) n d) := fun k n => by
  obtain ⟨t, i, rfl⟩ := exists_tileRow n
  exact (congrArg ((dats m 0 c).arrAt 12 cfg0.N) (emb12 t k i)).symm.trans ((congrFun
    (back m c 12 1 (fun t => (idx12 t).2) flush0_12 t (after0_12 m c t)) (ix2 k i)).trans ((left m c t).a' k i))

/-- The attention, transposed. -/
theorem fin13 : E2 (m := 512) (n := 8192) (φ := .bf16) ((dats m 0 c).arrAt 13 cfg0.N) (fun d n => atn (args m c) n d) := fun k n => by
  obtain ⟨t, i, rfl⟩ := exists_tileRow n
  exact (congrArg ((dats m 0 c).arrAt 13 cfg0.N) (emb13 t k i)).symm.trans ((congrFun
    (back m c 13 1 (fun t => (idx13 t).2) flush0_13 t (after0_13 m c t)) (ix2 k i)).trans ((left m c t).o' k i))

end Cert.ProjFin

end
-- ==== Proof.ProjRef.lean ====
/- What the reference of the projection into the layer holds, operation by operation along its own list. -/
module

public import proofs.«01_k».proof.Proof.Proj
public import proofs.«01_k».proof.Proof.ConvRef
public import proofs.«01_k».proof.Proof.Gen.Reference4Ideal.Read

@[expose] public section

noncomputable section

open scoped BigOperators

namespace Cert.ProjRef

open Idealize.ShloMosaic hiding ix0 ix1 ix2 ix3 eq_ix2 eq_ix3
open Idealize.ShloMosaic.ValueIdx
open Cert.Layouts Cert.Conv Cert.Proj
open Cert.Attn (hd kc vc hOf dOf)
open Cert.ConvRef (at2 zero0 from_zero weight)
open Cert.Reference4Ideal Cert.Reference4Ideal.Gen Cert.Reference4Ideal.Read

variable (x0 : FVec Ideal S8192x1024 .f32) (x1 : FVec Ideal S1024x5632 .f32) (x2 : FVec Ideal S1x3072 .f32)
  (x3 : FVec Ideal S3x512 .f32) (x4 : FVec Ideal S256x1024 .f32) (x5 : FVec Ideal S1024x1024 .f32)

/-- The arguments. -/
abbrev args : Arg := arg x0 x1 x2 x3 x4 x5

theorem r0 : E2 (φ := .f32) (m := 8192) (n := 5632) (val_main_v0 (F := Ideal) x0 x1) (pj (args x0 x1 x2 x3 x4 x5)) :=
  Merge.hdot (prec := none) (show dot_S8192x1024_S1024x5632_S8192x5632_1_0_0_1_n_n = DotDims.plain 8192 1024 5632 from rfl)
    (fun _ _ => rfl) (fun _ _ => rfl)

theorem r1 : E2 (φ := .f32) (m := 8192) (n := 3072) (val_main_v1 (F := Ideal) x0 x1) (fun n j => pj (args x0 x1 x2 x3 x4 x5) n (gc j)) :=
  Has2.cols (α := EReal) (r0 x0 x1 x2 x3 x4 x5) _ gc (fun _ => rfl)

theorem r2 : E2 (φ := .f32) (m := 8192) (n := 1536) (val_main_v2 (F := Ideal) x0 x1) (cin (args x0 x1 x2 x3 x4 x5)) :=
  Has2.cols (α := EReal) (r0 x0 x1 x2 x3 x4 x5) _ cc (fun _ => rfl)

theorem r3 : E2 (φ := .f32) (m := 8192) (n := 512) (val_main_v3 (F := Ideal) x0 x1) (rin (args x0 x1 x2 x3 x4 x5)) :=
  Has2.cols (α := EReal) (r0 x0 x1 x2 x3 x4 x5) _ uc (fun _ => rfl)

theorem r4 : E2 (φ := .f32) (m := 8192) (n := 512) (val_main_v4 (F := Ideal) x0 x1) (qry (args x0 x1 x2 x3 x4 x5)) :=
  Has2.cols (α := EReal) (r0 x0 x1 x2 x3 x4 x5) _ qc (fun _ => rfl)

theorem r5 : E2 (φ := .f32) (m := 8192) (n := 3072) (val_main_v5 (F := Ideal) x2) (fun _ j => (args x0 x1 x2 x3 x4 x5).b j) := fun n j =>
  (val_main_v5_apply (F := Ideal) x2 (ix2 n j)).trans (congrArg x2 (funext fun a => by
    match a with
    | ⟨0, _⟩ => rfl
    | ⟨1, _⟩ => rfl))

theorem r12 : E2 (φ := .f32) (m := 8192) (n := 3072) (val_main_v12 (F := Ideal) x0 x1 x2) (gts (args x0 x1 x2 x3 x4 x5)) :=
  Merge.map (φ := .f32) (u := val_main_v6 (F := Ideal) x0 x1 x2) (F := Merge.gate) (Conv.add (r1 x0 x1 x2 x3 x4 x5) (r5 x0 x1 x2 x3 x4 x5)) (fun _ => rfl)

/-- The gates. -/
theorem r65 : E2 (φ := .bf16) (m := 8192) (n := 3072) (val_main_v65 (F := Ideal) x0 x1 x2) (gts (args x0 x1 x2 x3 x4 x5)) :=
  r12 x0 x1 x2 x3 x4 x5

/-- The rows, transposed. -/
theorem r64 : E2 (φ := .bf16) (m := 1024) (n := 8192) (val_main_v64 (F := Ideal) x0) (fun l n => (args x0 x1 x2 x3 x4 x5).x n l) :=
  Has2.transpose (α := EReal) (f := (args x0 x1 x2 x3 x4 x5).x) (v := x0) (fun _ _ => rfl) transposes_S8192x1024_S1024x8192_1_0

/-! ### The convolution -/

theorem r13 : E2 (φ := .f32) (m := 8192) (n := 512) (val_main_v13 (F := Ideal) x0 x1) (fun n c => cin (args x0 x1 x2 x3 x4 x5) n (c0 c)) :=
  Has2.cols (α := EReal) (r2 x0 x1 x2 x3 x4 x5) _ c0 (fun _ => (Nat.zero_add _).symm)

theorem r16 : E2 (φ := .f32) (m := 8192) (n := 512) (val_main_v16 (F := Ideal) x0 x1)
    (fun n c => cin (args x0 x1 x2 x3 x4 x5) n (c1 c) * cin (args x0 x1 x2 x3 x4 x5) n (c2 c)) :=
  Conv.mul (Has2.cols (α := EReal) (r2 x0 x1 x2 x3 x4 x5) slices_S8192x1536_S8192x512_0_512 c1 (fun _ => rfl))
    (Has2.cols (α := EReal) (r2 x0 x1 x2 x3 x4 x5) slices_S8192x1536_S8192x512_0_1024 c2 (fun _ => rfl))

/-- The gated signal behind two rows of zeros. -/
theorem r18 : E2 (φ := .f32) (m := 8194) (n := 512) (val_main_v18 (F := Ideal) x0 x1) (fun r c => zs (cin (args x0 x1 x2 x3 x4 x5)) r.val c) :=
  fun r c => by
    unfold val_main_v18
    by_cases h : r.val < 2
    · refine (join_rows _ 0 (by exact (by decide : 0 < 2)) (f := fun _ _ => (0 : EReal))
        (fun i j => (val_main_v17_apply (F := Ideal) (ix2 i j)).trans (zero0 _)) rfl 0 rfl ⟨r.val, h⟩ c r (Nat.zero_add _).symm).trans ?_
      exact (zs_lt h c).symm
    · refine (join_rows _ 1 (by exact (by decide : 1 < 2)) (r16 x0 x1 x2 x3 x4 x5) rfl 2 rfl ⟨r.val - 2, by omega⟩ c r
        (by show r.val = 2 + (r.val - 2); omega)).trans ?_
      have e : r.val = r.val - 2 + 2 := by omega
      exact ((congrArg (fun q => zs (cin (args x0 x1 x2 x3 x4 x5)) q c) e).trans
        (zs_add (X := cin (args x0 x1 x2 x3 x4 x5)) ⟨r.val - 2, by omega⟩ c)).symm

/-- A tap's product. -/
theorem part (k : Fin 3) (o : ℕ) (ho : k.val = o) (h : (⟨2, ![8194, 512]⟩ : Shape).Slices ![o, 0] ⟨2, ![8192, 512]⟩)
    {w : FVec Ideal ⟨2, ![8192, 512]⟩ .f32} (hw : E2 w (fun _ c => (args x0 x1 x2 x3 x4 x5).t k c)) :
    E2 (mulf w (extractStridedSlice ⟨2, ![8192, 512]⟩ ![o, 0] (val_main_v18 (F := Ideal) x0 x1) h))
      (fun n c => (args x0 x1 x2 x3 x4 x5).t k c * zs (cin (args x0 x1 x2 x3 x4 x5)) (n.val + o) c) :=
  Conv.mul hw (((r18 x0 x1 x2 x3 x4 x5).slice h (fun n => ⟨o + n.val, by omega⟩) (fun c => c) (fun _ => rfl) (fun _ => (Nat.zero_add _).symm)).congr
    fun n c => congrArg (fun q => zs (cin (args x0 x1 x2 x3 x4 x5)) q c) (Nat.add_comm _ _))

/-- The convolution. -/
theorem r39 : E2 (φ := .f32) (m := 8192) (n := 512) (val_main_v39 (F := Ideal) x0 x1 x3) (cnv (args x0 x1 x2 x3 x4 x5)) :=
  Conv.mul (r13 x0 x1 x2 x3 x4 x5) (Conv.add (Conv.add
    (part x0 x1 x2 x3 x4 x5 0 0 rfl slices_S8194x512_S8192x512_0_0 (weight x3 0 0 rfl _ _ _ _))
    (part x0 x1 x2 x3 x4 x5 1 1 rfl slices_S8194x512_S8192x512_1_0 (weight x3 1 1 rfl _ _ _ _)))
    (part x0 x1 x2 x3 x4 x5 2 2 rfl slices_S8194x512_S8192x512_2_0 (weight x3 2 2 rfl _ _ _ _)))

/-- Its transpose. -/
theorem r70 : E2 (φ := .bf16) (m := 512) (n := 8192) (val_main_v70 (F := Ideal) x0 x1 x3) (fun c n => cnv (args x0 x1 x2 x3 x4 x5) n c) :=
  Has2.transpose (α := EReal) (r39 x0 x1 x2 x3 x4 x5) transposes_S8192x512_S512x8192_1_0

/-! ### The attention -/

theorem r40 : E2 (φ := .f32) (m := 256) (n := 1024) (val_main_v40 (F := Ideal) x4 x5) (args x0 x1 x2 x3 x4 x5).k :=
  Merge.hdot (prec := none) (show dot_S256x1024_S1024x1024_S256x1024_1_0_0_1_n_n = DotDims.plain 256 1024 1024 from rfl)
    (fun _ _ => rfl) (fun _ _ => rfl)

theorem r43 (n : Fin 8192) (h : Fin 4) (d : Fin 128) :
    val_main_v43 (F := Ideal) x0 x1 (ix3 n h d) = qry (args x0 x1 x2 x3 x4 x5) n (hd h d) := by
  refine (val_main_v43_apply (F := Ideal) x0 x1 (ix3 n h d)).trans ((at2 (r4 x0 x1 x2 x3 x4 x5) _).trans
    (congrArg₂ (qry (args x0 x1 x2 x3 x4 x5)) (Fin.ext ?_) (Fin.ext ?_)))
  · show ((n.val * 4 + h.val) * 128 + d.val) / 512 = n.val
    omega
  · show ((n.val * 4 + h.val) * 128 + d.val) % 512 = h.val * 128 + d.val
    omega

theorem r44 (m : Fin 256) (h : Fin 4) (d : Fin 128) :
    val_main_v44 (F := Ideal) x4 x5 (ix3 m h d) = (args x0 x1 x2 x3 x4 x5).k m (kc h d) := by
  refine (val_main_v44_apply (F := Ideal) x4 x5 (ix3 m h d)).trans ((val_main_v41_apply (F := Ideal) x4 x5 _).trans
    ((at2 (r40 x0 x1 x2 x3 x4 x5) _).trans (congrArg₂ (args x0 x1 x2 x3 x4 x5).k (Fin.ext ?_) (Fin.ext ?_))))
  · show ((m.val * 4 + h.val) * 128 + d.val) / 512 = m.val
    omega
  · show ((m.val * 4 + h.val) * 128 + d.val) % 512 = h.val * 128 + d.val
    omega

theorem r45 (m : Fin 256) (h : Fin 4) (d : Fin 128) :
    val_main_v45 (F := Ideal) x4 x5 (ix3 m h d) = (args x0 x1 x2 x3 x4 x5).k m (vc h d) := by
  refine (val_main_v45_apply (F := Ideal) x4 x5 (ix3 m h d)).trans ((val_main_v42_apply (F := Ideal) x4 x5 _).trans
    ((at2 (r40 x0 x1 x2 x3 x4 x5) _).trans (congrArg₂ (args x0 x1 x2 x3 x4 x5).k (Fin.ext ?_) (Fin.ext ?_))))
  · show ((m.val * 4 + h.val) * 128 + d.val) / 512 = m.val
    omega
  · show 512 + ((m.val * 4 + h.val) * 128 + d.val) % 512 = 512 + h.val * 128 + d.val
    omega

/-- The scores. -/
theorem r48 (h : Fin 4) (n : Fin 8192) (m : Fin 256) : val_main_v48 (F := Ideal) x0 x1 x4 x5 (ix3 h n m)
    = score (args x0 x1 x2 x3 x4 x5).k (qry (args x0 x1 x2 x3 x4 x5) n) h m := by
  refine congrArg₂ (fun a b : EReal => a * b) ((val_main_v46_apply x0 x1 x4 x5 (ix3 h n m)).trans (Finset.sum_congr rfl fun d _ => ?_))
    (val_main_v47_apply (F := Ideal) (ix3 h n m))
  exact congrArg₂ (fun a b : EReal => a * b)
    ((congrArg (val_main_v43 (F := Ideal) x0 x1) (eq_ix3 _)).trans (r43 x0 x1 x2 x3 x4 x5 n h d))
    ((congrArg (val_main_v44 (F := Ideal) x4 x5) (eq_ix3 _)).trans (r44 x0 x1 x2 x3 x4 x5 m h d))

/-- The largest element along the last axis. -/
theorem lastTop {m n : ℕ} {v : FVec Ideal ⟨3, ![m, n, 256]⟩ .f32} {i : Fin m} {j : Fin n} {f : Fin 256 → EReal} (hv : ∀ k, v (ix3 i j k) = f k)
    {u : Shape} (hu : 0 < u.numel) (h : (⟨3, ![m, n, 256]⟩ : Shape).ReducesTo [2] ⟨2, ![m, n]⟩)
    (h' : (⟨3, ![m, n, 256]⟩ : Shape).Reduces [2] ⟨2, ![m, n]⟩) :
    Host.reduce FloatOps.maximumf v (constant (F := Ideal) u .f32 0xFF800000#32) h hu (ix2 i j) = top f := by
  refine (congrFun (hostReduce_maximumf_eq_multiReduction (φ := .f32) v 0xFF800000#32 h hu h' (.inl rfl) rfl) (ix2 i j)).trans
    ((multiReduction_maximumf_eq_fold v 0xFF800000#32 h' (.inl rfl) rfl (ix2 i j)).trans ?_)
  rw [h'.fold_fiber_r3_a2]
  exact Finset.fold_congr fun k _ => hv k

/-- The largest of a row's scores. -/
theorem r51 (h : Fin 4) (n : Fin 8192) : val_main_v51 (F := Ideal) x0 x1 x4 x5 (ix2 h n)
    = top (score (args x0 x1 x2 x3 x4 x5).k (qry (args x0 x1 x2 x3 x4 x5) n) h) := by
  have low : val_main_v50 (F := Ideal) (ix2 h n) = ⊥ := (val_main_v50_apply (F := Ideal) (ix2 h n)).trans neg_inf
  have big : val_main_v49 (F := Ideal) x0 x1 x4 x5 (ix2 h n)
      = top (score (args x0 x1 x2 x3 x4 x5).k (qry (args x0 x1 x2 x3 x4 x5) n) h) := by
    unfold val_main_v49 val_main_cst_3
    exact lastTop (fun m => r48 x0 x1 x2 x3 x4 x5 h n m) h_S_ reducesTo_S4x8192x256_S4x8192_d2 (by decide)
  unfold val_main_v51
  rw [maximumf_apply, low, big]
  exact max_eq_right bot_le

/-- The exponentials of a row's distances to it. -/
theorem r55 (h : Fin 4) (n : Fin 8192) (m : Fin 256) : val_main_v55 (F := Ideal) x0 x1 x4 x5 (ix3 h n m)
    = expo (args x0 x1 x2 x3 x4 x5).k (qry (args x0 x1 x2 x3 x4 x5) n) h m :=
  (val_main_v55_apply (F := Ideal) x0 x1 x4 x5 (ix3 h n m)).trans <| congrArg Ideal.exp ((val_main_v54_apply (F := Ideal) x0 x1 x4 x5 (ix3 h n m)).trans <| congrArg₂ (fun a b : EReal => a - b) (r48 x0 x1 x2 x3 x4 x5 h n m)
    ((val_main_v53_apply (F := Ideal) x0 x1 x4 x5 (ix3 h n m)).trans ((val_main_v52_apply (F := Ideal) x0 x1 x4 x5 _).trans
      ((congrArg (val_main_v51 (F := Ideal) x0 x1 x4 x5) (eq_ix2 _)).trans (r51 x0 x1 x2 x3 x4 x5 h n)))))

/-- Their parts of the sum. -/
theorem r59 (h : Fin 4) (n : Fin 8192) (m : Fin 256) : val_main_v59 (F := Ideal) x0 x1 x4 x5 (ix3 h n m)
    = prob (args x0 x1 x2 x3 x4 x5).k (qry (args x0 x1 x2 x3 x4 x5) n) h m :=
  (val_main_v59_apply (F := Ideal) x0 x1 x4 x5 (ix3 h n m)).trans <| congrArg₂ Ideal.div (r55 x0 x1 x2 x3 x4 x5 h n m)
    ((val_main_v58_apply (F := Ideal) x0 x1 x4 x5 (ix3 h n m)).trans ((val_main_v57_apply (F := Ideal) x0 x1 x4 x5 _).trans
      ((val_main_v56_apply x0 x1 x4 x5 _).trans (from_zero (zero0 _) fun k =>
        (congrArg (val_main_v55 (F := Ideal) x0 x1 x4 x5) (eq_ix3 _)).trans (r55 x0 x1 x2 x3 x4 x5 h n k)))))

/-- The attention. -/
theorem r62 : E2 (φ := .f32) (m := 8192) (n := 512) (val_main_v62 (F := Ideal) x0 x1 x4 x5) (atn (args x0 x1 x2 x3 x4 x5)) := fun n c => by
  have e : idx_main_v62 (ix2 n c) = ix3 n (hOf c) (dOf c) := funext fun a => by
    match a with
    | ⟨0, _⟩ => exact Fin.ext (by show (n.val * 512 + c.val) / 512 = n.val; omega)
    | ⟨1, _⟩ => exact Fin.ext (by show (n.val * 512 + c.val) / 128 % 4 = c.val / 128; omega)
    | ⟨2, _⟩ => exact Fin.ext (by show (n.val * 512 + c.val) % 128 = c.val % 128; omega)
  refine (val_main_v62_apply (F := Ideal) x0 x1 x4 x5 (ix2 n c)).trans ((congrArg _ e).trans ((val_main_v61_apply (F := Ideal) x0 x1 x4 x5 _).trans
    ((val_main_v60_apply x0 x1 x4 x5 _).trans ?_)))
  unfold atn att
  refine Finset.sum_congr rfl fun m _ => (mul_comm _ _).trans ?_
  exact congrArg₂ (fun a b : EReal => a * b)
    ((congrArg (val_main_v59 (F := Ideal) x0 x1 x4 x5) (eq_ix3 _)).trans (r59 x0 x1 x2 x3 x4 x5 (hOf c) n m))
    ((congrArg (val_main_v45 (F := Ideal) x4 x5) (eq_ix3 _)).trans (r45 x0 x1 x2 x3 x4 x5 m (hOf c) (dOf c)))

/-- Its transpose. -/
theorem r72 : E2 (φ := .bf16) (m := 512) (n := 8192) (val_main_v72 (F := Ideal) x0 x1 x4 x5) (fun c n => atn (args x0 x1 x2 x3 x4 x5) n c) :=
  Has2.transpose (α := EReal) (r62 x0 x1 x2 x3 x4 x5) transposes_S8192x512_S512x8192_1_0

end Cert.ProjRef

end
-- ==== Proof.Join4.lean ====
/- The nine results of the projection into the layer are the reference's, as arrays of the same extended reals. -/
module

public import proofs.«01_k».proof.Defs
public import proofs.«01_k».proof.Proof.ProjFin
public import proofs.«01_k».proof.Proof.ProjRef
public import proofs.«01_k».proof.Proof.Gen.Kernel4Ideal
public import proofs.«01_k».proof.Proof.Gen.Reference4Ideal

@[expose] public section

noncomputable section

open scoped BigOperators

namespace Cert.Join4

open Idealize.ShloMosaic hiding ix0 ix1 ix2 ix3 eq_ix2 eq_ix3
open Idealize.ShloMosaic.ValueIdx
open Idealize.SL.Sem Idealize.ShloMosaic.StableHlo
open Cert.Layouts Cert.Proj
open Cert.Conv (E2)

section
variable {x x' : FVec Ideal ⟨2, ![8192, 1024]⟩ .f32} {w w' : FVec Ideal ⟨2, ![1024, 5632]⟩ .f32} {b b' : FVec Ideal ⟨2, ![1, 3072]⟩ .f32}
  {t t' : FVec Ideal ⟨2, ![3, 512]⟩ .f32} {u u' : FVec Ideal ⟨2, ![256, 1024]⟩ .f32} {v v' : FVec Ideal ⟨2, ![1024, 1024]⟩ .f32}

theorem arg_eq (e0 : x = x') (e1 : w = w') (e2 : b = b') (e3 : t = t') (e4 : u = u') (e5 : v = v') : arg x w b t u v = arg x' w' b' t' u' v' := by
  rw [e0, e1, e2, e3, e4, e5]

end

section
variable {m n : ℕ} {φ : FTy} {S : Arg → Fin m → Fin n → EReal} {A B : Arg} {v w : FVec Ideal ⟨2, ![m, n]⟩ φ}

/-- Arrays of the same formula at equal arguments. -/
theorem same (hv : E2 v (S A)) (e : A = B) (hw : E2 w (S B)) : v = w := Has2.unique (α := EReal) (e ▸ hv) hw

end

set_option maxHeartbeats 2000000 in
/-- The nine results are equal. -/
theorem algebraic : algebraic_Kernel4Ideal_Reference4Ideal (hKernel4Ideal := Cert.Kernel4Ideal.Gen.facts)
    (hReference4Ideal := Cert.Reference4Ideal.Gen.facts) := by
  intro m g m' g' _ agree
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    (θ_run Cert.Kernel4Ideal.defs _ _).mono (fun x h c => ?_)
      (θ_run_and (Cert.Kernel4Ideal.Gen.run_main m g) (Cert.Kernel4Ideal.Gen.unchanged m g)),
    (θ_run Cert.Reference4Ideal.defs _ _).mono (fun x h c => ?_) (Cert.Reference4Ideal.Value.run (F := Ideal) m' g')⟩
  · exact ⟨(h.1 c).1 5, (h.1 c).1 6, (h.1 c).1 7, (h.1 c).1 8, (h.1 c).1 9, (h.1 c).1 10, (h.1 c).1 11, (h.1 c).1 12, (h.1 c).1 13, h.2 c⟩
  · obtain ⟨h0, h1, h2, h3, h4, h5, h6, h7, h8, keep⟩ := h c
    obtain ⟨e0, e1, e2, e3, e4, e5⟩ := agree c
    have e := arg_eq e0 e1 e2 e3 e4 e5
    exact ⟨h0.trans (same (S := fun A l n => A.x n l) (Cert.ProjRef.r64 _ _ _ _ _ _) e (Cert.ProjFin.fin5 m c)),
      h1.trans (same (S := gts) (Cert.ProjRef.r65 _ _ _ _ _ _) e (Cert.ProjFin.fin6 m c)),
      h2.trans (same (S := cin) (Cert.ProjRef.r2 _ _ _ _ _ _) e (Cert.ProjFin.fin7 m c)),
      h3.trans (same (S := rin) (Cert.ProjRef.r3 _ _ _ _ _ _) e (Cert.ProjFin.fin8 m c)),
      h4.trans (same (S := qry) (Cert.ProjRef.r4 _ _ _ _ _ _) e (Cert.ProjFin.fin9 m c)),
      h5.trans (same (S := cnv) (Cert.ProjRef.r39 _ _ _ _ _ _) e (Cert.ProjFin.fin10 m c)),
      h6.trans ((Cert.Reference4Ideal.Read.val_main_v68_eq m' c).trans
        (same (S := atn) (Cert.ProjRef.r62 _ _ _ _ _ _) e (Cert.ProjFin.fin11 m c))),
      h7.trans (same (S := fun A d n => cnv A n d) (Cert.ProjRef.r70 _ _ _ _ _ _) e (Cert.ProjFin.fin12 m c)),
      h8.trans ((Cert.Reference4Ideal.Read.val_main_v72_eq m' c).trans
        (same (S := fun A d n => atn A n d) (Cert.ProjRef.r72 _ _ _ _ _ _) e (Cert.ProjFin.fin13 m c))), keep⟩

end Cert.Join4

end
-- ==== Proof.Kv.lean ====
/- The keys and values of the memory: rows times columns, the keys laid out once more by columns, and the memory itself. What the kernel
   leaves in its three output arrays, and the reference's. -/
module

public import proofs.«01_k».proof.Proof.AttnRead
public import proofs.«01_k».proof.Proof.Merge
public import proofs.«01_k».proof.Proof.Gen.Kernel5Ideal.Value
public import proofs.«01_k».proof.Proof.Gen.Reference5Ideal.Read
public import Idealize.ShloMosaic.Lib.Tactic
public import Idealize.ShloMosaic.Lib.Pipeline.ValueKit

@[expose] public section

noncomputable section

open scoped BigOperators

namespace Cert.Kv

open Idealize.ShloMosaic.TcCoe
open Idealize.ShloMosaic hiding ix0 ix1 ix2 ix3 eq_ix2 eq_ix3
open Idealize.ShloMosaic.ValueIdx
open Idealize.SL.Sem
open Cert.Layouts
open Cert.Conv (E2)
open Cert.AttnRead (hz)

/-- The memory and the weights. -/
structure Arg where
  x : Fin 256 → Fin 1024 → EReal
  w : Fin 1024 → Fin 1024 → EReal

def arg (x : FVec Ideal ⟨2, ![256, 1024]⟩ .f32) (w : FVec Ideal ⟨2, ![1024, 1024]⟩ .f32) : Arg :=
  ⟨fun i j => x (ix2 i j), fun i j => w (ix2 i j)⟩

/-- The keys, then the values, of each row, -/
def kv (A : Arg) (i : Fin 256) (j : Fin 1024) : EReal := ∑ l, A.x i l * A.w l j
/-- and the keys by columns. -/
def keysT (A : Arg) (d : Fin 512) (i : Fin 256) : EReal := kv A i ⟨d.val, by omega⟩

/-! ### The kernel -/

section
open Cert.Kernel5Ideal Cert.Kernel5Ideal.Gen

variable {x0 : FVec Ideal ⟨2, ![256, 1024]⟩ .f32} {x1 : FVec Ideal ⟨2, ![1024, 1024]⟩ .bf16} {A : Arg}

theorem kv_is (hx : E2 x0 A.x) (hw : E2 x1 A.w) : E2 (m := 256) (n := 1024) (φ := .bf16) (k0_pay2 (F := Ideal) x0 x1) (kv A) :=
  Conv.trunc (Conv.dot (φ₁ := .bf16) (φ₂ := .bf16) (prec := none)
    (show dot_S256x1024_S1024x1024_S256x1024_1_0_0_1_n_n = DotDims.plain 256 1024 1024 from rfl)
    (Conv.trunc hx bitsLt_bf16_f32) (Has2.cast (α := EReal) hw shapeCasts_S1024x1024_S1024x1024)) bitsLt_bf16_f32

theorem keysT_is (hx : E2 x0 A.x) (hw : E2 x1 A.w) : E2 (m := 512) (n := 256) (φ := .bf16) (k0_pay3 (F := Ideal) x0 x1) (keysT A) :=
  Has2.transpose (α := EReal) (Has2.cols (α := EReal) (kv_is hx hw) slices_S256x1024_o0_0_S256x512 (fun d : Fin 512 => ⟨d.val, by omega⟩)
    (fun d => (Nat.zero_add _).symm)) transposes_S256x512_p1_0_S512x256

section
variable {F : FTy → Type} [FloatOps F] (m : (ℓ : Loc nD τ sig) → Buf (Elt F) ℓ) (c : Dev nD)

theorem V_v0 : V m c main_v0 = truncf .bf16 (m ((c : Thread nD τ).loc main_arg1) : FVec F S1024x1024 .f32) bitsLt_bf16_f32 := by
  unfold V
  after_results

end

/-- The one grid point. -/
def point : Fin cfg0.N := ⟨0, by decide⟩

variable (m : (ℓ : Loc nD τ sig) → Buf (Elt Ideal) ℓ) (c : Dev nD)

/-- What the launch is given. -/
def args : Arg := arg (m ((c : Thread nD τ).loc main_arg0)) (m ((c : Thread nD τ).loc main_arg1))

theorem emb0 (i : Fin 256) (j : Fin 1024) :
    (win0_0.blk point).view.emb (ix2 (n0 := 256) (n1 := 1024) i j) = ix2 (n0 := 256) (n1 := 1024) i j := by
  blk_ext [show win0_0.index point 0 = 0 from rfl, show win0_0.index point 1 = 0 from rfl]
theorem emb1 (i : Fin 1024) (j : Fin 1024) :
    (win0_1.blk point).view.emb (ix2 (n0 := 1024) (n1 := 1024) i j) = ix2 (n0 := 1024) (n1 := 1024) i j := by
  blk_ext [show win0_1.index point 0 = 0 from rfl, show win0_1.index point 1 = 0 from rfl]
theorem emb2 (i : Fin 256) (j : Fin 1024) :
    (win0_2.blk point).view.emb (ix2 (n0 := 256) (n1 := 1024) i j) = ix2 (n0 := 256) (n1 := 1024) i j := by
  blk_ext [show win0_2.index point 0 = 0 from rfl, show win0_2.index point 1 = 0 from rfl]
theorem emb3 (i : Fin 512) (j : Fin 256) :
    (win0_3.blk point).view.emb (ix2 (n0 := 512) (n1 := 256) i j) = ix2 (n0 := 512) (n1 := 256) i j := by
  blk_ext [show win0_3.index point 0 = 0 from rfl, show win0_3.index point 1 = 0 from rfl]
theorem emb4 (i : Fin 256) (j : Fin 1024) :
    (win0_4.blk point).view.emb (ix2 (n0 := 256) (n1 := 1024) i j) = ix2 (n0 := 256) (n1 := 1024) i j := by
  blk_ext [show win0_4.index point 0 = 0 from rfl, show win0_4.index point 1 = 0 from rfl]

theorem mem_is : E2 (m := 256) (n := 1024) (φ := .f32) (iblk m c 0 point) (args m c).x := fun i j =>
  (congrArg (V m c main_arg0) (emb0 i j)).trans (by rw [V_main_arg0]; rfl)

theorem weight_is : E2 (m := 1024) (n := 1024) (φ := .bf16) (iblk m c 1 point) (args m c).w := fun i j =>
  (congrArg (V m c main_v0) (emb1 i j)).trans (by rw [V_v0]; rfl)

theorem fin2 : E2 (m := 256) (n := 1024) (φ := .bf16) ((dats m 0 c).arrAt 2 cfg0.N) (kv (args m c)) := fun i j => by
  refine (congrArg ((dats m 0 c).arrAt 2 cfg0.N) (emb2 i j).symm).trans
    ((congrFun (Value.blocks2 m c point (flush0_2 point)) (ix2 (n0 := 256) (n1 := 1024) i j)).trans ?_)
  rw [Value.flushed2]
  refine Eq.trans ?_ (kv_is (mem_is m c) (weight_is m c) i j)
  refine (congrFun (View.canon_unit_zero (S := S256x1024) hz _ _) _).trans ?_
  unfold r0_0 r0_1
  rw [View.ld_unit_zero (S := S256x1024) hz, View.ld_unit_zero (S := S1024x1024) hz]
  rfl

theorem fin3 : E2 (m := 512) (n := 256) (φ := .bf16) ((dats m 0 c).arrAt 3 cfg0.N) (keysT (args m c)) := fun i j => by
  refine (congrArg ((dats m 0 c).arrAt 3 cfg0.N) (emb3 i j).symm).trans
    ((congrFun (Value.blocks3 m c point (flush0_3 point)) (ix2 (n0 := 512) (n1 := 256) i j)).trans ?_)
  rw [Value.flushed3]
  refine Eq.trans ?_ (keysT_is (mem_is m c) (weight_is m c) i j)
  refine (congrFun (View.canon_unit_zero (S := S512x256) hz _ _) _).trans ?_
  unfold r0_0 r0_1
  rw [View.ld_unit_zero (S := S256x1024) hz, View.ld_unit_zero (S := S1024x1024) hz]
  rfl

theorem fin4 : E2 (m := 256) (n := 1024) (φ := .bf16) ((dats m 0 c).arrAt 4 cfg0.N) (args m c).x := fun i j => by
  refine (congrArg ((dats m 0 c).arrAt 4 cfg0.N) (emb4 i j).symm).trans
    ((congrFun (Value.blocks4 m c point (flush0_4 point)) (ix2 (n0 := 256) (n1 := 1024) i j)).trans ?_)
  rw [Value.flushed4]
  refine Eq.trans ?_ (Conv.trunc (ψ := .bf16) (mem_is m c) bitsLt_bf16_f32 i j)
  refine (congrFun (View.canon_unit_zero (S := S256x1024) hz _ _) _).trans ?_
  unfold r0_0
  rw [View.ld_unit_zero (S := S256x1024) hz]
  rfl

end

/-! ### The reference -/

section
open Cert.Reference5Ideal Cert.Reference5Ideal.Gen

variable (x : FVec Ideal ⟨2, ![256, 1024]⟩ .f32) (w : FVec Ideal ⟨2, ![1024, 1024]⟩ .f32)

theorem r0 : E2 (m := 256) (n := 1024) (φ := .f32) (Read.val_main_v0 (F := Ideal) x w) (kv (arg x w)) :=
  Merge.hdot (φ₁ := .f32) (φ₂ := .f32) (prec := none)
    (show dot_S256x1024_S1024x1024_S256x1024_1_0_0_1_n_n = DotDims.plain 256 1024 1024 from rfl) (fun _ _ => rfl) (fun _ _ => rfl)

theorem r2 : E2 (m := 256) (n := 1024) (φ := .bf16) (Read.val_main_v2 (F := Ideal) x w) (kv (arg x w)) :=
  Conv.trunc (r0 x w) bitsLt_bf16_f32

theorem r4 : E2 (m := 512) (n := 256) (φ := .bf16) (Read.val_main_v4 (F := Ideal) x w) (keysT (arg x w)) :=
  Conv.trunc (φ := .f32) (Has2.transpose (α := EReal) (Has2.cols (α := EReal) (r0 x w) slices_S256x1024_S256x512_0_0
    (fun d : Fin 512 => ⟨d.val, by omega⟩) (fun d => (Nat.zero_add _).symm)) transposes_S256x512_S512x256_1_0) bitsLt_bf16_f32

theorem r5 : E2 (m := 256) (n := 1024) (φ := .bf16) (Read.val_main_v5 (F := Ideal) x) (arg x w).x := fun _ _ => rfl

end

end Cert.Kv

end
-- ==== Proof.Join5.lean ====
/- The three results of the keys and values of the memory are the reference's, as arrays of the same extended reals. -/
module

public import proofs.«01_k».proof.Defs
public import proofs.«01_k».proof.Proof.Kv
public import proofs.«01_k».proof.Proof.Gen.Kernel5Ideal
public import proofs.«01_k».proof.Proof.Gen.Reference5Ideal
public import proofs.«01_k».proof.Proof.Gen.Reference5Ideal.Run

@[expose] public section

noncomputable section

namespace Cert.Join5

open Idealize.ShloMosaic hiding ix0 ix1 ix2 ix3 eq_ix2 eq_ix3
open Idealize.ShloMosaic.ValueIdx
open Idealize.SL.Sem Idealize.ShloMosaic.StableHlo
open Cert.Layouts
open Cert.Conv (E2)

section
variable {m n : ℕ} {φ : FTy} {S : Kv.Arg → Fin m → Fin n → EReal} {A B : Kv.Arg} {v w : FVec Ideal ⟨2, ![m, n]⟩ φ}

/-- Arrays of the same formula at equal arguments. -/
theorem same (hv : E2 v (S A)) (e : A = B) (hw : E2 w (S B)) : v = w := Has2.unique (α := EReal) (e ▸ hv) hw

end

theorem arg_eq {x x' : FVec Ideal ⟨2, ![256, 1024]⟩ .f32} {w w' : FVec Ideal ⟨2, ![1024, 1024]⟩ .f32} (e0 : x = x') (e1 : w = w') :
    Kv.arg x w = Kv.arg x' w' := by rw [e0, e1]

/-- The three results are equal. -/
theorem algebraic : algebraic_Kernel5Ideal_Reference5Ideal (hKernel5Ideal := Cert.Kernel5Ideal.Gen.facts)
    (hReference5Ideal := Cert.Reference5Ideal.Gen.facts) := by
  intro m g m' g' _ agree
  refine ⟨fun c => (Cert.Kernel5Ideal.Gen.dats m 0 c).arrAt 2 Cert.Kernel5Ideal.cfg0.N,
    fun c => (Cert.Kernel5Ideal.Gen.dats m 0 c).arrAt 3 Cert.Kernel5Ideal.cfg0.N,
    fun c => (Cert.Kernel5Ideal.Gen.dats m 0 c).arrAt 4 Cert.Kernel5Ideal.cfg0.N,
    Cert.Kernel5Ideal.Value.run_blocks m g,
    (θ_run Cert.Reference5Ideal.defs _ _).mono (fun x h c => ?_) (Cert.Reference5Ideal.Value.run (F := Ideal) m' g')⟩
  obtain ⟨h0, h1, h2, keep⟩ := h c
  obtain ⟨e0, e1⟩ := agree c
  have e := arg_eq e0 e1
  exact ⟨h0.trans (same (S := Kv.kv) (Kv.r2 _ _) e (Kv.fin2 m c)), h1.trans (same (S := Kv.keysT) (Kv.r4 _ _) e (Kv.fin3 m c)),
    h2.trans (same (S := fun A => A.x) (Kv.r5 _ (m' ((c.tc : Thread _ _).loc Cert.Reference5Ideal.main_arg1))) e (Kv.fin4 m c)), keep⟩

end Cert.Join5

end
-- ==== Proof.Adam.lean ====
/- One optimizer step of a weight: the gradient is the sum of the four received parts, and the step and the two moments follow from it
   element by element. What the kernel leaves in its four output arrays, of which each grid point writes its own rows. -/
module

public import proofs.«01_k».proof.Proof.AttnRead
public import proofs.«01_k».proof.Proof.Conv
public import proofs.«01_k».proof.Proof.Gen.Kernel6Ideal.Value
public import Idealize.ShloMosaic.Lib.Tactic
public import Idealize.ShloMosaic.Lib.Pipeline.ValueKit

@[expose] public section

noncomputable section

open scoped BigOperators

namespace Cert.Adam

open Cert.Kernel6Ideal Cert.Kernel6Ideal.Gen Idealize.ShloMosaic.TcCoe
open Idealize.ShloMosaic hiding ix0 ix1 ix2 ix3 eq_ix2 eq_ix3
open Idealize.ShloMosaic.ValueIdx
open Idealize.SL.Sem
open Cert.Layouts
open Cert.Conv (E2)
open Cert.AttnRead (hz)

/-! ### The step of one element -/

/-- The first moment, from the gradient `g`, -/
def mom (m g : EReal) : EReal := Ideal.ofBits .f32 0x3F666666#32 * m + Ideal.ofBits .f32 0x3DCCCCCD#32 * g
/-- the second, -/
def sec (v g : EReal) : EReal := Ideal.ofBits .f32 0x3F7FBE77#32 * v + Ideal.ofBits .f32 0x3A83126F#32 * (g * g)
/-- and the step, with the decay of the weight. -/
def step (w m v g : EReal) : EReal :=
  Ideal.ofBits .f32 0xBA83126F#32 * (Ideal.div (Ideal.div (mom m g) (Ideal.ofBits .f32 0x3F26BD02#32))
    (Ideal.sqrt (Ideal.div (sec v g) (Ideal.ofBits .f32 0x3C231ACC#32)) + Ideal.ofBits .f32 0x322BCC77#32)
    + Ideal.ofBits .f32 0x3C23D70A#32 * w)

/-- What the step is given: the weight, its moments and the parts of its gradient. -/
structure Arg where
  w : Fin 1024 → Fin 512 → EReal
  m : Fin 1024 → Fin 512 → EReal
  v : Fin 1024 → Fin 512 → EReal
  p : Fin 4 → Fin 1024 → Fin 512 → EReal

def arg (w m v : FVec Ideal ⟨2, ![1024, 512]⟩ .f32) (p : FVec Ideal ⟨3, ![4, 1024, 512]⟩ .f32) : Arg :=
  ⟨fun i j => w (ix2 i j), fun i j => m (ix2 i j), fun i j => v (ix2 i j), fun k i j => p (ix3 k i j)⟩

/-- The gradient, -/
def grad (A : Arg) (i : Fin 1024) (j : Fin 512) : EReal := A.p 0 i j + A.p 1 i j + A.p 2 i j + A.p 3 i j
/-- and what the step makes of it. -/
def step' (A : Arg) (i : Fin 1024) (j : Fin 512) : EReal := step (A.w i j) (A.m i j) (A.v i j) (grad A i j)
def mom' (A : Arg) (i : Fin 1024) (j : Fin 512) : EReal := mom (A.m i j) (grad A i j)
def sec' (A : Arg) (i : Fin 1024) (j : Fin 512) : EReal := sec (A.v i j) (grad A i j)

/-! ### One grid point -/

/-- A part read as rows and columns. -/
theorem part_at (x1 : FVec Ideal ⟨3, ![4, 256, 512]⟩ .bf16) {o : ℕ} (k : Fin 4) (hk : k.val = o)
    (inb : ∀ d, (![o, 0, 0] : Fin 3 → ℕ) d + S1x256x512.size d ≤ S4x256x512.size d) (i : Fin 256) (j : Fin 512) :
    shapeCast S256x512 (View.ld (Val := Elt Ideal) (e' := .bf16) x1 (Rect.unit (s := S4x256x512) ![o, 0, 0] S1x256x512.size inb))
      shapeCasts_S1x256x512_S256x512 (ix2 (n0 := 256) (n1 := 512) i j) = x1 (ix3 k i j) := by
  refine (shapeCast_apply _ _ (ix2 (n0 := 256) (n1 := 512) i j) (ix3 (n0 := 1) (n1 := 256) (n2 := 512) 0 i j) (by
    rw [Shape.rowMajor_val_three, Shape.rowMajor_val_two]
    show (0 * 256 + i.val) * 512 + j.val = i.val * 512 + j.val
    omega)).trans (congrArg x1 (funext fun d => Fin.ext ?_))
  match d with
  | ⟨0, _⟩ => show o + 1 * 0 = k.val; omega
  | ⟨1, _⟩ => show 0 + 1 * i.val = i.val; omega
  | ⟨2, _⟩ => show 0 + 1 * j.val = j.val; omega

/-- The blocks of a grid point hold the rows `r` of the arguments. -/
structure Holds (x0 : FVec Ideal ⟨2, ![256, 512]⟩ .f32) (x1 : FVec Ideal ⟨3, ![4, 256, 512]⟩ .bf16) (x2 x3 : FVec Ideal ⟨2, ![256, 512]⟩ .f32)
    (A : Arg) (r : Fin 256 → Fin 1024) : Prop where
  w : E2 x0 (fun i => A.w (r i))
  p : ∀ k i j, x1 (ix3 k i j) = A.p k (r i) j
  m : E2 x2 (fun i => A.m (r i))
  v : E2 x3 (fun i => A.v (r i))

section
variable {x0 x2 x3 : FVec Ideal ⟨2, ![256, 512]⟩ .f32} {x1 : FVec Ideal ⟨3, ![4, 256, 512]⟩ .bf16} {A : Arg} {r : Fin 256 → Fin 1024}

theorem grad_is (H : Holds x0 x1 x2 x3 A r) :
    E2 (m := 256) (n := 512) (φ := .f32) (k0_pay2 (F := Ideal) (View.ld x1 r0_0) (View.ld x1 r0_1) (View.ld x1 r0_2) (View.ld x1 r0_3))
      (fun i => grad A (r i)) := fun i j =>
  congrArg₂ (· + ·) (congrArg₂ (· + ·) (congrArg₂ (· + ·) ((part_at x1 0 rfl _ i j).trans (H.p 0 i j))
    ((part_at x1 1 rfl _ i j).trans (H.p 1 i j))) ((part_at x1 2 rfl _ i j).trans (H.p 2 i j))) ((part_at x1 3 rfl _ i j).trans (H.p 3 i j))

theorem mom_is (H : Holds x0 x1 x2 x3 A r) :
    E2 (m := 256) (n := 512) (φ := .f32) (k0_pay3 (F := Ideal) (View.ld x1 r0_0) (View.ld x1 r0_1) (View.ld x1 r0_2) (View.ld x1 r0_3) x2)
      (fun i => mom' A (r i)) := fun i j =>
  congrArg₂ mom (H.m i j) (grad_is H i j)

theorem sec_is (H : Holds x0 x1 x2 x3 A r) :
    E2 (m := 256) (n := 512) (φ := .f32) (k0_pay4 (F := Ideal) (View.ld x1 r0_0) (View.ld x1 r0_1) (View.ld x1 r0_2) (View.ld x1 r0_3) x3)
      (fun i => sec' A (r i)) := fun i j =>
  congrArg₂ sec (H.v i j) (grad_is H i j)

/-- The step from the moments. -/
def fromMoments (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
    + Ideal.ofBits .f32 0x3C23D70A#32 * w)

theorem step_is (H : Holds x0 x1 x2 x3 A r) :
    E2 (m := 256) (n := 512) (φ := .f32) (k0_pay1 (F := Ideal) x0
      (k0_pay4 (View.ld x1 r0_0) (View.ld x1 r0_1) (View.ld x1 r0_2) (View.ld x1 r0_3) x3)
      (k0_pay5 (View.ld x1 r0_0) (View.ld x1 r0_1) (View.ld x1 r0_2) (View.ld x1 r0_3) x2) (Scalar.ofBits .f32 0x3C231ACC#32))
      (fun i => step' A (r i)) := fun i j =>
  (congrArg (fromMoments (x0 (ix2 i j)) _) (sec_is H i j)).trans
    ((congrArg (fun m => fromMoments (x0 (ix2 i j)) m _) (mom_is H i j)).trans (congrArg (fun w => fromMoments w _ _) (H.w i j)))

end

/-! ### Where an element of a block sits in its array -/

/-- Row `i` of the block of grid point `t`. -/
def tileRow (t : Fin cfg0.N) (i : Fin 256) : Fin 1024 :=
  ⟨t.val * 256 + i.val, by have := t.isLt; have : cfg0.N = 4 := N_0; omega⟩

theorem exists_tileRow (n : Fin 1024) : ∃ (t : Fin cfg0.N) (i : Fin 256), n = tileRow t i :=
  ⟨⟨n.val / 256, by have : cfg0.N = 4 := N_0; omega⟩, ⟨n.val % 256, by omega⟩, Fin.ext (by
    show n.val = n.val / 256 * 256 + n.val % 256
    omega)⟩

theorem idx0 : ∀ t : Fin cfg0.N, win0_0.index t 0 = t.val ∧ win0_0.index t 1 = 0 :=
  (by decide +kernel : ∀ t : Fin grid0.N, _)
theorem emb0 (t : Fin cfg0.N) (i : Fin 256) (j : Fin 512) :
    (win0_0.blk t).view.emb (ix2 (n0 := 256) (n1 := 512) i j) = ix2 (n0 := 1024) (n1 := 512) (tileRow t i) j := by
  blk_ext [(idx0 t).1, (idx0 t).2, tileRow]
theorem idx1 : ∀ t : Fin cfg0.N, win0_1.index t 0 = 0 ∧ win0_1.index t 1 = t.val ∧ win0_1.index t 2 = 0 :=
  (by decide +kernel : ∀ t : Fin grid0.N, _)
theorem emb1 (t : Fin cfg0.N) (k : Fin 4) (i : Fin 256) (j : Fin 512) :
    (win0_1.blk t).view.emb (ix3 (n0 := 4) (n1 := 256) (n2 := 512) k i j) = ix3 (n0 := 4) (n1 := 1024) (n2 := 512) k (tileRow t i) j := by
  blk_ext [(idx1 t).1, (idx1 t).2.1, (idx1 t).2.2, tileRow]
theorem idx2 : ∀ t : Fin cfg0.N, win0_2.index t 0 = t.val ∧ win0_2.index t 1 = 0 :=
  (by decide +kernel : ∀ t : Fin grid0.N, _)
theorem emb2 (t : Fin cfg0.N) (i : Fin 256) (j : Fin 512) :
    (win0_2.blk t).view.emb (ix2 (n0 := 256) (n1 := 512) i j) = ix2 (n0 := 1024) (n1 := 512) (tileRow t i) j := by
  blk_ext [(idx2 t).1, (idx2 t).2, tileRow]
theorem idx3 : ∀ t : Fin cfg0.N, win0_3.index t 0 = t.val ∧ win0_3.index t 1 = 0 :=
  (by decide +kernel : ∀ t : Fin grid0.N, _)
theorem emb3 (t : Fin cfg0.N) (i : Fin 256) (j : Fin 512) :
    (win0_3.blk t).view.emb (ix2 (n0 := 256) (n1 := 512) i j) = ix2 (n0 := 1024) (n1 := 512) (tileRow t i) j := by
  blk_ext [(idx3 t).1, (idx3 t).2, tileRow]
theorem idx4 : ∀ t : Fin cfg0.N, win0_4.index t 0 = t.val ∧ win0_4.index t 1 = 0 :=
  (by decide +kernel : ∀ t : Fin grid0.N, _)
theorem emb4 (t : Fin cfg0.N) (i : Fin 256) (j : Fin 512) :
    (win0_4.blk t).view.emb (ix2 (n0 := 256) (n1 := 512) i j) = ix2 (n0 := 1024) (n1 := 512) (tileRow t i) j := by
  blk_ext [(idx4 t).1, (idx4 t).2, tileRow]
theorem idx5 : ∀ t : Fin cfg0.N, win0_5.index t 0 = t.val ∧ win0_5.index t 1 = 0 :=
  (by decide +kernel : ∀ t : Fin grid0.N, _)
theorem emb5 (t : Fin cfg0.N) (i : Fin 256) (j : Fin 512) :
    (win0_5.blk t).view.emb (ix2 (n0 := 256) (n1 := 512) i j) = ix2 (n0 := 1024) (n1 := 512) (tileRow t i) j := by
  blk_ext [(idx5 t).1, (idx5 t).2, tileRow]
theorem idx6 : ∀ t : Fin cfg0.N, win0_6.index t 0 = t.val ∧ win0_6.index t 1 = 0 :=
  (by decide +kernel : ∀ t : Fin grid0.N, _)
theorem emb6 (t : Fin cfg0.N) (i : Fin 256) (j : Fin 512) :
    (win0_6.blk t).view.emb (ix2 (n0 := 256) (n1 := 512) i j) = ix2 (n0 := 1024) (n1 := 512) (tileRow t i) j := by
  blk_ext [(idx6 t).1, (idx6 t).2, tileRow]
theorem idx7 : ∀ t : Fin cfg0.N, win0_7.index t 0 = t.val ∧ win0_7.index t 1 = 0 :=
  (by decide +kernel : ∀ t : Fin grid0.N, _)
theorem emb7 (t : Fin cfg0.N) (i : Fin 256) (j : Fin 512) :
    (win0_7.blk t).view.emb (ix2 (n0 := 256) (n1 := 512) i j) = ix2 (n0 := 1024) (n1 := 512) (tileRow t i) j := by
  blk_ext [(idx7 t).1, (idx7 t).2, tileRow]

/-! ### The output arrays -/

section
variable {F : FTy → Type} [FloatOps F] (m : (ℓ : Loc nD τ sig) → Buf (Elt F) ℓ) (c : Dev nD)

theorem V_v0 : V m c main_v0 = truncf .bf16 (m ((c : Thread nD τ).loc main_arg3) : FVec F S4x1024x512 .f32) bitsLt_bf16_f32 := by
  unfold V
  after_results

end

variable (m : (ℓ : Loc nD τ sig) → Buf (Elt Ideal) ℓ) (c : Dev nD)

/-- What the launch is given. -/
def args : Arg :=
  arg (m ((c : Thread nD τ).loc main_arg0)) (m ((c : Thread nD τ).loc main_arg1)) (m ((c : Thread nD τ).loc main_arg2))
    (m ((c : Thread nD τ).loc main_arg3))

/-- The blocks of a grid point. -/
theorem holds (t : Fin cfg0.N) : Holds (iblk m c 0 t) (iblk m c 1 t) (iblk m c 2 t) (iblk m c 3 t) (args m c) (tileRow t) where
  w := fun i j => (congrArg (V m c main_arg0) (emb0 t i j)).trans (by rw [V_main_arg0]; rfl)
  p := fun k i j => (congrArg (V m c main_v0) (emb1 t k i j)).trans (by rw [V_v0]; rfl)
  m := fun i j => (congrArg (V m c main_arg1) (emb2 t i j)).trans (by rw [V_main_arg1]; rfl)
  v := fun i j => (congrArg (V m c main_arg2) (emb3 t i j)).trans (by rw [V_main_arg2]; rfl)

theorem fin4 : E2 (m := 1024) (n := 512) (φ := .f32) ((dats m 0 c).arrAt 4 cfg0.N) (grad (args m c)) := fun n j => by
  obtain ⟨t, i, rfl⟩ := exists_tileRow n
  refine (congrArg ((dats m 0 c).arrAt 4 cfg0.N) (emb4 t i j).symm).trans ((congrFun (Value.blocks4 m c t (flush0_4 t)) (ix2 (n0 := 256) (n1 := 512) i j)).trans ?_)
  rw [Value.flushed4]
  refine Eq.trans ?_ (grad_is (holds m c t) i j)
  exact congrFun (View.canon_unit_zero (S := S256x512) hz _ _) _

theorem fin5 : E2 (m := 1024) (n := 512) (φ := .f32) ((dats m 0 c).arrAt 5 cfg0.N) (step' (args m c)) := fun n j => by
  obtain ⟨t, i, rfl⟩ := exists_tileRow n
  refine (congrArg ((dats m 0 c).arrAt 5 cfg0.N) (emb5 t i j).symm).trans ((congrFun (Value.blocks5 m c t (flush0_5 t)) (ix2 (n0 := 256) (n1 := 512) i j)).trans ?_)
  rw [Value.flushed5]
  refine Eq.trans ?_ (step_is (holds m c t) i j)
  refine (congrFun (View.canon_unit_zero (S := S256x512) hz _ _) _).trans ?_
  unfold k0_pay6 r0_4
  rw [View.ld_unit_zero (S := S256x512) hz, View.ld_unit_zero (S := S256x512) hz, View.ld_unit_zero (S := S256x512) hz]
  rfl

theorem fin6 : E2 (m := 1024) (n := 512) (φ := .f32) ((dats m 0 c).arrAt 6 cfg0.N) (mom' (args m c)) := fun n j => by
  obtain ⟨t, i, rfl⟩ := exists_tileRow n
  refine (congrArg ((dats m 0 c).arrAt 6 cfg0.N) (emb6 t i j).symm).trans ((congrFun (Value.blocks6 m c t (flush0_6 t)) (ix2 (n0 := 256) (n1 := 512) i j)).trans ?_)
  rw [Value.flushed6]
  refine Eq.trans ?_ (mom_is (holds m c t) i j)
  refine (congrFun (View.canon_unit_zero (S := S256x512) hz _ _) _).trans ?_
  unfold r0_4
  rw [View.ld_unit_zero (S := S256x512) hz]
  rfl

theorem fin7 : E2 (m := 1024) (n := 512) (φ := .f32) ((dats m 0 c).arrAt 7 cfg0.N) (sec' (args m c)) := fun n j => by
  obtain ⟨t, i, rfl⟩ := exists_tileRow n
  refine (congrArg ((dats m 0 c).arrAt 7 cfg0.N) (emb7 t i j).symm).trans ((congrFun (Value.blocks7 m c t (flush0_7 t)) (ix2 (n0 := 256) (n1 := 512) i j)).trans ?_)
  rw [Value.flushed7]
  refine Eq.trans ?_ (sec_is (holds m c t) i j)
  refine (congrFun (View.canon_unit_zero (S := S256x512) hz _ _) _).trans ?_
  unfold k0_pay6 r0_4
  rw [View.ld_unit_zero (S := S256x512) hz]
  rfl

end Cert.Adam

end
-- ==== Proof.Join6.lean ====
/- The four results of the optimizer's step are the reference's, as arrays of the same extended reals. -/
module

public import proofs.«01_k».proof.Defs
public import proofs.«01_k».proof.Proof.Adam
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read

@[expose] public section

noncomputable section

open scoped BigOperators

namespace Cert.Join6

open Idealize.ShloMosaic hiding ix0 ix1 ix2 ix3 eq_ix2 eq_ix3
open Idealize.ShloMosaic.ValueIdx
open Idealize.SL.Sem Idealize.ShloMosaic.StableHlo
open Cert.Layouts
open Cert.Conv (E2)
open Cert.Reference6Ideal.Read

section
variable (w m v : FVec Ideal ⟨2, ![1024, 512]⟩ .f32) (p : FVec Ideal ⟨3, ![4, 1024, 512]⟩ .f32)

/-- The reference's gradient, summed from zero, -/
theorem r0 : E2 (m := 1024) (n := 512) (φ := .f32) (val_main_v0 (F := Ideal) p) (Adam.grad (Adam.arg w m v p)) := fun i j => by
  have at3 : ∀ k, idx_main_v0 (ix2 (n0 := 1024) (n1 := 512) i j) k = ix3 (n0 := 4) (n1 := 1024) (n2 := 512) k i j := fun k =>
    funext fun a => by fin_cases a <;> rfl
  rw [val_main_v0_apply, Fin.sum_univ_four, at3, at3, at3, at3]
  refine (congrArg (· + _) Ideal.ofBits_zero_f32).trans (zero_add _)

/-- its first moment, -/
theorem r5 : E2 (m := 1024) (n := 512) (φ := .f32) (val_main_v5 (F := Ideal) m p) (Adam.mom' (Adam.arg w m v p)) := fun i j => by
  rw [val_main_v5_apply, val_main_v2_apply, val_main_v1_apply, val_main_v4_apply, val_main_v3_apply, r0 w m v p i j]
  rfl

/-- its second -/
theorem r11 : E2 (m := 1024) (n := 512) (φ := .f32) (val_main_v11 (F := Ideal) v p) (Adam.sec' (Adam.arg w m v p)) := fun i j => by
  rw [val_main_v11_apply, val_main_v7_apply, val_main_v6_apply, val_main_v10_apply, val_main_v9_apply, val_main_v8_apply, r0 w m v p i j]
  rfl

/-- and its step. -/
theorem r24 : E2 (m := 1024) (n := 512) (φ := .f32) (val_main_v24 (F := Ideal) w m v p) (Adam.step' (Adam.arg w m v p)) := fun i j => by
  rw [val_main_v24_apply, val_main_v23_apply, val_main_v22_apply, val_main_v19_apply, val_main_v13_apply, val_main_v12_apply,
    val_main_v18_apply, val_main_v17_apply, val_main_v16_apply, val_main_v15_apply, val_main_v14_apply, val_main_v21_apply,
    val_main_v20_apply, r5 w m v p i j, r11 w m v p i j]
  rfl

end

section
variable {S : Adam.Arg → Fin 1024 → Fin 512 → EReal} {A B : Adam.Arg} {v w : FVec Ideal ⟨2, ![1024, 512]⟩ .f32}

/-- Arrays of the same formula at equal arguments. -/
theorem same (hv : E2 v (S A)) (e : A = B) (hw : E2 w (S B)) : v = w := Has2.unique (α := EReal) (e ▸ hv) hw

end

theorem arg_eq {w w' m m' v v' : FVec Ideal ⟨2, ![1024, 512]⟩ .f32} {p p' : FVec Ideal ⟨3, ![4, 1024, 512]⟩ .f32} (e0 : w = w')
    (e1 : m = m') (e2 : v = v') (e3 : p = p') : Adam.arg w m v p = Adam.arg w' m' v' p' := by rw [e0, e1, e2, e3]

/-- The four results are equal. -/
theorem algebraic : algebraic_Kernel6Ideal_Reference6Ideal (hKernel6Ideal := Cert.Kernel6Ideal.Gen.facts)
    (hReference6Ideal := Cert.Reference6Ideal.Gen.facts) := by
  intro m g m' g' _ agree
  refine ⟨fun c => (Cert.Kernel6Ideal.Gen.dats m 0 c).arrAt 4 Cert.Kernel6Ideal.cfg0.N,
    fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    Cert.Kernel6Ideal.Value.run_blocks m g,
    (θ_run Cert.Reference6Ideal.defs _ _).mono (fun x h c => ?_) (Cert.Reference6Ideal.Value.run (F := Ideal) m' g')⟩
  obtain ⟨h0, h1, h2, h3, keep⟩ := h c
  obtain ⟨e0, e1, e2, e3⟩ := agree c
  have e := arg_eq e0 e1 e2 e3
  exact ⟨h0.trans (same (S := Adam.grad) (r0 _ _ _ _) e (Adam.fin4 m c)),
    h1.trans ((val_main_v24_eq _ _ _ _).trans (same (S := Adam.step') (r24 _ _ _ _) e (Adam.fin5 m c))),
    h2.trans ((val_main_v5_eq _ _).trans (same (S := Adam.mom') (r5 _ _ _ _) e (Adam.fin6 m c))),
    h3.trans ((val_main_v11_eq _ _).trans (same (S := Adam.sec') (r11 _ _ _ _) e (Adam.fin7 m c))), keep⟩

end Cert.Join6

end
-- ==== Proof.InProj.lean ====
/- The gradient of the projection into the layer: the four groups' gradients side by side, times the transposed weight, added to the
   gradient of the residual. What the kernel leaves in its two output arrays, of which each grid point writes its own rows, and the
   reference's. -/
module

public import proofs.«01_k».proof.Proof.AttnRead
public import proofs.«01_k».proof.Proof.Merge
public import proofs.«01_k».proof.Proof.Gen.Kernel7Ideal.Value
public import proofs.«01_k».proof.Proof.Gen.Reference7Ideal.Read
public import Idealize.ShloMosaic.Lib.Tactic
public import Idealize.ShloMosaic.Lib.Pipeline.ValueKit

@[expose] public section

noncomputable section

open scoped BigOperators

namespace Cert.InProj

open Idealize.ShloMosaic.TcCoe
open Idealize.ShloMosaic hiding ix0 ix1 ix2 ix3 eq_ix2 eq_ix3
open Idealize.ShloMosaic.ValueIdx
open Idealize.SL.Sem
open Cert.Layouts
open Cert.Conv (E2)
open Cert.AttnRead (hz)

/-- The weight, the gradients of the gates, of the convolution's input, of the recurrence's input and of the queries, and that of the
    residual. -/
structure Arg where
  w : Fin 1024 → Fin 5632 → EReal
  gates : Fin 8192 → Fin 3072 → EReal
  conv : Fin 8192 → Fin 1536 → EReal
  u : Fin 8192 → Fin 512 → EReal
  q : Fin 8192 → Fin 512 → EReal
  res : Fin 8192 → Fin 1024 → EReal

def arg (w : FVec Ideal ⟨2, ![1024, 5632]⟩ .f32) (gates : FVec Ideal ⟨2, ![8192, 3072]⟩ .f32) (conv : FVec Ideal ⟨2, ![8192, 1536]⟩ .f32)
    (u q : FVec Ideal ⟨2, ![8192, 512]⟩ .f32) (res : FVec Ideal ⟨2, ![8192, 1024]⟩ .f32) : Arg :=
  ⟨fun i j => w (ix2 i j), fun i j => gates (ix2 i j), fun i j => conv (ix2 i j), fun i j => u (ix2 i j), fun i j => q (ix2 i j),
    fun i j => res (ix2 i j)⟩

/-- Four matrices side by side. -/
def beside {m : ℕ} (f : Fin m → Fin 3072 → EReal) (g : Fin m → Fin 1536 → EReal) (h k : Fin m → Fin 512 → EReal) (i : Fin m)
    (j : Fin 5632) : EReal :=
  if h0 : j.val < 3072 then f i ⟨j.val, h0⟩
  else if h1 : j.val < 4608 then g i ⟨j.val - 3072, by omega⟩
  else if h2 : j.val < 5120 then h i ⟨j.val - 4608, by omega⟩
  else k i ⟨j.val - 5120, by omega⟩

/-- The join of four matrices along their columns. -/
theorem join4 {m : ℕ} {φ : FTy} {a : FVec Ideal ⟨2, ![m, 3072]⟩ φ} {b : FVec Ideal ⟨2, ![m, 1536]⟩ φ} {c d : FVec Ideal ⟨2, ![m, 512]⟩ φ}
    {f : Fin m → Fin 3072 → EReal} {g : Fin m → Fin 1536 → EReal} {h k : Fin m → Fin 512 → EReal} (ha : E2 a f) (hb : E2 b g) (hc : E2 c h)
    (hd : E2 d k)
    (hj : Shape.Concatenates (([⟨⟨2, ![m, 3072]⟩, a⟩, ⟨⟨2, ![m, 1536]⟩, b⟩, ⟨⟨2, ![m, 512]⟩, c⟩, ⟨⟨2, ![m, 512]⟩, d⟩] :
      List ((s : Shape) × (s.Idx → EReal))).map (·.1)) ⟨2, ![m, 5632]⟩ 1) :
    E2 (m := m) (n := 5632) (φ := φ) (concatenate ⟨2, ![m, 5632]⟩ 1
      [⟨⟨2, ![m, 3072]⟩, a⟩, ⟨⟨2, ![m, 1536]⟩, b⟩, ⟨⟨2, ![m, 512]⟩, c⟩, ⟨⟨2, ![m, 512]⟩, d⟩] hj) (beside f g h k) := fun i j => by
  unfold beside
  split_ifs with h0 h1 h2
  · exact join_cols (α := EReal) _ 0 (by exact (by decide : 0 < 4)) ha rfl 0 rfl i ⟨j.val, h0⟩ j (Nat.zero_add _).symm
  · exact join_cols (α := EReal) _ 1 (by exact (by decide : 1 < 4)) hb rfl 3072 rfl i ⟨j.val - 3072, by omega⟩ j (by show j.val = 3072 + (j.val - 3072); omega)
  · exact join_cols (α := EReal) _ 2 (by exact (by decide : 2 < 4)) hc rfl 4608 rfl i ⟨j.val - 4608, by omega⟩ j (by show j.val = 4608 + (j.val - 4608); omega)
  · exact join_cols (α := EReal) _ 3 (by exact (by decide : 3 < 4)) hd rfl 5120 rfl i ⟨j.val - 5120, by omega⟩ j (by show j.val = 5120 + (j.val - 5120); omega)

/-- The gradient of the projected rows, -/
def dproj (A : Arg) : Fin 8192 → Fin 5632 → EReal := beside A.gates A.conv A.u A.q
/-- and that of the rows. -/
def dx (A : Arg) (i : Fin 8192) (j : Fin 1024) : EReal := A.res i j + ∑ l, dproj A i l * A.w j l

/-! ### The kernel -/

section
open Cert.Kernel7Ideal Cert.Kernel7Ideal.Gen

/-- The blocks of a grid point hold the rows `r` of the arguments. -/
structure Holds (x0 : FVec Ideal ⟨2, ![512, 3072]⟩ .bf16) (x1 : FVec Ideal ⟨2, ![512, 1536]⟩ .bf16) (x2 : FVec Ideal ⟨2, ![512, 512]⟩ .f32)
    (x3 : FVec Ideal ⟨2, ![512, 512]⟩ .bf16) (x4 : FVec Ideal ⟨2, ![512, 1024]⟩ .f32) (x5 : FVec Ideal ⟨2, ![5632, 1024]⟩ .bf16)
    (A : Arg) (r : Fin 512 → Fin 8192) : Prop where
  gates : E2 x0 (fun i => A.gates (r i))
  conv : E2 x1 (fun i => A.conv (r i))
  u : E2 x2 (fun i => A.u (r i))
  q : E2 x3 (fun i => A.q (r i))
  res : E2 x4 (fun i => A.res (r i))
  w : E2 x5 (fun l j => A.w j l)

section
variable {x0 : FVec Ideal ⟨2, ![512, 3072]⟩ .bf16} {x1 : FVec Ideal ⟨2, ![512, 1536]⟩ .bf16} {x2 : FVec Ideal ⟨2, ![512, 512]⟩ .f32}
  {x3 : FVec Ideal ⟨2, ![512, 512]⟩ .bf16} {x4 : FVec Ideal ⟨2, ![512, 1024]⟩ .f32} {x5 : FVec Ideal ⟨2, ![5632, 1024]⟩ .bf16} {A : Arg}
  {r : Fin 512 → Fin 8192}

theorem dproj_is (H : Holds x0 x1 x2 x3 x4 x5 A r) :
    E2 (m := 512) (n := 5632) (φ := .bf16) (k0_pay1 (F := Ideal) x0 x1 x2 x3) (fun i => dproj A (r i)) :=
  join4 (φ := .bf16) (Has2.cast (α := EReal) H.gates shapeCasts_S512x3072_S512x3072) (Has2.cast (α := EReal) H.conv shapeCasts_S512x1536_S512x1536)
    (Conv.trunc (ψ := .bf16) H.u bitsLt_bf16_f32) (Has2.cast (α := EReal) H.q shapeCasts_S512x512_S512x512)
    concatenates_S512x3072_S512x1536_S512x512_S512x512_S512x5632_d1

theorem dx_is (H : Holds x0 x1 x2 x3 x4 x5 A r) :
    E2 (m := 512) (n := 1024) (φ := .f32) (k0_pay2 (F := Ideal) x0 x1 x2 x3 x4 x5) (fun i => dx A (r i)) :=
  Conv.add H.res (Conv.dot (φ₁ := .bf16) (φ₂ := .bf16) (prec := none)
    (show dot_S512x5632_S5632x1024_S512x1024_1_0_0_1_n_n = DotDims.plain 512 5632 1024 from rfl)
    (dproj_is H) (Has2.cast (α := EReal) H.w shapeCasts_S5632x1024_S5632x1024))

end

section
variable {F : FTy → Type} [FloatOps F] (m : (ℓ : Loc nD τ sig) → Buf (Elt F) ℓ) (c : Dev nD)

theorem V_v0 : V m c main_v0 = truncf .bf16 (m ((c : Thread nD τ).loc main_arg2) : FVec F S8192x3072 .f32) bitsLt_bf16_f32 := by
  unfold V
  after_results

theorem V_v1 : V m c main_v1 = truncf .bf16 (m ((c : Thread nD τ).loc main_arg3) : FVec F S8192x1536 .f32) bitsLt_bf16_f32 := by
  unfold V
  after_results

theorem V_v2 : V m c main_v2 = truncf .bf16 (m ((c : Thread nD τ).loc main_arg5) : FVec F S8192x512 .f32) bitsLt_bf16_f32 := by
  unfold V
  after_results

theorem V_v4 : V m c main_v4 = truncf .bf16 (transpose S5632x1024 [1, 0] (m ((c : Thread nD τ).loc main_arg1))
    transposes_S1024x5632_S5632x1024_1_0) bitsLt_bf16_f32 := by
  unfold V
  after_results

end

/-- Row `i` of the block of grid point `t`. -/
def tileRow (t : Fin cfg0.N) (i : Fin 512) : Fin 8192 :=
  ⟨t.val * 512 + i.val, by have := t.isLt; have : cfg0.N = 16 := N_0; omega⟩

theorem exists_tileRow (n : Fin 8192) : ∃ (t : Fin cfg0.N) (i : Fin 512), n = tileRow t i :=
  ⟨⟨n.val / 512, by have : cfg0.N = 16 := N_0; omega⟩, ⟨n.val % 512, by omega⟩, Fin.ext (by
    show n.val = n.val / 512 * 512 + n.val % 512
    omega)⟩

theorem idx0 : ∀ t : Fin cfg0.N, win0_0.index t 0 = t.val ∧ win0_0.index t 1 = 0 :=
  (by decide +kernel : ∀ t : Fin grid0.N, _)
theorem emb0 (t : Fin cfg0.N) (i : Fin 512) (j : Fin 3072) :
    (win0_0.blk t).view.emb (ix2 (n0 := 512) (n1 := 3072) i j) = ix2 (n0 := 8192) (n1 := 3072) (tileRow t i) j := by
  blk_ext [(idx0 t).1, (idx0 t).2, tileRow]
theorem idx1 : ∀ t : Fin cfg0.N, win0_1.index t 0 = t.val ∧ win0_1.index t 1 = 0 :=
  (by decide +kernel : ∀ t : Fin grid0.N, _)
theorem emb1 (t : Fin cfg0.N) (i : Fin 512) (j : Fin 1536) :
    (win0_1.blk t).view.emb (ix2 (n0 := 512) (n1 := 1536) i j) = ix2 (n0 := 8192) (n1 := 1536) (tileRow t i) j := by
  blk_ext [(idx1 t).1, (idx1 t).2, tileRow]
theorem idx2 : ∀ t : Fin cfg0.N, win0_2.index t 0 = t.val ∧ win0_2.index t 1 = 0 :=
  (by decide +kernel : ∀ t : Fin grid0.N, _)
theorem emb2 (t : Fin cfg0.N) (i : Fin 512) (j : Fin 512) :
    (win0_2.blk t).view.emb (ix2 (n0 := 512) (n1 := 512) i j) = ix2 (n0 := 8192) (n1 := 512) (tileRow t i) j := by
  blk_ext [(idx2 t).1, (idx2 t).2, tileRow]
theorem idx3 : ∀ t : Fin cfg0.N, win0_3.index t 0 = t.val ∧ win0_3.index t 1 = 0 :=
  (by decide +kernel : ∀ t : Fin grid0.N, _)
theorem emb3 (t : Fin cfg0.N) (i : Fin 512) (j : Fin 512) :
    (win0_3.blk t).view.emb (ix2 (n0 := 512) (n1 := 512) i j) = ix2 (n0 := 8192) (n1 := 512) (tileRow t i) j := by
  blk_ext [(idx3 t).1, (idx3 t).2, tileRow]
theorem idx4 : ∀ t : Fin cfg0.N, win0_4.index t 0 = t.val ∧ win0_4.index t 1 = 0 :=
  (by decide +kernel : ∀ t : Fin grid0.N, _)
theorem emb4 (t : Fin cfg0.N) (i : Fin 512) (j : Fin 1024) :
    (win0_4.blk t).view.emb (ix2 (n0 := 512) (n1 := 1024) i j) = ix2 (n0 := 8192) (n1 := 1024) (tileRow t i) j := by
  blk_ext [(idx4 t).1, (idx4 t).2, tileRow]
theorem idx5 : ∀ t : Fin cfg0.N, win0_5.index t 0 = 0 ∧ win0_5.index t 1 = 0 :=
  (by decide +kernel : ∀ t : Fin grid0.N, _)
theorem emb5 (t : Fin cfg0.N) (i : Fin 5632) (j : Fin 1024) :
    (win0_5.blk t).view.emb (ix2 (n0 := 5632) (n1 := 1024) i j) = ix2 (n0 := 5632) (n1 := 1024) i j := by
  blk_ext [(idx5 t).1, (idx5 t).2]
theorem idx6 : ∀ t : Fin cfg0.N, win0_6.index t 0 = t.val ∧ win0_6.index t 1 = 0 :=
  (by decide +kernel : ∀ t : Fin grid0.N, _)
theorem emb6 (t : Fin cfg0.N) (i : Fin 512) (j : Fin 1024) :
    (win0_6.blk t).view.emb (ix2 (n0 := 512) (n1 := 1024) i j) = ix2 (n0 := 8192) (n1 := 1024) (tileRow t i) j := by
  blk_ext [(idx6 t).1, (idx6 t).2, tileRow]
theorem idx7 : ∀ t : Fin cfg0.N, win0_7.index t 0 = t.val ∧ win0_7.index t 1 = 0 :=
  (by decide +kernel : ∀ t : Fin grid0.N, _)
theorem emb7 (t : Fin cfg0.N) (i : Fin 512) (j : Fin 5632) :
    (win0_7.blk t).view.emb (ix2 (n0 := 512) (n1 := 5632) i j) = ix2 (n0 := 8192) (n1 := 5632) (tileRow t i) j := by
  blk_ext [(idx7 t).1, (idx7 t).2, tileRow]

variable (m : (ℓ : Loc nD τ sig) → Buf (Elt Ideal) ℓ) (c : Dev nD)

/-- What the launch is given. -/
def args : Arg :=
  arg (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The weight as the launch finds it. -/
theorem wT : E2 (m := 5632) (n := 1024) (φ := .bf16) (V m c main_v4) (fun l j => (args m c).w j l) := fun l j => by
  rw [V_v4]
  exact Has2.transpose (α := EReal) (f := (args m c).w) (fun _ _ => rfl) transposes_S1024x5632_S5632x1024_1_0 l j

/-- The blocks of a grid point. -/
theorem holds (t : Fin cfg0.N) : Holds (iblk m c 0 t) (iblk m c 1 t) (iblk m c 2 t) (iblk m c 3 t) (iblk m c 4 t) (iblk m c 5 t) (args m c)
    (tileRow t) where
  gates := fun i j => (congrArg (V m c main_v0) (emb0 t i j)).trans (by rw [V_v0]; rfl)
  conv := fun i j => (congrArg (V m c main_v1) (emb1 t i j)).trans (by rw [V_v1]; rfl)
  u := fun i j => (congrArg (V m c main_arg4) (emb2 t i j)).trans (by rw [V_main_arg4]; rfl)
  q := fun i j => (congrArg (V m c main_v2) (emb3 t i j)).trans (by rw [V_v2]; rfl)
  res := fun i j => (congrArg (V m c main_arg6) (emb4 t i j)).trans (by rw [V_main_arg6]; rfl)
  w := fun i j => (congrArg (V m c main_v4) (emb5 t i j)).trans (wT m c i j)

set_option maxRecDepth 16384 in
theorem fin6 : E2 (m := 8192) (n := 1024) (φ := .f32) ((dats m 0 c).arrAt 6 cfg0.N) (dx (args m c)) := fun n j => by
  obtain ⟨t, i, rfl⟩ := exists_tileRow n
  refine (congrArg ((dats m 0 c).arrAt 6 cfg0.N) (emb6 t i j).symm).trans
    ((congrFun (Value.blocks6 m c t (flush0_6 t)) (ix2 (n0 := 512) (n1 := 1024) i j)).trans ?_)
  rw [Value.flushed6]
  refine Eq.trans ?_ (dx_is (holds m c t) i j)
  refine (congrFun (View.canon_unit_zero (S := S512x1024) hz _ _) _).trans ?_
  unfold r0_0 r0_1 r0_2 r0_4 r0_5
  rw [View.ld_unit_zero (S := S512x3072) hz, View.ld_unit_zero (S := S512x1536) hz, View.ld_unit_zero (S := S512x512) hz,
    View.ld_unit_zero (S := S512x512) hz, View.ld_unit_zero (S := S512x1024) hz, View.ld_unit_zero (S := S5632x1024) hz]
  rfl

set_option maxRecDepth 16384 in
theorem fin7 : E2 (m := 8192) (n := 5632) (φ := .bf16) ((dats m 0 c).arrAt 7 cfg0.N) (dproj (args m c)) := fun n j => by
  obtain ⟨t, i, rfl⟩ := exists_tileRow n
  refine (congrArg ((dats m 0 c).arrAt 7 cfg0.N) (emb7 t i j).symm).trans
    ((congrFun (Value.blocks7 m c t (flush0_7 t)) (ix2 (n0 := 512) (n1 := 5632) i j)).trans ?_)
  rw [Value.flushed7]
  refine Eq.trans ?_ (dproj_is (holds m c t) i j)
  refine (congrFun (View.canon_unit_zero (S := S512x5632) hz _ _) _).trans ?_
  unfold r0_0 r0_1 r0_2
  rw [View.ld_unit_zero (S := S512x3072) hz, View.ld_unit_zero (S := S512x1536) hz, View.ld_unit_zero (S := S512x512) hz,
    View.ld_unit_zero (S := S512x512) hz]
  rfl

end

/-! ### The reference -/

section
open Cert.Reference7Ideal Cert.Reference7Ideal.Gen Cert.Reference7Ideal.Read

variable (x1 : FVec Ideal ⟨2, ![1024, 5632]⟩ .f32) (x2 : FVec Ideal ⟨2, ![8192, 3072]⟩ .f32) (x3 : FVec Ideal ⟨2, ![8192, 1536]⟩ .f32)
  (x4 x5 : FVec Ideal ⟨2, ![8192, 512]⟩ .f32) (x6 : FVec Ideal ⟨2, ![8192, 1024]⟩ .f32)

theorem r0 : E2 (m := 8192) (n := 5632) (φ := .f32) (val_main_v0 (F := Ideal) x2 x3 x4 x5) (dproj (arg x1 x2 x3 x4 x5 x6)) :=
  join4 (φ := .f32) (fun _ _ => rfl) (fun _ _ => rfl) (fun _ _ => rfl) (fun _ _ => rfl) concatenates_S8192x3072_S8192x1536_S8192x512_S8192x512_S8192x5632_d1

theorem r4 : E2 (m := 8192) (n := 5632) (φ := .bf16) (val_main_v4 (F := Ideal) x2 x3 x4 x5) (dproj (arg x1 x2 x3 x4 x5 x6)) :=
  Conv.trunc (r0 x1 x2 x3 x4 x5 x6) bitsLt_bf16_f32

theorem r3 : E2 (m := 8192) (n := 1024) (φ := .f32) (val_main_v3 (F := Ideal) x1 x2 x3 x4 x5 x6) (dx (arg x1 x2 x3 x4 x5 x6)) := fun i j => by
  rw [val_main_v3_apply, val_main_v2_apply]
  refine congrArg (x6 (ix2 i j) + ·) (Finset.sum_congr rfl fun l _ => ?_)
  have hl : lidx_main_v2 (ix2 (n0 := 8192) (n1 := 1024) i j) l = ix2 (n0 := 8192) (n1 := 5632) i l := funext fun a => by fin_cases a <;> rfl
  have hr : ridx_main_v2 (ix2 (n0 := 8192) (n1 := 1024) i j) l = ix2 (n0 := 1024) (n1 := 5632) j l := funext fun a => by fin_cases a <;> rfl
  rw [hl, hr, r0 x1 x2 x3 x4 x5 x6 i l]
  rfl

end

end Cert.InProj

end
-- ==== Proof.Join7.lean ====
/- The two results of the projection's gradient are the reference's, as arrays of the same extended reals. -/
module

public import proofs.«01_k».proof.Defs
public import proofs.«01_k».proof.Proof.InProj
public import proofs.«01_k».proof.Proof.Gen.Kernel7Ideal
public import proofs.«01_k».proof.Proof.Gen.Reference7Ideal
public import proofs.«01_k».proof.Proof.Gen.Reference7Ideal.Run

@[expose] public section

noncomputable section

namespace Cert.Join7

open Idealize.ShloMosaic hiding ix0 ix1 ix2 ix3 eq_ix2 eq_ix3
open Idealize.ShloMosaic.ValueIdx
open Idealize.SL.Sem Idealize.ShloMosaic.StableHlo
open Cert.Layouts
open Cert.Conv (E2)
open Cert.Reference7Ideal.Read

section
variable {m n : ℕ} {φ : FTy} {S : InProj.Arg → Fin m → Fin n → EReal} {A B : InProj.Arg} {v w : FVec Ideal ⟨2, ![m, n]⟩ φ}

/-- Arrays of the same formula at equal arguments. -/
theorem same (hv : E2 v (S A)) (e : A = B) (hw : E2 w (S B)) : v = w := Has2.unique (α := EReal) (e ▸ hv) hw

end

theorem arg_eq {w w' : FVec Ideal ⟨2, ![1024, 5632]⟩ .f32} {g g' : FVec Ideal ⟨2, ![8192, 3072]⟩ .f32}
    {k k' : FVec Ideal ⟨2, ![8192, 1536]⟩ .f32} {u u' q q' : FVec Ideal ⟨2, ![8192, 512]⟩ .f32} {r r' : FVec Ideal ⟨2, ![8192, 1024]⟩ .f32}
    (e1 : w = w') (e2 : g = g') (e3 : k = k') (e4 : u = u') (e5 : q = q') (e6 : r = r') :
    InProj.arg w g k u q r = InProj.arg w' g' k' u' q' r' := by rw [e1, e2, e3, e4, e5, e6]

/-- The two results are equal. -/
theorem algebraic : algebraic_Kernel7Ideal_Reference7Ideal (hKernel7Ideal := Cert.Kernel7Ideal.Gen.facts)
    (hReference7Ideal := Cert.Reference7Ideal.Gen.facts) := by
  intro m g m' g' _ agree
  refine ⟨fun c => (Cert.Kernel7Ideal.Gen.dats m 0 c).arrAt 6 Cert.Kernel7Ideal.cfg0.N,
    fun c => (Cert.Kernel7Ideal.Gen.dats m 0 c).arrAt 7 Cert.Kernel7Ideal.cfg0.N,
    Cert.Kernel7Ideal.Value.run_blocks m g,
    (θ_run Cert.Reference7Ideal.defs _ _).mono (fun x h c => ?_) (Cert.Reference7Ideal.Value.run (F := Ideal) m' g')⟩
  obtain ⟨h0, h1, keep⟩ := h c
  obtain ⟨_, e1, e2, e3, e4, e5, e6⟩ := agree c
  have e := arg_eq e1 e2 e3 e4 e5 e6
  exact ⟨h0.trans ((val_main_v3_eq _ _ _ _ _ _).trans (same (S := InProj.dx) (InProj.r3 _ _ _ _ _ _) e (InProj.fin6 m c))),
    h1.trans ((val_main_v4_eq _ _ _ _).trans (same (S := InProj.dproj)
      (InProj.r4 (m' ((c.tc : Thread _ _).loc Cert.Reference7Ideal.main_arg1)) _ _ _ _
        (m' ((c.tc : Thread _ _).loc Cert.Reference7Ideal.main_arg6))) e (InProj.fin7 m c))), keep⟩

end Cert.Join7

end
-- ==== Proof.Sums.lean ====
/- The sums of the eight devices' small gradients, of four arrays of parts in one call, and the reference's sums. -/
module

public import proofs.«01_k».proof.Proof.AttnRead
public import proofs.«01_k».proof.Proof.Conv
public import proofs.«01_k».proof.Proof.Gen.Kernel8Ideal.Value
public import proofs.«01_k».proof.Proof.Gen.Reference8Ideal.Read
public import Idealize.ShloMosaic.Lib.Tactic
public import Idealize.ShloMosaic.Lib.Pipeline.ValueKit

@[expose] public section

noncomputable section

open scoped BigOperators

namespace Cert.Sums

open Idealize.ShloMosaic.TcCoe
open Idealize.ShloMosaic hiding ix0 ix1 ix2 ix3 eq_ix2 eq_ix3
open Idealize.ShloMosaic.ValueIdx
open Idealize.SL.Sem
open Cert.Layouts
open Cert.Conv (E2)
open Cert.AttnRead (hz)

/-- Eight numbers added one after another. -/
def add8 (f : Fin 8 → EReal) : EReal := f 0 + f 1 + f 2 + f 3 + f 4 + f 5 + f 6 + f 7

theorem add8_eq {a b c d e g h k : EReal} {f : Fin 8 → EReal} (h0 : a = f 0) (h1 : b = f 1) (h2 : c = f 2) (h3 : d = f 3) (h4 : e = f 4)
    (h5 : g = f 5) (h6 : h = f 6) (h7 : k = f 7) : a + b + c + d + e + g + h + k = add8 f := by
  rw [h0, h1, h2, h3, h4, h5, h6, h7]
  rfl

theorem add8_sum (f : Fin 8 → EReal) : Ideal.ofBits .f32 0x00000000#32 + ∑ k, f k = add8 f := by
  rw [Ideal.ofBits_zero_f32, zero_add, Fin.sum_univ_eight]
  rfl

section
variable {a b : ℕ}

/-- The sum of the eight parts. -/
def total (x : FVec Ideal ⟨3, ![8, a, b]⟩ .f32) (i : Fin a) (j : Fin b) : EReal := add8 fun k => x (ix3 k i j)

/-- A part read as rows and columns. -/
theorem part_at (x : FVec Ideal ⟨3, ![8, a, b]⟩ .f32) {o : ℕ} (k : Fin 8) (hk : k.val = o)
    (inb : ∀ d, (![o, 0, 0] : Fin 3 → ℕ) d + (⟨3, ![1, a, b]⟩ : Shape).size d ≤ (⟨3, ![8, a, b]⟩ : Shape).size d)
    (h : (⟨3, ![1, a, b]⟩ : Shape).ShapeCasts ⟨2, ![a, b]⟩) (i : Fin a) (j : Fin b) :
    shapeCast ⟨2, ![a, b]⟩ (View.ld (Val := Elt Ideal) (e' := .f32) x
      (Rect.unit (s := ⟨3, ![8, a, b]⟩) ![o, 0, 0] (⟨3, ![1, a, b]⟩ : Shape).size inb)) h (ix2 i j) = x (ix3 k i j) := by
  refine (shapeCast_apply _ _ (ix2 i j) (ix3 (n0 := 1) 0 i j) (by
    rw [Shape.rowMajor_val_three, Shape.rowMajor_val_two]
    show (0 * a + i.val) * b + j.val = i.val * b + j.val
    rw [Nat.zero_mul, Nat.zero_add])).trans (congrArg x (funext fun d => Fin.ext ?_))
  match d with
  | ⟨0, _⟩ => show o + 1 * 0 = k.val; omega
  | ⟨1, _⟩ => show 0 + 1 * i.val = i.val; omega
  | ⟨2, _⟩ => show 0 + 1 * j.val = j.val; omega

end

/-! ### The kernel -/

section
open Cert.Kernel8Ideal Cert.Kernel8Ideal.Gen

theorem sum0 (x : FVec Ideal ⟨3, ![8, 101, 128]⟩ .f32) : E2 (m := 101) (n := 128) (φ := .f32)
    (k0_pay2 (F := Ideal) (View.ld x r0_0) (View.ld x r0_1) (View.ld x r0_2) (View.ld x r0_3) (View.ld x r0_4) (View.ld x r0_5) (View.ld x r0_6) (View.ld x r0_7)) (total x) := fun i j =>
  add8_eq (part_at x 0 rfl _ _ i j) (part_at x 1 rfl _ _ i j) (part_at x 2 rfl _ _ i j) (part_at x 3 rfl _ _ i j)
    (part_at x 4 rfl _ _ i j) (part_at x 5 rfl _ _ i j) (part_at x 6 rfl _ _ i j) (part_at x 7 rfl _ _ i j)

theorem sum1 (x : FVec Ideal ⟨3, ![8, 1056, 128]⟩ .f32) : E2 (m := 1056) (n := 128) (φ := .f32)
    (k0_pay4 (F := Ideal) (k0_pay3 (View.ld x r0_9)) (View.ld x r0_10) (View.ld x r0_11) (View.ld x r0_12) (View.ld x r0_13) (View.ld x r0_14) (View.ld x r0_15) (View.ld x r0_16)) (total x) := fun i j =>
  add8_eq (part_at x 0 rfl _ _ i j) (part_at x 1 rfl _ _ i j) (part_at x 2 rfl _ _ i j) (part_at x 3 rfl _ _ i j)
    (part_at x 4 rfl _ _ i j) (part_at x 5 rfl _ _ i j) (part_at x 6 rfl _ _ i j) (part_at x 7 rfl _ _ i j)

theorem sum2 (x : FVec Ideal ⟨3, ![8, 1, 32]⟩ .f32) : E2 (m := 1) (n := 32) (φ := .f32)
    (k0_pay6 (F := Ideal) (k0_pay5 (View.ld x r0_18) (View.ld x r0_19) (View.ld x r0_20)) (View.ld x r0_21) (View.ld x r0_22) (View.ld x r0_23) (View.ld x r0_24) (View.ld x r0_25)) (total x) := fun i j =>
  add8_eq (part_at x 0 rfl _ _ i j) (part_at x 1 rfl _ _ i j) (part_at x 2 rfl _ _ i j) (part_at x 3 rfl _ _ i j)
    (part_at x 4 rfl _ _ i j) (part_at x 5 rfl _ _ i j) (part_at x 6 rfl _ _ i j) (part_at x 7 rfl _ _ i j)

theorem sum3 (x : FVec Ideal ⟨3, ![8, 8, 512]⟩ .f32) : E2 (m := 8) (n := 512) (φ := .f32)
    (k0_pay1 (F := Ideal) (k0_pay7 (View.ld x r0_27) (View.ld x r0_28) (View.ld x r0_29) (View.ld x r0_30)) (View.ld x r0_31) (View.ld x r0_32) (View.ld x r0_33) (View.ld x r0_34)) (total x) := fun i j =>
  add8_eq (part_at x 0 rfl _ _ i j) (part_at x 1 rfl _ _ i j) (part_at x 2 rfl _ _ i j) (part_at x 3 rfl _ _ i j)
    (part_at x 4 rfl _ _ i j) (part_at x 5 rfl _ _ i j) (part_at x 6 rfl _ _ i j) (part_at x 7 rfl _ _ i j)

/-- The one grid point. -/
def point : Fin cfg0.N := ⟨0, by decide⟩

theorem emb0 (k : Fin 8) (i : Fin 101) (j : Fin 128) :
    (win0_0.blk point).view.emb (ix3 (n0 := 8) (n1 := 101) (n2 := 128) k i j) = ix3 (n0 := 8) (n1 := 101) (n2 := 128) k i j := by
  blk_ext [show win0_0.index point 0 = 0 from rfl, show win0_0.index point 1 = 0 from rfl, show win0_0.index point 2 = 0 from rfl]
theorem emb1 (k : Fin 8) (i : Fin 1056) (j : Fin 128) :
    (win0_1.blk point).view.emb (ix3 (n0 := 8) (n1 := 1056) (n2 := 128) k i j) = ix3 (n0 := 8) (n1 := 1056) (n2 := 128) k i j := by
  blk_ext [show win0_1.index point 0 = 0 from rfl, show win0_1.index point 1 = 0 from rfl, show win0_1.index point 2 = 0 from rfl]
theorem emb2 (k : Fin 8) (i : Fin 1) (j : Fin 32) :
    (win0_2.blk point).view.emb (ix3 (n0 := 8) (n1 := 1) (n2 := 32) k i j) = ix3 (n0 := 8) (n1 := 1) (n2 := 32) k i j := by
  blk_ext [show win0_2.index point 0 = 0 from rfl, show win0_2.index point 1 = 0 from rfl, show win0_2.index point 2 = 0 from rfl]
theorem emb3 (k : Fin 8) (i : Fin 8) (j : Fin 512) :
    (win0_3.blk point).view.emb (ix3 (n0 := 8) (n1 := 8) (n2 := 512) k i j) = ix3 (n0 := 8) (n1 := 8) (n2 := 512) k i j := by
  blk_ext [show win0_3.index point 0 = 0 from rfl, show win0_3.index point 1 = 0 from rfl, show win0_3.index point 2 = 0 from rfl]
theorem emb4 (i : Fin 101) (j : Fin 128) :
    (win0_4.blk point).view.emb (ix2 (n0 := 101) (n1 := 128) i j) = ix2 (n0 := 101) (n1 := 128) i j := by
  blk_ext [show win0_4.index point 0 = 0 from rfl, show win0_4.index point 1 = 0 from rfl]
theorem emb5 (i : Fin 1056) (j : Fin 128) :
    (win0_5.blk point).view.emb (ix2 (n0 := 1056) (n1 := 128) i j) = ix2 (n0 := 1056) (n1 := 128) i j := by
  blk_ext [show win0_5.index point 0 = 0 from rfl, show win0_5.index point 1 = 0 from rfl]
theorem emb6 (i : Fin 1) (j : Fin 32) :
    (win0_6.blk point).view.emb (ix2 (n0 := 1) (n1 := 32) i j) = ix2 (n0 := 1) (n1 := 32) i j := by
  blk_ext [show win0_6.index point 0 = 0 from rfl, show win0_6.index point 1 = 0 from rfl]
theorem emb7 (i : Fin 8) (j : Fin 512) :
    (win0_7.blk point).view.emb (ix2 (n0 := 8) (n1 := 512) i j) = ix2 (n0 := 8) (n1 := 512) i j := by
  blk_ext [show win0_7.index point 0 = 0 from rfl, show win0_7.index point 1 = 0 from rfl]

variable (m : (ℓ : Loc nD τ sig) → Buf (Elt Ideal) ℓ) (c : Dev nD)

theorem in0 (k : Fin 8) (i : Fin 101) (j : Fin 128) :
    (iblk m c 0 point : FVec Ideal ⟨3, ![8, 101, 128]⟩ .f32) (ix3 k i j)
      = (m ((c : Thread nD τ).loc main_arg0) : FVec Ideal ⟨3, ![8, 101, 128]⟩ .f32) (ix3 k i j) :=
  (congrArg (V m c main_arg0) (emb0 k i j)).trans (by rw [V_main_arg0])

theorem fin4 : E2 (m := 101) (n := 128) (φ := .f32) ((dats m 0 c).arrAt 4 cfg0.N) (total (m ((c : Thread nD τ).loc main_arg0))) :=
  fun i j => by
  refine (congrArg ((dats m 0 c).arrAt 4 cfg0.N) (emb4 i j).symm).trans
    ((congrFun (Value.blocks4 m c point (flush0_4 point)) (ix2 (n0 := 101) (n1 := 128) i j)).trans ?_)
  rw [Value.flushed4]
  refine Eq.trans ?_ ((sum0 (iblk m c 0 point) i j).trans (congrArg add8 (funext fun k => in0 m c k i j)))
  exact congrFun (View.canon_unit_zero (S := S101x128) hz _ _) _

theorem in1 (k : Fin 8) (i : Fin 1056) (j : Fin 128) :
    (iblk m c 1 point : FVec Ideal ⟨3, ![8, 1056, 128]⟩ .f32) (ix3 k i j)
      = (m ((c : Thread nD τ).loc main_arg1) : FVec Ideal ⟨3, ![8, 1056, 128]⟩ .f32) (ix3 k i j) :=
  (congrArg (V m c main_arg1) (emb1 k i j)).trans (by rw [V_main_arg1])

theorem fin5 : E2 (m := 1056) (n := 128) (φ := .f32) ((dats m 0 c).arrAt 5 cfg0.N) (total (m ((c : Thread nD τ).loc main_arg1))) :=
  fun i j => by
  refine (congrArg ((dats m 0 c).arrAt 5 cfg0.N) (emb5 i j).symm).trans
    ((congrFun (Value.blocks5 m c point (flush0_5 point)) (ix2 (n0 := 1056) (n1 := 128) i j)).trans ?_)
  rw [Value.flushed5]
  refine Eq.trans ?_ ((sum1 (iblk m c 1 point) i j).trans (congrArg add8 (funext fun k => in1 m c k i j)))
  exact congrFun (View.canon_unit_zero (S := S1056x128) hz _ _) _

theorem in2 (k : Fin 8) (i : Fin 1) (j : Fin 32) :
    (iblk m c 2 point : FVec Ideal ⟨3, ![8, 1, 32]⟩ .f32) (ix3 k i j)
      = (m ((c : Thread nD τ).loc main_arg2) : FVec Ideal ⟨3, ![8, 1, 32]⟩ .f32) (ix3 k i j) :=
  (congrArg (V m c main_arg2) (emb2 k i j)).trans (by rw [V_main_arg2])

theorem fin6 : E2 (m := 1) (n := 32) (φ := .f32) ((dats m 0 c).arrAt 6 cfg0.N) (total (m ((c : Thread nD τ).loc main_arg2))) :=
  fun i j => by
  refine (congrArg ((dats m 0 c).arrAt 6 cfg0.N) (emb6 i j).symm).trans
    ((congrFun (Value.blocks6 m c point (flush0_6 point)) (ix2 (n0 := 1) (n1 := 32) i j)).trans ?_)
  rw [Value.flushed6]
  refine Eq.trans ?_ ((sum2 (iblk m c 2 point) i j).trans (congrArg add8 (funext fun k => in2 m c k i j)))
  exact congrFun (View.canon_unit_zero (S := S1x32) hz _ _) _

theorem in3 (k : Fin 8) (i : Fin 8) (j : Fin 512) :
    (iblk m c 3 point : FVec Ideal ⟨3, ![8, 8, 512]⟩ .f32) (ix3 k i j)
      = (m ((c : Thread nD τ).loc main_arg3) : FVec Ideal ⟨3, ![8, 8, 512]⟩ .f32) (ix3 k i j) :=
  (congrArg (V m c main_arg3) (emb3 k i j)).trans (by rw [V_main_arg3])

theorem fin7 : E2 (m := 8) (n := 512) (φ := .f32) ((dats m 0 c).arrAt 7 cfg0.N) (total (m ((c : Thread nD τ).loc main_arg3))) :=
  fun i j => by
  refine (congrArg ((dats m 0 c).arrAt 7 cfg0.N) (emb7 i j).symm).trans
    ((congrFun (Value.blocks7 m c point (flush0_7 point)) (ix2 (n0 := 8) (n1 := 512) i j)).trans ?_)
  rw [Value.flushed7]
  refine Eq.trans ?_ ((sum3 (iblk m c 3 point) i j).trans (congrArg add8 (funext fun k => in3 m c k i j)))
  exact congrFun (View.canon_unit_zero (S := S8x512) hz _ _) _

end

/-! ### The reference -/

section
open Cert.Reference8Ideal Cert.Reference8Ideal.Gen Cert.Reference8Ideal.Read

theorem r0 (x : FVec Ideal ⟨3, ![8, 101, 128]⟩ .f32) : E2 (m := 101) (n := 128) (φ := .f32) (val_main_v0 (F := Ideal) x) (total x) :=
  fun i j => by
  rw [val_main_v0_apply]
  refine Eq.trans ?_ (add8_sum fun k => x (ix3 k i j))
  refine congrArg (_ + ·) (Finset.sum_congr rfl fun k _ => congrArg x (funext fun d => ?_))
  fin_cases d <;> rfl

theorem r1 (x : FVec Ideal ⟨3, ![8, 1056, 128]⟩ .f32) : E2 (m := 1056) (n := 128) (φ := .f32) (val_main_v1 (F := Ideal) x) (total x) :=
  fun i j => by
  rw [val_main_v1_apply]
  refine Eq.trans ?_ (add8_sum fun k => x (ix3 k i j))
  refine congrArg (_ + ·) (Finset.sum_congr rfl fun k _ => congrArg x (funext fun d => ?_))
  fin_cases d <;> rfl

theorem r2 (x : FVec Ideal ⟨3, ![8, 1, 32]⟩ .f32) : E2 (m := 1) (n := 32) (φ := .f32) (val_main_v2 (F := Ideal) x) (total x) :=
  fun i j => by
  rw [val_main_v2_apply]
  refine Eq.trans ?_ (add8_sum fun k => x (ix3 k i j))
  refine congrArg (_ + ·) (Finset.sum_congr rfl fun k _ => congrArg x (funext fun d => ?_))
  fin_cases d <;> rfl

theorem r3 (x : FVec Ideal ⟨3, ![8, 8, 512]⟩ .f32) : E2 (m := 8) (n := 512) (φ := .f32) (val_main_v3 (F := Ideal) x) (total x) :=
  fun i j => by
  rw [val_main_v3_apply]
  refine Eq.trans ?_ (add8_sum fun k => x (ix3 k i j))
  refine congrArg (_ + ·) (Finset.sum_congr rfl fun k _ => congrArg x (funext fun d => ?_))
  fin_cases d <;> rfl

end

end Cert.Sums

end
-- ==== Proof.Join8.lean ====
/- The four sums over the devices are the reference's, as arrays of the same extended reals. -/
module

public import proofs.«01_k».proof.Defs
public import proofs.«01_k».proof.Proof.Sums
public import proofs.«01_k».proof.Proof.Gen.Kernel8Ideal
public import proofs.«01_k».proof.Proof.Gen.Reference8Ideal
public import proofs.«01_k».proof.Proof.Gen.Reference8Ideal.Run

@[expose] public section

noncomputable section

namespace Cert.Join8

open Idealize.ShloMosaic hiding ix0 ix1 ix2 ix3 eq_ix2 eq_ix3
open Idealize.ShloMosaic.ValueIdx
open Idealize.SL.Sem Idealize.ShloMosaic.StableHlo
open Cert.Layouts
open Cert.Conv (E2)
open Cert.Reference8Ideal.Read

section
variable {a b : ℕ} {x y : FVec Ideal ⟨3, ![8, a, b]⟩ .f32} {v w : FVec Ideal ⟨2, ![a, b]⟩ .f32}

/-- Arrays of the sums of equal parts. -/
theorem same (hv : E2 v (Sums.total x)) (e : x = y) (hw : E2 w (Sums.total y)) : v = w := Has2.unique (α := EReal) (e ▸ hv) hw

end

/-- The four results are equal. -/
theorem algebraic : algebraic_Kernel8Ideal_Reference8Ideal (hKernel8Ideal := Cert.Kernel8Ideal.Gen.facts)
    (hReference8Ideal := Cert.Reference8Ideal.Gen.facts) := by
  intro m g m' g' _ agree
  refine ⟨fun c => (Cert.Kernel8Ideal.Gen.dats m 0 c).arrAt 4 Cert.Kernel8Ideal.cfg0.N,
    fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N,
    Cert.Kernel8Ideal.Value.run_blocks m g,
    (θ_run Cert.Reference8Ideal.defs _ _).mono (fun x h c => ?_) (Cert.Reference8Ideal.Value.run (F := Ideal) m' g')⟩
  obtain ⟨h0, h1, h2, h3, keep⟩ := h c
  obtain ⟨e0, e1, e2, e3⟩ := agree c
  exact ⟨h0.trans ((val_main_v0_eq _).trans (same (Sums.r0 _) e0 (Sums.fin4 m c))),
    h1.trans ((val_main_v1_eq _).trans (same (Sums.r1 _) e1 (Sums.fin5 m c))),
    h2.trans ((val_main_v2_eq _).trans (same (Sums.r2 _) e2 (Sums.fin6 m c))),
    h3.trans ((val_main_v3_eq _).trans (same (Sums.r3 _) e3 (Sums.fin7 m c))), keep⟩

end Cert.Join8

end
-- ==== Proof.lean ====
/- The certificate, of eight calls: the frames of each kernel and of its reference, and the equality of their results. The kernels'
   frames are the generated ones; the equalities are `Cert.Join.algebraic`, `Cert.Join2.algebraic`, `Cert.Join3.algebraic`,
   `Cert.Join4.algebraic`, `Cert.Join5.algebraic`, `Cert.Join6.algebraic`, `Cert.Join7.algebraic` and `Cert.Join8.algebraic`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite2
public import proofs.«01_k».proof.Proof.Join
public import proofs.«01_k».proof.Proof.Join2
public import proofs.«01_k».proof.Proof.Join3
public import proofs.«01_k».proof.Proof.Join4
public import proofs.«01_k».proof.Proof.Join5
public import proofs.«01_k».proof.Proof.Join6
public import proofs.«01_k».proof.Proof.Join7
public import proofs.«01_k».proof.Proof.Join8
public import Idealize.ShloMosaic.Adequacy
public import Idealize.ShloMosaic.Init

@[expose] public section

noncomputable section

namespace Cert.Proof

open Idealize.ShloMosaic Idealize.SL.Sem Cert.Kernel

/-- The reference ends, keeps its arguments and has no counter to leave raised. -/
theorem reference : quiescent_ReferenceIdeal (hReferenceIdeal := Cert.ReferenceIdeal.Gen.facts)
    (hPre_finite := Cert.Pre_finite.Gen.facts) := fun m ρ _ =>
  (θ_run Cert.ReferenceIdeal.defs _ _).mono (fun r h => ⟨fun c => (h c).2.2.2.2.2.2.2.2.2.2,
    sem_eq_zero_of_no_sems (by decide) r.2⟩) (Cert.ReferenceIdeal.Value.run (F := Ideal) m ρ)

/-- The second reference likewise. -/
theorem reference2 : quiescent_Reference2Ideal (hReference2Ideal := Cert.Reference2Ideal.Gen.facts)
    (hPre_finite2 := Cert.Pre_finite2.Gen.facts) := fun m ρ _ =>
  (θ_run Cert.Reference2Ideal.defs _ _).mono (fun r h => ⟨fun c => (h c).2.2.2.2,
    sem_eq_zero_of_no_sems (by decide) r.2⟩) (Cert.Reference2Ideal.Value.run (F := Ideal) m ρ)

/-- The third reference likewise. -/
theorem reference3 : quiescent_Reference3Ideal (hReference3Ideal := Cert.Reference3Ideal.Gen.facts) := fun m ρ _ =>
  (θ_run Cert.Reference3Ideal.defs _ _).mono (fun r h => ⟨fun c => (h c).2.2.2.2,
    sem_eq_zero_of_no_sems (by decide) r.2⟩) (Cert.Reference3Ideal.Value.run (F := Ideal) m ρ)

/-- The fourth reference likewise. -/
theorem reference4 : quiescent_Reference4Ideal (hReference4Ideal := Cert.Reference4Ideal.Gen.facts) := fun m ρ _ =>
  (θ_run Cert.Reference4Ideal.defs _ _).mono (fun r h => ⟨fun c => (h c).2.2.2.2.2.2.2.2.2,
    sem_eq_zero_of_no_sems (by decide) r.2⟩) (Cert.Reference4Ideal.Value.run (F := Ideal) m ρ)

/-- The fifth reference likewise. -/
theorem reference5 : quiescent_Reference5Ideal (hReference5Ideal := Cert.Reference5Ideal.Gen.facts) := fun m ρ _ =>
  (θ_run Cert.Reference5Ideal.defs _ _).mono (fun r h => ⟨fun c => (h c).2.2.2,
    sem_eq_zero_of_no_sems (by decide) r.2⟩) (Cert.Reference5Ideal.Value.run (F := Ideal) m ρ)

/-- The sixth reference likewise. -/
theorem reference6 : quiescent_Reference6Ideal (hReference6Ideal := Cert.Reference6Ideal.Gen.facts) := fun m ρ _ =>
  (θ_run Cert.Reference6Ideal.defs _ _).mono (fun r h => ⟨fun c => (h c).2.2.2.2,
    sem_eq_zero_of_no_sems (by decide) r.2⟩) (Cert.Reference6Ideal.Value.run (F := Ideal) m ρ)

/-- The seventh reference likewise. -/
theorem reference7 : quiescent_Reference7Ideal (hReference7Ideal := Cert.Reference7Ideal.Gen.facts) := fun m ρ _ =>
  (θ_run Cert.Reference7Ideal.defs _ _).mono (fun r h => ⟨fun c => (h c).2.2,
    sem_eq_zero_of_no_sems (by decide) r.2⟩) (Cert.Reference7Ideal.Value.run (F := Ideal) m ρ)

/-- The eighth reference likewise. -/
theorem reference8 : quiescent_Reference8Ideal (hReference8Ideal := Cert.Reference8Ideal.Gen.facts) := fun m ρ _ =>
  (θ_run Cert.Reference8Ideal.defs _ _).mono (fun r h => ⟨fun c => (h c).2.2.2.2,
    sem_eq_zero_of_no_sems (by decide) r.2⟩) (Cert.Reference8Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Pre_finite.Gen.facts, Cert.Pre_finite2.Gen.facts,
  fun m ρ _ => Cert.Kernel.Gen.frame m ρ, fun m ρ _ => Cert.KernelIdeal.Gen.frame m ρ, reference,
  fun m ρ _ => Cert.Kernel2.Gen.frame m ρ, fun m ρ _ => Cert.Kernel2Ideal.Gen.frame m ρ, reference2,
  fun m ρ _ => Cert.Kernel3.Gen.frame m ρ, fun m ρ _ => Cert.Kernel3Ideal.Gen.frame m ρ, reference3,
  fun m ρ _ => Cert.Kernel4.Gen.frame m ρ, fun m ρ _ => Cert.Kernel4Ideal.Gen.frame m ρ, reference4,
  fun m ρ _ => Cert.Kernel5.Gen.frame m ρ, fun m ρ _ => Cert.Kernel5Ideal.Gen.frame m ρ, reference5,
  fun m ρ _ => Cert.Kernel6.Gen.frame m ρ, fun m ρ _ => Cert.Kernel6Ideal.Gen.frame m ρ, reference6,
  fun m ρ _ => Cert.Kernel7.Gen.frame m ρ, fun m ρ _ => Cert.Kernel7Ideal.Gen.frame m ρ, reference7,
  fun m ρ _ => Cert.Kernel8.Gen.frame m ρ, fun m ρ _ => Cert.Kernel8Ideal.Gen.frame m ρ, reference8,
  trivial, Cert.Join.algebraic, trivial, Cert.Join2.algebraic, trivial, Cert.Join3.algebraic,
  trivial, Cert.Join4.algebraic, trivial, Cert.Join5.algebraic, trivial, Cert.Join6.algebraic,
  trivial, Cert.Join7.algebraic, trivial, Cert.Join8.algebraic⟩

end Cert.Proof

end
